-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_real_gates [hPre_real_gates : Cert.Pre_real_gates.Facts] (m : (ℓ : Loc Cert.StateIdeal.nD Cert.StateIdeal.τ Cert.StateIdeal.sig) → Buf (Elt Ideal) ℓ) : Prop :=
  ∀ c : Dev Cert.StateIdeal.nD,
    (Cert.Pre_real_gates.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2))).1 = (fun _ => 1#1)
    ∧ (Cert.Pre_real_gates.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2))).2.1 = (fun _ => 1#1)
    ∧ (Cert.Pre_real_gates.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2))).2.2 = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_real_gates [hPre_real_gates : Cert.Pre_real_gates.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_real_gates.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2))).1 = (fun _ => 1#1)
    ∧ (Cert.Pre_real_gates.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2))).2.1 = (fun _ => 1#1)
    ∧ (Cert.Pre_real_gates.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2))).2.2 = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheRefIdeal (m : (ℓ : Loc Cert.CacheRefIdeal.nD Cert.CacheRefIdeal.τ Cert.CacheRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateIdeal_pre_real_gates [hStateIdeal : Cert.StateIdeal.Facts] [hPre_real_gates : Cert.Pre_real_gates.Facts] : Prop :=
  ∀ (m : (ℓ : Loc Cert.StateIdeal.nD Cert.StateIdeal.τ Cert.StateIdeal.sig) → Buf (Elt Ideal) ℓ) (g : Dev Cert.StateIdeal.nD → PrngReg), Pre_StateIdeal_real_gates m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2))
      ∧ r.2.sem = fun _ => 0)

def quiescent_StateRefIdeal_pre_real_gates [hStateRefIdeal : Cert.StateRefIdeal.Facts] [hPre_real_gates : Cert.Pre_real_gates.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_real_gates m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1))
      ∧ r.2.sem = fun _ => 0)

def quiescent_CacheRefIdeal [hCacheRefIdeal : Cert.CacheRefIdeal.Facts] : Prop :=
  ∀ (m : (ℓ : Loc Cert.CacheRefIdeal.nD Cert.CacheRefIdeal.τ Cert.CacheRefIdeal.sig) → Buf (Elt Ideal) ℓ) (g : Dev Cert.CacheRefIdeal.nD → PrngReg), Pre_CacheRefIdeal m →
    θ_run (Cert.CacheRefIdeal.defs (F := Ideal)) (onTc (τ := Cert.CacheRefIdeal.τ) (Cert.CacheRefIdeal.main (F := Ideal))) ⟨m, fun _ => 0, g⟩ (fun r => (∀ c : Dev Cert.CacheRefIdeal.nD,
      r.2.mem ((c.tc : Thread Cert.CacheRefIdeal.nD Cert.CacheRefIdeal.τ).loc Cert.CacheRefIdeal.main_arg0) = m ((c.tc : Thread Cert.CacheRefIdeal.nD Cert.CacheRefIdeal.τ).loc Cert.CacheRefIdeal.main_arg0)
      ∧ r.2.mem ((c.tc : Thread Cert.CacheRefIdeal.nD Cert.CacheRefIdeal.τ).loc Cert.CacheRefIdeal.main_arg1) = m ((c.tc : Thread Cert.CacheRefIdeal.nD Cert.CacheRefIdeal.τ).loc Cert.CacheRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v4) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v62) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4_0)) (v1 : (c : Dev Cert.KvIdeal.nD) → Buf (Elt Ideal) ((c.tc : Thread Cert.KvIdeal.nD Cert.KvIdeal.τ).loc Cert.KvIdeal.main_v4_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4_0) = v0 c
          ∧ r.2.mem ((c.tc : Thread Cert.KvIdeal.nD Cert.KvIdeal.τ).loc Cert.KvIdeal.main_v4_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v15) = v0 c
          ∧ r.2.mem ((c.tc : Thread Cert.KvRefIdeal.nD Cert.KvRefIdeal.τ).loc Cert.KvRefIdeal.main_v19) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15_0) = v0 c
          ∧ r.2.mem ((c.tc : Thread Cert.MergeIdeal.nD Cert.MergeIdeal.τ).loc Cert.MergeIdeal.main_v15_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v168) = v0 c
          ∧ r.2.mem ((c.tc : Thread Cert.MergeRefIdeal.nD Cert.MergeRefIdeal.τ).loc Cert.MergeRefIdeal.main_v172) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_State_StateIdeal : Prop :=
  True

def algebraic_StateIdeal_StateRefIdeal_pre_real_gates [hStateIdeal : Cert.StateIdeal.Facts] [hStateRefIdeal : Cert.StateRefIdeal.Facts] [hPre_real_gates : Cert.Pre_real_gates.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_real_gates m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)) →
    ∃ (v0 : (c : Dev Cert.StateIdeal.nD) → Buf (Elt Ideal) ((c.tc : Thread Cert.StateIdeal.nD Cert.StateIdeal.τ).loc Cert.StateIdeal.main_v7_1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v7_1) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v99) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)
      ∧ m' ((c.tc : Thread Cert.QueriesRefIdeal.nD Cert.QueriesRefIdeal.τ).loc Cert.QueriesRefIdeal.main_arg2) = m ((c.tc : Thread Cert.QueriesIdeal.nD Cert.QueriesIdeal.τ).loc Cert.QueriesIdeal.main_arg2)) →
    ∃ (v0 : (c : Dev Cert.QueriesIdeal.nD) → Buf (Elt Ideal) ((c.tc : Thread Cert.QueriesIdeal.nD Cert.QueriesIdeal.τ).loc Cert.QueriesIdeal.main_v7)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v7) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v21) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1)
          ∧ r.2.mem ((c.tc : Thread Cert.QueriesRefIdeal.nD Cert.QueriesRefIdeal.τ).loc Cert.QueriesRefIdeal.main_arg2) = m' ((c.tc : Thread Cert.QueriesRefIdeal.nD Cert.QueriesRefIdeal.τ).loc Cert.QueriesRefIdeal.main_arg2))

def preserves_Cache_CacheIdeal : Prop :=
  True

def algebraic_CacheIdeal_CacheRefIdeal [hCacheIdeal : Cert.CacheIdeal.Facts] [hCacheRefIdeal : Cert.CacheRefIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheRefIdeal.nD Cert.CacheRefIdeal.τ Cert.CacheRefIdeal.sig) → Buf (Elt Ideal) ℓ) (g' : Dev Cert.CacheRefIdeal.nD → PrngReg), Pre_CacheIdeal m →
    (∀ c : Dev Cert.CacheIdeal.nD,
      m' ((c.tc : Thread Cert.CacheRefIdeal.nD Cert.CacheRefIdeal.τ).loc Cert.CacheRefIdeal.main_arg0) = m ((c.tc : Thread Cert.CacheIdeal.nD Cert.CacheIdeal.τ).loc Cert.CacheIdeal.main_arg0)
      ∧ m' ((c.tc : Thread Cert.CacheRefIdeal.nD Cert.CacheRefIdeal.τ).loc Cert.CacheRefIdeal.main_arg1) = m ((c.tc : Thread Cert.CacheIdeal.nD Cert.CacheIdeal.τ).loc Cert.CacheIdeal.main_arg1)) →
    ∃ (v0 : (c : Dev Cert.CacheIdeal.nD) → Buf (Elt Ideal) ((c.tc : Thread Cert.CacheIdeal.nD Cert.CacheIdeal.τ).loc Cert.CacheIdeal.main_v4)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v4) = v0 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1))
      ∧ θ_run (Cert.CacheRefIdeal.defs (F := Ideal)) (onTc (τ := Cert.CacheRefIdeal.τ) (Cert.CacheRefIdeal.main (F := Ideal))) ⟨m', fun _ => 0, g'⟩ (fun r => ∀ c : Dev Cert.CacheRefIdeal.nD,
          r.2.mem ((c.tc : Thread Cert.CacheRefIdeal.nD Cert.CacheRefIdeal.τ).loc Cert.CacheRefIdeal.main_v6) = v0 c
          ∧ r.2.mem ((c.tc : Thread Cert.CacheRefIdeal.nD Cert.CacheRefIdeal.τ).loc Cert.CacheRefIdeal.main_arg0) = m' ((c.tc : Thread Cert.CacheRefIdeal.nD Cert.CacheRefIdeal.τ).loc Cert.CacheRefIdeal.main_arg0)
          ∧ r.2.mem ((c.tc : Thread Cert.CacheRefIdeal.nD Cert.CacheRefIdeal.τ).loc Cert.CacheRefIdeal.main_arg1) = m' ((c.tc : Thread Cert.CacheRefIdeal.nD Cert.CacheRefIdeal.τ).loc Cert.CacheRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v51) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v65) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)) →
    ∃ (v0 : (c : Dev Cert.NextIdeal.nD) → Buf (Elt Ideal) ((c.tc : Thread Cert.NextIdeal.nD Cert.NextIdeal.τ).loc Cert.NextIdeal.main_v8_0)) (v1 : (c : Dev Cert.NextIdeal.nD) → Buf (Elt Ideal) ((c.tc : Thread Cert.NextIdeal.nD Cert.NextIdeal.τ).loc Cert.NextIdeal.main_v8_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v8_0) = v0 c
          ∧ r.2.mem ((c.tc : Thread Cert.NextIdeal.nD Cert.NextIdeal.τ).loc Cert.NextIdeal.main_v8_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v29) = v0 c
          ∧ r.2.mem ((c.tc : Thread Cert.NextRefIdeal.nD Cert.NextRefIdeal.τ).loc Cert.NextRefIdeal.main_v62) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hGates : Cert.Gates.Facts) (hGatesIdeal : Cert.GatesIdeal.Facts) (hGatesRefIdeal : Cert.GatesRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hMerge : Cert.Merge.Facts) (hMergeIdeal : Cert.MergeIdeal.Facts) (hMergeRefIdeal : Cert.MergeRefIdeal.Facts) (hState : Cert.State.Facts) (hStateIdeal : Cert.StateIdeal.Facts) (hStateRefIdeal : Cert.StateRefIdeal.Facts) (hQueries : Cert.Queries.Facts) (hQueriesIdeal : Cert.QueriesIdeal.Facts) (hQueriesRefIdeal : Cert.QueriesRefIdeal.Facts) (hCache : Cert.Cache.Facts) (hCacheIdeal : Cert.CacheIdeal.Facts) (hCacheRefIdeal : Cert.CacheRefIdeal.Facts) (hMod : Cert.Mod.Facts) (hModIdeal : Cert.ModIdeal.Facts) (hModRefIdeal : Cert.ModRefIdeal.Facts) (hFirst : Cert.First.Facts) (hFirstIdeal : Cert.FirstIdeal.Facts) (hFirstRefIdeal : Cert.FirstRefIdeal.Facts) (hNext : Cert.Next.Facts) (hNextIdeal : Cert.NextIdeal.Facts) (hNextRefIdeal : Cert.NextRefIdeal.Facts) (hPre_real_gates : Cert.Pre_real_gates.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Gates (hGates := hGates)
    ∧ quiescent_GatesIdeal (hGatesIdeal := hGatesIdeal)
    ∧ quiescent_GatesRefIdeal (hGatesRefIdeal := hGatesRefIdeal)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_State (hState := hState)
    ∧ quiescent_StateIdeal (hStateIdeal := hStateIdeal)
    ∧ quiescent_StateIdeal_pre_real_gates (hStateIdeal := hStateIdeal) (hPre_real_gates := hPre_real_gates)
    ∧ quiescent_StateRefIdeal (hStateRefIdeal := hStateRefIdeal)
    ∧ quiescent_StateRefIdeal_pre_real_gates (hStateRefIdeal := hStateRefIdeal) (hPre_real_gates := hPre_real_gates)
    ∧ quiescent_Queries (hQueries := hQueries)
    ∧ quiescent_QueriesIdeal (hQueriesIdeal := hQueriesIdeal)
    ∧ quiescent_QueriesRefIdeal (hQueriesRefIdeal := hQueriesRefIdeal)
    ∧ quiescent_Cache (hCache := hCache)
    ∧ quiescent_CacheIdeal (hCacheIdeal := hCacheIdeal)
    ∧ quiescent_CacheRefIdeal (hCacheRefIdeal := hCacheRefIdeal)
    ∧ quiescent_Mod (hMod := hMod)
    ∧ quiescent_ModIdeal (hModIdeal := hModIdeal)
    ∧ quiescent_ModRefIdeal (hModRefIdeal := hModRefIdeal)
    ∧ quiescent_First (hFirst := hFirst)
    ∧ quiescent_FirstIdeal (hFirstIdeal := hFirstIdeal)
    ∧ quiescent_FirstRefIdeal (hFirstRefIdeal := hFirstRefIdeal)
    ∧ quiescent_Next (hNext := hNext)
    ∧ quiescent_NextIdeal (hNextIdeal := hNextIdeal)
    ∧ quiescent_NextRefIdeal (hNextRefIdeal := hNextRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Gates_GatesIdeal
    ∧ algebraic_GatesIdeal_GatesRefIdeal (hGatesIdeal := hGatesIdeal) (hGatesRefIdeal := hGatesRefIdeal)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
    ∧ preserves_Merge_MergeIdeal
    ∧ algebraic_MergeIdeal_MergeRefIdeal (hMergeIdeal := hMergeIdeal) (hMergeRefIdeal := hMergeRefIdeal)
    ∧ preserves_State_StateIdeal
    ∧ algebraic_StateIdeal_StateRefIdeal_pre_real_gates (hStateIdeal := hStateIdeal) (hStateRefIdeal := hStateRefIdeal) (hPre_real_gates := hPre_real_gates)
    ∧ preserves_Queries_QueriesIdeal
    ∧ algebraic_QueriesIdeal_QueriesRefIdeal (hQueriesIdeal := hQueriesIdeal) (hQueriesRefIdeal := hQueriesRefIdeal)
    ∧ preserves_Cache_CacheIdeal
    ∧ algebraic_CacheIdeal_CacheRefIdeal (hCacheIdeal := hCacheIdeal) (hCacheRefIdeal := hCacheRefIdeal)
    ∧ preserves_Mod_ModIdeal
    ∧ algebraic_ModIdeal_ModRefIdeal (hModIdeal := hModIdeal) (hModRefIdeal := hModRefIdeal)
    ∧ preserves_First_FirstIdeal
    ∧ algebraic_FirstIdeal_FirstRefIdeal (hFirstIdeal := hFirstIdeal) (hFirstRefIdeal := hFirstRefIdeal)
    ∧ preserves_Next_NextIdeal
    ∧ algebraic_NextIdeal_NextRefIdeal (hNextIdeal := hNextIdeal) (hNextRefIdeal := hNextRefIdeal)
-- ==== Pre_real_gates.lean ====
abbrev S8192x7680 : Shape := ⟨2, ![8192, 7680]⟩
abbrev S2x1024 : Shape := ⟨2, ![2, 1024]⟩
abbrev S4x128 : Shape := ⟨2, ![4, 128]⟩
abbrev S4096x2048 : Shape := ⟨2, ![4096, 2048]⟩
abbrev S_ : Shape := ⟨0, ![]⟩

class Facts : Prop where
  slices_S8192x7680_S4096x2048_0_1024 : S8192x7680.Slices ![0, 1024] S4096x2048
  bcast_S_S4096x2048 : S_.BroadcastsInDim S4096x2048 (![] : Fin 0 → Fin S4096x2048.rank)
  bcast_S_S2x1024 : S_.BroadcastsInDim S2x1024 (![] : Fin 0 → Fin S2x1024.rank)

variable [Facts]

def fn {F : FTy → Type} [FloatOps F] (main_arg0 : FVec F S8192x7680 .f32) (main_arg1 : FVec F S2x1024 .f32) (main_arg2 : FVec F S4x128 .f32) : IVec S4096x2048 1 × IVec S2x1024 1 × IVec S2x1024 1 :=
  let main_v0 : FVec F S4096x2048 .f32 := (extractStridedSlice S4096x2048 ![0, 1024] · slices_S8192x7680_S4096x2048_0_1024) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_cst_0 : FVec F S_ .f32 := constant S_ .f32 0x00000000#32
  let main_v4 : FVec F S2x1024 .f32 := broadcastInDim S2x1024 ![] bcast_S_S2x1024 main_cst_0
  let main_v5 : IVec S2x1024 1 := cmpf .oge main_arg1 main_v4
  let main_cst_1 : FVec F S_ .f32 := constant S_ .f32 0x7F800000#32
  let main_v6 : FVec F S2x1024 .f32 := broadcastInDim S2x1024 ![] bcast_S_S2x1024 main_cst_1
  let main_v7 : IVec S2x1024 1 := cmpf .olt main_arg1 main_v6
  (main_v3, main_v5, main_v7)
-- ==== Kernel.lean ====
abbrev S8192x2048 : Shape := ⟨2, ![8192, 2048]⟩
abbrev S4x2048x11008 : Shape := ⟨3, ![4, 2048, 11008]⟩
abbrev S4x3x11008 : Shape := ⟨3, ![4, 3, 11008]⟩
abbrev S4x5504x2048 : Shape := ⟨3, ![4, 5504, 2048]⟩
abbrev S4x3x512 : Shape := ⟨3, ![4, 3, 512]⟩
abbrev S4x3x8192 : Shape := ⟨3, ![4, 3, 8192]⟩
abbrev S4x3x3072 : Shape := ⟨3, ![4, 3, 3072]⟩
abbrev S4x3x11264 : Shape := ⟨3, ![4, 3, 11264]⟩
abbrev S1024x2048 : Shape := ⟨2, ![1024, 2048]⟩
abbrev S1x2048x512 : Shape := ⟨3, ![1, 2048, 512]⟩
abbrev S1x3x512 : Shape := ⟨3, ![1, 3, 512]⟩
abbrev S1x512x2048 : Shape := ⟨3, ![1, 512, 2048]⟩
abbrev S1024x1 : Shape := ⟨2, ![1024, 1]⟩
abbrev S1x512 : Shape := ⟨2, ![1, 512]⟩
abbrev S1x2048x256 : Shape := ⟨3, ![1, 2048, 256]⟩
abbrev S2048x256 : Shape := ⟨2, ![2048, 256]⟩
abbrev S1024x256 : Shape := ⟨2, ![1024, 256]⟩
abbrev S1x3x256 : Shape := ⟨3, ![1, 3, 256]⟩
abbrev S3x256 : Shape := ⟨2, ![3, 256]⟩
abbrev S1x256 : Shape := ⟨2, ![1, 256]⟩
abbrev S1x256x2048 : Shape := ⟨3, ![1, 256, 2048]⟩
abbrev S256x2048 : Shape := ⟨2, ![256, 2048]⟩

abbrev nBuf : Space → Nat
  | .hbm => 33
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x2048x11008, .f32⟩
  | .hbm, ⟨2, _⟩ => ⟨S4x3x11008, .f32⟩
  | .hbm, ⟨3, _⟩ => ⟨S4x5504x2048, .f32⟩
  | .hbm, ⟨4, _⟩ => ⟨S4x2048x11008, .bf16⟩
  | .hbm, ⟨5, _⟩ => ⟨S4x5504x2048, .bf16⟩
  | .hbm, ⟨6, _⟩ => ⟨S4x3x512, .f32⟩
  | .hbm, ⟨7, _⟩ => ⟨S4x3x512, .f32⟩
  | .hbm, ⟨8, _⟩ => ⟨S4x3x512, .f32⟩
  | .hbm, ⟨9, _⟩ => ⟨S4x3x512, .f32⟩
  | .hbm, ⟨10, _⟩ => ⟨S4x3x512, .f32⟩
  | .hbm, ⟨11, _⟩ => ⟨S4x3x512, .f32⟩
  | .hbm, ⟨12, _⟩ => ⟨S4x3x512, .f32⟩
  | .hbm, ⟨13, _⟩ => ⟨S4x3x512, .f32⟩
  | .hbm, ⟨14, _⟩ => ⟨S4x3x512, .f32⟩
  | .hbm, ⟨15, _⟩ => ⟨S4x3x512, .f32⟩
  | .hbm, ⟨16, _⟩ => ⟨S4x3x512, .f32⟩
  | .hbm, ⟨17, _⟩ => ⟨S4x3x512, .f32⟩
  | .hbm, ⟨18, _⟩ => ⟨S4x3x512, .f32⟩
  | .hbm, ⟨19, _⟩ => ⟨S4x3x512, .f32⟩
  | .hbm, ⟨20, _⟩ => ⟨S4x3x512, .f32⟩
  | .hbm, ⟨21, _⟩ => ⟨S4x3x512, .f32⟩
  | .hbm, ⟨22, _⟩ => ⟨S4x3x512, .f32⟩
  | .hbm, ⟨23, _⟩ => ⟨S4x3x512, .f32⟩
  | .hbm, ⟨24, _⟩ => ⟨S4x3x512, .f32⟩
  | .hbm, ⟨25, _⟩ => ⟨S4x3x512, .f32⟩
  | .hbm, ⟨26, _⟩ => ⟨S4x3x512, .f32⟩
  | .hbm, ⟨27, _⟩ => ⟨S4x3x512, .f32⟩
  | .hbm, ⟨28, _⟩ => ⟨S4x3x8192, .f32⟩
  | .hbm, ⟨29, _⟩ => ⟨S4x3x3072, .f32⟩
  | .hbm, ⟨30, _⟩ => ⟨S4x3x11264, .f32⟩
  | .hbm, ⟨31, _⟩ => ⟨S8192x2048, .bf16⟩
  | .hbm, ⟨32, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1024x2048, .f32⟩
  | .local _ .vmem, ⟨13, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi c0_i32 v1
  let c128_i32 : BitVec 32 := 128#32
  let v3 : BitVec 32 := Scalar.muli c128_i32 v2
  let c3_i32 : BitVec 32 := 3#32
  let c0_i32_0 : BitVec 32 := 0#32
  let c0_i32_1 : BitVec 32 := 0#32
  ![c3_i32.toNat, c0_i32_0.toNat, v3.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c43_i32 : BitVec 32 := 43#32
  let v2 : BitVec 32 := Scalar.addi c43_i32 v1
  let c128_i32 : BitVec 32 := 128#32
  let v3 : BitVec 32 := Scalar.muli c128_i32 v2
  let c3_i32 : BitVec 32 := 3#32
  let c0_i32 : BitVec 32 := 0#32
  let c0_i32_0 : BitVec 32 := 0#32
  ![c3_i32.toNat, c0_i32.toNat, v3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi c0_i32 v1
  let c128_i32 : BitVec 32 := 128#32
  let v3 : BitVec 32 := Scalar.muli c128_i32 v2
  let c3_i32 : BitVec 32 := 3#32
  let c0_i32_0 : BitVec 32 := 0#32
  let c0_i32_1 : BitVec 32 := 0#32
  ![c3_i32.toNat, v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x2048 : Shape := ⟨2, ![8192, 2048]⟩
abbrev S4x2048x11008 : Shape := ⟨3, ![4, 2048, 11008]⟩
abbrev S4x3x11008 : Shape := ⟨3, ![4, 3, 11008]⟩
abbrev S4x5504x2048 : Shape := ⟨3, ![4, 5504, 2048]⟩
abbrev S1x2048x11008 : Shape := ⟨3, ![1, 2048, 11008]⟩
abbrev S2048x11008 : Shape := ⟨2, ![2048, 11008]⟩
abbrev S1x3x11008 : Shape := ⟨3, ![1, 3, 11008]⟩
abbrev S3x11008 : Shape := ⟨2, ![3, 11008]⟩
abbrev S1x5504x2048 : Shape := ⟨3, ![1, 5504, 2048]⟩
abbrev S5504x2048 : Shape := ⟨2, ![5504, 2048]⟩
abbrev S4096x2048 : Shape := ⟨2, ![4096, 2048]⟩
abbrev S16x256x2048 : Shape := ⟨3, ![16, 256, 2048]⟩
abbrev S16x256x11008 : Shape := ⟨3, ![16, 256, 11008]⟩
abbrev S_ : Shape := ⟨0, ![]⟩
abbrev S16x258x11008 : Shape := ⟨3, ![16, 258, 11008]⟩
abbrev S1x11008 : Shape := ⟨2, ![1, 11008]⟩
abbrev S11008 : Shape := ⟨1, ![11008]⟩
abbrev S1x1x11008 : Shape := ⟨3, ![1, 1, 11008]⟩
abbrev S16x256x5504 : Shape := ⟨3, ![16, 256, 5504]⟩
abbrev S4x1024x2048 : Shape := ⟨3, ![4, 1024, 2048]⟩
abbrev S4x1024x11008 : Shape := ⟨3, ![4, 1024, 11008]⟩
abbrev S4x1026x11008 : Shape := ⟨3, ![4, 1026, 11008]⟩
abbrev S4x1024x5504 : Shape := ⟨3, ![4, 1024, 5504]⟩

abbrev nBuf : Space → Nat
  | .hbm => 113
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x11008, .f32⟩
  | .hbm, ⟨2, _⟩ => ⟨S4x3x11008, .f32⟩
  | .hbm, ⟨3, _⟩ => ⟨S4x5504x2048, .f32⟩
  | .hbm, ⟨4, _⟩ => ⟨S1x2048x11008, .f32⟩
  | .hbm, ⟨5, _⟩ => ⟨S2048x11008, .f32⟩
  | .hbm, ⟨6, _⟩ => ⟨S1x3x11008, .f32⟩
  | .hbm, ⟨7, _⟩ => ⟨S3x11008, .f32⟩
  | .hbm, ⟨8, _⟩ => ⟨S1x5504x2048, .f32⟩
  | .hbm, ⟨9, _⟩ => ⟨S5504x2048, .f32⟩
  | .hbm, ⟨10, _⟩ => ⟨S4096x2048, .f32⟩
  | .hbm, ⟨11, _⟩ => ⟨S16x256x2048, .f32⟩
  | .hbm, ⟨12, _⟩ => ⟨S16x256x11008, .f32⟩
  | .hbm, ⟨13, _⟩ => ⟨S_, .i32⟩
  | .hbm, ⟨14, _⟩ => ⟨S_, .f32⟩
  | .hbm, ⟨15, _⟩ => ⟨S16x258x11008, .f32⟩
  | .hbm, ⟨16, _⟩ => ⟨S1x11008, .f32⟩
  | .hbm, ⟨17, _⟩ => ⟨S11008, .f32⟩
  | .hbm, ⟨18, _⟩ => ⟨S16x256x11008, .f32⟩
  | .hbm, ⟨19, _⟩ => ⟨S1x1x11008, .f32⟩
  | .hbm, ⟨20, _⟩ => ⟨S16x256x11008, .f32⟩
  | .hbm, ⟨21, _⟩ => ⟨S16x256x11008, .f32⟩
  | .hbm, ⟨22, _⟩ => ⟨S_, .f32⟩
  | .hbm, ⟨23, _⟩ => ⟨S16x256x11008, .f32⟩
  | .hbm, ⟨24, _⟩ => ⟨S16x256x11008, .f32⟩
  | .hbm, ⟨25, _⟩ => ⟨S1x11008, .f32⟩
  | .hbm, ⟨26, _⟩ => ⟨S11008, .f32⟩
  | .hbm, ⟨27, _⟩ => ⟨S16x256x11008, .f32⟩
  | .hbm, ⟨28, _⟩ => ⟨S1x1x11008, .f32⟩
  | .hbm, ⟨29, _⟩ => ⟨S16x256x11008, .f32⟩
  | .hbm, ⟨30, _⟩ => ⟨S16x256x11008, .f32⟩
  | .hbm, ⟨31, _⟩ => ⟨S16x256x11008, .f32⟩
  | .hbm, ⟨32, _⟩ => ⟨S1x11008, .f32⟩
  | .hbm, ⟨33, _⟩ => ⟨S11008, .f32⟩
  | .hbm, ⟨34, _⟩ => ⟨S16x256x11008, .f32⟩
  | .hbm, ⟨35, _⟩ => ⟨S1x1x11008, .f32⟩
  | .hbm, ⟨36, _⟩ => ⟨S16x256x11008, .f32⟩
  | .hbm, ⟨37, _⟩ => ⟨S16x256x11008, .f32⟩
  | .hbm, ⟨38, _⟩ => ⟨S16x256x11008, .f32⟩
  | .hbm, ⟨39, _⟩ => ⟨S16x256x5504, .f32⟩
  | .hbm, ⟨40, _⟩ => ⟨S16x256x5504, .f32⟩
  | .hbm, ⟨41, _⟩ => ⟨S16x256x5504, .f32⟩
  | .hbm, ⟨42, _⟩ => ⟨S16x256x5504, .f32⟩
  | .hbm, ⟨43, _⟩ => ⟨S_, .f32⟩
  | .hbm, ⟨44, _⟩ => ⟨S16x256x5504, .f32⟩
  | .hbm, ⟨45, _⟩ => ⟨S16x256x5504, .f32⟩
  | .hbm, ⟨46, _⟩ => ⟨S16x256x5504, .f32⟩
  | .hbm, ⟨47, _⟩ => ⟨S_, .f32⟩
  | .hbm, ⟨48, _⟩ => ⟨S16x256x5504, .f32⟩
  | .hbm, ⟨49, _⟩ => ⟨S16x256x5504, .f32⟩
  | .hbm, ⟨50, _⟩ => ⟨S16x256x5504, .f32⟩
  | .hbm, ⟨51, _⟩ => ⟨S_, .f32⟩
  | .hbm, ⟨52, _⟩ => ⟨S16x256x5504, .f32⟩
  | .hbm, ⟨53, _⟩ => ⟨S16x256x5504, .f32⟩
  | .hbm, ⟨54, _⟩ => ⟨S_, .f32⟩
  | .hbm, ⟨55, _⟩ => ⟨S16x256x5504, .f32⟩
  | .hbm, ⟨56, _⟩ => ⟨S16x256x5504, .f32⟩
  | .hbm, ⟨57, _⟩ => ⟨S16x256x5504, .f32⟩
  | .hbm, ⟨58, _⟩ => ⟨S16x256x5504, .f32⟩
  | .hbm, ⟨59, _⟩ => ⟨S16x256x2048, .f32⟩
  | .hbm, ⟨60, _⟩ => ⟨S4096x2048, .f32⟩
  | .hbm, ⟨61, _⟩ => ⟨S4x1024x2048, .f32⟩
  | .hbm, ⟨62, _⟩ => ⟨S4x1024x11008, .f32⟩
  | .hbm, ⟨63, _⟩ => ⟨S_, .i32⟩
  | .hbm, ⟨64, _⟩ => ⟨S_, .f32⟩
  | .hbm, ⟨65, _⟩ => ⟨S4x1026x11008, .f32⟩
  | .hbm, ⟨66, _⟩ => ⟨S1x11008, .f32⟩
  | .hbm, ⟨67, _⟩ => ⟨S11008, .f32⟩
  | .hbm, ⟨68, _⟩ => ⟨S4x1024x11008, .f32⟩
  | .hbm, ⟨69, _⟩ => ⟨S1x1x11008, .f32⟩
  | .hbm, ⟨70, _⟩ => ⟨S4x1024x11008, .f32⟩
  | .hbm, ⟨71, _⟩ => ⟨S4x1024x11008, .f32⟩
  | .hbm, ⟨72, _⟩ => ⟨S_, .f32⟩
  | .hbm, ⟨73, _⟩ => ⟨S4x1024x11008, .f32⟩
  | .hbm, ⟨74, _⟩ => ⟨S4x1024x11008, .f32⟩
  | .hbm, ⟨75, _⟩ => ⟨S1x11008, .f32⟩
  | .hbm, ⟨76, _⟩ => ⟨S11008, .f32⟩
  | .hbm, ⟨77, _⟩ => ⟨S4x1024x11008, .f32⟩
  | .hbm, ⟨78, _⟩ => ⟨S1x1x11008, .f32⟩
  | .hbm, ⟨79, _⟩ => ⟨S4x1024x11008, .f32⟩
  | .hbm, ⟨80, _⟩ => ⟨S4x1024x11008, .f32⟩
  | .hbm, ⟨81, _⟩ => ⟨S4x1024x11008, .f32⟩
  | .hbm, ⟨82, _⟩ => ⟨S1x11008, .f32⟩
  | .hbm, ⟨83, _⟩ => ⟨S11008, .f32⟩
  | .hbm, ⟨84, _⟩ => ⟨S4x1024x11008, .f32⟩
  | .hbm, ⟨85, _⟩ => ⟨S1x1x11008, .f32⟩
  | .hbm, ⟨86, _⟩ => ⟨S4x1024x11008, .f32⟩
  | .hbm, ⟨87, _⟩ => ⟨S4x1024x11008, .f32⟩
  | .hbm, ⟨88, _⟩ => ⟨S4x1024x11008, .f32⟩
  | .hbm, ⟨89, _⟩ => ⟨S4x1024x5504, .f32⟩
  | .hbm, ⟨90, _⟩ => ⟨S4x1024x5504, .f32⟩
  | .hbm, ⟨91, _⟩ => ⟨S4x1024x5504, .f32⟩
  | .hbm, ⟨92, _⟩ => ⟨S4x1024x5504, .f32⟩
  | .hbm, ⟨93, _⟩ => ⟨S_, .f32⟩
  | .hbm, ⟨94, _⟩ => ⟨S4x1024x5504, .f32⟩
  | .hbm, ⟨95, _⟩ => ⟨S4x1024x5504, .f32⟩
  | .hbm, ⟨96, _⟩ => ⟨S4x1024x5504, .f32⟩
  | .hbm, ⟨97, _⟩ => ⟨S_, .f32⟩
  | .hbm, ⟨98, _⟩ => ⟨S4x1024x5504, .f32⟩
  | .hbm, ⟨99, _⟩ => ⟨S4x1024x5504, .f32⟩
  | .hbm, ⟨100, _⟩ => ⟨S4x1024x5504, .f32⟩
  | .hbm, ⟨101, _⟩ => ⟨S_, .f32⟩
  | .hbm, ⟨102, _⟩ => ⟨S4x1024x5504, .f32⟩
  | .hbm, ⟨103, _⟩ => ⟨S4x1024x5504, .f32⟩
  | .hbm, ⟨104, _⟩ => ⟨S_, .f32⟩
  | .hbm, ⟨105, _⟩ => ⟨S4x1024x5504, .f32⟩
  | .hbm, ⟨106, _⟩ => ⟨S4x1024x5504, .f32⟩
  | .hbm, ⟨107, _⟩ => ⟨S4x1024x5504, .f32⟩
  | .hbm, ⟨108, _⟩ => ⟨S4x1024x5504, .f32⟩
  | .hbm, ⟨109, _⟩ => ⟨S4x1024x2048, .f32⟩
  | .hbm, ⟨110, _⟩ => ⟨S4096x2048, .f32⟩
  | .hbm, ⟨111, _⟩ => ⟨S4096x2048, .f32⟩
  | .hbm, ⟨112, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_4 : Ref sig .tc := ⟨.hbm, 63, rfl⟩
abbrev main_call1_v0 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_6 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_7 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_8 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]
-- ==== InProj.lean ====
abbrev S8192x2048 : Shape := ⟨2, ![8192, 2048]⟩
abbrev S4x2048x13632 : Shape := ⟨3, ![4, 2048, 13632]⟩
abbrev S4x13632x2048 : Shape := ⟨3, ![4, 13632, 2048]⟩
abbrev S54528x2048 : Shape := ⟨2, ![54528, 2048]⟩
abbrev S8192x7680 : Shape := ⟨2, ![8192, 7680]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2048x13632, .f32⟩
  | .hbm, ⟨2, _⟩ => ⟨S8192x2048, .bf16⟩
  | .hbm, ⟨3, _⟩ => ⟨S4x13632x2048, .f32⟩
  | .hbm, ⟨4, _⟩ => ⟨S54528x2048, .f32⟩
  | .hbm, ⟨5, _⟩ => ⟨S8192x7680, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c5112_i32 : BitVec 32 := 5112#32
  let v1 : BitVec 32 := Scalar.addi c5112_i32 v0
  let c12_i32 : BitVec 32 := 12#32
  let v2 : BitVec 1 := Scalar.cmpi .slt arg1 c12_i32
  let c0_i32 : BitVec 32 := 0#32
  let c_m24_i32 : BitVec 32 := 4294967272#32
  let v3 : BitVec 32 := Scalar.select v2 c0_i32 c_m24_i32
  let v4 : BitVec 32 := Scalar.addi v1 v3
  let c8_i32 : BitVec 32 := 8#32
  let v5 : BitVec 32 := Scalar.muli v4 c8_i32
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S4x2048x13632 : Shape := ⟨3, ![4, 2048, 13632]⟩
abbrev S1x2048x13632 : Shape := ⟨3, ![1, 2048, 13632]⟩
abbrev S2048x13632 : Shape := ⟨2, ![2048, 13632]⟩
abbrev S8192x13632 : Shape := ⟨2, ![8192, 13632]⟩
abbrev S8192x6144 : Shape := ⟨2, ![8192, 6144]⟩
abbrev S8192x1536 : Shape := ⟨2, ![8192, 1536]⟩
abbrev S8192x7680 : Shape := ⟨2, ![8192, 7680]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x13632, .f32⟩
  | .hbm, ⟨2, _⟩ => ⟨S1x2048x13632, .f32⟩
  | .hbm, ⟨3, _⟩ => ⟨S2048x13632, .f32⟩
  | .hbm, ⟨4, _⟩ => ⟨S8192x13632, .f32⟩
  | .hbm, ⟨5, _⟩ => ⟨S8192x6144, .f32⟩
  | .hbm, ⟨6, _⟩ => ⟨S8192x1536, .f32⟩
  | .hbm, ⟨7, _⟩ => ⟨S8192x7680, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gates.lean ====
abbrev S8192x2048 : Shape := ⟨2, ![8192, 2048]⟩
abbrev S4x2048x13632 : Shape := ⟨3, ![4, 2048, 13632]⟩
abbrev S4x13632x2048 : Shape := ⟨3, ![4, 13632, 2048]⟩
abbrev S54528x2048 : Shape := ⟨2, ![54528, 2048]⟩
abbrev S8192x6144 : Shape := ⟨2, ![8192, 6144]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2048x13632, .f32⟩
  | .hbm, ⟨2, _⟩ => ⟨S8192x2048, .bf16⟩
  | .hbm, ⟨3, _⟩ => ⟨S4x13632x2048, .f32⟩
  | .hbm, ⟨4, _⟩ => ⟨S54528x2048, .f32⟩
  | .hbm, ⟨5, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c6048_i32 : BitVec 32 := 6048#32
  let v1 : BitVec 32 := Scalar.addi c6048_i32 v0
  let c12_i32 : BitVec 32 := 12#32
  let v2 : BitVec 1 := Scalar.cmpi .slt arg1 c12_i32
  let c0_i32 : BitVec 32 := 0#32
  let c_m1704_i32 : BitVec 32 := 4294965592#32
  let v3 : BitVec 32 := Scalar.select v2 c0_i32 c_m1704_i32
  let v4 : BitVec 32 := Scalar.addi v1 v3
  let c8_i32 : BitVec 32 := 8#32
  let v5 : BitVec 32 := Scalar.muli v4 c8_i32
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8192x2048 : Shape := ⟨2, ![8192, 2048]⟩
abbrev S4x2048x13632 : Shape := ⟨3, ![4, 2048, 13632]⟩
abbrev S1x2048x13632 : Shape := ⟨3, ![1, 2048, 13632]⟩
abbrev S2048x13632 : Shape := ⟨2, ![2048, 13632]⟩
abbrev S8192x13632 : Shape := ⟨2, ![8192, 13632]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x13632, .f32⟩
  | .hbm, ⟨2, _⟩ => ⟨S1x2048x13632, .f32⟩
  | .hbm, ⟨3, _⟩ => ⟨S2048x13632, .f32⟩
  | .hbm, ⟨4, _⟩ => ⟨S8192x13632, .f32⟩
  | .hbm, ⟨5, _⟩ => ⟨S8192x6144, .f32⟩
  | .hbm, ⟨6, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x2048 : Shape := ⟨2, ![8192, 2048]⟩
abbrev S8x12288 : Shape := ⟨2, ![8, 12288]⟩
abbrev S4x2048 : Shape := ⟨2, ![4, 2048]⟩
abbrev S8x6x1x2048 : Shape := ⟨4, ![8, 6, 1, 2048]⟩
abbrev S1x2048 : Shape := ⟨2, ![1, 2048]⟩
abbrev S2048 : Shape := ⟨1, ![2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x12288, .f32⟩
  | .hbm, ⟨3, _⟩ => ⟨S4x2048, .f32⟩
  | .hbm, ⟨4, _⟩ => ⟨S8x6x1x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c5_i32 : BitVec 32 := 5#32
  let c0_i32_8 : BitVec 32 := 0#32
  let c0_i32_9 : BitVec 32 := 0#32
  let c0_i32_10 : BitVec 32 := 0#32
  ![v22.toNat, c5_i32.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S8192x2048 : Shape := ⟨2, ![8192, 2048]⟩
abbrev S8x12288 : Shape := ⟨2, ![8, 12288]⟩
abbrev S4x2048 : Shape := ⟨2, ![4, 2048]⟩
abbrev S4096x2048 : Shape := ⟨2, ![4096, 2048]⟩
abbrev S16x256x2048 : Shape := ⟨3, ![16, 256, 2048]⟩
abbrev S4x1024x2048 : Shape := ⟨3, ![4, 1024, 2048]⟩
abbrev S1x12288 : Shape := ⟨2, ![1, 12288]⟩
abbrev S1x1x12288 : Shape := ⟨3, ![1, 1, 12288]⟩
abbrev S4x12288 : Shape := ⟨2, ![4, 12288]⟩
abbrev S4x1x12288 : Shape := ⟨3, ![4, 1, 12288]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S4x1x2048 : Shape := ⟨3, ![4, 1, 2048]⟩
abbrev S4x1024 : Shape := ⟨2, ![4, 1024]⟩
abbrev S4x1024x1 : Shape := ⟨3, ![4, 1024, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x12288, .f32⟩
  | .hbm, ⟨3, _⟩ => ⟨S4x2048, .f32⟩
  | .hbm, ⟨4, _⟩ => ⟨S4096x2048, .f32⟩
  | .hbm, ⟨5, _⟩ => ⟨S16x256x2048, .f32⟩
  | .hbm, ⟨6, _⟩ => ⟨S4096x2048, .f32⟩
  | .hbm, ⟨7, _⟩ => ⟨S4x1024x2048, .f32⟩
  | .hbm, ⟨8, _⟩ => ⟨S4096x2048, .f32⟩
  | .hbm, ⟨9, _⟩ => ⟨S16x256x2048, .f32⟩
  | .hbm, ⟨10, _⟩ => ⟨S4096x2048, .f32⟩
  | .hbm, ⟨11, _⟩ => ⟨S4x1024x2048, .f32⟩
  | .hbm, ⟨12, _⟩ => ⟨S1x12288, .f32⟩
  | .hbm, ⟨13, _⟩ => ⟨S1x1x12288, .f32⟩
  | .hbm, ⟨14, _⟩ => ⟨S4x12288, .f32⟩
  | .hbm, ⟨15, _⟩ => ⟨S4x1x12288, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S1x1x2048, .f32⟩
  | .hbm, ⟨22, _⟩ => ⟨S1x2048, .f32⟩
  | .hbm, ⟨23, _⟩ => ⟨S2048, .f32⟩
  | .hbm, ⟨24, _⟩ => ⟨S16x256x2048, .f32⟩
  | .hbm, ⟨25, _⟩ => ⟨S_, .f32⟩
  | .hbm, ⟨26, _⟩ => ⟨S16x256, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x1, .f32⟩
  | .hbm, ⟨35, _⟩ => ⟨S16x256x2048, .f32⟩
  | .hbm, ⟨36, _⟩ => ⟨S16x256x2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x2048, .f32⟩
  | .hbm, ⟨42, _⟩ => ⟨S16x256x2048, .f32⟩
  | .hbm, ⟨43, _⟩ => ⟨S4x1x2048, .f32⟩
  | .hbm, ⟨44, _⟩ => ⟨S4x1x2048, .f32⟩
  | .hbm, ⟨45, _⟩ => ⟨S4x1x2048, .f32⟩
  | .hbm, ⟨46, _⟩ => ⟨S4x1x2048, .f32⟩
  | .hbm, ⟨47, _⟩ => ⟨S4x1x2048, .f32⟩
  | .hbm, ⟨48, _⟩ => ⟨S4x1x2048, .f32⟩
  | .hbm, ⟨49, _⟩ => ⟨S1x2048, .f32⟩
  | .hbm, ⟨50, _⟩ => ⟨S2048, .f32⟩
  | .hbm, ⟨51, _⟩ => ⟨S4x1024x2048, .f32⟩
  | .hbm, ⟨52, _⟩ => ⟨S_, .f32⟩
  | .hbm, ⟨53, _⟩ => ⟨S4x1024, .f32⟩
  | .hbm, ⟨54, _⟩ => ⟨S4x1024x1, .f32⟩
  | .hbm, ⟨55, _⟩ => ⟨S_, .f32⟩
  | .hbm, ⟨56, _⟩ => ⟨S4x1024x1, .f32⟩
  | .hbm, ⟨57, _⟩ => ⟨S4x1024x1, .f32⟩
  | .hbm, ⟨58, _⟩ => ⟨S_, .f32⟩
  | .hbm, ⟨59, _⟩ => ⟨S4x1024x1, .f32⟩
  | .hbm, ⟨60, _⟩ => ⟨S4x1024x1, .f32⟩
  | .hbm, ⟨61, _⟩ => ⟨S4x1024x1, .f32⟩
  | .hbm, ⟨62, _⟩ => ⟨S4x1024x2048, .f32⟩
  | .hbm, ⟨63, _⟩ => ⟨S4x1024x2048, .f32⟩
  | .hbm, ⟨64, _⟩ => ⟨S1x1x2048, .f32⟩
  | .hbm, ⟨65, _⟩ => ⟨S4x1024x2048, .f32⟩
  | .hbm, ⟨66, _⟩ => ⟨S4x1024x2048, .f32⟩
  | .hbm, ⟨67, _⟩ => ⟨S4x1024x2048, .f32⟩
  | .hbm, ⟨68, _⟩ => ⟨S4x1024x2048, .f32⟩
  | .hbm, ⟨69, _⟩ => ⟨S4x1024x2048, .f32⟩
  | .hbm, ⟨70, _⟩ => ⟨S4096x2048, .f32⟩
  | .hbm, ⟨71, _⟩ => ⟨S4096x2048, .f32⟩
  | .hbm, ⟨72, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Kv.lean ====
abbrev S8192x7680 : Shape := ⟨2, ![8192, 7680]⟩
abbrev S4x256 : Shape := ⟨2, ![4, 256]⟩
abbrev S4x256x2048 : Shape := ⟨3, ![4, 256, 2048]⟩
abbrev S1x256 : Shape := ⟨2, ![1, 256]⟩
abbrev S256 : Shape := ⟨1, ![256]⟩
abbrev S8192x256 : Shape := ⟨2, ![8192, 256]⟩
abbrev S8192x2048 : Shape := ⟨2, ![8192, 2048]⟩
abbrev S512x256 : Shape := ⟨2, ![512, 256]⟩
abbrev S1x256x2048 : Shape := ⟨3, ![1, 256, 2048]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩

abbrev nBuf : Space → Nat
  | .hbm => 9
  | .vmem => 8
  | .smem => 0
  | _ => 0

abbrev bufTy : (tb : Table) → Fin (tcTables nBuf tb) → BufTy
  | .hbm, ⟨0, _⟩ => ⟨S8192x7680, .f32⟩
  | .hbm, ⟨1, _⟩ => ⟨S4x256, .f32⟩
  | .hbm, ⟨2, _⟩ => ⟨S4x256x2048, .f32⟩
  | .hbm, ⟨3, _⟩ => ⟨S1x256, .f32⟩
  | .hbm, ⟨4, _⟩ => ⟨S256, .f32⟩
  | .hbm, ⟨5, _⟩ => ⟨S4x256x2048, .bf16⟩
  | .hbm, ⟨6, _⟩ => ⟨S1x256, .f32⟩
  | .hbm, ⟨7, _⟩ => ⟨S8192x256, .f32⟩
  | .hbm, ⟨8, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S1x256x2048, .bf16⟩
  | .local _ .vmem, ⟨4, _⟩ => ⟨S512x256, .f32⟩
  | .local _ .vmem, ⟨5, _⟩ => ⟨S512x256, .f32⟩
  | .local _ .vmem, ⟨6, _⟩ => ⟨S512x2048, .bf16⟩
  | .local _ .vmem, ⟨7, _⟩ => ⟨S512x2048, .bf16⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvRefIdeal.lean ====
abbrev S8192x7680 : Shape := ⟨2, ![8192, 7680]⟩
abbrev S4x256 : Shape := ⟨2, ![4, 256]⟩
abbrev S4x256x2048 : Shape := ⟨3, ![4, 256, 2048]⟩
abbrev S8192x256 : Shape := ⟨2, ![8192, 256]⟩
abbrev S1x256 : Shape := ⟨2, ![1, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S4x256, .f32⟩
  | .hbm, ⟨2, _⟩ => ⟨S4x256x2048, .f32⟩
  | .hbm, ⟨3, _⟩ => ⟨S8192x256, .f32⟩
  | .hbm, ⟨4, _⟩ => ⟨S1x256, .f32⟩
  | .hbm, ⟨5, _⟩ => ⟨S256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S1x256x2048, .f32⟩
  | .hbm, ⟨23, _⟩ => ⟨S256x2048, .f32⟩
  | .hbm, ⟨24, _⟩ => ⟨S8192x2048, .f32⟩
  | .hbm, ⟨25, _⟩ => ⟨S8192x2048, .bf16⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Merge.lean ====
abbrev S8192x1024 : Shape := ⟨2, ![8192, 1024]⟩
abbrev S8192x6144 : Shape := ⟨2, ![8192, 6144]⟩
abbrev S8192x2048 : Shape := ⟨2, ![8192, 2048]⟩
abbrev S8x12288 : Shape := ⟨2, ![8, 12288]⟩
abbrev S4x1024x2048 : Shape := ⟨3, ![4, 1024, 2048]⟩
abbrev S4x2048x2048 : Shape := ⟨3, ![4, 2048, 2048]⟩
abbrev S4x2048 : Shape := ⟨2, ![4, 2048]⟩
abbrev S8x6x1x2048 : Shape := ⟨4, ![8, 6, 1, 2048]⟩
abbrev S1x2048 : Shape := ⟨2, ![1, 2048]⟩
abbrev S2048 : Shape := ⟨1, ![2048]⟩
abbrev S512x1024 : Shape := ⟨2, ![512, 1024]⟩
abbrev S1x1024x512 : Shape := ⟨3, ![1, 1024, 512]⟩
abbrev S512x512 : Shape := ⟨2, ![512, 512]⟩
abbrev S1x512x2048 : Shape := ⟨3, ![1, 512, 2048]⟩
abbrev S512x2048 : Shape := ⟨2, ![512, 2048]⟩
abbrev S1x1x1x2048 : Shape := ⟨4, ![1, 1, 1, 2048]⟩
abbrev S1024x512 : Shape := ⟨2, ![1024, 512]⟩
abbrev S512 : Shape := ⟨1, ![512]⟩
abbrev S512x1 : Shape := ⟨2, ![512, 1]⟩

abbrev nBuf : Space → Nat
  | .hbm => 29
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x6144, .f32⟩
  | .hbm, ⟨4, _⟩ => ⟨S8192x2048, .f32⟩
  | .hbm, ⟨5, _⟩ => ⟨S8x12288, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x2048x2048, .f32⟩
  | .hbm, ⟨10, _⟩ => ⟨S4x2048, .f32⟩
  | .hbm, ⟨11, _⟩ => ⟨S4x2048, .f32⟩
  | .hbm, ⟨12, _⟩ => ⟨S8x6x1x2048, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S4x1024x2048, .bf16⟩
  | .hbm, ⟨17, _⟩ => ⟨S4x1024x2048, .bf16⟩
  | .hbm, ⟨18, _⟩ => ⟨S4x1024x2048, .bf16⟩
  | .hbm, ⟨19, _⟩ => ⟨S8192x6144, .bf16⟩
  | .hbm, ⟨20, _⟩ => ⟨S4x2048x2048, .bf16⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x512x2048, .bf16⟩
  | .local _ .vmem, ⟨19, _⟩ => ⟨S1x512x2048, .bf16⟩
  | .local _ .vmem, ⟨20, _⟩ => ⟨S512x2048, .f32⟩
  | .local _ .vmem, ⟨21, _⟩ => ⟨S512x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S1x2048, .f32⟩
  | .local _ .vmem, ⟨25, _⟩ => ⟨S1x2048, .f32⟩
  | .local _ .vmem, ⟨26, _⟩ => ⟨S1x1x1x2048, .f32⟩
  | .local _ .vmem, ⟨27, _⟩ => ⟨S1x1x1x2048, .f32⟩
  | .local _ .vmem, ⟨28, _⟩ => ⟨S1x1x1x2048, .f32⟩
  | .local _ .vmem, ⟨29, _⟩ => ⟨S1x1x1x2048, .f32⟩
  | .local _ .vmem, ⟨30, _⟩ => ⟨S512x2048, .f32⟩
  | .local _ .vmem, ⟨31, _⟩ => ⟨S512x2048, .f32⟩
  | .local _ .vmem, ⟨32, _⟩ => ⟨S512x2048, .bf16⟩
  | .local _ .vmem, ⟨33, _⟩ => ⟨S512x2048, .bf16⟩
  | .local _ .vmem, ⟨34, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c2_i32 : BitVec 32 := 2#32
  let c0_i32_8 : BitVec 32 := 0#32
  let c0_i32_9 : BitVec 32 := 0#32
  let c0_i32_10 : BitVec 32 := 0#32
  ![v22.toNat, c2_i32.toNat, c0_i32_8.toNat, c0_i32_9.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c4_i32 : BitVec 32 := 4#32
  let c0_i32_8 : BitVec 32 := 0#32
  let c0_i32_9 : BitVec 32 := 0#32
  let c0_i32_10 : BitVec 32 := 0#32
  ![v22.toNat, c4_i32.toNat, c0_i32_8.toNat, c0_i32_9.toNat]

def cc0_transform_15 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c3_i32 : BitVec 32 := 3#32
  let c0_i32_8 : BitVec 32 := 0#32
  let c0_i32_9 : BitVec 32 := 0#32
  let c0_i32_10 : BitVec 32 := 0#32
  ![v22.toNat, c3_i32.toNat, c0_i32_8.toNat, c0_i32_9.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== MergeRefIdeal.lean ====
abbrev S8192x1024 : Shape := ⟨2, ![8192, 1024]⟩
abbrev S8192x6144 : Shape := ⟨2, ![8192, 6144]⟩
abbrev S8192x2048 : Shape := ⟨2, ![8192, 2048]⟩
abbrev S8x12288 : Shape := ⟨2, ![8, 12288]⟩
abbrev S4x1024x2048 : Shape := ⟨3, ![4, 1024, 2048]⟩
abbrev S4x2048x2048 : Shape := ⟨3, ![4, 2048, 2048]⟩
abbrev S4x2048 : Shape := ⟨2, ![4, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S4096x1024 : Shape := ⟨2, ![4096, 1024]⟩
abbrev S16x256x1024 : Shape := ⟨3, ![16, 256, 1024]⟩
abbrev S4x1024x1024 : Shape := ⟨3, ![4, 1024, 1024]⟩
abbrev S4096x6144 : Shape := ⟨2, ![4096, 6144]⟩
abbrev S16x256x6144 : Shape := ⟨3, ![16, 256, 6144]⟩
abbrev S4x1024x6144 : Shape := ⟨3, ![4, 1024, 6144]⟩
abbrev S4096x2048 : Shape := ⟨2, ![4096, 2048]⟩
abbrev S16x256x2048 : Shape := ⟨3, ![16, 256, 2048]⟩
abbrev S1x12288 : Shape := ⟨2, ![1, 12288]⟩
abbrev S1x1x12288 : Shape := ⟨3, ![1, 1, 12288]⟩
abbrev S4x12288 : Shape := ⟨2, ![4, 12288]⟩
abbrev S4x1x12288 : Shape := ⟨3, ![4, 1, 12288]⟩
abbrev S1x1x2048 : Shape := ⟨3, ![1, 1, 2048]⟩
abbrev S16x256x3x2048 : Shape := ⟨4, ![16, 256, 3, 2048]⟩
abbrev S_ : Shape := ⟨0, ![]⟩
abbrev S16x256x1x2048 : Shape := ⟨4, ![16, 256, 1, 2048]⟩
abbrev S1x2048 : Shape := ⟨2, ![1, 2048]⟩
abbrev S2048 : Shape := ⟨1, ![2048]⟩
abbrev S16x256 : Shape := ⟨2, ![16, 256]⟩
abbrev S16x256x1 : Shape := ⟨3, ![16, 256, 1]⟩
abbrev S4x1x2048 : Shape := ⟨3, ![4, 1, 2048]⟩
abbrev S4x1024x3x2048 : Shape := ⟨4, ![4, 1024, 3, 2048]⟩
abbrev S4x1024x1x2048 : Shape := ⟨4, ![4, 1024, 1, 2048]⟩
abbrev S4x1024 : Shape := ⟨2, ![4, 1024]⟩
abbrev S4x1024x1 : Shape := ⟨3, ![4, 1024, 1]⟩

abbrev nBuf : Space → Nat
  | .hbm => 203
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x6144, .f32⟩
  | 4 => ⟨S8192x2048, .f32⟩
  | 5 => ⟨S8x12288, .f32⟩
  | 6 => ⟨S4x1024x2048, .f32⟩
  | 7 => ⟨S4x1024x2048, .f32⟩
  | 8 => ⟨S4x1024x2048, .f32⟩
  | 9 => ⟨S4x2048x2048, .f32⟩
  | 10 => ⟨S4x2048, .f32⟩
  | 11 => ⟨S4x2048, .f32⟩
  | 12 => ⟨S1x1024x2048, .f32⟩
  | 13 => ⟨S1024x2048, .f32⟩
  | 14 => ⟨S1x1024x2048, .f32⟩
  | 15 => ⟨S1024x2048, .f32⟩
  | 16 => ⟨S1x1024x2048, .f32⟩
  | 17 => ⟨S1024x2048, .f32⟩
  | 18 => ⟨S1x2048x2048, .f32⟩
  | 19 => ⟨S2048x2048, .f32⟩
  | 20 => ⟨S4096x1024, .f32⟩
  | 21 => ⟨S16x256x1024, .f32⟩
  | 22 => ⟨S4096x1024, .f32⟩
  | 23 => ⟨S4x1024x1024, .f32⟩
  | 24 => ⟨S4096x1024, .f32⟩
  | 25 => ⟨S16x256x1024, .f32⟩
  | 26 => ⟨S4096x1024, .f32⟩
  | 27 => ⟨S4x1024x1024, .f32⟩
  | 28 => ⟨S4096x1024, .f32⟩
  | 29 => ⟨S16x256x1024, .f32⟩
  | 30 => ⟨S4096x1024, .f32⟩
  | 31 => ⟨S4x1024x1024, .f32⟩
  | 32 => ⟨S4096x6144, .f32⟩
  | 33 => ⟨S16x256x6144, .f32⟩
  | 34 => ⟨S4096x6144, .f32⟩
  | 35 => ⟨S4x1024x6144, .f32⟩
  | 36 => ⟨S4096x2048, .f32⟩
  | 37 => ⟨S16x256x2048, .f32⟩
  | 38 => ⟨S4096x2048, .f32⟩
  | 39 => ⟨S4x1024x2048, .f32⟩
  | 40 => ⟨S1x12288, .f32⟩
  | 41 => ⟨S1x1x12288, .f32⟩
  | 42 => ⟨S4x12288, .f32⟩
  | 43 => ⟨S4x1x12288, .f32⟩
  | 44 => ⟨S1x1x2048, .f32⟩
  | 45 => ⟨S1x1x2048, .f32⟩
  | 46 => ⟨S1x1x2048, .f32⟩
  | 47 => ⟨S1x1x2048, .f32⟩
  | 48 => ⟨S1x1x2048, .f32⟩
  | 49 => ⟨S1x1x2048, .f32⟩
  | 50 => ⟨S16x256x3x2048, .f32⟩
  | 51 => ⟨S16x256x3x2048, .f32⟩
  | 52 => ⟨S16x256x3x2048, .f32⟩
  | 53 => ⟨S_, .f32⟩
  | 54 => ⟨S16x256x3x2048, .f32⟩
  | 55 => ⟨S16x256x3x2048, .f32⟩
  | 56 => ⟨S_, .f32⟩
  | 57 => ⟨S16x256x3x2048, .f32⟩
  | 58 => ⟨S16x256x3x2048, .f32⟩
  | 59 => ⟨S16x256x1x2048, .f32⟩
  | 60 => ⟨S16x256x2048, .f32⟩
  | 61 => ⟨S16x256x2048, .f32⟩
  | 62 => ⟨S16x256x2048, .f32⟩
  | 63 => ⟨S16x256x1x2048, .f32⟩
  | 64 => ⟨S16x256x2048, .f32⟩
  | 65 => ⟨S16x256x2048, .f32⟩
  | 66 => ⟨S16x256x2048, .f32⟩
  | 67 => ⟨S16x256x2048, .f32⟩
  | 68 => ⟨S16x256x1x2048, .f32⟩
  | 69 => ⟨S16x256x2048, .f32⟩
  | 70 => ⟨S16x256x2048, .f32⟩
  | 71 => ⟨S16x256x2048, .f32⟩
  | 72 => ⟨S16x256x2048, .f32⟩
  | 73 => ⟨S16x256x2048, .f32⟩
  | 74 => ⟨S1x2048, .f32⟩
  | 75 => ⟨S2048, .f32⟩
  | 76 => ⟨S16x256x2048, .f32⟩
  | 77 => ⟨S_, .f32⟩
  | 78 => ⟨S16x256, .f32⟩
  | 79 => ⟨S16x256x1, .f32⟩
  | 80 => ⟨S_, .f32⟩
  | 81 => ⟨S16x256x1, .f32⟩
  | 82 => ⟨S16x256x1, .f32⟩
  | 83 => ⟨S_, .f32⟩
  | 84 => ⟨S16x256x1, .f32⟩
  | 85 => ⟨S16x256x1, .f32⟩
  | 86 => ⟨S16x256x1, .f32⟩
  | 87 => ⟨S16x256x2048, .f32⟩
  | 88 => ⟨S16x256x2048, .f32⟩
  | 89 => ⟨S1x1x2048, .f32⟩
  | 90 => ⟨S16x256x2048, .f32⟩
  | 91 => ⟨S16x256x2048, .f32⟩
  | 92 => ⟨S16x256x2048, .f32⟩
  | 93 => ⟨S16x256x2048, .f32⟩
  | 94 => ⟨S16x256x2048, .f32⟩
  | 95 => ⟨S1x2048, .f32⟩
  | 96 => ⟨S2048, .f32⟩
  | 97 => ⟨S16x256x2048, .f32⟩
  | 98 => ⟨S_, .f32⟩
  | 99 => ⟨S16x256, .f32⟩
  | 100 => ⟨S16x256x1, .f32⟩
  | 101 => ⟨S_, .f32⟩
  | 102 => ⟨S16x256x1, .f32⟩
  | 103 => ⟨S16x256x1, .f32⟩
  | 104 => ⟨S_, .f32⟩
  | 105 => ⟨S16x256x1, .f32⟩
  | 106 => ⟨S16x256x1, .f32⟩
  | 107 => ⟨S16x256x1, .f32⟩
  | 108 => ⟨S16x256x2048, .f32⟩
  | 109 => ⟨S16x256x2048, .f32⟩
  | 110 => ⟨S1x1x2048, .f32⟩
  | 111 => ⟨S16x256x2048, .f32⟩
  | 112 => ⟨S16x256x2048, .f32⟩
  | 113 => ⟨S_, .f32⟩
  | 114 => ⟨S1x1x2048, .f32⟩
  | 115 => ⟨S1x1x2048, .f32⟩
  | 116 => ⟨S16x256x2048, .f32⟩
  | 117 => ⟨S16x256x2048, .f32⟩
  | 118 => ⟨S16x256x2048, .f32⟩
  | 119 => ⟨S16x256x2048, .f32⟩
  | 120 => ⟨S4x1x2048, .f32⟩
  | 121 => ⟨S4x1x2048, .f32⟩
  | 122 => ⟨S4x1x2048, .f32⟩
  | 123 => ⟨S4x1x2048, .f32⟩
  | 124 => ⟨S4x1x2048, .f32⟩
  | 125 => ⟨S4x1x2048, .f32⟩
  | 126 => ⟨S4x1024x3x2048, .f32⟩
  | 127 => ⟨S4x1024x3x2048, .f32⟩
  | _ => ⟨S8192x1024, .f32⟩

abbrev hbmTy0_1 (i : Nat) : BufTy := match i % 128 with
  | 0 => ⟨S4x1024x3x2048, .f32⟩
  | 1 => ⟨S_, .f32⟩
  | 2 => ⟨S4x1024x3x2048, .f32⟩
  | 3 => ⟨S4x1024x3x2048, .f32⟩
  | 4 => ⟨S_, .f32⟩
  | 5 => ⟨S4x1024x3x2048, .f32⟩
  | 6 => ⟨S4x1024x3x2048, .f32⟩
  | 7 => ⟨S4x1024x1x2048, .f32⟩
  | 8 => ⟨S4x1024x2048, .f32⟩
  | 9 => ⟨S4x1024x2048, .f32⟩
  | 10 => ⟨S4x1024x2048, .f32⟩
  | 11 => ⟨S4x1024x1x2048, .f32⟩
  | 12 => ⟨S4x1024x2048, .f32⟩
  | 13 => ⟨S4x1024x2048, .f32⟩
  | 14 => ⟨S4x1024x2048, .f32⟩
  | 15 => ⟨S4x1024x2048, .f32⟩
  | 16 => ⟨S4x1024x1x2048, .f32⟩
  | 17 => ⟨S4x1024x2048, .f32⟩
  | 18 => ⟨S4x1024x2048, .f32⟩
  | 19 => ⟨S4x1024x2048, .f32⟩
  | 20 => ⟨S4x1024x2048, .f32⟩
  | 21 => ⟨S4x1024x2048, .f32⟩
  | 22 => ⟨S1x2048, .f32⟩
  | 23 => ⟨S2048, .f32⟩
  | 24 => ⟨S4x1024x2048, .f32⟩
  | 25 => ⟨S_, .f32⟩
  | 26 => ⟨S4x1024, .f32⟩
  | 27 => ⟨S4x1024x1, .f32⟩
  | 28 => ⟨S_, .f32⟩
  | 29 => ⟨S4x1024x1, .f32⟩
  | 30 => ⟨S4x1024x1, .f32⟩
  | 31 => ⟨S_, .f32⟩
  | 32 => ⟨S4x1024x1, .f32⟩
  | 33 => ⟨S4x1024x1, .f32⟩
  | 34 => ⟨S4x1024x1, .f32⟩
  | 35 => ⟨S4x1024x2048, .f32⟩
  | 36 => ⟨S4x1024x2048, .f32⟩
  | 37 => ⟨S1x1x2048, .f32⟩
  | 38 => ⟨S4x1024x2048, .f32⟩
  | 39 => ⟨S4x1024x2048, .f32⟩
  | 40 => ⟨S4x1024x2048, .f32⟩
  | 41 => ⟨S4x1024x2048, .f32⟩
  | 42 => ⟨S4x1024x2048, .f32⟩
  | 43 => ⟨S1x2048, .f32⟩
  | 44 => ⟨S2048, .f32⟩
  | 45 => ⟨S4x1024x2048, .f32⟩
  | 46 => ⟨S_, .f32⟩
  | 47 => ⟨S4x1024, .f32⟩
  | 48 => ⟨S4x1024x1, .f32⟩
  | 49 => ⟨S_, .f32⟩
  | 50 => ⟨S4x1024x1, .f32⟩
  | 51 => ⟨S4x1024x1, .f32⟩
  | 52 => ⟨S_, .f32⟩
  | 53 => ⟨S4x1024x1, .f32⟩
  | 54 => ⟨S4x1024x1, .f32⟩
  | 55 => ⟨S4x1024x1, .f32⟩
  | 56 => ⟨S4x1024x2048, .f32⟩
  | 57 => ⟨S4x1024x2048, .f32⟩
  | 58 => ⟨S1x1x2048, .f32⟩
  | 59 => ⟨S4x1024x2048, .f32⟩
  | 60 => ⟨S4x1024x2048, .f32⟩
  | 61 => ⟨S_, .f32⟩
  | 62 => ⟨S4x1x2048, .f32⟩
  | 63 => ⟨S4x1x2048, .f32⟩
  | 64 => ⟨S4x1024x2048, .f32⟩
  | 65 => ⟨S4x1024x2048, .f32⟩
  | 66 => ⟨S4x1024x2048, .f32⟩
  | 67 => ⟨S4x1024x2048, .f32⟩
  | 68 => ⟨S4096x2048, .f32⟩
  | 69 => ⟨S4096x2048, .f32⟩
  | 70 => ⟨S8192x2048, .f32⟩
  | 71 => ⟨S4096x2048, .f32⟩
  | 72 => ⟨S4096x2048, .f32⟩
  | 73 => ⟨S8192x2048, .f32⟩
  | 74 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_1 : Ref sig .tc := ⟨.hbm, 77, rfl⟩
abbrev main_v63 : Ref sig .tc := ⟨.hbm, 78, rfl⟩
abbrev main_v64 : Ref sig .tc := ⟨.hbm, 79, rfl⟩
abbrev main_cst_2 : Ref sig .tc := ⟨.hbm, 80, rfl⟩
abbrev main_v65 : Ref sig .tc := ⟨.hbm, 81, rfl⟩
abbrev main_v66 : Ref sig .tc := ⟨.hbm, 82, rfl⟩
abbrev main_cst_3 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_4 : Ref sig .tc := ⟨.hbm, 98, rfl⟩
abbrev main_v81 : Ref sig .tc := ⟨.hbm, 99, rfl⟩
abbrev main_v82 : Ref sig .tc := ⟨.hbm, 100, rfl⟩
abbrev main_cst_5 : Ref sig .tc := ⟨.hbm, 101, rfl⟩
abbrev main_v83 : Ref sig .tc := ⟨.hbm, 102, rfl⟩
abbrev main_v84 : Ref sig .tc := ⟨.hbm, 103, rfl⟩
abbrev main_cst_6 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_7 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_8 : Ref sig .tc := ⟨.hbm, 129, rfl⟩
abbrev main_v108 : Ref sig .tc := ⟨.hbm, 130, rfl⟩
abbrev main_v109 : Ref sig .tc := ⟨.hbm, 131, rfl⟩
abbrev main_cst_9 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_cst_10 : Ref sig .tc := ⟨.hbm, 153, rfl⟩
abbrev main_v130 : Ref sig .tc := ⟨.hbm, 154, rfl⟩
abbrev main_v131 : Ref sig .tc := ⟨.hbm, 155, rfl⟩
abbrev main_cst_11 : Ref sig .tc := ⟨.hbm, 156, rfl⟩
abbrev main_v132 : Ref sig .tc := ⟨.hbm, 157, rfl⟩
abbrev main_v133 : Ref sig .tc := ⟨.hbm, 158, rfl⟩
abbrev main_cst_12 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_cst_13 : Ref sig .tc := ⟨.hbm, 174, rfl⟩
abbrev main_v148 : Ref sig .tc := ⟨.hbm, 175, rfl⟩
abbrev main_v149 : Ref sig .tc := ⟨.hbm, 176, rfl⟩
abbrev main_cst_14 : Ref sig .tc := ⟨.hbm, 177, rfl⟩
abbrev main_v150 : Ref sig .tc := ⟨.hbm, 178, rfl⟩
abbrev main_v151 : Ref sig .tc := ⟨.hbm, 179, rfl⟩
abbrev main_cst_15 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_cst_16 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩

abbrev nD : Nat := 1
abbrev τ : Topo := Topo.v7x

variable {F : FTy → Type} [FloatOps F]
-- ==== State.lean ====
abbrev S8192x7680 : Shape := ⟨2, ![8192, 7680]⟩
abbrev S2x1024 : Shape := ⟨2, ![2, 1024]⟩
abbrev S4x128 : Shape := ⟨2, ![4, 128]⟩
abbrev S256x192 : Shape := ⟨2, ![256, 192]⟩
abbrev S64x128 : Shape := ⟨2, ![64, 128]⟩
abbrev S1x128 : Shape := ⟨2, ![1, 128]⟩
abbrev S128 : Shape := ⟨1, ![128]⟩
abbrev S1x1x1x128 : Shape := ⟨4, ![1, 1, 1, 128]⟩
abbrev S1x1x2x128 : Shape := ⟨4, ![1, 1, 2, 128]⟩
abbrev S1x256 : Shape := ⟨2, ![1, 256]⟩
abbrev S_ : Shape := ⟨0, ![]⟩
abbrev S8192x1024 : Shape := ⟨2, ![8192, 1024]⟩
abbrev S16x2x8x128x128 : Shape := ⟨5, ![16, 2, 8, 128, 128]⟩
abbrev S256x256 : Shape := ⟨2, ![256, 256]⟩
abbrev S2x256 : Shape := ⟨2, ![2, 256]⟩
abbrev S1x2x2x128x128 : Shape := ⟨5, ![1, 2, 2, 128, 128]⟩
abbrev S2x256x256 : Shape := ⟨3, ![2, 256, 256]⟩
abbrev S2x4x2x128x128 : Shape := ⟨5, ![2, 4, 2, 128, 128]⟩
abbrev S2x4x8x256 : Shape := ⟨4, ![2, 4, 8, 256]⟩
abbrev S2x2x128x128 : Shape := ⟨4, ![2, 2, 128, 128]⟩
abbrev S128x128 : Shape := ⟨2, ![128, 128]⟩
abbrev S1x1x128x128 : Shape := ⟨4, ![1, 1, 128, 128]⟩
abbrev S64x256 : Shape := ⟨2, ![64, 256]⟩
abbrev S192x256 : Shape := ⟨2, ![192, 256]⟩
abbrev S128x256 : Shape := ⟨2, ![128, 256]⟩
abbrev S32x256 : Shape := ⟨2, ![32, 256]⟩
abbrev S16x256 : Shape := ⟨2, ![16, 256]⟩
abbrev S1x64x256 : Shape := ⟨3, ![1, 64, 256]⟩
abbrev S8x256 : Shape := ⟨2, ![8, 256]⟩
abbrev S1x1x8x256 : Shape := ⟨4, ![1, 1, 8, 256]⟩
abbrev S1x1x1x128x128 : Shape := ⟨5, ![1, 1, 1, 128, 128]⟩
abbrev S1x64x128 : Shape := ⟨3, ![1, 64, 128]⟩
abbrev S64 : Shape := ⟨1, ![64]⟩
abbrev S64x1 : Shape := ⟨2, ![64, 1]⟩

abbrev nBuf : Space → Nat
  | .hbm => 17
  | .vmem => 26
  | .smem => 0
  | _ => 0

abbrev bufTy : (tb : Table) → Fin (tcTables nBuf tb) → BufTy
  | .hbm, ⟨0, _⟩ => ⟨S8192x7680, .f32⟩
  | .hbm, ⟨1, _⟩ => ⟨S2x1024, .f32⟩
  | .hbm, ⟨2, _⟩ => ⟨S4x128, .f32⟩
  | .hbm, ⟨3, _⟩ => ⟨S256x192, .bf16⟩
  | .hbm, ⟨4, _⟩ => ⟨S64x128, .i32⟩
  | .hbm, ⟨5, _⟩ => ⟨S256x192, .bf16⟩
  | .hbm, ⟨6, _⟩ => ⟨S64x128, .i32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S1x1x1x128, .f32⟩
  | .hbm, ⟨11, _⟩ => ⟨S1x1x2x128, .f32⟩
  | .hbm, ⟨12, _⟩ => ⟨S1x256, .f32⟩
  | .hbm, ⟨13, _⟩ => ⟨S_, .bf16⟩
  | .hbm, ⟨14, _⟩ => ⟨S8192x1024, .bf16⟩
  | .hbm, ⟨15, _⟩ => ⟨S8192x1024, .bf16⟩
  | .hbm, ⟨16, _⟩ => ⟨S16x2x8x128x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S2x256, .f32⟩
  | .local _ .vmem, ⟨11, _⟩ => ⟨S2x256, .f32⟩
  | .local _ .vmem, ⟨12, _⟩ => ⟨S1x256, .f32⟩
  | .local _ .vmem, ⟨13, _⟩ => ⟨S256x192, .bf16⟩
  | .local _ .vmem, ⟨14, _⟩ => ⟨S256x192, .bf16⟩
  | .local _ .vmem, ⟨15, _⟩ => ⟨S64x128, .i32⟩
  | .local _ .vmem, ⟨16, _⟩ => ⟨S64x128, .i32⟩
  | .local _ .vmem, ⟨17, _⟩ => ⟨S256x256, .bf16⟩
  | .local _ .vmem, ⟨18, _⟩ => ⟨S256x256, .bf16⟩
  | .local _ .vmem, ⟨19, _⟩ => ⟨S1x2x2x128x128, .f32⟩
  | .local _ .vmem, ⟨20, _⟩ => ⟨S1x2x2x128x128, .f32⟩
  | .local _ .vmem, ⟨21, _⟩ => ⟨S2x256x256, .f32⟩
  | .local _ .vmem, ⟨22, _⟩ => ⟨S2x256x256, .bf16⟩
  | .local _ .vmem, ⟨23, _⟩ => ⟨S2x4x2x128x128, .f32⟩
  | .local _ .vmem, ⟨24, _⟩ => ⟨S2x4x8x256, .f32⟩
  | .local _ .vmem, ⟨25, _⟩ => ⟨S2x2x128x128, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_cst_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 4], ![false, false]⟩

def k0_mult1 : BitVec 32 :=
  let c0_i32 : BitVec 32 := 0#32
  let c4_i32 : BitVec 32 := 4#32
  let v17 : BitVec 32 := Scalar.muli c0_i32 c4_i32
  let c0_i32_18 : BitVec 32 := 0#32
  let v18 : BitVec 32 := Scalar.addi v17 c0_i32_18
  let c64_i32 : BitVec 32 := 64#32
  let v25 : BitVec 32 := Scalar.muli v18 c64_i32
  v25
def k0_mult2 : BitVec 32 :=
  let c0_i32 : BitVec 32 := 0#32
  let c4_i32_19 : BitVec 32 := 4#32
  let v19 : BitVec 32 := Scalar.muli c0_i32 c4_i32_19
  let c1_i32 : BitVec 32 := 1#32
  let v20 : BitVec 32 := Scalar.addi v19 c1_i32
  let c64_i32_22 : BitVec 32 := 64#32
  let v27 : BitVec 32 := Scalar.muli v20 c64_i32_22
  v27
def k0_mult3 : BitVec 32 :=
  let c0_i32 : BitVec 32 := 0#32
  let c4_i32_20 : BitVec 32 := 4#32
  let v21 : BitVec 32 := Scalar.muli c0_i32 c4_i32_20
  let c2_i32 : BitVec 32 := 2#32
  let v22 : BitVec 32 := Scalar.addi v21 c2_i32
  let c64_i32_23 : BitVec 32 := 64#32
  let v29 : BitVec 32 := Scalar.muli v22 c64_i32_23
  v29
def k0_mult4 : BitVec 32 :=
  let c0_i32 : BitVec 32 := 0#32
  let c4_i32_21 : BitVec 32 := 4#32
  let v23 : BitVec 32 := Scalar.muli c0_i32 c4_i32_21
  let c3_i32 : BitVec 32 := 3#32
  let v24 : BitVec 32 := Scalar.addi v23 c3_i32
  let c64_i32_24 : BitVec 32 := 64#32
  let v31 : BitVec 32 := Scalar.muli v24 c64_i32_24
  v31
def k0_off1 (c0_i32_18 : BitVec 32) : Fin 2 → Nat :=
  let c0_i32 : BitVec 32 := 0#32
  let c4_i32 : BitVec 32 := 4#32
  let v17 : BitVec 32 := Scalar.muli c0_i32 c4_i32
  let v18 : BitVec 32 := Scalar.addi v17 c0_i32_18
  let c64_i32 : BitVec 32 := 64#32
  let v25 : BitVec 32 := Scalar.muli v18 c64_i32
  let v26 : BitVec 32 := v25
  let v33 : Index := Scalar.indexCast v26
  let c0_25 : Index := 0#32
  ![v33.toNat, 0]
def k0_off2 (c0_i32_18 : BitVec 32) : Fin 3 → Nat :=
  let c0_218 : Index := 0#32
  let c0_i32 : BitVec 32 := 0#32
  let c4_i32 : BitVec 32 := 4#32
  let v17 : BitVec 32 := Scalar.muli c0_i32 c4_i32
  let v18 : BitVec 32 := Scalar.addi v17 c0_i32_18
  let c64_i32 : BitVec 32 := 64#32
  let v25 : BitVec 32 := Scalar.muli v18 c64_i32
  let v26 : BitVec 32 := v25
  let v1323 : Index := Scalar.indexCast v26
  let c0_219 : Index := 0#32
  ![0, v1323.toNat, 0]
def k0_off3 (c0_i32_18 : BitVec 32) : Fin 4 → Nat :=
  let c0_222 : Index := 0#32
  let c0_i32 : BitVec 32 := 0#32
  let c4_i32 : BitVec 32 := 4#32
  let v17 : BitVec 32 := Scalar.muli c0_i32 c4_i32
  let v18 : BitVec 32 := Scalar.addi v17 c0_i32_18
  let v1344 : Index := Scalar.indexCast v18
  let c0_223 : Index := 0#32
  let c0_224 : Index := 0#32
  ![0, v1344.toNat, 0, 0]
def k0_off4 (c0_i32_18 : BitVec 32) : Fin 5 → Nat :=
  let c0_226 : Index := 0#32
  let c0_i32 : BitVec 32 := 0#32
  let c4_i32 : BitVec 32 := 4#32
  let v17 : BitVec 32 := Scalar.muli c0_i32 c4_i32
  let v18 : BitVec 32 := Scalar.addi v17 c0_i32_18
  let v1351 : Index := Scalar.indexCast v18
  let c0_227 : Index := 0#32
  let c0_228 : Index := 0#32
  let c0_229 : Index := 0#32
  ![0, v1351.toNat, 0, 0, 0]
def k0_off5 (c0_i32_18 : BitVec 32) : Fin 5 → Nat :=
  let c0_231 : Index := 0#32
  let c0_i32 : BitVec 32 := 0#32
  let c4_i32 : BitVec 32 := 4#32
  let v17 : BitVec 32 := Scalar.muli c0_i32 c4_i32
  let v18 : BitVec 32 := Scalar.addi v17 c0_i32_18
  let v1358 : Index := Scalar.indexCast v18
  let c1_232 : Index := 1#32
  let c0_233 : Index := 0#32
  let c0_234 : Index := 0#32
  ![0, v1358.toNat, 1, 0, 0]
def k0_off6 (c0_i32_18 : BitVec 32) : Fin 3 → Nat :=
  let c1_246 : Index := 1#32
  let c0_i32 : BitVec 32 := 0#32
  let c4_i32 : BitVec 32 := 4#32
  let v17 : BitVec 32 := Scalar.muli c0_i32 c4_i32
  let v18 : BitVec 32 := Scalar.addi v17 c0_i32_18
  let c64_i32 : BitVec 32 := 64#32
  let v25 : BitVec 32 := Scalar.muli v18 c64_i32
  let v26 : BitVec 32 := v25
  let v1392 : Index := Scalar.indexCast v26
  let c0_247 : Index := 0#32
  ![1, v1392.toNat, 0]
def k0_off7 (c0_i32_18 : BitVec 32) : Fin 4 → Nat :=
  let c1_250 : Index := 1#32
  let c0_i32 : BitVec 32 := 0#32
  let c4_i32 : BitVec 32 := 4#32
  let v17 : BitVec 32 := Scalar.muli c0_i32 c4_i32
  let v18 : BitVec 32 := Scalar.addi v17 c0_i32_18
  let v1413 : Index := Scalar.indexCast v18
  let c0_251 : Index := 0#32
  let c0_252 : Index := 0#32
  ![1, v1413.toNat, 0, 0]
def k0_off8 (c0_i32_18 : BitVec 32) : Fin 5 → Nat :=
  let c1_254 : Index := 1#32
  let c0_i32 : BitVec 32 := 0#32
  let c4_i32 : BitVec 32 := 4#32
  let v17 : BitVec 32 := Scalar.muli c0_i32 c4_i32
  let v18 : BitVec 32 := Scalar.addi v17 c0_i32_18
  let v1420 : Index := Scalar.indexCast v18
  let c0_255 : Index := 0#32
  let c0_256 : Index := 0#32
  let c0_257 : Index := 0#32
  ![1, v1420.toNat, 0, 0, 0]
def k0_off9 (c0_i32_18 : BitVec 32) : Fin 5 → Nat :=
  let c1_259 : Index := 1#32
  let c0_i32 : BitVec 32 := 0#32
  let c4_i32 : BitVec 32 := 4#32
  let v17 : BitVec 32 := Scalar.muli c0_i32 c4_i32
  let v18 : BitVec 32 := Scalar.addi v17 c0_i32_18
  let v1427 : Index := Scalar.indexCast v18
  let c1_260 : Index := 1#32
  let c0_261 : Index := 0#32
  let c0_262 : Index := 0#32
  ![1, v1427.toNat, 1, 0, 0]
def k0_mult5 : BitVec 32 :=
  let c0_i32_432 : BitVec 32 := 0#32
  let c64_i32_433 : BitVec 32 := 64#32
  let v1845 : BitVec 32 := Scalar.muli c0_i32_432 c64_i32_433
  v1845
def k0_off10 (c0_i32_432 : BitVec 32) : Fin 3 → Nat :=
  let c0_441 : Index := 0#32
  let c64_i32_433 : BitVec 32 := 64#32
  let v1845 : BitVec 32 := Scalar.muli c0_i32_432 c64_i32_433
  let v1846 : BitVec 32 := v1845
  let v1852 : Index := Scalar.indexCast v1846
  let c0_442 : Index := 0#32
  ![0, v1852.toNat, 0]
def k0_off11 (c0_i32_432 : BitVec 32) : Fin 3 → Nat :=
  let c0_460 : Index := 0#32
  let c64_i32_433 : BitVec 32 := 64#32
  let v1845 : BitVec 32 := Scalar.muli c0_i32_432 c64_i32_433
  let v1846 : BitVec 32 := v1845
  let v1877 : Index := Scalar.indexCast v1846
  let c128 : Index := 128#32
  ![0, v1877.toNat, 128]
def k0_mult6 : BitVec 32 :=
  let c3_i32_474 : BitVec 32 := 3#32
  let c0_i32_432 : BitVec 32 := 0#32
  let v1900 : BitVec 32 := Scalar.subi c3_i32_474 c0_i32_432
  let c64_i32_475 : BitVec 32 := 64#32
  let v1901 : BitVec 32 := Scalar.muli v1900 c64_i32_475
  v1901
def k0_off12 (c0_i32_432 : BitVec 32) : Fin 4 → Nat :=
  let c1_476 : Index := 1#32
  let c3_i32_474 : BitVec 32 := 3#32
  let v1900 : BitVec 32 := Scalar.subi c3_i32_474 c0_i32_432
  let v1903 : Index := Scalar.indexCast v1900
  let c0_477 : Index := 0#32
  let c0_478 : Index := 0#32
  ![1, v1903.toNat, 0, 0]
def k0_off13 (c0_i32_432 : BitVec 32) : Fin 3 → Nat :=
  let c1_483 : Index := 1#32
  let c3_i32_474 : BitVec 32 := 3#32
  let v1900 : BitVec 32 := Scalar.subi c3_i32_474 c0_i32_432
  let c64_i32_475 : BitVec 32 := 64#32
  let v1901 : BitVec 32 := Scalar.muli v1900 c64_i32_475
  let v1902 : BitVec 32 := v1901
  let v1908 : Index := Scalar.indexCast v1902
  let c0_484 : Index := 0#32
  ![1, v1908.toNat, 0]
def k0_off14 (c0_i32_432 : BitVec 32) : Fin 5 → Nat :=
  let c1_490 : Index := 1#32
  let c3_i32_474 : BitVec 32 := 3#32
  let v1900 : BitVec 32 := Scalar.subi c3_i32_474 c0_i32_432
  let v1924 : Index := Scalar.indexCast v1900
  let c0_491 : Index := 0#32
  let c0_492 : Index := 0#32
  let c0_493 : Index := 0#32
  ![1, v1924.toNat, 0, 0, 0]
def k0_off15 (c0_i32_432 : BitVec 32) : Fin 3 → Nat :=
  let c1_502 : Index := 1#32
  let c3_i32_474 : BitVec 32 := 3#32
  let v1900 : BitVec 32 := Scalar.subi c3_i32_474 c0_i32_432
  let c64_i32_475 : BitVec 32 := 64#32
  let v1901 : BitVec 32 := Scalar.muli v1900 c64_i32_475
  let v1902 : BitVec 32 := v1901
  let v1933 : Index := Scalar.indexCast v1902
  let c128_503 : Index := 128#32
  ![1, v1933.toNat, 128]
def k0_off16 (c0_i32_432 : BitVec 32) : Fin 5 → Nat :=
  let c1_509 : Index := 1#32
  let c3_i32_474 : BitVec 32 := 3#32
  let v1900 : BitVec 32 := Scalar.subi c3_i32_474 c0_i32_432
  let v1949 : Index := Scalar.indexCast v1900
  let c1_510 : Index := 1#32
  let c0_511 : Index := 0#32
  let c0_512 : Index := 0#32
  ![1, v1949.toNat, 1, 0, 0]
def k0_mult7 : BitVec 32 :=
  let c1_i32_517 : BitVec 32 := 1#32
  let c64_i32_518 : BitVec 32 := 64#32
  let v1956 : BitVec 32 := Scalar.muli c1_i32_517 c64_i32_518
  v1956
def k0_mult8 : BitVec 32 :=
  let c3_i32_560 : BitVec 32 := 3#32
  let c1_i32_517 : BitVec 32 := 1#32
  let v2011 : BitVec 32 := Scalar.subi c3_i32_560 c1_i32_517
  let c64_i32_561 : BitVec 32 := 64#32
  let v2012 : BitVec 32 := Scalar.muli v2011 c64_i32_561
  v2012
def k0_mult9 : BitVec 32 :=
  let c2_i32_603 : BitVec 32 := 2#32
  let c64_i32_604 : BitVec 32 := 64#32
  let v2067 : BitVec 32 := Scalar.muli c2_i32_603 c64_i32_604
  v2067
def k0_mult10 : BitVec 32 :=
  let c3_i32_646 : BitVec 32 := 3#32
  let c2_i32_603 : BitVec 32 := 2#32
  let v2122 : BitVec 32 := Scalar.subi c3_i32_646 c2_i32_603
  let c64_i32_647 : BitVec 32 := 64#32
  let v2123 : BitVec 32 := Scalar.muli v2122 c64_i32_647
  v2123
def k0_mult11 : BitVec 32 :=
  let c3_i32_689 : BitVec 32 := 3#32
  let c64_i32_690 : BitVec 32 := 64#32
  let v2178 : BitVec 32 := Scalar.muli c3_i32_689 c64_i32_690
  v2178
def k0_mult12 : BitVec 32 :=
  let c3_i32_732 : BitVec 32 := 3#32
  let c3_i32_689 : BitVec 32 := 3#32
  let v2233 : BitVec 32 := Scalar.subi c3_i32_732 c3_i32_689
  let c64_i32_733 : BitVec 32 := 64#32
  let v2234 : BitVec 32 := Scalar.muli v2233 c64_i32_733
  v2234
def k0_mult13 : BitVec 32 :=
  let c0_i32_776 : BitVec 32 := 0#32
  let c64_i32_777 : BitVec 32 := 64#32
  let v2289 : BitVec 32 := Scalar.muli c0_i32_776 c64_i32_777
  v2289
def k0_off17 (c0_i32_776 : BitVec 32) : Fin 3 → Nat :=
  let c0_778 : Index := 0#32
  let c64_i32_777 : BitVec 32 := 64#32
  let v2289 : BitVec 32 := Scalar.muli c0_i32_776 c64_i32_777
  let v2290 : BitVec 32 := v2289
  let v2291 : Index := Scalar.indexCast v2290
  let c0_779 : Index := 0#32
  ![0, v2291.toNat, 0]
def k0_off18 (c0_i32_776 : BitVec 32) : Fin 3 → Nat :=
  let c1_780 : Index := 1#32
  let c64_i32_777 : BitVec 32 := 64#32
  let v2289 : BitVec 32 := Scalar.muli c0_i32_776 c64_i32_777
  let v2290 : BitVec 32 := v2289
  let v2294 : Index := Scalar.indexCast v2290
  let c0_781 : Index := 0#32
  ![1, v2294.toNat, 0]
def k0_off19 (c0_i32_776 : BitVec 32) : Fin 2 → Nat :=
  let c64_i32_777 : BitVec 32 := 64#32
  let v2289 : BitVec 32 := Scalar.muli c0_i32_776 c64_i32_777
  let v2290 : BitVec 32 := v2289
  let v2321 : Index := Scalar.indexCast v2290
  let c0_788 : Index := 0#32
  ![v2321.toNat, 0]
def k0_mult14 : BitVec 32 :=
  let c1_i32_792 : BitVec 32 := 1#32
  let c64_i32_793 : BitVec 32 := 64#32
  let v2333 : BitVec 32 := Scalar.muli c1_i32_792 c64_i32_793
  v2333
def k0_mult15 : BitVec 32 :=
  let c2_i32_808 : BitVec 32 := 2#32
  let c64_i32_809 : BitVec 32 := 64#32
  let v2377 : BitVec 32 := Scalar.muli c2_i32_808 c64_i32_809
  v2377
def k0_mult16 : BitVec 32 :=
  let c3_i32_824 : BitVec 32 := 3#32
  let c64_i32_825 : BitVec 32 := 64#32
  let v2421 : BitVec 32 := Scalar.muli c3_i32_824 c64_i32_825
  v2421
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== StateRefIdeal.lean ====
abbrev S8192x7680 : Shape := ⟨2, ![8192, 7680]⟩
abbrev S2x1024 : Shape := ⟨2, ![2, 1024]⟩
abbrev S4x128 : Shape := ⟨2, ![4, 128]⟩
abbrev S4096x7680 : Shape := ⟨2, ![4096, 7680]⟩
abbrev S16x256x7680 : Shape := ⟨3, ![16, 256, 7680]⟩
abbrev S4x1024x7680 : Shape := ⟨3, ![4, 1024, 7680]⟩
abbrev S16x256x1024 : Shape := ⟨3, ![16, 256, 1024]⟩
abbrev S16x256x8x128 : Shape := ⟨4, ![16, 256, 8, 128]⟩
abbrev S1x1024 : Shape := ⟨2, ![1, 1024]⟩
abbrev S1024 : Shape := ⟨1, ![1024]⟩
abbrev S_ : Shape := ⟨0, ![]⟩
abbrev S1x1x1024 : Shape := ⟨3, ![1, 1, 1024]⟩
abbrev S256x256 : Shape := ⟨2, ![256, 256]⟩
abbrev S16x8x128x256 : Shape := ⟨4, ![16, 8, 128, 256]⟩
abbrev S16x1x8x128 : Shape := ⟨4, ![16, 1, 8, 128]⟩
abbrev S16x8x128 : Shape := ⟨3, ![16, 8, 128]⟩
abbrev S16x8x128x128 : Shape := ⟨4, ![16, 8, 128, 128]⟩
abbrev S16x1x8x128x128 : Shape := ⟨5, ![16, 1, 8, 128, 128]⟩
abbrev S16x2x8x128x128 : Shape := ⟨5, ![16, 2, 8, 128, 128]⟩

abbrev nBuf : Space → Nat
  | .hbm => 133
  | .vmem => 0
  | .smem => 0
  | _ => 0

abbrev hbmTy0_0 (i : Nat) : BufTy := match i % 128 with
  | 0 => ⟨S8192x7680, .f32⟩
  | 1 => ⟨S2x1024, .f32⟩
  | 2 => ⟨S4x128, .f32⟩
  | 3 => ⟨S4096x7680, .f32⟩
  | 4 => ⟨S16x256x7680, .f32⟩
  | 5 => ⟨S4096x7680, .f32⟩
  | 6 => ⟨S4x1024x7680, .f32⟩
  | 7 => ⟨S16x256x1024, .f32⟩
  | 8 => ⟨S16x256x1024, .f32⟩
  | 9 => ⟨S16x256x1024, .f32⟩
  | 10 => ⟨S16x256x8x128, .f32⟩
  | 11 => ⟨S1x1024, .f32⟩
  | 12 => ⟨S1024, .f32⟩
  | 13 => ⟨S_, .f32⟩
  | 14 => ⟨S1024, .f32⟩
  | 15 => ⟨S1024, .f32⟩
  | 16 => ⟨S16x256x1024, .f32⟩
  | 17 => ⟨S16x256x1024, .f32⟩
  | 18 => ⟨S_, .f32⟩
  | 19 => ⟨S16x256x1024, .f32⟩
  | 20 => ⟨S16x256x1024, .f32⟩
  | 21 => ⟨S_, .f32⟩
  | 22 => ⟨S16x256x1024, .f32⟩
  | 23 => ⟨S16x256x1024, .f32⟩
  | 24 => ⟨S1x1x1024, .f32⟩
  | 25 => ⟨S16x256x1024, .f32⟩
  | 26 => ⟨S16x256x1024, .f32⟩
  | 27 => ⟨S1x1x1024, .f32⟩
  | 28 => ⟨S16x256x1024, .f32⟩
  | 29 => ⟨S16x256x1024, .f32⟩
  | 30 => ⟨S_, .f32⟩
  | 31 => ⟨S1024, .f32⟩
  | 32 => ⟨S1024, .f32⟩
  | 33 => ⟨S16x256x1024, .f32⟩
  | 34 => ⟨S16x256x1024, .f32⟩
  | 35 => ⟨S16x256x1024, .f32⟩
  | 36 => ⟨S_, .f32⟩
  | 37 => ⟨S16x256x1024, .f32⟩
  | 38 => ⟨S16x256x1024, .f32⟩
  | 39 => ⟨S_, .f32⟩
  | 40 => ⟨S16x256x1024, .f32⟩
  | 41 => ⟨S16x256x1024, .f32⟩
  | 42 => ⟨S1x1x1024, .f32⟩
  | 43 => ⟨S16x256x1024, .f32⟩
  | 44 => ⟨S16x256x1024, .f32⟩
  | 45 => ⟨S16x256x1024, .f32⟩
  | 46 => ⟨S16x256x8x128, .f32⟩
  | 47 => ⟨S16x256x8x128, .f32⟩
  | 48 => ⟨S1x1024, .f32⟩
  | 49 => ⟨S1024, .f32⟩
  | 50 => ⟨S_, .f32⟩
  | 51 => ⟨S1024, .f32⟩
  | 52 => ⟨S1024, .f32⟩
  | 53 => ⟨S16x256x1024, .f32⟩
  | 54 => ⟨S16x256x1024, .f32⟩
  | 55 => ⟨S_, .f32⟩
  | 56 => ⟨S16x256x1024, .f32⟩
  | 57 => ⟨S16x256x1024, .f32⟩
  | 58 => ⟨S_, .f32⟩
  | 59 => ⟨S16x256x1024, .f32⟩
  | 60 => ⟨S16x256x1024, .f32⟩
  | 61 => ⟨S1x1x1024, .f32⟩
  | 62 => ⟨S16x256x1024, .f32⟩
  | 63 => ⟨S16x256x1024, .f32⟩
  | 64 => ⟨S1x1x1024, .f32⟩
  | 65 => ⟨S16x256x1024, .f32⟩
  | 66 => ⟨S16x256x1024, .f32⟩
  | 67 => ⟨S_, .f32⟩
  | 68 => ⟨S1024, .f32⟩
  | 69 => ⟨S1024, .f32⟩
  | 70 => ⟨S16x256x1024, .f32⟩
  | 71 => ⟨S16x256x1024, .f32⟩
  | 72 => ⟨S16x256x1024, .f32⟩
  | 73 => ⟨S_, .f32⟩
  | 74 => ⟨S16x256x1024, .f32⟩
  | 75 => ⟨S16x256x1024, .f32⟩
  | 76 => ⟨S_, .f32⟩
  | 77 => ⟨S16x256x1024, .f32⟩
  | 78 => ⟨S16x256x1024, .f32⟩
  | 79 => ⟨S1x1x1024, .f32⟩
  | 80 => ⟨S16x256x1024, .f32⟩
  | 81 => ⟨S16x256x1024, .f32⟩
  | 82 => ⟨S16x256x1024, .f32⟩
  | 83 => ⟨S16x256x8x128, .f32⟩
  | 84 => ⟨S16x256x8x128, .f32⟩
  | 85 => ⟨S_, .f32⟩
  | 86 => ⟨S256x256, .f32⟩
  | 87 => ⟨S256x256, .i32⟩
  | 88 => ⟨S_, .i32⟩
  | 89 => ⟨S256x256, .i32⟩
  | 90 => ⟨S256x256, .i32⟩
  | 91 => ⟨S256x256, .i32⟩
  | 92 => ⟨S256x256, .i1⟩
  | 93 => ⟨S_, .f32⟩
  | 94 => ⟨S256x256, .f32⟩
  | 95 => ⟨S256x256, .f32⟩
  | 96 => ⟨S16x8x128x256, .f32⟩
  | 97 => ⟨S16x256x8x128, .f32⟩
  | 98 => ⟨S16x1x8x128, .f32⟩
  | 99 => ⟨S16x8x128, .f32⟩
  | 100 => ⟨S16x1x8x128, .f32⟩
  | 101 => ⟨S16x256x8x128, .f32⟩
  | 102 => ⟨S16x256x8x128, .f32⟩
  | 103 => ⟨S16x256x8x128, .f32⟩
  | 104 => ⟨S16x256x8x128, .f32⟩
  | 105 => ⟨S16x8x128x128, .f32⟩
  | 106 => ⟨S16x256x8x128, .f32⟩
  | 107 => ⟨S16x256x8x128, .f32⟩
  | 108 => ⟨S16x256x8x128, .f32⟩
  | 109 => ⟨S_, .f32⟩
  | 110 => ⟨S256x256, .f32⟩
  | 111 => ⟨S256x256, .i32⟩
  | 112 => ⟨S_, .i32⟩
  | 113 => ⟨S256x256, .i32⟩
  | 114 => ⟨S256x256, .i32⟩
  | 115 => ⟨S256x256, .i32⟩
  | 116 => ⟨S256x256, .i1⟩
  | 117 => ⟨S_, .f32⟩
  | 118 => ⟨S256x256, .f32⟩
  | 119 => ⟨S256x256, .f32⟩
  | 120 => ⟨S16x8x128x256, .f32⟩
  | 121 => ⟨S16x256x8x128, .f32⟩
  | 122 => ⟨S16x1x8x128, .f32⟩
  | 123 => ⟨S16x8x128, .f32⟩
  | 124 => ⟨S16x1x8x128, .f32⟩
  | 125 => ⟨S16x256x8x128, .f32⟩
  | 126 => ⟨S16x256x8x128, .f32⟩
  | 127 => ⟨S16x256x8x128, .f32⟩
  | _ => ⟨S8192x7680, .f32⟩

abbrev hbmTy0_1 (i : Nat) : BufTy := match i % 128 with
  | 0 => ⟨S16x256x8x128, .f32⟩
  | 1 => ⟨S16x8x128x128, .f32⟩
  | 2 => ⟨S16x1x8x128x128, .f32⟩
  | 3 => ⟨S16x1x8x128x128, .f32⟩
  | 4 => ⟨S16x2x8x128x128, .f32⟩
  | _ => ⟨S8192x7680, .f32⟩

abbrev hbmTy (i : Nat) : BufTy := match i / 128 with
  | 0 => hbmTy0_0 i
  | 1 => hbmTy0_1 i
  | _ => ⟨S8192x7680, .f32⟩

abbrev bufTy : (tb : Table) → Fin (tcTables nBuf tb) → BufTy
  | .hbm, ⟨i, _⟩ => hbmTy i
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_cst : Ref sig .tc := ⟨.hbm, 93, rfl⟩
abbrev main_call0_v5 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_12 : Ref sig .tc := ⟨.hbm, 109, rfl⟩
abbrev main_v85 : Ref sig .tc := ⟨.hbm, 110, rfl⟩
abbrev main_call1_v0 : Ref sig .tc := ⟨.hbm, 111, rfl⟩
abbrev main_call1_c : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_cst : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Queries.lean ====
abbrev S8192x7680 : Shape := ⟨2, ![8192, 7680]⟩
abbrev S4x512 : Shape := ⟨2, ![4, 512]⟩
abbrev S4x512x1536 : Shape := ⟨3, ![4, 512, 1536]⟩
abbrev S4x512x8x192 : Shape := ⟨4, ![4, 512, 8, 192]⟩
abbrev S_ : Shape := ⟨0, ![]⟩
abbrev S4x512x8x256 : Shape := ⟨4, ![4, 512, 8, 256]⟩
abbrev S4x512x2048 : Shape := ⟨3, ![4, 512, 2048]⟩
abbrev S1x512 : Shape := ⟨2, ![1, 512]⟩
abbrev S512 : Shape := ⟨1, ![512]⟩
abbrev S8192x2048 : Shape := ⟨2, ![8192, 2048]⟩
abbrev S512x512 : Shape := ⟨2, ![512, 512]⟩
abbrev S1x512x2048 : Shape := ⟨3, ![1, 512, 2048]⟩
abbrev S512x2048 : Shape := ⟨2, ![512, 2048]⟩
abbrev S512x1 : Shape := ⟨2, ![512, 1]⟩

abbrev nBuf : Space → Nat
  | .hbm => 13
  | .vmem => 6
  | .smem => 0
  | _ => 0

abbrev bufTy : (tb : Table) → Fin (tcTables nBuf tb) → BufTy
  | .hbm, ⟨0, _⟩ => ⟨S8192x7680, .f32⟩
  | .hbm, ⟨1, _⟩ => ⟨S4x512, .f32⟩
  | .hbm, ⟨2, _⟩ => ⟨S4x512x1536, .f32⟩
  | .hbm, ⟨3, _⟩ => ⟨S4x512x8x192, .f32⟩
  | .hbm, ⟨4, _⟩ => ⟨S_, .i32⟩
  | .hbm, ⟨5, _⟩ => ⟨S_, .f32⟩
  | .hbm, ⟨6, _⟩ => ⟨S4x512x8x256, .f32⟩
  | .hbm, ⟨7, _⟩ => ⟨S4x512x2048, .f32⟩
  | .hbm, ⟨8, _⟩ => ⟨S4x512x2048, .bf16⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QueriesRefIdeal.lean ====
abbrev S8192x7680 : Shape := ⟨2, ![8192, 7680]⟩
abbrev S4x512 : Shape := ⟨2, ![4, 512]⟩
abbrev S4x512x1536 : Shape := ⟨3, ![4, 512, 1536]⟩
abbrev S8192x512 : Shape := ⟨2, ![8192, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512x1536 : Shape := ⟨3, ![1, 512, 1536]⟩
abbrev S512x1536 : Shape := ⟨2, ![512, 1536]⟩
abbrev S8192x1536 : Shape := ⟨2, ![8192, 1536]⟩
abbrev S8192x8x192 : Shape := ⟨3, ![8192, 8, 192]⟩
abbrev S8192x8x256 : Shape := ⟨3, ![8192, 8, 256]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S4x512, .f32⟩
  | .hbm, ⟨2, _⟩ => ⟨S4x512x1536, .f32⟩
  | .hbm, ⟨3, _⟩ => ⟨S8192x512, .f32⟩
  | .hbm, ⟨4, _⟩ => ⟨S1x512, .f32⟩
  | .hbm, ⟨5, _⟩ => ⟨S512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S1x512x1536, .f32⟩
  | .hbm, ⟨23, _⟩ => ⟨S512x1536, .f32⟩
  | .hbm, ⟨24, _⟩ => ⟨S8192x1536, .f32⟩
  | .hbm, ⟨25, _⟩ => ⟨S8192x8x192, .f32⟩
  | .hbm, ⟨26, _⟩ => ⟨S_, .i32⟩
  | .hbm, ⟨27, _⟩ => ⟨S_, .f32⟩
  | .hbm, ⟨28, _⟩ => ⟨S8192x8x256, .f32⟩
  | .hbm, ⟨29, _⟩ => ⟨S8192x2048, .f32⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Cache.lean ====
abbrev S4x4x256x256 : Shape := ⟨4, ![4, 4, 256, 256]⟩
abbrev S4x256x2048 : Shape := ⟨3, ![4, 256, 2048]⟩
abbrev S4x1x256x256 : Shape := ⟨4, ![4, 1, 256, 256]⟩
abbrev S4x256x256 : Shape := ⟨3, ![4, 256, 256]⟩
abbrev S1024x256 : Shape := ⟨2, ![1024, 256]⟩
abbrev S1024x2048 : Shape := ⟨2, ![1024, 2048]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 7
  | .vmem => 5
  | .smem => 0
  | _ => 0

abbrev bufTy : (tb : Table) → Fin (tcTables nBuf tb) → BufTy
  | .hbm, ⟨0, _⟩ => ⟨S4x4x256x256, .f32⟩
  | .hbm, ⟨1, _⟩ => ⟨S4x256x2048, .f32⟩
  | .hbm, ⟨2, _⟩ => ⟨S4x1x256x256, .f32⟩
  | .hbm, ⟨3, _⟩ => ⟨S4x256x256, .f32⟩
  | .hbm, ⟨4, _⟩ => ⟨S1024x256, .f32⟩
  | .hbm, ⟨5, _⟩ => ⟨S4x256x2048, .bf16⟩
  | .hbm, ⟨6, _⟩ => ⟨S1024x2048, .bf16⟩
  | .local _ .vmem, ⟨0, _⟩ => ⟨S1024x256, .f32⟩
  | .local _ .vmem, ⟨1, _⟩ => ⟨S1x256x512, .bf16⟩
  | .local _ .vmem, ⟨2, _⟩ => ⟨S1x256x512, .bf16⟩
  | .local _ .vmem, ⟨3, _⟩ => ⟨S1024x512, .bf16⟩
  | .local _ .vmem, ⟨4, _⟩ => ⟨S1024x512, .bf16⟩
  | _, _ => ⟨S4x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CacheRefIdeal.lean ====
abbrev S4x4x256x256 : Shape := ⟨4, ![4, 4, 256, 256]⟩
abbrev S4x256x2048 : Shape := ⟨3, ![4, 256, 2048]⟩
abbrev S4x1x256x256 : Shape := ⟨4, ![4, 1, 256, 256]⟩
abbrev S4x256x256 : Shape := ⟨3, ![4, 256, 256]⟩
abbrev S1x256x2048 : Shape := ⟨3, ![1, 256, 2048]⟩
abbrev S256x2048 : Shape := ⟨2, ![256, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4x256x256, .f32⟩
  | .hbm, ⟨1, _⟩ => ⟨S4x256x2048, .f32⟩
  | .hbm, ⟨2, _⟩ => ⟨S4x1x256x256, .f32⟩
  | .hbm, ⟨3, _⟩ => ⟨S4x256x256, .f32⟩
  | .hbm, ⟨4, _⟩ => ⟨S1x256x2048, .f32⟩
  | .hbm, ⟨5, _⟩ => ⟨S256x2048, .f32⟩
  | .hbm, ⟨6, _⟩ => ⟨S4x256x2048, .f32⟩
  | .hbm, ⟨7, _⟩ => ⟨S1024x2048, .f32⟩
  | .hbm, ⟨8, _⟩ => ⟨S1024x2048, .bf16⟩
  | _, _ => ⟨S4x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Mod.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S3x2048 : Shape := ⟨2, ![3, 2048]⟩
abbrev S1x2048 : Shape := ⟨2, ![1, 2048]⟩
abbrev S8x2048 : Shape := ⟨2, ![8, 2048]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S8x12288 : Shape := ⟨2, ![8, 12288]⟩
abbrev S8x1x12288 : Shape := ⟨3, ![8, 1, 12288]⟩
abbrev S1x8x12288 : Shape := ⟨3, ![1, 8, 12288]⟩
abbrev S4x8x12288 : Shape := ⟨3, ![4, 8, 12288]⟩

abbrev nBuf : Space → Nat
  | .hbm => 89
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S3x2048, .f32⟩
  | .hbm, ⟨6, _⟩ => ⟨S1x2048, .f32⟩
  | .hbm, ⟨7, _⟩ => ⟨S8x2048, .f32⟩
  | .hbm, ⟨8, _⟩ => ⟨S1x2048x12288, .f32⟩
  | .hbm, ⟨9, _⟩ => ⟨S2048x12288, .f32⟩
  | .hbm, ⟨10, _⟩ => ⟨S1x12288, .f32⟩
  | .hbm, ⟨11, _⟩ => ⟨S12288, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S8x1x12288, .f32⟩
  | .hbm, ⟨26, _⟩ => ⟨S8x12288, .f32⟩
  | .hbm, ⟨27, _⟩ => ⟨S1x2048x12288, .f32⟩
  | .hbm, ⟨28, _⟩ => ⟨S2048x12288, .f32⟩
  | .hbm, ⟨29, _⟩ => ⟨S1x12288, .f32⟩
  | .hbm, ⟨30, _⟩ => ⟨S12288, .f32⟩
  | .hbm, ⟨31, _⟩ => ⟨S8x2048, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S8x12288, .f32⟩
  | .hbm, ⟨41, _⟩ => ⟨S1x12288, .f32⟩
  | .hbm, ⟨42, _⟩ => ⟨S8x12288, .f32⟩
  | .hbm, ⟨43, _⟩ => ⟨S8x12288, .f32⟩
  | .hbm, ⟨44, _⟩ => ⟨S8x1x12288, .f32⟩
  | .hbm, ⟨45, _⟩ => ⟨S8x12288, .f32⟩
  | .hbm, ⟨46, _⟩ => ⟨S1x2048x12288, .f32⟩
  | .hbm, ⟨47, _⟩ => ⟨S2048x12288, .f32⟩
  | .hbm, ⟨48, _⟩ => ⟨S1x12288, .f32⟩
  | .hbm, ⟨49, _⟩ => ⟨S12288, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S8x12288, .f32⟩
  | .hbm, ⟨60, _⟩ => ⟨S1x12288, .f32⟩
  | .hbm, ⟨61, _⟩ => ⟨S8x12288, .f32⟩
  | .hbm, ⟨62, _⟩ => ⟨S8x12288, .f32⟩
  | .hbm, ⟨63, _⟩ => ⟨S8x1x12288, .f32⟩
  | .hbm, ⟨64, _⟩ => ⟨S8x12288, .f32⟩
  | .hbm, ⟨65, _⟩ => ⟨S1x2048x12288, .f32⟩
  | .hbm, ⟨66, _⟩ => ⟨S2048x12288, .f32⟩
  | .hbm, ⟨67, _⟩ => ⟨S1x12288, .f32⟩
  | .hbm, ⟨68, _⟩ => ⟨S12288, .f32⟩
  | .hbm, ⟨69, _⟩ => ⟨S8x2048, .f32⟩
  | .hbm, ⟨70, _⟩ => ⟨S8x2048, .f32⟩
  | .hbm, ⟨71, _⟩ => ⟨S_, .f32⟩
  | .hbm, ⟨72, _⟩ => ⟨S8x2048, .f32⟩
  | .hbm, ⟨73, _⟩ => ⟨S8x2048, .f32⟩
  | .hbm, ⟨74, _⟩ => ⟨S_, .f32⟩
  | .hbm, ⟨75, _⟩ => ⟨S8x2048, .f32⟩
  | .hbm, ⟨76, _⟩ => ⟨S8x2048, .f32⟩
  | .hbm, ⟨77, _⟩ => ⟨S8x2048, .f32⟩
  | .hbm, ⟨78, _⟩ => ⟨S8x12288, .f32⟩
  | .hbm, ⟨79, _⟩ => ⟨S1x12288, .f32⟩
  | .hbm, ⟨80, _⟩ => ⟨S8x12288, .f32⟩
  | .hbm, ⟨81, _⟩ => ⟨S8x12288, .f32⟩
  | .hbm, ⟨82, _⟩ => ⟨S8x1x12288, .f32⟩
  | .hbm, ⟨83, _⟩ => ⟨S8x12288, .f32⟩
  | .hbm, ⟨84, _⟩ => ⟨S1x8x12288, .f32⟩
  | .hbm, ⟨85, _⟩ => ⟨S1x8x12288, .f32⟩
  | .hbm, ⟨86, _⟩ => ⟨S1x8x12288, .f32⟩
  | .hbm, ⟨87, _⟩ => ⟨S1x8x12288, .f32⟩
  | .hbm, ⟨88, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩

abbrev nD : Nat := 1
abbrev τ : Topo := Topo.v7x

variable {F : FTy → Type} [FloatOps F]
-- ==== First.lean ====
abbrev S8192x2048 : Shape := ⟨2, ![8192, 2048]⟩
abbrev S8x12288 : Shape := ⟨2, ![8, 12288]⟩
abbrev S4x2048 : Shape := ⟨2, ![4, 2048]⟩
abbrev S8x6x1x2048 : Shape := ⟨4, ![8, 6, 1, 2048]⟩
abbrev S1x2048 : Shape := ⟨2, ![1, 2048]⟩
abbrev S2048 : Shape := ⟨1, ![2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8x12288, .f32⟩
  | .hbm, ⟨2, _⟩ => ⟨S4x2048, .f32⟩
  | .hbm, ⟨3, _⟩ => ⟨S8x6x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c1_i32_8 : BitVec 32 := 1#32
  let c0_i32_9 : BitVec 32 := 0#32
  let c0_i32_10 : BitVec 32 := 0#32
  let c0_i32_11 : BitVec 32 := 0#32
  ![v22.toNat, c1_i32_8.toNat, c0_i32_9.toNat, c0_i32_10.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c0_i32_9 : BitVec 32 := 0#32
  let c0_i32_10 : BitVec 32 := 0#32
  let c0_i32_11 : BitVec 32 := 0#32
  ![v22.toNat, c0_i32_8.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstRefIdeal.lean ====
abbrev S8192x2048 : Shape := ⟨2, ![8192, 2048]⟩
abbrev S8x12288 : Shape := ⟨2, ![8, 12288]⟩
abbrev S4x2048 : Shape := ⟨2, ![4, 2048]⟩
abbrev S4096x2048 : Shape := ⟨2, ![4096, 2048]⟩
abbrev S16x256x2048 : Shape := ⟨3, ![16, 256, 2048]⟩
abbrev S4x1024x2048 : Shape := ⟨3, ![4, 1024, 2048]⟩
abbrev S1x12288 : Shape := ⟨2, ![1, 12288]⟩
abbrev S1x1x12288 : Shape := ⟨3, ![1, 1, 12288]⟩
abbrev S4x12288 : Shape := ⟨2, ![4, 12288]⟩
abbrev S4x1x12288 : Shape := ⟨3, ![4, 1, 12288]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S4x1x2048 : Shape := ⟨3, ![4, 1, 2048]⟩
abbrev S4x1024 : Shape := ⟨2, ![4, 1024]⟩
abbrev S4x1024x1 : Shape := ⟨3, ![4, 1024, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x12288, .f32⟩
  | .hbm, ⟨2, _⟩ => ⟨S4x2048, .f32⟩
  | .hbm, ⟨3, _⟩ => ⟨S4096x2048, .f32⟩
  | .hbm, ⟨4, _⟩ => ⟨S16x256x2048, .f32⟩
  | .hbm, ⟨5, _⟩ => ⟨S4096x2048, .f32⟩
  | .hbm, ⟨6, _⟩ => ⟨S4x1024x2048, .f32⟩
  | .hbm, ⟨7, _⟩ => ⟨S1x12288, .f32⟩
  | .hbm, ⟨8, _⟩ => ⟨S1x1x12288, .f32⟩
  | .hbm, ⟨9, _⟩ => ⟨S4x12288, .f32⟩
  | .hbm, ⟨10, _⟩ => ⟨S4x1x12288, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x2048, .f32⟩
  | .hbm, ⟨18, _⟩ => ⟨S2048, .f32⟩
  | .hbm, ⟨19, _⟩ => ⟨S16x256x2048, .f32⟩
  | .hbm, ⟨20, _⟩ => ⟨S_, .f32⟩
  | .hbm, ⟨21, _⟩ => ⟨S16x256, .f32⟩
  | .hbm, ⟨22, _⟩ => ⟨S16x256x1, .f32⟩
  | .hbm, ⟨23, _⟩ => ⟨S_, .f32⟩
  | .hbm, ⟨24, _⟩ => ⟨S16x256x1, .f32⟩
  | .hbm, ⟨25, _⟩ => ⟨S16x256x1, .f32⟩
  | .hbm, ⟨26, _⟩ => ⟨S_, .f32⟩
  | .hbm, ⟨27, _⟩ => ⟨S16x256x1, .f32⟩
  | .hbm, ⟨28, _⟩ => ⟨S16x256x1, .f32⟩
  | .hbm, ⟨29, _⟩ => ⟨S16x256x1, .f32⟩
  | .hbm, ⟨30, _⟩ => ⟨S16x256x2048, .f32⟩
  | .hbm, ⟨31, _⟩ => ⟨S16x256x2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S_, .f32⟩
  | .hbm, ⟨36, _⟩ => ⟨S1x1x2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x2048, .f32⟩
  | .hbm, ⟨42, _⟩ => ⟨S4x1x2048, .f32⟩
  | .hbm, ⟨43, _⟩ => ⟨S4x1x2048, .f32⟩
  | .hbm, ⟨44, _⟩ => ⟨S4x1x2048, .f32⟩
  | .hbm, ⟨45, _⟩ => ⟨S4x1x2048, .f32⟩
  | .hbm, ⟨46, _⟩ => ⟨S4x1x2048, .f32⟩
  | .hbm, ⟨47, _⟩ => ⟨S4x1x2048, .f32⟩
  | .hbm, ⟨48, _⟩ => ⟨S1x2048, .f32⟩
  | .hbm, ⟨49, _⟩ => ⟨S2048, .f32⟩
  | .hbm, ⟨50, _⟩ => ⟨S4x1024x2048, .f32⟩
  | .hbm, ⟨51, _⟩ => ⟨S_, .f32⟩
  | .hbm, ⟨52, _⟩ => ⟨S4x1024, .f32⟩
  | .hbm, ⟨53, _⟩ => ⟨S4x1024x1, .f32⟩
  | .hbm, ⟨54, _⟩ => ⟨S_, .f32⟩
  | .hbm, ⟨55, _⟩ => ⟨S4x1024x1, .f32⟩
  | .hbm, ⟨56, _⟩ => ⟨S4x1024x1, .f32⟩
  | .hbm, ⟨57, _⟩ => ⟨S_, .f32⟩
  | .hbm, ⟨58, _⟩ => ⟨S4x1024x1, .f32⟩
  | .hbm, ⟨59, _⟩ => ⟨S4x1024x1, .f32⟩
  | .hbm, ⟨60, _⟩ => ⟨S4x1024x1, .f32⟩
  | .hbm, ⟨61, _⟩ => ⟨S4x1024x2048, .f32⟩
  | .hbm, ⟨62, _⟩ => ⟨S4x1024x2048, .f32⟩
  | .hbm, ⟨63, _⟩ => ⟨S1x1x2048, .f32⟩
  | .hbm, ⟨64, _⟩ => ⟨S4x1024x2048, .f32⟩
  | .hbm, ⟨65, _⟩ => ⟨S4x1024x2048, .f32⟩
  | .hbm, ⟨66, _⟩ => ⟨S_, .f32⟩
  | .hbm, ⟨67, _⟩ => ⟨S4x1x2048, .f32⟩
  | .hbm, ⟨68, _⟩ => ⟨S4x1x2048, .f32⟩
  | .hbm, ⟨69, _⟩ => ⟨S4x1024x2048, .f32⟩
  | .hbm, ⟨70, _⟩ => ⟨S4x1024x2048, .f32⟩
  | .hbm, ⟨71, _⟩ => ⟨S4x1024x2048, .f32⟩
  | .hbm, ⟨72, _⟩ => ⟨S4x1024x2048, .f32⟩
  | .hbm, ⟨73, _⟩ => ⟨S4096x2048, .f32⟩
  | .hbm, ⟨74, _⟩ => ⟨S4096x2048, .f32⟩
  | .hbm, ⟨75, _⟩ => ⟨S8192x2048, .f32⟩
  | .hbm, ⟨76, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩

abbrev nD : Nat := 1
abbrev τ : Topo := Topo.v7x

variable {F : FTy → Type} [FloatOps F]
-- ==== Next.lean ====
abbrev S8192x2048 : Shape := ⟨2, ![8192, 2048]⟩
abbrev S8x12288 : Shape := ⟨2, ![8, 12288]⟩
abbrev S4x2048 : Shape := ⟨2, ![4, 2048]⟩
abbrev S8x6x1x2048 : Shape := ⟨4, ![8, 6, 1, 2048]⟩
abbrev S1x2048 : Shape := ⟨2, ![1, 2048]⟩
abbrev S2048 : Shape := ⟨1, ![2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x12288, .f32⟩
  | .hbm, ⟨3, _⟩ => ⟨S8x12288, .f32⟩
  | .hbm, ⟨4, _⟩ => ⟨S4x2048, .f32⟩
  | .hbm, ⟨5, _⟩ => ⟨S4x2048, .f32⟩
  | .hbm, ⟨6, _⟩ => ⟨S8x6x1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S8x6x1x2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c5_i32 : BitVec 32 := 5#32
  let c0_i32_8 : BitVec 32 := 0#32
  let c0_i32_9 : BitVec 32 := 0#32
  let c0_i32_10 : BitVec 32 := 0#32
  ![v22.toNat, c5_i32.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c1_i32_8 : BitVec 32 := 1#32
  let c0_i32_9 : BitVec 32 := 0#32
  let c0_i32_10 : BitVec 32 := 0#32
  let c0_i32_11 : BitVec 32 := 0#32
  ![v22.toNat, c1_i32_8.toNat, c0_i32_9.toNat, c0_i32_10.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c512_i32_0 : BitVec 32 := 512#32
  let v2 : BitVec 32 := Scalar.muli arg0 c512_i32_0
  let c4096_i32_1 : BitVec 32 := 4096#32
  let v3 : BitVec 32 := Scalar.subi v2 c4096_i32_1
  let c1024_i32 : BitVec 32 := 1024#32
  let v4 : BitVec 32 := Scalar.divsi v3 c1024_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v1 c0_i32_7 v21
  let c0_i32_8 : BitVec 32 := 0#32
  let c0_i32_9 : BitVec 32 := 0#32
  let c0_i32_10 : BitVec 32 := 0#32
  let c0_i32_11 : BitVec 32 := 0#32
  ![v22.toNat, c0_i32_8.toNat, c0_i32_9.toNat, c0_i32_10.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NextRefIdeal.lean ====
abbrev S8192x2048 : Shape := ⟨2, ![8192, 2048]⟩
abbrev S8x12288 : Shape := ⟨2, ![8, 12288]⟩
abbrev S4x2048 : Shape := ⟨2, ![4, 2048]⟩
abbrev S4x12288 : Shape := ⟨2, ![4, 12288]⟩
abbrev S4x1x12288 : Shape := ⟨3, ![4, 1, 12288]⟩
abbrev S4x1024x12288 : Shape := ⟨3, ![4, 1024, 12288]⟩
abbrev S4096x12288 : Shape := ⟨2, ![4096, 12288]⟩
abbrev S1x12288 : Shape := ⟨2, ![1, 12288]⟩
abbrev S8192x12288 : Shape := ⟨2, ![8192, 12288]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x12288, .f32⟩
  | .hbm, ⟨3, _⟩ => ⟨S8x12288, .f32⟩
  | .hbm, ⟨4, _⟩ => ⟨S4x2048, .f32⟩
  | .hbm, ⟨5, _⟩ => ⟨S4x2048, .f32⟩
  | .hbm, ⟨6, _⟩ => ⟨S4x12288, .f32⟩
  | .hbm, ⟨7, _⟩ => ⟨S4x1x12288, .f32⟩
  | .hbm, ⟨8, _⟩ => ⟨S4x1024x12288, .f32⟩
  | .hbm, ⟨9, _⟩ => ⟨S4096x12288, .f32⟩
  | .hbm, ⟨10, _⟩ => ⟨S1x12288, .f32⟩
  | .hbm, ⟨11, _⟩ => ⟨S4096x12288, .f32⟩
  | .hbm, ⟨12, _⟩ => ⟨S8192x12288, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S4x12288, .f32⟩
  | .hbm, ⟨40, _⟩ => ⟨S4x1x12288, .f32⟩
  | .hbm, ⟨41, _⟩ => ⟨S4x1024x12288, .f32⟩
  | .hbm, ⟨42, _⟩ => ⟨S4096x12288, .f32⟩
  | .hbm, ⟨43, _⟩ => ⟨S1x12288, .f32⟩
  | .hbm, ⟨44, _⟩ => ⟨S4096x12288, .f32⟩
  | .hbm, ⟨45, _⟩ => ⟨S8192x12288, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Proof.FfnSpec.lean ====
module

public import Idealize.ShloMosaic.PureOps.Ideal.Laws
public import Idealize.ShloMosaic.Lib.ValueIdx

/-! The mathematics of the convolution FFN, over functions of coordinates: the up-projection, the three-tap convolution
    along a sequence, the gated activation and the down-projection. The 8192 rows are sixteen sequences of 256 rows
    followed by four sequences of 1024 rows. -/

@[expose] public section

noncomputable section

namespace Ffn

open Idealize.ShloMosaic

/-- The tanh form of gelu, on extended reals, with the literals of the program text. -/
def gelu (g : EReal) : EReal :=
  g * (Ideal.ofBits .f32 1056964608#32 * (1 + Ideal.tanh (Ideal.ofBits .f32 1061962282#32 *
    (g + Ideal.ofBits .f32 1027024659#32 * (g * (g * g))))))

/-- The position of row `R` in its sequence. -/
def seqPos (R : ℕ) : ℕ := if R < 4096 then R % 256 else R % 1024

/-- The length of row `R`'s sequence. -/
def seqLen (R : ℕ) : ℕ := if R < 4096 then 256 else 1024

/-- Three taps, the outer two counted only where their conditions hold. -/
def tap (p n : Prop) [Decidable p] [Decidable n] (w0 w1 w2 a b c : EReal) : EReal :=
  (if p then w0 * a else 0) + w1 * b + (if n then w2 * c else 0)

variable (H : Fin 8192 → Fin 2048 → EReal) (W : Fin 2048 → Fin 11008 → EReal) (C : Fin 3 → Fin 11008 → EReal)
  (D : Fin 5504 → Fin 2048 → EReal)

/-- The up-projection. -/
def up (R : Fin 8192) (f : Fin 11008) : EReal := ∑ k, H R k * W k f

/-- The row before `R` (itself at the first row, where it is not used). -/
def before (R : Fin 8192) : Fin 8192 := ⟨R.val - 1, by omega⟩

/-- The row after `R` (the first row at the last one, where it is not used). -/
def after (R : Fin 8192) : Fin 8192 := ⟨(R.val + 1) % 8192, by omega⟩

/-- The three-tap convolution along the sequence, zero outside it. -/
def conv (R : Fin 8192) (f : Fin 11008) : EReal :=
  tap (seqPos R.val ≠ 0) (seqPos R.val + 1 ≠ seqLen R.val) (C 0 f) (C 1 f) (C 2 f)
    (up H W (before R) f) (up H W R f) (up H W (after R) f)

/-- The gated activation. -/
def act (R : Fin 8192) (f : Fin 5504) : EReal :=
  conv H W C R ⟨f.val, by omega⟩ * gelu (conv H W C R ⟨5504 + f.val, by omega⟩)

/-- The down-projection of the activation. -/
def out (R : Fin 8192) (d : Fin 2048) : EReal := ∑ f, act H W C R f * D f d

/-- Eleven tiles of 512 columns, the last one pulled back to end with the array and its first 128 columns, seen
    already by the tile before it, left out: together every column once. -/
theorem sum_tiles (g : Fin 5504 → EReal) :
    ∑ s : Fin 11, ∑ k : Fin 512, (if s.val < 10 ∨ 128 ≤ k.val then g ⟨min (512 * s.val) 4992 + k.val, by omega⟩ else 0)
      = ∑ f, g f := by
  rw [Fin.sum_univ_castSucc]
  have hl : ∑ k : Fin 512, (if (Fin.last 10).val < 10 ∨ 128 ≤ k.val then g ⟨min (512 * (Fin.last 10).val) 4992 + k.val, by
      simp only [Fin.val_last]; omega⟩ else 0) = ∑ k : Fin 384, g ⟨5120 + k.val, by omega⟩ := by
    refine (Fin.sum_univ_add (a := 128) (b := 384) _).trans ?_
    rw [Finset.sum_eq_zero, zero_add]
    · refine Finset.sum_congr rfl fun k _ => ?_
      rw [if_pos (Or.inr (by simp))]
      refine congrArg g (Fin.ext ?_)
      simp only [Fin.val_last, Fin.val_natAdd]
      omega
    · intro k _
      rw [if_neg]
      simp only [Fin.val_last, Fin.val_castAdd]
      omega
  rw [hl]
  refine ((Fin.sum_univ_add (a := 5120) (b := 384) g).trans ?_).symm
  refine congrArg₂ (· + ·) ?_ rfl
  rw [← (finProdFinEquiv (m := 10) (n := 512)).sum_comp, Fintype.sum_prod_type]
  refine Finset.sum_congr rfl fun s _ => Finset.sum_congr rfl fun k _ => ?_
  rw [if_pos (Or.inl (by simp))]
  refine congrArg g (Fin.ext ?_)
  simp only [finProdFinEquiv_apply_val, Fin.val_castSucc, Fin.val_castAdd]
  omega

end Ffn

end
-- ==== Proof.Payload.lean ====
module

public import proofs.«01_k».proof.Proof.Gen.KernelIdeal.Skeleton
public import proofs.«01_k».proof.Proof.FfnSpec
public import Idealize.ShloMosaic.Lib.Pointwise
public import Idealize.ShloMosaic.Lib.Pipeline.ValueKit

/-! What one grid point of the FFN kernel adds to its output block, element by element, over arbitrary input blocks. -/

@[expose] public section

set_option maxRecDepth 16384

noncomputable section

namespace Cert.KernelIdeal.Payload

open Cert.KernelIdeal Cert.KernelIdeal.Gen Idealize.ShloMosaic Idealize.ShloMosaic.TcCoe Idealize.SL.Sem

/-- One up-projected element of a block. -/
def hu {n : ℕ} (h : Vec Ideal S1024x2048 .bf16) (w : Vec Ideal ⟨3, ![1, 2048, n]⟩ .bf16) (r : Fin 1024) (k : Fin n) : EReal :=
  ∑ l : Fin 2048, (h (ix2 r l) : EReal) * w (ix3 0 l k)

/-- The three taps as the kernel selects them. -/
def stap (p n : BitVec 1) (w0 w1 w2 a b c : EReal) : EReal :=
  Scalar.select p (w0 * a) 0 + w1 * b + Scalar.select n (w2 * c) 0

/-- The block row above, cyclically. -/
def rowUp (r : Fin 1024) : Fin 1024 := ⟨(r.val + 1024 - 1) % 1024, by omega⟩

/-- The block row below, cyclically. -/
def rowDn (r : Fin 1024) : Fin 1024 := ⟨(r.val + 1024 - 1023) % 1024, by omega⟩

/-- One convolved element of a block. -/
def cv {n : ℕ} (p q : IVec S1024x1 1) (h : Vec Ideal S1024x2048 .bf16) (w : Vec Ideal ⟨3, ![1, 2048, n]⟩ .bf16)
    (t : Vec Ideal ⟨3, ![1, 3, n]⟩ .f32) (r : Fin 1024) (k : Fin n) : EReal :=
  stap (p (ix2 r 0)) (q (ix2 r 0)) (t (ix3 0 0 k)) (t (ix3 0 1 k)) (t (ix3 0 2 k))
    (hu h w (rowUp r) k) (hu h w r k) (hu h w (rowDn r) k)

theorem pay8_at (h : Vec Ideal S1024x2048 .bf16) (w : Vec Ideal S1x2048x256 .bf16) (r : Fin 1024) (k : Fin 256) :
    k0_pay8 (F := Ideal) h w (ix2 r k) = hu h w r k := by
  pointwise [k0_pay8, k0_pay3]; rfl

theorem pay9_at (h : Vec Ideal S1024x2048 .bf16) (w : Vec Ideal S1x2048x256 .bf16) (r : Fin 1024) (k : Fin 256) :
    k0_pay9 (F := Ideal) h w (ix2 r k) = hu h w r k := by
  pointwise [k0_pay9, k0_pay3]; rfl

theorem pay10_at (h : Vec Ideal S1024x2048 .bf16) (w : Vec Ideal S1x2048x256 .bf16) (r : Fin 1024) (k : Fin 256) :
    k0_pay10 (F := Ideal) h w (ix2 r k) = hu h w r k := by
  pointwise [k0_pay10, k0_pay3]; rfl

theorem pay11_at (h : Vec Ideal S1024x2048 .bf16) (w : Vec Ideal S1x2048x256 .bf16) (r : Fin 1024) (k : Fin 256) :
    k0_pay11 (F := Ideal) (k0_pay3 h) w (ix2 r k) = hu h w r k := by
  pointwise [k0_pay11, k0_pay3]; rfl

theorem pay12_at (p q : IVec S1024x1 1) (u : FVec Ideal S1024x256 .f32) (t : Vec Ideal S1x3x256 .f32) (r : Fin 1024) (k : Fin 256) :
    k0_pay12 (F := Ideal) p q u t (ix2 r k) = stap (p (ix2 r 0)) (q (ix2 r 0)) (t (ix3 0 0 k)) (t (ix3 0 1 k)) (t (ix3 0 2 k))
      (u (ix2 (rowUp r) k)) (u (ix2 r k)) (u (ix2 (rowDn r) k)) := by
  pointwise [k0_pay12]; rfl

theorem pay20_at (p q : IVec S1024x1 1) (u : FVec Ideal S1024x256 .f32) (t : Vec Ideal S1x3x256 .f32) (r : Fin 1024) (k : Fin 256) :
    k0_pay20 (F := Ideal) q u (k0_pay18 t) (k0_pay19 p u) (ix2 r k) = stap (p (ix2 r 0)) (q (ix2 r 0)) (t (ix3 0 0 k)) (t (ix3 0 1 k)) (t (ix3 0 2 k))
      (u (ix2 (rowUp r) k)) (u (ix2 r k)) (u (ix2 (rowDn r) k)) := by
  pointwise [k0_pay20, k0_pay18, k0_pay19]; rfl

theorem pay21_at (p q : IVec S1024x1 1) (u : FVec Ideal S1024x256 .f32) (t : Vec Ideal S1x3x256 .f32) (r : Fin 1024) (k : Fin 256) :
    k0_pay21 (F := Ideal) p q u t (ix2 r k) = stap (p (ix2 r 0)) (q (ix2 r 0)) (t (ix3 0 0 k)) (t (ix3 0 1 k)) (t (ix3 0 2 k))
      (u (ix2 (rowUp r) k)) (u (ix2 r k)) (u (ix2 (rowDn r) k)) := by
  pointwise [k0_pay21]; rfl

/-- The first half-tile's contribution. -/
theorem pay17_at (p q : IVec S1024x1 1) (z : IVec S1x512 1) (u a : FVec Ideal S1024x256 .f32) (t : Vec Ideal S1x3x256 .f32)
    (acc : Vec Ideal S1024x2048 .f32) (wd : Vec Ideal S1x256x2048 .bf16) (r : Fin 1024) (d : Fin 2048) :
    k0_pay17 (F := Ideal) z u a (k0_pay13 t) (k0_pay14 q u) (k0_pay15 p u t) (k0_pay16 t) acc wd (ix2 r d)
      = acc (ix2 r d) + ∑ x : Fin 256, Scalar.select (z (ix2 0 ⟨x.val, by omega⟩)) (a (ix2 r x) * Ffn.gelu
          (stap (p (ix2 r 0)) (q (ix2 r 0)) (t (ix3 0 0 x)) (t (ix3 0 1 x)) (t (ix3 0 2 x))
            (u (ix2 (rowUp r) x)) (u (ix2 r x)) (u (ix2 (rowDn r) x))) * wd (ix3 0 x d)) 0 := by
  pointwise [k0_pay17, k0_pay13, k0_pay14, k0_pay15, k0_pay16]; rfl

/-- The second half-tile's contribution. -/
theorem pay1_at (p q : IVec S1024x1 1) (z : IVec S1x512 1) (u a : FVec Ideal S1024x256 .f32) (t : Vec Ideal S1x3x256 .f32)
    (acc : Vec Ideal S1024x2048 .f32) (wd : Vec Ideal S1x256x2048 .bf16) (r : Fin 1024) (d : Fin 2048) :
    k0_pay1 (F := Ideal) z a (k0_pay21 p q u t) (k0_pay22 p q u t) k0_pay23 acc wd (ix2 r d)
      = acc (ix2 r d) + ∑ x : Fin 256, Scalar.select (z (ix2 0 ⟨256 + x.val, by omega⟩)) (a (ix2 r x) * Ffn.gelu
          (stap (p (ix2 r 0)) (q (ix2 r 0)) (t (ix3 0 0 x)) (t (ix3 0 1 x)) (t (ix3 0 2 x))
            (u (ix2 (rowUp r) x)) (u (ix2 r x)) (u (ix2 (rowDn r) x))) * wd (ix3 0 x d)) 0 := by
  simp only [← pay21_at p q u t]
  pointwise [k0_pay1, k0_pay22, k0_pay23]; rfl

/-- What a whole tile adds at row `r`, column `d`. -/
def part (p q : IVec S1024x1 1) (z : IVec S1x512 1) (x0 : Vec Ideal S1024x2048 .bf16) (x1 x2 : Vec Ideal S1x2048x512 .bf16)
    (x3 x4 : Vec Ideal S1x3x512 .f32) (x5 : Vec Ideal S1x512x2048 .bf16) (r : Fin 1024) (d : Fin 2048) : EReal :=
  ∑ k : Fin 512, Scalar.select (z (ix2 0 k)) (cv p q x0 x1 x3 r k * Ffn.gelu (cv p q x0 x2 x4 r k) * x5 (ix3 0 k d)) 0

/-- One grid point, on any accumulator: the two half-tiles together add the tile's part. -/
theorem step_at (i : grid0.Coords) (x0 : Vec Ideal S1024x2048 .bf16) (x1 x2 : Vec Ideal S1x2048x512 .bf16)
    (x3 x4 : Vec Ideal S1x3x512 .f32) (x5 : Vec Ideal S1x512x2048 .bf16) (acc : Vec Ideal S1024x2048 .f32) (r : Fin 1024) (d : Fin 2048) :
    k0_pay1 (F := Ideal) (k0_pay7 i)
      (k0_pay20 (k0_pay6 i)
        (k0_pay10 x0 (View.ld x1 (Rect.unit ![0, 0, 256] ![1, 2048, 256] inb_S1x2048x512_S1x2048x256_0_0_256)))
        (k0_pay18 (View.ld x3 (Rect.unit ![0, 0, 256] ![1, 3, 256] inb_S1x3x512_S1x3x256_0_0_256)))
        (k0_pay19 (k0_pay5 i)
          (k0_pay10 x0 (View.ld x1 (Rect.unit ![0, 0, 256] ![1, 2048, 256] inb_S1x2048x512_S1x2048x256_0_0_256)))))
      (k0_pay21 (k0_pay5 i) (k0_pay6 i)
        (k0_pay11 (k0_pay3 x0)
          (View.ld x2 (Rect.unit ![0, 0, 256] ![1, 2048, 256] inb_S1x2048x512_S1x2048x256_0_0_256)))
        (View.ld x4 (Rect.unit ![0, 0, 256] ![1, 3, 256] inb_S1x3x512_S1x3x256_0_0_256)))
      (k0_pay22 (k0_pay5 i) (k0_pay6 i)
        (k0_pay11 (k0_pay3 x0)
          (View.ld x2 (Rect.unit ![0, 0, 256] ![1, 2048, 256] inb_S1x2048x512_S1x2048x256_0_0_256)))
        (View.ld x4 (Rect.unit ![0, 0, 256] ![1, 3, 256] inb_S1x3x512_S1x3x256_0_0_256)))
      k0_pay23
      (k0_pay17 (k0_pay7 i)
        (k0_pay9 x0
          (View.ld x2 (Rect.unit ![0, 0, 0] ![1, 2048, 256] inb_S1x2048x512_S1x2048x256_0_0_0)))
        (k0_pay12 (k0_pay5 i) (k0_pay6 i)
          (k0_pay8 x0
            (View.ld x1 (Rect.unit ![0, 0, 0] ![1, 2048, 256] inb_S1x2048x512_S1x2048x256_0_0_0)))
          (View.ld x3 (Rect.unit ![0, 0, 0] ![1, 3, 256] inb_S1x3x512_S1x3x256_0_0_0)))
        (k0_pay13 (View.ld x4 (Rect.unit ![0, 0, 0] ![1, 3, 256] inb_S1x3x512_S1x3x256_0_0_0)))
        (k0_pay14 (k0_pay6 i)
          (k0_pay9 x0
            (View.ld x2 (Rect.unit ![0, 0, 0] ![1, 2048, 256] inb_S1x2048x512_S1x2048x256_0_0_0))))
        (k0_pay15 (k0_pay5 i)
          (k0_pay9 x0
            (View.ld x2 (Rect.unit ![0, 0, 0] ![1, 2048, 256] inb_S1x2048x512_S1x2048x256_0_0_0)))
          (View.ld x4 (Rect.unit ![0, 0, 0] ![1, 3, 256] inb_S1x3x512_S1x3x256_0_0_0)))
        (k0_pay16 (View.ld x4 (Rect.unit ![0, 0, 0] ![1, 3, 256] inb_S1x3x512_S1x3x256_0_0_0)))
        acc
        (View.ld x5 (Rect.unit ![0, 0, 0] ![1, 256, 2048] inb_S1x512x2048_S1x256x2048_0_0_0)))
      (View.ld x5 (Rect.unit ![0, 256, 0] ![1, 256, 2048] inb_S1x512x2048_S1x256x2048_0_256_0)) (ix2 r d)
      = acc (ix2 r d) + part (k0_pay5 i) (k0_pay6 i) (k0_pay7 i) x0 x1 x2 x3 x4 x5 r d := by
  rw [pay1_at, pay17_at]
  simp only [pay20_at, pay12_at, pay8_at, pay9_at, pay10_at, pay11_at]
  rw [add_assoc]
  congr 1
  refine Eq.trans ?_ (Fin.sum_univ_add (a := 256) (b := 256) _).symm
  congr 1
  · refine Finset.sum_congr rfl fun x _ => ?_
    unfold cv hu
    pointwise
    rfl
  · refine Finset.sum_congr rfl fun x _ => ?_
    unfold cv hu
    pointwise
    rfl

end Cert.KernelIdeal.Payload

end
-- ==== Proof.ConvTable.lean ====
module

public import proofs.«01_k».proof.Proof.Gen.KernelIdeal.Value
public import Idealize.ShloMosaic.Lib.Pointwise
public import Idealize.ShloMosaic.Lib.StableHlo.RunRead
public import Idealize.ShloMosaic.Lib.Pipeline.ValueKit

/-! The table of convolution taps that the host prepares for the FFN kernel: 22 slices of the tap array, 11 of the
    activation columns and 11 of the gate columns, laid side by side. -/

@[expose] public section

set_option maxRecDepth 16384

noncomputable section

namespace Cert.KernelIdeal.ConvTable

open Cert.KernelIdeal Cert.KernelIdeal.Gen Idealize.ShloMosaic Idealize.ShloMosaic.TcCoe Idealize.SL.Sem

variable (m : (ℓ : Loc nD τ sig) → Buf (Elt Ideal) ℓ)

/-- The column of the tap array at which piece `n` of the table begins. -/
def off (n : ℕ) : ℕ := if n < 11 then min (512 * n) 4992 else 5504 + min (512 * (n - 11)) 4992

/-- Every piece lies inside the tap array. -/
theorem off_le (n : ℕ) (k : ℕ) (hk : k < 512) : off n + k < 11008 := by unfold off; split <;> omega

/-- Piece `n` of the table, as a function of the tap array. -/
def piece (x : Vec Ideal S4x3x11008 .f32) (n : ℕ) : Vec Ideal S4x3x512 .f32 :=
  fun i => x (ix3 (i 0) (i 1) ⟨off n + (i 2).val, off_le n _ (i 2).isLt⟩)

/-- Sixteen pieces side by side, read at a column. -/
theorem concat16 (f : ℕ → Vec Ideal S4x3x512 .f32) (xs : List ((s : Shape) × (s.Idx → Elt Ideal .f32)))
    (hx : xs = [⟨S4x3x512, f 0⟩, ⟨S4x3x512, f 1⟩, ⟨S4x3x512, f 2⟩, ⟨S4x3x512, f 3⟩, ⟨S4x3x512, f 4⟩, ⟨S4x3x512, f 5⟩, ⟨S4x3x512, f 6⟩, ⟨S4x3x512, f 7⟩, ⟨S4x3x512, f 8⟩, ⟨S4x3x512, f 9⟩, ⟨S4x3x512, f 10⟩, ⟨S4x3x512, f 11⟩, ⟨S4x3x512, f 12⟩, ⟨S4x3x512, f 13⟩, ⟨S4x3x512, f 14⟩, ⟨S4x3x512, f 15⟩]) (h) (l : Fin 4) (t : Fin 3) (k : Fin 8192) :
    concatenate S4x3x8192 2 xs h (ix3 l t k)
      = f (k.val / 512) (ix3 l t ⟨k.val % 512, Nat.mod_lt _ (by decide)⟩) := by
  subst hx
  refine concatenate_ofFn_apply (s₁ := S4x3x512) (t := S4x3x8192) 2 (N := 16) (fun n => f n.val) _ rfl 512 rfl (ix3 l t k) ⟨k.val / 512, by omega⟩ rfl _ rfl ?_
  intro b hb
  match b with
  | ⟨0, _⟩ => rfl
  | ⟨1, _⟩ => rfl
  | ⟨2, _⟩ => exact absurd rfl hb

/-- Six pieces side by side, read at a column. -/
theorem concat6 (f : ℕ → Vec Ideal S4x3x512 .f32) (xs : List ((s : Shape) × (s.Idx → Elt Ideal .f32)))
    (hx : xs = [⟨S4x3x512, f 0⟩, ⟨S4x3x512, f 1⟩, ⟨S4x3x512, f 2⟩, ⟨S4x3x512, f 3⟩, ⟨S4x3x512, f 4⟩, ⟨S4x3x512, f 5⟩]) (h) (l : Fin 4) (t : Fin 3) (k : Fin 3072) :
    concatenate S4x3x3072 2 xs h (ix3 l t k)
      = f (k.val / 512) (ix3 l t ⟨k.val % 512, Nat.mod_lt _ (by decide)⟩) := by
  subst hx
  refine concatenate_ofFn_apply (s₁ := S4x3x512) (t := S4x3x3072) 2 (N := 6) (fun n => f n.val) _ rfl 512 rfl (ix3 l t k) ⟨k.val / 512, by omega⟩ rfl _ rfl ?_
  intro b hb
  match b with
  | ⟨0, _⟩ => rfl
  | ⟨1, _⟩ => rfl
  | ⟨2, _⟩ => exact absurd rfl hb

/-- A slice of the tap array at a piece's first column is that piece. -/
theorem slice_eq (x : Vec Ideal S4x3x11008 .f32) (n o : ℕ) (ho : o = off n) (h) :
    extractStridedSlice S4x3x512 ![0, 0, o] x h = piece x n := by
  funext i
  refine extractStridedSlice_apply ![0, 0, o] x h i _ fun a => ?_
  match a with
  | ⟨0, _⟩ => show (i 0).val = 0 + (i 0).val; omega
  | ⟨1, _⟩ => show (i 1).val = 0 + (i 1).val; omega
  | ⟨2, _⟩ => show off n + (i 2).val = o + (i 2).val; omega

/-- The first sixteen pieces, joined by the host, read at a column. -/
theorem read_main_v24 (c : Dev nD) (l : Fin 4) (t : Fin 3) (k : Fin 8192) :
    (StableHlo.upto hostOps0 (fun b => m (c, b)) 26 (Proc.tc.devRef main_v24) : Vec Ideal S4x3x8192 .f32) (ix3 l t k)
      = piece (m ((c : Thread nD τ).loc main_arg2)) (0 + k.val / 512) (ix3 l t ⟨k.val % 512, Nat.mod_lt _ (by decide)⟩) := by
  after_reads_simp
  refine concat16 (fun n => piece _ (0 + n)) _ ?_ _ l t k
  refine congrArg₂ List.cons (congrArg (Sigma.mk S4x3x512) ?_) ?_
  · change HloOp.result (StableHlo.unary main_arg2 main_v2 _ _ _) _ (Proc.tc.devRef main_v2) = _
    after_reads_simp
    exact slice_eq _ 0 _ rfl _
  refine congrArg₂ List.cons (congrArg (Sigma.mk S4x3x512) ?_) ?_
  · change HloOp.result (StableHlo.unary main_arg2 main_v3 _ _ _) _ (Proc.tc.devRef main_v3) = _
    after_reads_simp
    exact slice_eq _ 1 _ rfl _
  refine congrArg₂ List.cons (congrArg (Sigma.mk S4x3x512) ?_) ?_
  · change HloOp.result (StableHlo.unary main_arg2 main_v4 _ _ _) _ (Proc.tc.devRef main_v4) = _
    after_reads_simp
    exact slice_eq _ 2 _ rfl _
  refine congrArg₂ List.cons (congrArg (Sigma.mk S4x3x512) ?_) ?_
  · change HloOp.result (StableHlo.unary main_arg2 main_v5 _ _ _) _ (Proc.tc.devRef main_v5) = _
    after_reads_simp
    exact slice_eq _ 3 _ rfl _
  refine congrArg₂ List.cons (congrArg (Sigma.mk S4x3x512) ?_) ?_
  · change HloOp.result (StableHlo.unary main_arg2 main_v6 _ _ _) _ (Proc.tc.devRef main_v6) = _
    after_reads_simp
    exact slice_eq _ 4 _ rfl _
  refine congrArg₂ List.cons (congrArg (Sigma.mk S4x3x512) ?_) ?_
  · change HloOp.result (StableHlo.unary main_arg2 main_v7 _ _ _) _ (Proc.tc.devRef main_v7) = _
    after_reads_simp
    exact slice_eq _ 5 _ rfl _
  refine congrArg₂ List.cons (congrArg (Sigma.mk S4x3x512) ?_) ?_
  · change HloOp.result (StableHlo.unary main_arg2 main_v8 _ _ _) _ (Proc.tc.devRef main_v8) = _
    after_reads_simp
    exact slice_eq _ 6 _ rfl _
  refine congrArg₂ List.cons (congrArg (Sigma.mk S4x3x512) ?_) ?_
  · change HloOp.result (StableHlo.unary main_arg2 main_v9 _ _ _) _ (Proc.tc.devRef main_v9) = _
    after_reads_simp
    exact slice_eq _ 7 _ rfl _
  refine congrArg₂ List.cons (congrArg (Sigma.mk S4x3x512) ?_) ?_
  · change HloOp.result (StableHlo.unary main_arg2 main_v10 _ _ _) _ (Proc.tc.devRef main_v10) = _
    after_reads_simp
    exact slice_eq _ 8 _ rfl _
  refine congrArg₂ List.cons (congrArg (Sigma.mk S4x3x512) ?_) ?_
  · change HloOp.result (StableHlo.unary main_arg2 main_v11 _ _ _) _ (Proc.tc.devRef main_v11) = _
    after_reads_simp
    exact slice_eq _ 9 _ rfl _
  refine congrArg₂ List.cons (congrArg (Sigma.mk S4x3x512) ?_) ?_
  · change HloOp.result (StableHlo.unary main_arg2 main_v12 _ _ _) _ (Proc.tc.devRef main_v12) = _
    after_reads_simp
    exact slice_eq _ 10 _ rfl _
  refine congrArg₂ List.cons (congrArg (Sigma.mk S4x3x512) ?_) ?_
  · change HloOp.result (StableHlo.unary main_arg2 main_v13 _ _ _) _ (Proc.tc.devRef main_v13) = _
    after_reads_simp
    exact slice_eq _ 11 _ rfl _
  refine congrArg₂ List.cons (congrArg (Sigma.mk S4x3x512) ?_) ?_
  · change HloOp.result (StableHlo.unary main_arg2 main_v14 _ _ _) _ (Proc.tc.devRef main_v14) = _
    after_reads_simp
    exact slice_eq _ 12 _ rfl _
  refine congrArg₂ List.cons (congrArg (Sigma.mk S4x3x512) ?_) ?_
  · change HloOp.result (StableHlo.unary main_arg2 main_v15 _ _ _) _ (Proc.tc.devRef main_v15) = _
    after_reads_simp
    exact slice_eq _ 13 _ rfl _
  refine congrArg₂ List.cons (congrArg (Sigma.mk S4x3x512) ?_) ?_
  · change HloOp.result (StableHlo.unary main_arg2 main_v16 _ _ _) _ (Proc.tc.devRef main_v16) = _
    after_reads_simp
    exact slice_eq _ 14 _ rfl _
  refine congrArg₂ List.cons (congrArg (Sigma.mk S4x3x512) ?_) ?_
  · change HloOp.result (StableHlo.unary main_arg2 main_v17 _ _ _) _ (Proc.tc.devRef main_v17) = _
    after_reads_simp
    exact slice_eq _ 15 _ rfl _
  rfl

/-- The last six pieces, joined by the host, read at a column. -/
theorem read_main_v25 (c : Dev nD) (l : Fin 4) (t : Fin 3) (k : Fin 3072) :
    (StableHlo.upto hostOps0 (fun b => m (c, b)) 26 (Proc.tc.devRef main_v25) : Vec Ideal S4x3x3072 .f32) (ix3 l t k)
      = piece (m ((c : Thread nD τ).loc main_arg2)) (16 + k.val / 512) (ix3 l t ⟨k.val % 512, Nat.mod_lt _ (by decide)⟩) := by
  after_reads_simp
  refine concat6 (fun n => piece _ (16 + n)) _ ?_ _ l t k
  refine congrArg₂ List.cons (congrArg (Sigma.mk S4x3x512) ?_) ?_
  · change HloOp.result (StableHlo.unary main_arg2 main_v18 _ _ _) _ (Proc.tc.devRef main_v18) = _
    after_reads_simp
    exact slice_eq _ 16 _ rfl _
  refine congrArg₂ List.cons (congrArg (Sigma.mk S4x3x512) ?_) ?_
  · change HloOp.result (StableHlo.unary main_arg2 main_v19 _ _ _) _ (Proc.tc.devRef main_v19) = _
    after_reads_simp
    exact slice_eq _ 17 _ rfl _
  refine congrArg₂ List.cons (congrArg (Sigma.mk S4x3x512) ?_) ?_
  · change HloOp.result (StableHlo.unary main_arg2 main_v20 _ _ _) _ (Proc.tc.devRef main_v20) = _
    after_reads_simp
    exact slice_eq _ 18 _ rfl _
  refine congrArg₂ List.cons (congrArg (Sigma.mk S4x3x512) ?_) ?_
  · change HloOp.result (StableHlo.unary main_arg2 main_v21 _ _ _) _ (Proc.tc.devRef main_v21) = _
    after_reads_simp
    exact slice_eq _ 19 _ rfl _
  refine congrArg₂ List.cons (congrArg (Sigma.mk S4x3x512) ?_) ?_
  · change HloOp.result (StableHlo.unary main_arg2 main_v22 _ _ _) _ (Proc.tc.devRef main_v22) = _
    after_reads_simp
    exact slice_eq _ 20 _ rfl _
  refine congrArg₂ List.cons (congrArg (Sigma.mk S4x3x512) ?_) ?_
  · change HloOp.result (StableHlo.unary main_arg2 main_v23 _ _ _) _ (Proc.tc.devRef main_v23) = _
    after_reads_simp
    exact slice_eq _ 21 _ rfl _
  rfl

/-- The table the kernel reads, at column `512 n + k`: the tap array at column `off n + k`. -/
theorem read_table (c : Dev nD) (l : Fin 4) (t : Fin 3) (n : ℕ) (hn : n < 22) (k : Fin 512) :
    (V m c main_v26 : Vec Ideal S4x3x11264 .f32) (ix3 l t ⟨512 * n + k.val, by omega⟩)
      = (m ((c : Thread nD τ).loc main_arg2) : Vec Ideal S4x3x11008 .f32) (ix3 l t ⟨off n + k.val, off_le n _ k.isLt⟩) := by
  have e : (V m c main_v26 : Vec Ideal S4x3x11264 .f32) = concatenate S4x3x11264 2
      [⟨S4x3x8192, StableHlo.upto hostOps0 (fun b => m (c, b)) 26 (Proc.tc.devRef main_v24)⟩,
        ⟨S4x3x3072, StableHlo.upto hostOps0 (fun b => m (c, b)) 26 (Proc.tc.devRef main_v25)⟩]
      concatenates_S4x3x8192_S4x3x3072_S4x3x11264_d2 := by
    unfold V; after_reads_simp
  rw [e]
  by_cases h : n < 16
  · refine (concatenate_pair_apply_left (t := S4x3x11264) (s₁ := S4x3x8192) (s₂ := S4x3x3072) 2 _ _ _ _ rfl (ix3 l t ⟨512 * n + k.val, by omega⟩) ?_).trans ?_
    · intro b
      match b with
      | ⟨0, _⟩ => rfl
      | ⟨1, _⟩ => rfl
      | ⟨2, _⟩ => rfl
    · rw [read_main_v24]
      refine congrArg (fun q => (m ((c : Thread nD τ).loc main_arg2) : Vec Ideal S4x3x11008 .f32) (ix3 l t q)) (Fin.ext ?_)
      show off (0 + (512 * n + k.val) / 512) + (512 * n + k.val) % 512 = off n + k.val
      have h1 : (512 * n + k.val) / 512 = n := by omega
      rw [h1, Nat.zero_add]; omega
  · refine (concatenate_pair_apply_right (t := S4x3x11264) (s₁ := S4x3x8192) (s₂ := S4x3x3072) 2 _ _ _ _ rfl rfl (ix3 l t ⟨512 * n + k.val - 8192, by omega⟩) ?_ ?_).trans ?_
    · intro b hb
      match b with
      | ⟨0, _⟩ => exact (rfl : l.val = l.val)
      | ⟨1, _⟩ => exact (rfl : t.val = t.val)
      | ⟨2, _⟩ => exact absurd rfl hb
    · show 512 * n + k.val - 8192 + 8192 = 512 * n + k.val; omega
    · rw [read_main_v25]
      refine congrArg (fun q => (m ((c : Thread nD τ).loc main_arg2) : Vec Ideal S4x3x11008 .f32) (ix3 l t q)) (Fin.ext ?_)
      show off (16 + (512 * n + k.val - 8192) / 512) + (512 * n + k.val - 8192) % 512 = off n + k.val
      have h1 : 16 + (512 * n + k.val - 8192) / 512 = n := by omega
      rw [h1]; omega

end Cert.KernelIdeal.ConvTable

end
-- ==== Proof.Blocks.lean ====
module

public import proofs.«01_k».proof.Proof.Payload
public import proofs.«01_k».proof.Proof.ConvTable
public import proofs.«01_k».proof.Proof.Gen.KernelIdeal.Value

/-! The blocks that a grid point reads, in terms of the program's arguments, and the conditions of its masks. -/

@[expose] public section

set_option maxRecDepth 16384

noncomputable section

namespace Cert.KernelIdeal.Blocks

open Cert.KernelIdeal Cert.KernelIdeal.Gen Idealize.ShloMosaic Idealize.ShloMosaic.TcCoe Idealize.SL.Sem
open Cert.KernelIdeal.Payload

variable {m : (ℓ : Loc nD τ sig) → Buf (Elt Ideal) ℓ}

/-- The first argument by coordinates. -/
def argH (m : (ℓ : Loc nD τ sig) → Buf (Elt Ideal) ℓ) (c : Dev nD) (R : Fin 8192) (k : Fin 2048) : EReal :=
  (m ((c : Thread nD τ).loc main_arg0) : Vec Ideal S8192x2048 .f32) (ix2 R k)
/-- The last layer of the second argument. -/
def argW (m : (ℓ : Loc nD τ sig) → Buf (Elt Ideal) ℓ) (c : Dev nD) (k : Fin 2048) (f : Fin 11008) : EReal :=
  (m ((c : Thread nD τ).loc main_arg1) : Vec Ideal S4x2048x11008 .f32) (ix3 3 k f)
/-- The last layer of the third argument. -/
def argC (m : (ℓ : Loc nD τ sig) → Buf (Elt Ideal) ℓ) (c : Dev nD) (t : Fin 3) (f : Fin 11008) : EReal :=
  (m ((c : Thread nD τ).loc main_arg2) : Vec Ideal S4x3x11008 .f32) (ix3 3 t f)
/-- The last layer of the fourth argument. -/
def argD (m : (ℓ : Loc nD τ sig) → Buf (Elt Ideal) ℓ) (c : Dev nD) (f : Fin 5504) (d : Fin 2048) : EReal :=
  (m ((c : Thread nD τ).loc main_arg3) : Vec Ideal S4x5504x2048 .f32) (ix3 3 f d)

theorem idx0 : ∀ t : Fin cfg0.N, (win0_0.index t 0 = t.val / 11 ∧ win0_0.index t 1 = 0) :=
  (by decide +kernel : ∀ t : Fin grid0.N, _)
theorem idx1 : ∀ t : Fin cfg0.N, (win0_1.index t 0 = 3 ∧ win0_1.index t 1 = 0 ∧ win0_1.index t 2 = min (512 * (t.val % 11)) 4992) :=
  (by decide +kernel : ∀ t : Fin grid0.N, _)
theorem idx2 : ∀ t : Fin cfg0.N, (win0_2.index t 0 = 3 ∧ win0_2.index t 1 = 0 ∧ win0_2.index t 2 = 5504 + min (512 * (t.val % 11)) 4992) :=
  (by decide +kernel : ∀ t : Fin grid0.N, _)
theorem idx3 : ∀ t : Fin cfg0.N, (win0_3.index t 0 = 3 ∧ win0_3.index t 1 = 0 ∧ win0_3.index t 2 = t.val % 11) :=
  (by decide +kernel : ∀ t : Fin grid0.N, _)
theorem idx4 : ∀ t : Fin cfg0.N, (win0_4.index t 0 = 3 ∧ win0_4.index t 1 = 0 ∧ win0_4.index t 2 = 11 + t.val % 11) :=
  (by decide +kernel : ∀ t : Fin grid0.N, _)
theorem idx5 : ∀ t : Fin cfg0.N, (win0_5.index t 0 = 3 ∧ win0_5.index t 1 = min (512 * (t.val % 11)) 4992 ∧ win0_5.index t 2 = 0) :=
  (by decide +kernel : ∀ t : Fin grid0.N, _)
theorem idx6 : ∀ t : Fin cfg0.N, (win0_6.index t 0 = t.val / 11 ∧ win0_6.index t 1 = 0) :=
  (by decide +kernel : ∀ t : Fin grid0.N, _)

theorem lt_N (t : Fin cfg0.N) : t.val < 88 := t.isLt

/-- The array row of row `r` in the block of point `t`. -/
def row (t : Fin cfg0.N) (r : Fin 1024) : Fin 8192 := ⟨1024 * (t.val / 11) + r.val, by have := lt_N t; omega⟩
/-- The array column of column `k` in the tile of point `t`. -/
def col (t : Fin cfg0.N) (k : Fin 512) : Fin 5504 := ⟨min (512 * (t.val % 11)) 4992 + k.val, by omega⟩

theorem blk0 (c : Dev nD) (t : Fin cfg0.N) (r : Fin 1024) (k : Fin 2048) :
    (iblk m c 0 t : Vec Ideal S1024x2048 .bf16) (ix2 r k) = argH m c (row t r) k := by
  obtain ⟨h0, h1⟩ := idx0 t
  have hv : @Eq (FVec Ideal S8192x2048 .bf16) (V m c main_v27)
      (truncf .bf16 (m (c, Proc.tc.devRef main_arg0) : FVec Ideal S8192x2048 .f32) bitsLt_bf16_f32) := by
    entry_read
    rfl
  show (V m c main_v27 : Vec Ideal S8192x2048 .bf16) ((win0_0.rect t).emb (ix2 r k)) = _
  rw [hv]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 1024 + r.val = 1024 * (t.val / 11) + r.val; omega
  | ⟨1, _⟩ => show win0_0.index t 1 * 2048 + k.val = k.val; omega

theorem blk1 (c : Dev nD) (t : Fin cfg0.N) (k : Fin 2048) (f : Fin 512) :
    (iblk m c 1 t : Vec Ideal S1x2048x512 .bf16) (ix3 0 k f) = argW m c k ⟨(col t f).val, by omega⟩ := by
  obtain ⟨h0, h1, h2⟩ := idx1 t
  have hv : @Eq (FVec Ideal S4x2048x11008 .bf16) (V m c main_v0)
      (truncf .bf16 (m (c, Proc.tc.devRef main_arg1) : FVec Ideal S4x2048x11008 .f32) bitsLt_bf16_f32) := by
    entry_read
    rfl
  show (V m c main_v0 : Vec Ideal S4x2048x11008 .bf16) ((win0_1.rect t).emb (ix3 0 k f)) = _
  rw [hv]
  refine congrArg (m ((c : Thread nD τ).loc main_arg1) : Vec Ideal S4x2048x11008 .f32) ?_
  funext a
  apply Fin.ext
  rw [Pipeline.Window.rect_emb_val_off]
  match a with
  | ⟨0, _⟩ => show win0_1.index t 0 + 0 = 3; omega
  | ⟨1, _⟩ => show win0_1.index t 1 + k.val = k.val; omega
  | ⟨2, _⟩ => show win0_1.index t 2 + f.val = min (512 * (t.val % 11)) 4992 + f.val; omega

theorem blk2 (c : Dev nD) (t : Fin cfg0.N) (k : Fin 2048) (f : Fin 512) :
    (iblk m c 2 t : Vec Ideal S1x2048x512 .bf16) (ix3 0 k f) = argW m c k ⟨5504 + (col t f).val, by omega⟩ := by
  obtain ⟨h0, h1, h2⟩ := idx2 t
  have hv : @Eq (FVec Ideal S4x2048x11008 .bf16) (V m c main_v0)
      (truncf .bf16 (m (c, Proc.tc.devRef main_arg1) : FVec Ideal S4x2048x11008 .f32) bitsLt_bf16_f32) := by
    entry_read
    rfl
  show (V m c main_v0 : Vec Ideal S4x2048x11008 .bf16) ((win0_2.rect t).emb (ix3 0 k f)) = _
  rw [hv]
  refine congrArg (m ((c : Thread nD τ).loc main_arg1) : Vec Ideal S4x2048x11008 .f32) ?_
  funext a
  apply Fin.ext
  rw [Pipeline.Window.rect_emb_val_off]
  match a with
  | ⟨0, _⟩ => show win0_2.index t 0 + 0 = 3; omega
  | ⟨1, _⟩ => show win0_2.index t 1 + k.val = k.val; omega
  | ⟨2, _⟩ => show win0_2.index t 2 + f.val = 5504 + (min (512 * (t.val % 11)) 4992 + f.val); omega

theorem blk5 (c : Dev nD) (t : Fin cfg0.N) (f : Fin 512) (d : Fin 2048) :
    (iblk m c 5 t : Vec Ideal S1x512x2048 .bf16) (ix3 0 f d) = argD m c (col t f) d := by
  obtain ⟨h0, h1, h2⟩ := idx5 t
  have hv : @Eq (FVec Ideal S4x5504x2048 .bf16) (V m c main_v1)
      (truncf .bf16 (m (c, Proc.tc.devRef main_arg3) : FVec Ideal S4x5504x2048 .f32) bitsLt_bf16_f32) := by
    entry_read
    rfl
  show (V m c main_v1 : Vec Ideal S4x5504x2048 .bf16) ((win0_5.rect t).emb (ix3 0 f d)) = _
  rw [hv]
  refine congrArg (m ((c : Thread nD τ).loc main_arg3) : Vec Ideal S4x5504x2048 .f32) ?_
  funext a
  apply Fin.ext
  rw [Pipeline.Window.rect_emb_val_off]
  match a with
  | ⟨0, _⟩ => show win0_5.index t 0 + 0 = 3; omega
  | ⟨1, _⟩ => show win0_5.index t 1 + f.val = min (512 * (t.val % 11)) 4992 + f.val; omega
  | ⟨2, _⟩ => show win0_5.index t 2 + d.val = d.val; omega

theorem blk3 (c : Dev nD) (t : Fin cfg0.N) (s : Fin 3) (f : Fin 512) :
    (iblk m c 3 t : Vec Ideal S1x3x512 .f32) (ix3 0 s f) = argC m c s ⟨(col t f).val, by omega⟩ := by
  obtain ⟨h0, h1, h2⟩ := idx3 t
  have he : (win0_3.rect t).emb (ix3 0 s f) = (ix3 3 s ⟨512 * (t.val % 11) + f.val, by omega⟩ : S4x3x11264.Idx) := by
    funext a
    apply Fin.ext
    rw [Pipeline.Window.rect_emb_val_off]
    match a with
    | ⟨0, _⟩ => show win0_3.index t 0 * 1 + 0 = 3; omega
    | ⟨1, _⟩ => show win0_3.index t 1 * 3 + s.val = s.val; omega
    | ⟨2, _⟩ => show win0_3.index t 2 * 512 + f.val = 512 * (t.val % 11) + f.val; omega
  show (V m c main_v26 : Vec Ideal S4x3x11264 .f32) ((win0_3.rect t).emb (ix3 0 s f)) = _
  rw [he, ConvTable.read_table m c 3 s (t.val % 11) (by omega) f]
  refine congrArg (fun q => (m ((c : Thread nD τ).loc main_arg2) : Vec Ideal S4x3x11008 .f32) (ix3 3 s q)) (Fin.ext ?_)
  show ConvTable.off (t.val % 11) + f.val = min (512 * (t.val % 11)) 4992 + f.val
  unfold ConvTable.off
  rw [if_pos (by omega)]

theorem blk4 (c : Dev nD) (t : Fin cfg0.N) (s : Fin 3) (f : Fin 512) :
    (iblk m c 4 t : Vec Ideal S1x3x512 .f32) (ix3 0 s f) = argC m c s ⟨5504 + (col t f).val, by omega⟩ := by
  obtain ⟨h0, h1, h2⟩ := idx4 t
  have he : (win0_4.rect t).emb (ix3 0 s f) = (ix3 3 s ⟨512 * (11 + t.val % 11) + f.val, by omega⟩ : S4x3x11264.Idx) := by
    funext a
    apply Fin.ext
    rw [Pipeline.Window.rect_emb_val_off]
    match a with
    | ⟨0, _⟩ => show win0_4.index t 0 * 1 + 0 = 3; omega
    | ⟨1, _⟩ => show win0_4.index t 1 * 3 + s.val = s.val; omega
    | ⟨2, _⟩ => show win0_4.index t 2 * 512 + f.val = 512 * (11 + t.val % 11) + f.val; omega
  show (V m c main_v26 : Vec Ideal S4x3x11264 .f32) ((win0_4.rect t).emb (ix3 0 s f)) = _
  rw [he, ConvTable.read_table m c 3 s (11 + t.val % 11) (by omega) f]
  refine congrArg (fun q => (m ((c : Thread nD τ).loc main_arg2) : Vec Ideal S4x3x11008 .f32) (ix3 3 s q)) (Fin.ext ?_)
  show ConvTable.off (11 + t.val % 11) + f.val = 5504 + (min (512 * (t.val % 11)) 4992 + f.val)
  unfold ConvTable.off
  rw [if_neg (by omega)]
  omega

/-! The masks. -/

theorem coords0 : ∀ t : Fin cfg0.N, ((grid0.coords t 0).val = t.val / 11 ∧ (grid0.coords t 1).val = t.val % 11) :=
  (by decide +kernel : ∀ t : Fin grid0.N, _)

theorem mask_prev : ∀ (a : Fin 8) (r : Fin 1024),
    IntOp.cmpi .ne (IntOp.andi (BitVec.ofNat 32 r.val) (Scalar.subi (Scalar.select (Scalar.cmpi .slt (Scalar.muli
      (BitVec.ofNat 32 a.val) 1024#32) 4096#32) 256#32 1024#32) 1#32)) 0#32
      = if Ffn.seqPos (1024 * a.val + r.val) ≠ 0 then 1#1 else 0#1 := by
  decide +kernel

theorem mask_next : ∀ (a : Fin 8) (r : Fin 1024),
    IntOp.cmpi .ne (IntOp.andi (BitVec.ofNat 32 r.val) (Scalar.subi (Scalar.select (Scalar.cmpi .slt (Scalar.muli
      (BitVec.ofNat 32 a.val) 1024#32) 4096#32) 256#32 1024#32) 1#32)) (Scalar.subi (Scalar.select (Scalar.cmpi .slt (Scalar.muli
      (BitVec.ofNat 32 a.val) 1024#32) 4096#32) 256#32 1024#32) 1#32)
      = if Ffn.seqPos (1024 * a.val + r.val) + 1 ≠ Ffn.seqLen (1024 * a.val + r.val) then 1#1 else 0#1 := by
  decide +kernel

theorem mask_fresh : ∀ (j : Fin 11) (k : Fin 512),
    IntOp.ori (Scalar.cmpi .slt (BitVec.ofNat 32 j.val) 10#32) (IntOp.cmpi .sge (BitVec.ofNat 32 k.val) 128#32)
      = if j.val < 10 ∨ 128 ≤ k.val then 1#1 else 0#1 := by
  decide +kernel

theorem pay5_at (t : Fin cfg0.N) (r : Fin 1024) : k0_pay5 (grid0.coords t) (ix2 r 0)
    = if Ffn.seqPos (row t r).val ≠ 0 then 1#1 else 0#1 := by
  have h := mask_prev (grid0.coords t 0) r
  rw [(coords0 t).1] at h
  refine Eq.trans ?_ h
  pointwise [k0_pay5, k0_pay4]
  rw [(coords0 t).1]

theorem pay6_at (t : Fin cfg0.N) (r : Fin 1024) : k0_pay6 (grid0.coords t) (ix2 r 0)
    = if Ffn.seqPos (row t r).val + 1 ≠ Ffn.seqLen (row t r).val then 1#1 else 0#1 := by
  have h := mask_next (grid0.coords t 0) r
  rw [(coords0 t).1] at h
  refine Eq.trans ?_ h
  pointwise [k0_pay6, k0_pay4]
  rw [(coords0 t).1]

theorem pay7_at (t : Fin cfg0.N) (k : Fin 512) : k0_pay7 (grid0.coords t) (ix2 0 k)
    = if t.val % 11 < 10 ∨ 128 ≤ k.val then 1#1 else 0#1 := by
  have h := mask_fresh (grid0.coords t 1) k
  rw [(coords0 t).2] at h
  refine Eq.trans ?_ h
  pointwise [k0_pay7]
  rw [(coords0 t).2]

theorem select_if {p : Prop} [Decidable p] (a b : EReal) : Scalar.select (if p then 1#1 else 0#1) a b = if p then a else b := by
  by_cases h : p <;> simp [h, Scalar.select]

/-- A convolved element of the block is the specification's, for columns of either half. -/
theorem cv_eq (c : Dev nD) (t : Fin cfg0.N) (r : Fin 1024) (k : Fin 512) (f : Fin 11008)
    (w : Vec Ideal S1x2048x512 .bf16) (s : Vec Ideal S1x3x512 .f32)
    (hw : ∀ l, w (ix3 0 l k) = argW m c l f) (hs : ∀ a, s (ix3 0 a k) = argC m c a f) :
    cv (k0_pay5 (grid0.coords t)) (k0_pay6 (grid0.coords t)) (iblk m c 0 t) w s r k
      = Ffn.conv (argH m c) (argW m c) (argC m c) (row t r) f := by
  have hN := lt_N t
  have hup : ∀ r', hu (iblk m c 0 t) w r' k = Ffn.up (argH m c) (argW m c) (row t r') f := fun r' =>
    Finset.sum_congr rfl fun l _ => congrArg₂ (· * ·) (blk0 c t r' l) (hw l)
  unfold cv stap Ffn.conv Ffn.tap
  rw [pay5_at, pay6_at, select_if, select_if, hs, hs, hs, hup, hup, hup]
  refine congrArg₂ (· + ·) (congrArg (· + _) ?_) ?_
  · by_cases h : Ffn.seqPos (row t r).val ≠ 0
    · rw [if_pos h, if_pos h]
      refine congrArg (fun q => _ * Ffn.up _ _ q f) (Fin.ext ?_)
      have : r.val ≠ 0 := by
        intro h0
        apply h
        unfold Ffn.seqPos row
        dsimp only
        split <;> omega
      show 1024 * (t.val / 11) + (r.val + 1024 - 1) % 1024 = 1024 * (t.val / 11) + r.val - 1
      omega
    · rw [if_neg h, if_neg h]
  · by_cases h : Ffn.seqPos (row t r).val + 1 ≠ Ffn.seqLen (row t r).val
    · rw [if_pos h, if_pos h]
      refine congrArg (fun q => _ * Ffn.up _ _ q f) (Fin.ext ?_)
      have : r.val ≠ 1023 := by
        intro h0
        apply h
        unfold Ffn.seqPos Ffn.seqLen row
        dsimp only
        split <;> omega
      show 1024 * (t.val / 11) + (r.val + 1024 - 1023) % 1024 = (1024 * (t.val / 11) + r.val + 1) % 8192
      omega
    · rw [if_neg h, if_neg h]

/-- What point `t` adds: its fresh columns of the down-projection. -/
theorem part_eq (c : Dev nD) (t : Fin cfg0.N) (r : Fin 1024) (d : Fin 2048) :
    part (k0_pay5 (grid0.coords t)) (k0_pay6 (grid0.coords t)) (k0_pay7 (grid0.coords t)) (iblk m c 0 t) (iblk m c 1 t)
      (iblk m c 2 t) (iblk m c 3 t) (iblk m c 4 t) (iblk m c 5 t) r d
      = ∑ k : Fin 512, if t.val % 11 < 10 ∨ 128 ≤ k.val then
          Ffn.act (argH m c) (argW m c) (argC m c) (row t r) (col t k) * argD m c (col t k) d else 0 := by
  refine Finset.sum_congr rfl fun k _ => ?_
  rw [pay7_at, select_if, cv_eq c t r k _ _ _ (fun l => blk1 c t l k) (fun a => blk3 c t a k),
    cv_eq c t r k _ _ _ (fun l => blk2 c t l k) (fun a => blk4 c t a k), blk5]
  rfl

end Cert.KernelIdeal.Blocks

end
-- ==== Proof.KernelValue.lean ====
module

public import proofs.«01_k».proof.Proof.Blocks

/-! The kernel's result is the specification: a block accumulates the parts of its eleven tiles, and the parts of the
    eleven tiles are together the whole down-projection. -/

@[expose] public section

set_option maxRecDepth 16384

noncomputable section

namespace Cert.KernelIdeal.KernelValue

open Cert.KernelIdeal Cert.KernelIdeal.Gen Idealize.ShloMosaic Idealize.ShloMosaic.TcCoe Idealize.SL.Sem
open Cert.KernelIdeal.Payload Cert.KernelIdeal.Blocks

variable (m : (ℓ : Loc nD τ sig) → Buf (Elt Ideal) ℓ)

/-- The result array. -/
def result (c : Dev nD) : Vec Ideal S8192x2048 .f32 := fun y =>
  Ffn.out (argH m c) (argW m c) (argC m c) (argD m c) ⟨(y 0).val, (y 0).isLt⟩ ⟨(y 1).val, (y 1).isLt⟩

/-- What point `n` adds to its block. -/
def add (c : Dev nD) (t : Fin cfg0.N) : Vec Ideal S1024x2048 .f32 := fun y =>
  part (k0_pay5 (grid0.coords t)) (k0_pay6 (grid0.coords t)) (k0_pay7 (grid0.coords t)) (iblk m c 0 t) (iblk m c 1 t)
      (iblk m c 2 t) (iblk m c 3 t) (iblk m c 4 t) (iblk m c 5 t) ⟨(y 0).val, (y 0).isLt⟩ ⟨(y 1).val, (y 1).isLt⟩

theorem zero_at (r : Fin 1024) (d : Fin 2048) : k0_pay2 (F := Ideal) (ix2 r d) = (0 : EReal) := by
  pointwise [k0_pay2]

theorem outs_A (c : Dev nD) (t : Fin cfg0.N) (h0 : t.val % 11 = 0) (y : S1024x2048.Idx) :
    (outsAt0 m c t.val t.isLt : Vec Ideal S1024x2048 .f32) y = 0 + add m c t y := by
  rw [outsAt0_A m c t h0]
  idx_vars y
  frame_out
  rw [step_at, zero_at]
  rfl

theorem outs_B (c : Dev nD) (t : Fin cfg0.N) (h0 : ¬t.val % 11 = 0) (y : S1024x2048.Idx) :
    (outsAt0 m c t.val t.isLt : Vec Ideal S1024x2048 .f32) y
      = (outsAt0 m c (t.val - 1) (Nat.lt_of_le_of_lt (Nat.sub_le _ _) t.isLt) : Vec Ideal S1024x2048 .f32) y + add m c t y := by
  rw [outsAt0_B m c t h0]
  idx_vars y
  frame_out
  rw [step_at]
  rfl

theorem run_sum (c : Dev nD) (t : Fin cfg0.N) (hf : t.val % 11 = 10) (r : Fin 1024) (d : Fin 2048) :
    (outsAt0 m c t.val t.isLt : Vec Ideal S1024x2048 .f32) (ix2 r d)
      = Ffn.out (argH m c) (argW m c) (argC m c) (argD m c) (row t r) d := by
  rw [Pipeline.eq_sum_fin_of_reset_step_apply_of_flush (fun n h => outsAt0 m c n h) 11 (fun _ => (0 : EReal)) (fun t => add m c t)
    (fun t h j => outs_A m c t h j) (fun t h j => outs_B m c t h j) t hf (ix2 r d), zero_add]
  unfold Ffn.out
  rw [← Ffn.sum_tiles]
  refine Finset.sum_congr rfl fun s _ => (part_eq c _ r d).trans (Finset.sum_congr rfl fun k _ => ?_)
  have hs : (11 * (t.val / 11) + s.val) % 11 = s.val := by omega
  have hr : row ⟨11 * (t.val / 11) + s.val, Pipeline.run_point_lt_of_flush t hf s⟩ r = row t r := by
    apply Fin.ext
    show 1024 * ((11 * (t.val / 11) + s.val) / 11) + r.val = 1024 * (t.val / 11) + r.val
    omega
  have hc : col ⟨11 * (t.val / 11) + s.val, Pipeline.run_point_lt_of_flush t hf s⟩ k
      = ⟨min (512 * s.val) 4992 + k.val, by omega⟩ := by
    apply Fin.ext
    show min (512 * ((11 * (t.val / 11) + s.val) % 11)) 4992 + k.val = _
    rw [hs]
  rw [hr, hc]
  simp only [hs]

theorem final (c : Dev nD) : (dats m 0 c).arrAt 6 cfg0.N = result m c := by
  refine (dats m 0 c).arrAt_eq_of_covers 6 _ (by decide +kernel) fun t hf y => ?_
  blk_simp
  rw [after0_6]
  revert y
  show ∀ y : S1024x2048.Idx, (outsAt0 m c t.val t.isLt : Vec Ideal S1024x2048 .f32) y = result m c ((win0_6.rect t).emb y)
  intro y
  obtain ⟨h0, h1⟩ := idx6 t
  idx_vars y
  rw [run_sum m c t ((flush0_6 t).mp hf)]
  unfold result
  refine congrArg₂ (fun a b => Ffn.out (argH m c) (argW m c) (argC m c) (argD m c) a b) (Fin.ext ?_) (Fin.ext ?_)
  · dsimp only
    rw [Pipeline.Window.rect_emb_val_off]
    show 1024 * (t.val / 11) + y0.val = win0_6.index t 0 * 1024 + y0.val
    omega
  · dsimp only
    rw [Pipeline.Window.rect_emb_val_off]
    show y1.val = win0_6.index t 1 * 2048 + y1.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.KernelValue

end
-- ==== Proof.RefValue.lean ====
module

public import proofs.«01_k».proof.Proof.Gen.ReferenceIdeal.Read
public import proofs.«01_k».proof.Proof.FfnSpec
public import Idealize.ShloMosaic.Lib.Pointwise
public import Idealize.ShloMosaic.Lib.Pipeline.ValueKit

/-! The reference's result is the specification: the rows of the sixteen short sequences, then those of the four long ones. -/

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem

variable (x0 : Vec Ideal S8192x2048 .f32) (x1 : Vec Ideal S4x2048x11008 .f32) (x2 : Vec Ideal S4x3x11008 .f32) (x3 : Vec Ideal S4x5504x2048 .f32)

/-- The activations by coordinates. -/
def rH (R : Fin 8192) (k : Fin 2048) : EReal := x0 (ix2 R k)
/-- The last layer's up-projection weights. -/
def rW (k : Fin 2048) (f : Fin 11008) : EReal := x1 (ix3 3 k f)
/-- The last layer's convolution weights. -/
def rC (t : Fin 3) (f : Fin 11008) : EReal := x2 (ix3 3 t f)
/-- The last layer's down-projection weights. -/
def rD (f : Fin 5504) (d : Fin 2048) : EReal := x3 (ix3 3 f d)

theorem sitofp_zero : (FloatOps.sitofp (F := Ideal) .f32 (0#32 : BitVec 32) : EReal) = 0 := by
  show (((0#32 : BitVec 32).toInt : ℝ) : EReal) = 0
  simp

theorem gelu_eq (g : EReal) : g * (Ideal.ofBits FTy.f32 1056964608#32 * (1 + Ideal.tanh (Ideal.ofBits FTy.f32 1061962282#32 *
    (g + Ideal.ofBits FTy.f32 1027024659#32 * (g * g * g))))) = Ffn.gelu g := by
  unfold Ffn.gelu
  rw [mul_comm (g * g) g]

theorem up_at (b : Fin 16) (n : Fin 256) (f : Fin 11008) :
    val_main_v8 (F := Ideal) x0 x1 (ix3 b n f) = Ffn.up (rH x0) (rW x1) ⟨b.val * 256 + n.val, by omega⟩ f := by
  pointwise [val_main_v8, val_main_v7, val_main_v6, val_main_v1, val_main_v0]
  rfl

theorem pad_at (b : Fin 16) (n : Fin 258) (f : Fin 11008) :
    val_main_v9 (F := Ideal) x0 x1 (ix3 b n f)
      = if h : 1 ≤ n.val ∧ n.val - 1 < 256 then val_main_v8 (F := Ideal) x0 x1 (ix3 b ⟨n.val - 1, h.2⟩ f) else (0 : EReal) := by
  pointwise [val_main_v9, val_main_call0_v0, val_main_c]
  rw [sitofp_zero]

theorem conv_at (b : Fin 16) (n : Fin 256) (f : Fin 11008) :
    val_main_v31 (F := Ideal) x0 x1 x2 (ix3 b n f)
      = Ffn.conv (rH x0) (rW x1) (rC x2) ⟨b.val * 256 + n.val, by omega⟩ f := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v3, val_main_v2, val_main_cst]
  rw [pad_at, pad_at, pad_at]
  have hp : Ffn.seqPos (b.val * 256 + n.val) = n.val := by
    unfold Ffn.seqPos
    split <;> omega
  have hl : Ffn.seqLen (b.val * 256 + n.val) = 256 := by
    unfold Ffn.seqLen
    split <;> omega
  unfold Ffn.conv Ffn.tap
  simp only [hp, hl]
  refine congrArg₂ (· + ·) (congrArg₂ (· + ·) ?_ ?_) ?_
  · by_cases h : n.val ≠ 0
    · rw [if_pos h, dif_pos ⟨by omega, by omega⟩, up_at]
      refine congrArg (fun q => _ * Ffn.up _ _ q f) (Fin.ext ?_)
      simp only [Ffn.before]
      omega
    · rw [if_neg h, dif_neg (by simp only [ne_eq, not_not] at h; simp [h]), mul_zero]
  · rw [dif_pos ⟨by omega, by omega⟩, up_at]
    refine congrArg (fun q => _ * Ffn.up _ _ q f) (Fin.ext ?_)
    simp
  · by_cases h : n.val + 1 ≠ 256
    · rw [if_pos h, dif_pos ⟨by omega, by omega⟩, up_at]
      refine congrArg (fun q => _ * Ffn.up _ _ q f) (Fin.ext ?_)
      simp only [Ffn.after]
      omega
    · rw [if_neg h, dif_neg (by simp only [not_and]; omega), mul_zero]

theorem out_at (b : Fin 16) (n : Fin 256) (d : Fin 2048) :
    val_main_v48 (F := Ideal) x0 x1 x2 x3 (ix3 b n d)
      = Ffn.out (rH x0) (rW x1) (rC x2) (rD x3) ⟨b.val * 256 + n.val, by omega⟩ d := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v5, val_main_v4, val_main_cst_0, val_main_cst_1, val_main_cst_2, val_main_cst_3]
  refine Finset.sum_congr rfl fun f _ => ?_
  rw [gelu_eq, conv_at, conv_at]
  rfl

theorem up_ats (b : Fin 4) (n : Fin 1024) (f : Fin 11008) :
    val_main_v51 (F := Ideal) x0 x1 (ix3 b n f) = Ffn.up (rH x0) (rW x1) ⟨4096 + (b.val * 1024 + n.val), by omega⟩ f := by
  pointwise [val_main_v51, val_main_v50, val_main_v49, val_main_v1, val_main_v0]
  rfl

theorem pad_ats (b : Fin 4) (n : Fin 1026) (f : Fin 11008) :
    val_main_v52 (F := Ideal) x0 x1 (ix3 b n f)
      = if h : 1 ≤ n.val ∧ n.val - 1 < 1024 then val_main_v51 (F := Ideal) x0 x1 (ix3 b ⟨n.val - 1, h.2⟩ f) else (0 : EReal) := by
  pointwise [val_main_v52, val_main_call1_v0, val_main_c_4]
  rw [sitofp_zero]

theorem conv_ats (b : Fin 4) (n : Fin 1024) (f : Fin 11008) :
    val_main_v74 (F := Ideal) x0 x1 x2 (ix3 b n f)
      = Ffn.conv (rH x0) (rW x1) (rC x2) ⟨4096 + (b.val * 1024 + n.val), by omega⟩ f := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v3, val_main_v2, val_main_cst_5]
  rw [pad_ats, pad_ats, pad_ats]
  have hp : Ffn.seqPos (4096 + (b.val * 1024 + n.val)) = n.val := by
    unfold Ffn.seqPos
    split <;> omega
  have hl : Ffn.seqLen (4096 + (b.val * 1024 + n.val)) = 1024 := by
    unfold Ffn.seqLen
    split <;> omega
  unfold Ffn.conv Ffn.tap
  simp only [hp, hl]
  refine congrArg₂ (· + ·) (congrArg₂ (· + ·) ?_ ?_) ?_
  · by_cases h : n.val ≠ 0
    · rw [if_pos h, dif_pos ⟨by omega, by omega⟩, up_ats]
      refine congrArg (fun q => _ * Ffn.up _ _ q f) (Fin.ext ?_)
      simp only [Ffn.before]
      omega
    · rw [if_neg h, dif_neg (by simp only [ne_eq, not_not] at h; simp [h]), mul_zero]
  · rw [dif_pos ⟨by omega, by omega⟩, up_ats]
    refine congrArg (fun q => _ * Ffn.up _ _ q f) (Fin.ext ?_)
    simp
  · by_cases h : n.val + 1 ≠ 1024
    · rw [if_pos h, dif_pos ⟨by omega, by omega⟩, up_ats]
      refine congrArg (fun q => _ * Ffn.up _ _ q f) (Fin.ext ?_)
      simp only [Ffn.after]
      omega
    · rw [if_neg h, dif_neg (by simp only [not_and]; omega), mul_zero]

theorem out_ats (b : Fin 4) (n : Fin 1024) (d : Fin 2048) :
    val_main_v91 (F := Ideal) x0 x1 x2 x3 (ix3 b n d)
      = Ffn.out (rH x0) (rW x1) (rC x2) (rD x3) ⟨4096 + (b.val * 1024 + n.val), by omega⟩ d := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v5, val_main_v4, val_main_cst_6, val_main_cst_7, val_main_cst_8, val_main_cst_9]
  refine Finset.sum_congr rfl fun f _ => ?_
  rw [gelu_eq, conv_ats, conv_ats]
  rfl

/-- The reference's result at an index. -/
theorem result_at (R : Fin 8192) (d : Fin 2048) :
    val_main_v94 (F := Ideal) x0 x1 x2 x3 (ix2 R d) = Ffn.out (rH x0) (rW x1) (rC x2) (rD x3) R d := by
  pointwise [val_main_v94, val_main_v93, val_main_v92]
  by_cases h : R.val < 4096
  · rw [dif_pos h, out_at]
    refine congrArg (fun q => Ffn.out (rH x0) (rW x1) (rC x2) (rD x3) q d) (Fin.ext ?_)
    show R.val / 256 * 256 + R.val % 256 = R.val
    omega
  · rw [dif_neg h, out_ats]
    refine congrArg (fun q => Ffn.out (rH x0) (rW x1) (rC x2) (rD x3) q d) (Fin.ext ?_)
    show 4096 + ((R.val - 4096) / 1024 * 1024 + (R.val - 4096) % 1024) = R.val
    omega

end Cert.ReferenceIdeal.RefValue

end
-- ==== Proof.InProj.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise
public import Idealize.ShloMosaic.Lib.StableHlo.RunRead
public import Idealize.ShloMosaic.Lib.Pipeline.ValueKit

/-! The input projection of mixers A, B and C: a block of 2048 rows by 512 columns is a product of the activations and 512
    columns of the weights; the first twelve blocks take columns 0 to 6143 and the last three columns 5952 to 7487. -/

@[expose] public section

set_option maxRecDepth 16384

noncomputable section

namespace Cert.InProjIdeal.Proj

open Cert.InProjIdeal Cert.InProjIdeal.Gen Idealize.ShloMosaic Idealize.ShloMosaic.TcCoe Idealize.SL.Sem

variable (m : (ℓ : Loc nD τ sig) → Buf (Elt Ideal) ℓ)

/-- The column of the weights that column `C` of the result multiplies. -/
def src (C : ℕ) : ℕ := if C < 6144 then C else C - 192

/-- One product of an activation and a weight of the last layer. -/
def term (h : Vec Ideal S8192x2048 .f32) (w : Vec Ideal S4x2048x13632 .f32) (k : Fin 2048) (R : Fin 8192) (f : Fin 13632) : EReal :=
  h (ix2 R k) * w (ix3 3 k f)

/-- The product at a row and a column. -/
def prod (h : Vec Ideal S8192x2048 .f32) (w : Vec Ideal S4x2048x13632 .f32) (R : Fin 8192) (C : Fin 7680) : EReal :=
  ∑ k : Fin 2048, term h w k R ⟨src C.val, by have := C.isLt; unfold src; split <;> omega⟩

/-- The result array. -/
def result (c : Dev nD) : Vec Ideal S8192x7680 .f32 := fun y =>
  prod (m ((c : Thread nD τ).loc main_arg0)) (m ((c : Thread nD τ).loc main_arg1)) ⟨(y 0).val, (y 0).isLt⟩ ⟨(y 1).val, (y 1).isLt⟩

theorem lt_N (t : Fin cfg0.N) : t.val < 60 := t.isLt

theorem idx0 : ∀ t : Fin cfg0.N, (win0_0.index t 0 = t.val / 15 ∧ win0_0.index t 1 = 0) :=
  (by decide +kernel : ∀ t : Fin grid0.N, _)
theorem idx1 : ∀ t : Fin cfg0.N, (win0_1.index t 0 = 40896 + src (512 * (t.val % 15)) ∧ win0_1.index t 1 = 0) :=
  (by decide +kernel : ∀ t : Fin grid0.N, _)
theorem idx2 : ∀ t : Fin cfg0.N, (win0_2.index t 0 = t.val / 15 ∧ win0_2.index t 1 = t.val % 15) :=
  (by decide +kernel : ∀ t : Fin grid0.N, _)

theorem src_lt (t : Fin cfg0.N) (f : Fin 512) : src (512 * (t.val % 15)) + f.val < 13632 := by
  unfold src
  split <;> omega

theorem blk0 (c : Dev nD) (t : Fin cfg0.N) (r : Fin 2048) (k : Fin 2048) :
    (iblk m c 0 t : Vec Ideal S2048x2048 .bf16) (ix2 r k)
      = (m ((c : Thread nD τ).loc main_arg0) : Vec Ideal S8192x2048 .f32) (ix2 ⟨2048 * (t.val / 15) + r.val, by have := lt_N t; omega⟩ k) := by
  obtain ⟨h0, h1⟩ := idx0 t
  have hv : @Eq (FVec Ideal S8192x2048 .bf16) (V m c main_v0)
      (truncf .bf16 (m (c, Proc.tc.devRef main_arg0) : FVec Ideal S8192x2048 .f32) bitsLt_bf16_f32) := by
    entry_read
    rfl
  show (V m c main_v0 : Vec Ideal S8192x2048 .bf16) ((win0_0.rect t).emb (ix2 r k)) = _
  rw [hv]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 2048 + r.val = 2048 * (t.val / 15) + r.val; omega
  | ⟨1, _⟩ => show win0_0.index t 1 * 2048 + k.val = k.val; omega

/-- The transposed weights in one array of rows: row `13632 * l + f` is column `f` of layer `l`. -/
theorem rows_at (w : Vec Ideal S4x2048x13632 .f32) (Q : Fin 54528) (k : Fin 2048) :
    (shapeCast S54528x2048 (transpose S4x13632x2048 [0, 2, 1] w transposes_S4x2048x13632_S4x13632x2048_0_2_1)
      shapeCasts_S4x13632x2048_S54528x2048 : Vec Ideal S54528x2048 .f32) (ix2 Q k)
      = w (ix3 ⟨Q.val / 13632, by omega⟩ k ⟨Q.val % 13632, by omega⟩) := by
  pointwise []

theorem blk1 (c : Dev nD) (t : Fin cfg0.N) (f : Fin 512) (k : Fin 2048) :
    (iblk m c 1 t : Vec Ideal S512x2048 .f32) (ix2 f k)
      = (m ((c : Thread nD τ).loc main_arg1) : Vec Ideal S4x2048x13632 .f32) (ix3 3 k ⟨src (512 * (t.val % 15)) + f.val, src_lt t f⟩) := by
  obtain ⟨h0, h1⟩ := idx1 t
  have hs := src_lt t f
  have hv : @Eq (Vec Ideal S54528x2048 .f32) (V m c main_v2)
      (shapeCast S54528x2048 (transpose S4x13632x2048 [0, 2, 1] (m (c, Proc.tc.devRef main_arg1) : Vec Ideal S4x2048x13632 .f32)
        transposes_S4x2048x13632_S4x13632x2048_0_2_1) shapeCasts_S4x13632x2048_S54528x2048) := by
    entry_read
    rfl
  have he : (win0_1.rect t).emb (ix2 f k) = (ix2 ⟨40896 + (src (512 * (t.val % 15)) + f.val), by omega⟩ k : S54528x2048.Idx) := by
    funext a
    apply Fin.ext
    rw [Pipeline.Window.rect_emb_val_off]
    match a with
    | ⟨0, _⟩ => show win0_1.index t 0 + f.val = 40896 + (src (512 * (t.val % 15)) + f.val); omega
    | ⟨1, _⟩ => show win0_1.index t 1 + k.val = k.val; omega
  show (V m c main_v2 : Vec Ideal S54528x2048 .f32) ((win0_1.rect t).emb (ix2 f k)) = _
  rw [hv, he, rows_at]
  refine congrArg₂ (fun a b => (m ((c : Thread nD τ).loc main_arg1) : Vec Ideal S4x2048x13632 .f32) (ix3 a k b)) (Fin.ext ?_) (Fin.ext ?_)
  · show (40896 + (src (512 * (t.val % 15)) + f.val)) / 13632 = 3
    omega
  · show (40896 + (src (512 * (t.val % 15)) + f.val)) % 13632 = src (512 * (t.val % 15)) + f.val
    omega

theorem pay_at (v0 : Vec Ideal S2048x2048 .bf16) (v2 : Vec Ideal S512x2048 .f32) (r : Fin 2048) (f : Fin 512) :
    k0_pay1 (F := Ideal) v0 v2 (ix2 r f) = ∑ k : Fin 2048, v0 (ix2 r k) * v2 (ix2 f k) := by
  pointwise [k0_pay1]

theorem final (c : Dev nD) : (dats m 0 c).arrAt 2 cfg0.N = result m c := by
  refine (dats m 0 c).arrAt_eq_of_covers 2 _ (by decide +kernel) fun t hf y => ?_
  blk_simp
  rw [after0_2]
  revert y
  show ∀ y : S2048x512.Idx, (out0_2 (iblk m c 0 t) (iblk m c 1 t) : Vec Ideal S2048x512 .f32) y = result m c ((win0_2.rect t).emb y)
  intro y
  obtain ⟨h0, h1⟩ := idx2 t
  idx_vars y
  unfold out0_2
  frame_out
  rw [pay_at]
  unfold result prod
  refine Finset.sum_congr rfl fun k _ => ?_
  rw [blk0, blk1]
  refine congrArg₂ (term (m ((c : Thread nD τ).loc main_arg0)) (m ((c : Thread nD τ).loc main_arg1)) k) (Fin.ext ?_) (Fin.ext ?_)
  · dsimp only
    rw [Pipeline.Window.rect_emb_val_off]
    show 2048 * (t.val / 15) + y0.val = win0_2.index t 0 * 2048 + y0.val
    omega
  · dsimp only
    rw [Pipeline.Window.rect_emb_val_off]
    show src (512 * (t.val % 15)) + y1.val = src (win0_2.index t 1 * 512 + y1.val)
    rw [h1]
    unfold src
    split <;> split <;> omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.InProjIdeal.Proj

namespace Cert.InProjRefIdeal.Proj

open Cert.InProjRefIdeal Cert.InProjRefIdeal.Gen Cert.InProjRefIdeal.Read Idealize.ShloMosaic Idealize.ShloMosaic.TcCoe Idealize.SL.Sem

theorem result_at (x0 : Vec Ideal S8192x2048 .f32) (x1 : Vec Ideal S4x2048x13632 .f32) (R : Fin 8192) (C : Fin 7680) :
    val_main_v5 (F := Ideal) x0 x1 (ix2 R C) = Cert.InProjIdeal.Proj.prod x0 x1 R C := by
  pointwise [val_main_v5, val_main_v4, val_main_v3, val_main_v2, val_main_v1, val_main_v0]
  unfold Cert.InProjIdeal.Proj.prod
  by_cases h : C.val < 6144
  · rw [dif_pos h]
    refine Finset.sum_congr rfl fun k _ => congrArg (Cert.InProjIdeal.Proj.term x0 x1 k R) (Fin.ext ?_)
    simp only [Cert.InProjIdeal.Proj.src, if_pos h]
  · rw [dif_neg h]
    refine Finset.sum_congr rfl fun k _ => congrArg (Cert.InProjIdeal.Proj.term x0 x1 k R) (Fin.ext ?_)
    simp only [Cert.InProjIdeal.Proj.src, if_neg h]
    omega

/-- The reference's run from agreeing arguments: its result array is the kernel's. -/
theorem run (m : (ℓ : Loc Cert.InProjIdeal.nD Cert.InProjIdeal.τ Cert.InProjIdeal.sig) → Buf (Elt Ideal) ℓ)
    (m' : (ℓ : Loc nD τ sig) → Buf (Elt Ideal) ℓ) (ρ : Dev nD → PrngReg)
    (hagree : ∀ c : Dev Cert.InProjIdeal.nD,
      m' ((c.tc : Thread nD τ).loc main_arg0) = m ((c.tc : Thread Cert.InProjIdeal.nD Cert.InProjIdeal.τ).loc Cert.InProjIdeal.main_arg0)
      ∧ m' ((c.tc : Thread nD τ).loc main_arg1) = m ((c.tc : Thread Cert.InProjIdeal.nD Cert.InProjIdeal.τ).loc Cert.InProjIdeal.main_arg1)) :
    θ_run defs (onTc (τ := τ) (main (F := Ideal))) ⟨m', fun _ => 0, ρ⟩ fun r => ∀ c : Dev nD,
      r.2.mem ((c.tc : Thread nD τ).loc main_v5) = Cert.InProjIdeal.Proj.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun _ h c => ⟨(h c).1.trans ?_, (h c).2⟩) (Cert.InProjRefIdeal.Value.run (F := Ideal) m' ρ)
  rw [Cert.InProjRefIdeal.Read.val_main_v5_eq, (hagree c).1, (hagree c).2]
  funext y
  rw [ValueIdx.eq_ix2 y]
  exact result_at _ _ (y 0) (y 1)

end Cert.InProjRefIdeal.Proj

end
-- ==== Proof.Gates.lean ====
module

public import proofs.«01_k».proof.Proof.Gen.GatesIdeal.Value
public import proofs.«01_k».proof.Proof.Gen.GatesRefIdeal.Run
public import proofs.«01_k».proof.Proof.Gen.GatesRefIdeal.Read
public import Idealize.ShloMosaic.Lib.Pointwise
public import Idealize.ShloMosaic.Lib.StableHlo.RunRead
public import Idealize.ShloMosaic.Lib.Pipeline.ValueKit

/-! The input projection's columns for the branch gates: a block of 2048 rows by 512 columns is a product of the activations
    and 512 columns of the weights, from column 7488 on. -/

@[expose] public section

set_option maxRecDepth 16384

noncomputable section

namespace Cert.GatesIdeal.Proj

open Cert.GatesIdeal Cert.GatesIdeal.Gen Idealize.ShloMosaic Idealize.ShloMosaic.TcCoe Idealize.SL.Sem

variable (m : (ℓ : Loc nD τ sig) → Buf (Elt Ideal) ℓ)

/-- The column of the weights that column `C` of the result multiplies. -/
def src (C : ℕ) : ℕ := 7488 + C

/-- One product of an activation and a weight of the last layer. -/
def term (h : Vec Ideal S8192x2048 .f32) (w : Vec Ideal S4x2048x13632 .f32) (k : Fin 2048) (R : Fin 8192) (f : Fin 13632) : EReal :=
  h (ix2 R k) * w (ix3 3 k f)

/-- The product at a row and a column. -/
def prod (h : Vec Ideal S8192x2048 .f32) (w : Vec Ideal S4x2048x13632 .f32) (R : Fin 8192) (C : Fin 6144) : EReal :=
  ∑ k : Fin 2048, term h w k R ⟨src C.val, by have := C.isLt; unfold src; omega⟩

/-- The result array. -/
def result (c : Dev nD) : Vec Ideal S8192x6144 .bf16 := fun y =>
  prod (m ((c : Thread nD τ).loc main_arg0)) (m ((c : Thread nD τ).loc main_arg1)) ⟨(y 0).val, (y 0).isLt⟩ ⟨(y 1).val, (y 1).isLt⟩

theorem lt_N (t : Fin cfg0.N) : t.val < 48 := t.isLt

theorem idx0 : ∀ t : Fin cfg0.N, (win0_0.index t 0 = t.val / 12 ∧ win0_0.index t 1 = 0) :=
  (by decide +kernel : ∀ t : Fin grid0.N, _)
theorem idx1 : ∀ t : Fin cfg0.N, (win0_1.index t 0 = 40896 + src (512 * (t.val % 12)) ∧ win0_1.index t 1 = 0) :=
  (by decide +kernel : ∀ t : Fin grid0.N, _)
theorem idx2 : ∀ t : Fin cfg0.N, (win0_2.index t 0 = t.val / 12 ∧ win0_2.index t 1 = t.val % 12) :=
  (by decide +kernel : ∀ t : Fin grid0.N, _)

theorem src_lt (t : Fin cfg0.N) (f : Fin 512) : src (512 * (t.val % 12)) + f.val < 13632 := by
  unfold src
  omega

theorem blk0 (c : Dev nD) (t : Fin cfg0.N) (r : Fin 2048) (k : Fin 2048) :
    (iblk m c 0 t : Vec Ideal S2048x2048 .bf16) (ix2 r k)
      = (m ((c : Thread nD τ).loc main_arg0) : Vec Ideal S8192x2048 .f32) (ix2 ⟨2048 * (t.val / 12) + r.val, by have := lt_N t; omega⟩ k) := by
  obtain ⟨h0, h1⟩ := idx0 t
  have hv : @Eq (FVec Ideal S8192x2048 .bf16) (V m c main_v0)
      (truncf .bf16 (m (c, Proc.tc.devRef main_arg0) : FVec Ideal S8192x2048 .f32) bitsLt_bf16_f32) := by
    entry_read
    rfl
  show (V m c main_v0 : Vec Ideal S8192x2048 .bf16) ((win0_0.rect t).emb (ix2 r k)) = _
  rw [hv]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 2048 + r.val = 2048 * (t.val / 12) + r.val; omega
  | ⟨1, _⟩ => show win0_0.index t 1 * 2048 + k.val = k.val; omega

/-- The transposed weights in one array of rows: row `13632 * l + f` is column `f` of layer `l`. -/
theorem rows_at (w : Vec Ideal S4x2048x13632 .f32) (Q : Fin 54528) (k : Fin 2048) :
    (shapeCast S54528x2048 (transpose S4x13632x2048 [0, 2, 1] w transposes_S4x2048x13632_S4x13632x2048_0_2_1)
      shapeCasts_S4x13632x2048_S54528x2048 : Vec Ideal S54528x2048 .f32) (ix2 Q k)
      = w (ix3 ⟨Q.val / 13632, by omega⟩ k ⟨Q.val % 13632, by omega⟩) := by
  pointwise []

theorem blk1 (c : Dev nD) (t : Fin cfg0.N) (f : Fin 512) (k : Fin 2048) :
    (iblk m c 1 t : Vec Ideal S512x2048 .f32) (ix2 f k)
      = (m ((c : Thread nD τ).loc main_arg1) : Vec Ideal S4x2048x13632 .f32) (ix3 3 k ⟨src (512 * (t.val % 12)) + f.val, src_lt t f⟩) := by
  obtain ⟨h0, h1⟩ := idx1 t
  have hs := src_lt t f
  have hv : @Eq (Vec Ideal S54528x2048 .f32) (V m c main_v2)
      (shapeCast S54528x2048 (transpose S4x13632x2048 [0, 2, 1] (m (c, Proc.tc.devRef main_arg1) : Vec Ideal S4x2048x13632 .f32)
        transposes_S4x2048x13632_S4x13632x2048_0_2_1) shapeCasts_S4x13632x2048_S54528x2048) := by
    entry_read
    rfl
  have he : (win0_1.rect t).emb (ix2 f k) = (ix2 ⟨40896 + (src (512 * (t.val % 12)) + f.val), by omega⟩ k : S54528x2048.Idx) := by
    funext a
    apply Fin.ext
    rw [Pipeline.Window.rect_emb_val_off]
    match a with
    | ⟨0, _⟩ => show win0_1.index t 0 + f.val = 40896 + (src (512 * (t.val % 12)) + f.val); omega
    | ⟨1, _⟩ => show win0_1.index t 1 + k.val = k.val; omega
  show (V m c main_v2 : Vec Ideal S54528x2048 .f32) ((win0_1.rect t).emb (ix2 f k)) = _
  rw [hv, he, rows_at]
  refine congrArg₂ (fun a b => (m ((c : Thread nD τ).loc main_arg1) : Vec Ideal S4x2048x13632 .f32) (ix3 a k b)) (Fin.ext ?_) (Fin.ext ?_)
  · show (40896 + (src (512 * (t.val % 12)) + f.val)) / 13632 = 3
    omega
  · show (40896 + (src (512 * (t.val % 12)) + f.val)) % 13632 = src (512 * (t.val % 12)) + f.val
    omega

theorem pay_at (v0 : Vec Ideal S2048x2048 .bf16) (v2 : Vec Ideal S512x2048 .f32) (r : Fin 2048) (f : Fin 512) :
    k0_pay1 (F := Ideal) v0 v2 (ix2 r f) = ∑ k : Fin 2048, v0 (ix2 r k) * v2 (ix2 f k) := by
  pointwise [k0_pay1]

theorem final (c : Dev nD) : (dats m 0 c).arrAt 2 cfg0.N = result m c := by
  refine (dats m 0 c).arrAt_eq_of_covers 2 _ (by decide +kernel) fun t hf y => ?_
  blk_simp
  rw [after0_2]
  revert y
  show ∀ y : S2048x512.Idx, (out0_2 (iblk m c 0 t) (iblk m c 1 t) : Vec Ideal S2048x512 .bf16) y = result m c ((win0_2.rect t).emb y)
  intro y
  obtain ⟨h0, h1⟩ := idx2 t
  idx_vars y
  unfold out0_2
  frame_out
  rw [pay_at]
  unfold result prod
  refine Finset.sum_congr rfl fun k _ => ?_
  rw [blk0, blk1]
  refine congrArg₂ (term (m ((c : Thread nD τ).loc main_arg0)) (m ((c : Thread nD τ).loc main_arg1)) k) (Fin.ext ?_) (Fin.ext ?_)
  · dsimp only
    rw [Pipeline.Window.rect_emb_val_off]
    show 2048 * (t.val / 12) + y0.val = win0_2.index t 0 * 2048 + y0.val
    omega
  · dsimp only
    rw [Pipeline.Window.rect_emb_val_off]
    show src (512 * (t.val % 12)) + y1.val = src (win0_2.index t 1 * 512 + y1.val)
    rw [h1]
    unfold src
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.GatesIdeal.Proj

namespace Cert.GatesRefIdeal.Proj

open Cert.GatesRefIdeal Cert.GatesRefIdeal.Gen Cert.GatesRefIdeal.Read Idealize.ShloMosaic Idealize.ShloMosaic.TcCoe Idealize.SL.Sem

theorem result_at (x0 : Vec Ideal S8192x2048 .f32) (x1 : Vec Ideal S4x2048x13632 .f32) (R : Fin 8192) (C : Fin 6144) :
    val_main_v4 (F := Ideal) x0 x1 (ix2 R C) = Cert.GatesIdeal.Proj.prod x0 x1 R C := by
  pointwise [val_main_v4, val_main_v3, val_main_v2, val_main_v1, val_main_v0]
  rfl

/-- The reference's run from agreeing arguments: its result array is the kernel's. -/
theorem run (m : (ℓ : Loc Cert.GatesIdeal.nD Cert.GatesIdeal.τ Cert.GatesIdeal.sig) → Buf (Elt Ideal) ℓ)
    (m' : (ℓ : Loc nD τ sig) → Buf (Elt Ideal) ℓ) (ρ : Dev nD → PrngReg)
    (hagree : ∀ c : Dev Cert.GatesIdeal.nD,
      m' ((c.tc : Thread nD τ).loc main_arg0) = m ((c.tc : Thread Cert.GatesIdeal.nD Cert.GatesIdeal.τ).loc Cert.GatesIdeal.main_arg0)
      ∧ m' ((c.tc : Thread nD τ).loc main_arg1) = m ((c.tc : Thread Cert.GatesIdeal.nD Cert.GatesIdeal.τ).loc Cert.GatesIdeal.main_arg1)) :
    θ_run defs (onTc (τ := τ) (main (F := Ideal))) ⟨m', fun _ => 0, ρ⟩ fun r => ∀ c : Dev nD,
      r.2.mem ((c.tc : Thread nD τ).loc main_v4) = Cert.GatesIdeal.Proj.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun _ h c => ⟨(h c).1.trans ?_, (h c).2⟩) (Cert.GatesRefIdeal.Value.run (F := Ideal) m' ρ)
  rw [Cert.GatesRefIdeal.Read.val_main_v4_eq, (hagree c).1, (hagree c).2]
  funext y
  rw [ValueIdx.eq_ix2 y]
  exact result_at _ _ (y 0) (y 1)

end Cert.GatesRefIdeal.Proj

end
-- ==== Proof.NormSpec.lean ====
module

public import Idealize.ShloMosaic.PureOps.Ideal
public import Idealize.ShloMosaic.Lib.Pointwise

/-! The root-mean-square norm, and the modulated residual and norm of a trunk layer, over the extended reals. -/

@[expose] public section

noncomputable section

namespace Norm

open Idealize.ShloMosaic

/-- The factor that divides a row by its root mean square; `len` is the float of the row's length. -/
def scale {n : ℕ} (len : BitVec 32) (y : Fin n → EReal) : EReal :=
  Ideal.rsqrt (Ideal.div (∑ x, y x * y x) (Ideal.ofBits FTy.f32 len) + Ideal.ofBits FTy.f32 897988541#32)

/-- The row of the modulation table that a token uses: row 0 for the context tokens, and one row per latent sequence. -/
def modRow (R : ℕ) : ℕ := if R < 4096 then 0 else 1 + (R - 4096) / 1024

theorem modRow_lt (R : ℕ) (h : R < 8192) : modRow R < 8 := by unfold modRow; split <;> omega

/-- The `k`-th modulation vector of token `R`. -/
def modAt (md : Fin 8 → Fin 12288 → EReal) (k : Fin 6) (R : Fin 8192) (d : Fin 2048) : EReal :=
  md ⟨modRow R.val, modRow_lt _ R.isLt⟩ ⟨2048 * k.val + d.val, by omega⟩

/-- The gated residual: a token plus its gated normed update. -/
def resid (x y : Fin 2048 → EReal) (gate g : Fin 2048 → EReal) (d : Fin 2048) : EReal :=
  x d + gate d * (y d * scale 1157627904#32 y * g d)

/-- The modulated norm. -/
def modNorm (x : Fin 2048 → EReal) (g sc sh : Fin 2048 → EReal) (d : Fin 2048) : EReal :=
  x d * scale 1157627904#32 x * g d * (1 + sc d) + sh d

end Norm

end
-- ==== Proof.Out.lean ====
module

public import proofs.«01_k».proof.Proof.NormSpec
public import proofs.«01_k».proof.Proof.Gen.OutIdeal.Value
public import proofs.«01_k».proof.Proof.Gen.OutRefIdeal.Run
public import proofs.«01_k».proof.Proof.Gen.OutRefIdeal.Read
public import Idealize.ShloMosaic.Lib.Pointwise
public import Idealize.ShloMosaic.Lib.StableHlo.RunRead
public import Idealize.ShloMosaic.Lib.Pipeline.ValueKit

/-! The last layer's second residual: blocks of 512 tokens, each with the modulation row of its tokens. -/

@[expose] public section

set_option maxRecDepth 16384

noncomputable section

namespace Cert.OutIdeal.Resid

open Cert.OutIdeal Cert.OutIdeal.Gen Idealize.ShloMosaic Idealize.ShloMosaic.TcCoe Idealize.SL.Sem

variable (m : (ℓ : Loc nD τ sig) → Buf (Elt Ideal) ℓ)

/-- The gated residual at a token and a channel, of the four arguments. -/
def out (x y : Vec Ideal S8192x2048 .f32) (md : Vec Ideal S8x12288 .f32) (g : Vec Ideal S4x2048 .f32) (R : Fin 8192) (d : Fin 2048) : EReal :=
  Norm.resid (fun k => x (ix2 R k)) (fun k => y (ix2 R k)) (Norm.modAt (fun a b => md (ix2 a b)) 5 R) (fun k => g (ix2 3 k)) d

/-- The result array. -/
def result (c : Dev nD) : Vec Ideal S8192x2048 .f32 := fun y =>
  out (m ((c : Thread nD τ).loc main_arg0)) (m ((c : Thread nD τ).loc main_arg1)) (m ((c : Thread nD τ).loc main_arg2))
    (m ((c : Thread nD τ).loc main_arg3)) ⟨(y 0).val, (y 0).isLt⟩ ⟨(y 1).val, (y 1).isLt⟩

theorem lt_N (t : Fin cfg0.N) : t.val < 16 := t.isLt

theorem idx0 : ∀ t : Fin cfg0.N, (win0_0.index t 0 = t.val ∧ win0_0.index t 1 = 0) :=
  (by decide +kernel : ∀ t : Fin grid0.N, _)
theorem idx1 : ∀ t : Fin cfg0.N, (win0_1.index t 0 = t.val ∧ win0_1.index t 1 = 0) :=
  (by decide +kernel : ∀ t : Fin grid0.N, _)
theorem idx2 : ∀ t : Fin cfg0.N, (win0_2.index t 0 = Norm.modRow (512 * t.val) ∧ win0_2.index t 1 = 5 ∧ win0_2.index t 2 = 0 ∧ win0_2.index t 3 = 0) :=
  (by decide +kernel : ∀ t : Fin grid0.N, _)
theorem idx3 : ∀ t : Fin cfg0.N, (win0_3.index t 0 = 0 ∧ win0_3.index t 1 = 0) :=
  (by decide +kernel : ∀ t : Fin grid0.N, _)
theorem idx4 : ∀ t : Fin cfg0.N, (win0_4.index t 0 = t.val ∧ win0_4.index t 1 = 0) :=
  (by decide +kernel : ∀ t : Fin grid0.N, _)

/-- The token of row `r` in the block of point `t`. -/
def row (t : Fin cfg0.N) (r : Fin 512) : Fin 8192 := ⟨512 * t.val + r.val, by have := lt_N t; omega⟩

theorem modRow_row (t : Fin cfg0.N) (r : Fin 512) : Norm.modRow (512 * t.val) = Norm.modRow (row t r).val := by
  have := lt_N t
  show _ = Norm.modRow (512 * t.val + r.val)
  unfold Norm.modRow
  split <;> split <;> omega

theorem blk0 (c : Dev nD) (t : Fin cfg0.N) (r : Fin 512) (k : Fin 2048) :
    (iblk m c 0 t : Vec Ideal S512x2048 .f32) (ix2 r k)
      = (m ((c : Thread nD τ).loc main_arg0) : Vec Ideal S8192x2048 .f32) (ix2 (row t r) k) := by
  obtain ⟨h0, h1⟩ := idx0 t
  show (V m c main_arg0 : Vec Ideal S8192x2048 .f32) ((win0_0.rect t).emb (ix2 r k)) = _
  rw [V_main_arg0]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 512 + r.val = 512 * t.val + r.val; omega
  | ⟨1, _⟩ => show win0_0.index t 1 * 2048 + k.val = k.val; omega

theorem blk1 (c : Dev nD) (t : Fin cfg0.N) (r : Fin 512) (k : Fin 2048) :
    (iblk m c 1 t : Vec Ideal S512x2048 .f32) (ix2 r k)
      = (m ((c : Thread nD τ).loc main_arg1) : Vec Ideal S8192x2048 .f32) (ix2 (row t r) k) := by
  obtain ⟨h0, h1⟩ := idx1 t
  show (V m c main_arg1 : Vec Ideal S8192x2048 .f32) ((win0_1.rect t).emb (ix2 r k)) = _
  rw [V_main_arg1]
  refine congrArg (m ((c : Thread nD τ).loc main_arg1) : Vec Ideal S8192x2048 .f32) ?_
  funext a
  apply Fin.ext
  rw [Pipeline.Window.rect_emb_val_off]
  match a with
  | ⟨0, _⟩ => show win0_1.index t 0 * 512 + r.val = 512 * t.val + r.val; omega
  | ⟨1, _⟩ => show win0_1.index t 1 * 2048 + k.val = k.val; omega

/-- The modulation table with its six vectors apart. -/
theorem table_at (x : Vec Ideal S8x12288 .f32) (a : Fin 8) (k : Fin 6) (d : Fin 2048) :
    (shapeCast S8x6x1x2048 x shapeCasts_S8x12288_S8x6x1x2048 : Vec Ideal S8x6x1x2048 .f32) (ix4 a k 0 d)
      = x (ix2 a ⟨2048 * k.val + d.val, by omega⟩) := by
  refine shapeCast_apply x shapeCasts_S8x12288_S8x6x1x2048 _ _ ?_
  rw [Shape.rowMajor_val_four, Shape.rowMajor_val_two]
  show a.val * 12288 + (2048 * k.val + d.val) = ((a.val * 6 + k.val) * 1 + 0) * 2048 + d.val
  omega

theorem blk2 (c : Dev nD) (t : Fin cfg0.N) (r : Fin 512) (d : Fin 2048) :
    (iblk m c 2 t : Vec Ideal S1x1x1x2048 .f32) (ix4 0 0 0 d)
      = Norm.modAt (fun a b => (m ((c : Thread nD τ).loc main_arg2) : Vec Ideal S8x12288 .f32) (ix2 a b)) 5 (row t r) d := by
  obtain ⟨h0, h1, h2, h3⟩ := idx2 t
  have hr := modRow_row t r
  have hl := Norm.modRow_lt _ (row t r).isLt
  have hv : @Eq (Vec Ideal S8x6x1x2048 .f32) (V m c main_v0)
      (shapeCast S8x6x1x2048 (m (c, Proc.tc.devRef main_arg2) : Vec Ideal S8x12288 .f32) shapeCasts_S8x12288_S8x6x1x2048) := by
    entry_read
    rfl
  have he : (win0_2.rect t).emb (ix4 0 0 0 d) = (ix4 ⟨Norm.modRow (row t r).val, hl⟩ 5 0 d : S8x6x1x2048.Idx) := by
    funext a
    apply Fin.ext
    rw [Pipeline.Window.rect_emb_val_off]
    match a with
    | ⟨0, _⟩ => show win0_2.index t 0 * 1 + 0 = Norm.modRow (row t r).val; omega
    | ⟨1, _⟩ => show win0_2.index t 1 * 1 + 0 = 5; omega
    | ⟨2, _⟩ => show win0_2.index t 2 * 1 + 0 = 0; omega
    | ⟨3, _⟩ => show win0_2.index t 3 * 2048 + d.val = d.val; omega
  show (V m c main_v0 : Vec Ideal S8x6x1x2048 .f32) ((win0_2.rect t).emb (ix4 0 0 0 d)) = _
  rw [hv, he, table_at]
  rfl

/-- The gain of the last layer, as the row the kernel reads. -/
theorem gain_at (x : Vec Ideal S4x2048 .f32) (d : Fin 2048) :
    (shapeCast S1x2048 (shapeCast S2048 (extractStridedSlice S1x2048 ![3, 0] x slices_S4x2048_S1x2048_3_0) shapeCasts_S1x2048_S2048)
      shapeCasts_S2048_S1x2048 : Vec Ideal S1x2048 .f32) (ix2 0 d) = x (ix2 3 d) := by
  pointwise []

theorem blk3 (c : Dev nD) (t : Fin cfg0.N) (d : Fin 2048) :
    (iblk m c 3 t : Vec Ideal S1x2048 .f32) (ix2 0 d)
      = (m ((c : Thread nD τ).loc main_arg3) : Vec Ideal S4x2048 .f32) (ix2 3 d) := by
  obtain ⟨h0, h1⟩ := idx3 t
  have hv : @Eq (Vec Ideal S1x2048 .f32) (V m c main_v3)
      (shapeCast S1x2048 (shapeCast S2048 (extractStridedSlice S1x2048 ![3, 0] (m (c, Proc.tc.devRef main_arg3) : Vec Ideal S4x2048 .f32)
        slices_S4x2048_S1x2048_3_0) shapeCasts_S1x2048_S2048) shapeCasts_S2048_S1x2048) := by
    entry_read
    rfl
  have he : (win0_3.rect t).emb (ix2 0 d) = (ix2 0 d : S1x2048.Idx) := by
    funext a
    apply Fin.ext
    rw [Pipeline.Window.rect_emb_val_off]
    match a with
    | ⟨0, _⟩ => show win0_3.index t 0 * 1 + 0 = 0; omega
    | ⟨1, _⟩ => show win0_3.index t 1 * 2048 + d.val = d.val; omega
  show (V m c main_v3 : Vec Ideal S1x2048 .f32) ((win0_3.rect t).emb (ix2 0 d)) = _
  rw [hv, he, gain_at]

theorem pay_at (v0 : Vec Ideal S512x2048 .f32) (v1 : Vec Ideal S1x1x1x2048 .f32) (v3 : Vec Ideal S512x2048 .f32) (v14 : Vec Ideal S1x2048 .f32)
    (r : Fin 512) (d : Fin 2048) : k0_pay1 (F := Ideal) v0 v1 v3 v14 (ix2 r d)
      = Norm.resid (fun k => v0 (ix2 r k)) (fun k => v3 (ix2 r k)) (fun k => v1 (ix4 0 0 0 k)) (fun k => v14 (ix2 0 k)) d := by
  pointwise [k0_pay1]
  rfl

theorem final (c : Dev nD) : (dats m 0 c).arrAt 4 cfg0.N = result m c := by
  refine (dats m 0 c).arrAt_eq_of_covers 4 _ (by decide +kernel) fun t hf y => ?_
  blk_simp
  rw [after0_4]
  revert y
  show ∀ y : S512x2048.Idx, (out0_4 (iblk m c 0 t) (iblk m c 1 t) (iblk m c 2 t) (iblk m c 3 t) : Vec Ideal S512x2048 .f32) y
    = result m c ((win0_4.rect t).emb y)
  intro y
  obtain ⟨h0, h1⟩ := idx4 t
  idx_vars y
  unfold out0_4
  frame_out
  rw [pay_at]
  have e0 : (fun k => (iblk m c 0 t : Vec Ideal S512x2048 .f32) (ix2 y0 k)) = _ := funext fun k => blk0 m c t y0 k
  have e1 : (fun k => (iblk m c 1 t : Vec Ideal S512x2048 .f32) (ix2 y0 k)) = _ := funext fun k => blk1 m c t y0 k
  have e2 : (fun k => (iblk m c 2 t : Vec Ideal S1x1x1x2048 .f32) (ix4 0 0 0 k)) = _ := funext fun k => blk2 m c t y0 k
  have e3 : (fun k => (iblk m c 3 t : Vec Ideal S1x2048 .f32) (ix2 0 k)) = _ := funext fun k => blk3 m c t k
  rw [e0, e1, e2, e3]
  refine congrArg₂ (out (m ((c : Thread nD τ).loc main_arg0)) (m ((c : Thread nD τ).loc main_arg1)) (m ((c : Thread nD τ).loc main_arg2))
    (m ((c : Thread nD τ).loc main_arg3))) (Fin.ext ?_) (Fin.ext ?_)
  · dsimp only
    rw [Pipeline.Window.rect_emb_val_off]
    show 512 * t.val + y0.val = win0_4.index t 0 * 512 + y0.val
    omega
  · dsimp only
    rw [Pipeline.Window.rect_emb_val_off]
    show y1.val = win0_4.index t 1 * 2048 + y1.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutIdeal.Resid

namespace Cert.OutRefIdeal.Resid

open Cert.OutRefIdeal Cert.OutRefIdeal.Gen Cert.OutRefIdeal.Read Idealize.ShloMosaic Idealize.ShloMosaic.TcCoe Idealize.SL.Sem

variable (x0 x1 : Vec Ideal S8192x2048 .f32) (x2 : Vec Ideal S8x12288 .f32) (x3 : Vec Ideal S4x2048 .f32)

theorem out_at (b : Fin 16) (n : Fin 256) (d : Fin 2048) : val_main_v35 (F := Ideal) x0 x1 x2 x3 (ix3 b n d)
    = Cert.OutIdeal.Resid.out x0 x1 x2 x3 ⟨b.val * 256 + n.val, by omega⟩ d := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v9, val_main_v8, val_main_v5, val_main_v4, val_main_v1, val_main_v0, val_main_cst, val_main_cst_0, val_main_cst_1]
  have hm : Norm.modRow (b.val * 256 + n.val) = 0 := by
    unfold Norm.modRow
    split <;> omega
  unfold Cert.OutIdeal.Resid.out Norm.resid Norm.modAt Norm.scale
  simp only [hm]
  rfl

theorem out_ats (b : Fin 4) (n : Fin 1024) (d : Fin 2048) : val_main_v59 (F := Ideal) x0 x1 x2 x3 (ix3 b n d)
    = Cert.OutIdeal.Resid.out x0 x1 x2 x3 ⟨4096 + (b.val * 1024 + n.val), by omega⟩ d := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v11, val_main_v10, val_main_v7, val_main_v6, val_main_v3, val_main_v2, val_main_cst_2, val_main_cst_3, val_main_cst_4]
  have hm : Norm.modRow (4096 + (b.val * 1024 + n.val)) = 1 + b.val := by
    unfold Norm.modRow
    split <;> omega
  unfold Cert.OutIdeal.Resid.out Norm.resid Norm.modAt Norm.scale
  simp only [hm]
  rfl

/-- The reference's result at an index. -/
theorem result_at (R : Fin 8192) (d : Fin 2048) :
    val_main_v62 (F := Ideal) x0 x1 x2 x3 (ix2 R d) = Cert.OutIdeal.Resid.out x0 x1 x2 x3 R d := by
  pointwise [val_main_v62, val_main_v61, val_main_v60]
  by_cases h : R.val < 4096
  · rw [dif_pos h, out_at]
    refine congrArg (fun q => Cert.OutIdeal.Resid.out x0 x1 x2 x3 q d) (Fin.ext ?_)
    show R.val / 256 * 256 + R.val % 256 = R.val
    omega
  · rw [dif_neg h, out_ats]
    refine congrArg (fun q => Cert.OutIdeal.Resid.out x0 x1 x2 x3 q d) (Fin.ext ?_)
    show 4096 + ((R.val - 4096) / 1024 * 1024 + (R.val - 4096) % 1024) = R.val
    omega

/-- The reference's run from agreeing arguments: its result array is the kernel's. -/
theorem run (m : (ℓ : Loc Cert.OutIdeal.nD Cert.OutIdeal.τ Cert.OutIdeal.sig) → Buf (Elt Ideal) ℓ)
    (m' : (ℓ : Loc nD τ sig) → Buf (Elt Ideal) ℓ) (ρ : Dev nD → PrngReg)
    (hagree : ∀ c : Dev Cert.OutIdeal.nD,
      m' ((c.tc : Thread nD τ).loc main_arg0) = m ((c.tc : Thread Cert.OutIdeal.nD Cert.OutIdeal.τ).loc Cert.OutIdeal.main_arg0)
      ∧ m' ((c.tc : Thread nD τ).loc main_arg1) = m ((c.tc : Thread Cert.OutIdeal.nD Cert.OutIdeal.τ).loc Cert.OutIdeal.main_arg1)
      ∧ m' ((c.tc : Thread nD τ).loc main_arg2) = m ((c.tc : Thread Cert.OutIdeal.nD Cert.OutIdeal.τ).loc Cert.OutIdeal.main_arg2)
      ∧ m' ((c.tc : Thread nD τ).loc main_arg3) = m ((c.tc : Thread Cert.OutIdeal.nD Cert.OutIdeal.τ).loc Cert.OutIdeal.main_arg3)) :
    θ_run defs (onTc (τ := τ) (main (F := Ideal))) ⟨m', fun _ => 0, ρ⟩ fun r => ∀ c : Dev nD,
      r.2.mem ((c.tc : Thread nD τ).loc main_v62) = Cert.OutIdeal.Resid.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) := by
  refine (θ_run defs _ _).mono (fun _ h c => ⟨(h c).1.trans ?_, (h c).2⟩) (Cert.OutRefIdeal.Value.run (F := Ideal) m' ρ)
  rw [Cert.OutRefIdeal.Read.val_main_v62_eq, (hagree c).1, (hagree c).2.1, (hagree c).2.2.1, (hagree c).2.2.2]
  funext y
  rw [ValueIdx.eq_ix2 y]
  exact result_at _ _ _ _ (y 0) (y 1)

end Cert.OutRefIdeal.Resid

end
-- ==== Proof.Kv.lean ====
module

public import proofs.«01_k».proof.Proof.NormSpec
public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import Idealize.ShloMosaic.Lib.StableHlo.RunRead
public import Idealize.ShloMosaic.Lib.Pipeline.ValueKit

/-! The latent attention's compressed keys and values: columns 5632 to 5887 of the input projection, normed, and their
    expansion by the last layer's weights; blocks of 512 tokens. -/

@[expose] public section

set_option maxRecDepth 16384

noncomputable section

namespace Cert.KvIdeal.Latent

open Cert.KvIdeal Cert.KvIdeal.Gen Idealize.ShloMosaic Idealize.ShloMosaic.TcCoe Idealize.SL.Sem

variable (m : (ℓ : Loc nD τ sig) → Buf (Elt Ideal) ℓ)

/-- The normed latent of a token. -/
def ckv (z : Vec Ideal S8192x7680 .f32) (g : Vec Ideal S4x256 .f32) (R : Fin 8192) (k : Fin 256) : EReal :=
  z (ix2 R ⟨5632 + k.val, by omega⟩) * Norm.scale 1132462080#32 (fun q : Fin 256 => z (ix2 R ⟨5632 + q.val, by omega⟩)) * g (ix2 3 k)

/-- Its expansion. -/
def kv (z : Vec Ideal S8192x7680 .f32) (g : Vec Ideal S4x256 .f32) (w : Vec Ideal S4x256x2048 .f32) (R : Fin 8192) (d : Fin 2048) : EReal :=
  ∑ k : Fin 256, ckv z g R k * w (ix3 3 k d)

/-- The first result array. -/
def result0 (c : Dev nD) : Vec Ideal S8192x256 .f32 := fun y =>
  ckv (m ((c : Thread nD τ).loc main_arg0)) (m ((c : Thread nD τ).loc main_arg1)) ⟨(y 0).val, (y 0).isLt⟩ ⟨(y 1).val, (y 1).isLt⟩

/-- The second result array. -/
def result1 (c : Dev nD) : Vec Ideal S8192x2048 .bf16 := fun y =>
  kv (m ((c : Thread nD τ).loc main_arg0)) (m ((c : Thread nD τ).loc main_arg1)) (m ((c : Thread nD τ).loc main_arg2))
    ⟨(y 0).val, (y 0).isLt⟩ ⟨(y 1).val, (y 1).isLt⟩

theorem lt_N (t : Fin cfg0.N) : t.val < 16 := t.isLt

theorem idx0 : ∀ t : Fin cfg0.N, (win0_0.index t 0 = t.val ∧ win0_0.index t 1 = 22) :=
  (by decide +kernel : ∀ t : Fin grid0.N, _)
theorem idx1 : ∀ t : Fin cfg0.N, (win0_1.index t 0 = 0 ∧ win0_1.index t 1 = 0) :=
  (by decide +kernel : ∀ t : Fin grid0.N, _)
theorem idx2 : ∀ t : Fin cfg0.N, (win0_2.index t 0 = 3 ∧ win0_2.index t 1 = 0 ∧ win0_2.index t 2 = 0) :=
  (by decide +kernel : ∀ t : Fin grid0.N, _)
theorem idx3 : ∀ t : Fin cfg0.N, (win0_3.index t 0 = t.val ∧ win0_3.index t 1 = 0) :=
  (by decide +kernel : ∀ t : Fin grid0.N, _)
theorem idx4 : ∀ t : Fin cfg0.N, (win0_4.index t 0 = t.val ∧ win0_4.index t 1 = 0) :=
  (by decide +kernel : ∀ t : Fin grid0.N, _)

/-- The token of row `r` in the block of point `t`. -/
def row (t : Fin cfg0.N) (r : Fin 512) : Fin 8192 := ⟨512 * t.val + r.val, by have := lt_N t; omega⟩

theorem blk0 (c : Dev nD) (t : Fin cfg0.N) (r : Fin 512) (k : Fin 256) :
    (iblk m c 0 t : Vec Ideal S512x256 .f32) (ix2 r k)
      = (m ((c : Thread nD τ).loc main_arg0) : Vec Ideal S8192x7680 .f32) (ix2 (row t r) ⟨5632 + k.val, by omega⟩) := by
  obtain ⟨h0, h1⟩ := idx0 t
  show (V m c main_arg0 : Vec Ideal S8192x7680 .f32) ((win0_0.rect t).emb (ix2 r k)) = _
  rw [V_main_arg0]
  refine congrArg (m ((c : Thread nD τ).loc main_arg0) : Vec Ideal S8192x7680 .f32) ?_
  funext a
  apply Fin.ext
  rw [Pipeline.Window.rect_emb_val_off]
  match a with
  | ⟨0, _⟩ => show win0_0.index t 0 * 512 + r.val = 512 * t.val + r.val; omega
  | ⟨1, _⟩ => show win0_0.index t 1 * 256 + k.val = 5632 + k.val; omega

/-- The gain of the last layer, as the row the kernel reads. -/
theorem gain_at (x : Vec Ideal S4x256 .f32) (d : Fin 256) :
    (shapeCast S1x256 (shapeCast S256 (extractStridedSlice S1x256 ![3, 0] x slices_S4x256_S1x256_3_0) shapeCasts_S1x256_S256)
      shapeCasts_S256_S1x256 : Vec Ideal S1x256 .f32) (ix2 0 d) = x (ix2 3 d) := by
  pointwise []

theorem blk1 (c : Dev nD) (t : Fin cfg0.N) (d : Fin 256) :
    (iblk m c 1 t : Vec Ideal S1x256 .f32) (ix2 0 d)
      = (m ((c : Thread nD τ).loc main_arg1) : Vec Ideal S4x256 .f32) (ix2 3 d) := by
  obtain ⟨h0, h1⟩ := idx1 t
  have hv : @Eq (Vec Ideal S1x256 .f32) (V m c main_v3)
      (shapeCast S1x256 (shapeCast S256 (extractStridedSlice S1x256 ![3, 0] (m (c, Proc.tc.devRef main_arg1) : Vec Ideal S4x256 .f32)
        slices_S4x256_S1x256_3_0) shapeCasts_S1x256_S256) shapeCasts_S256_S1x256) := by
    entry_read
    rfl
  have he : (win0_1.rect t).emb (ix2 0 d) = (ix2 0 d : S1x256.Idx) := by
    funext a
    apply Fin.ext
    rw [Pipeline.Window.rect_emb_val_off]
    match a with
    | ⟨0, _⟩ => show win0_1.index t 0 * 1 + 0 = 0; omega
    | ⟨1, _⟩ => show win0_1.index t 1 * 256 + d.val = d.val; omega
  show (V m c main_v3 : Vec Ideal S1x256 .f32) ((win0_1.rect t).emb (ix2 0 d)) = _
  rw [hv, he, gain_at]

theorem blk2 (c : Dev nD) (t : Fin cfg0.N) (k : Fin 256) (d : Fin 2048) :
    (iblk m c 2 t : Vec Ideal S1x256x2048 .bf16) (ix3 0 k d)
      = (m ((c : Thread nD τ).loc main_arg2) : Vec Ideal S4x256x2048 .f32) (ix3 3 k d) := by
  obtain ⟨h0, h1, h2⟩ := idx2 t
  have hv : @Eq (FVec Ideal S4x256x2048 .bf16) (V m c main_v2)
      (truncf .bf16 (m (c, Proc.tc.devRef main_arg2) : FVec Ideal S4x256x2048 .f32) bitsLt_bf16_f32) := by
    entry_read
    rfl
  show (V m c main_v2 : Vec Ideal S4x256x2048 .bf16) ((win0_2.rect t).emb (ix3 0 k d)) = _
  rw [hv]
  refine congrArg (m ((c : Thread nD τ).loc main_arg2) : Vec Ideal S4x256x2048 .f32) ?_
  funext a
  apply Fin.ext
  rw [Pipeline.Window.rect_emb_val_off]
  match a with
  | ⟨0, _⟩ => show win0_2.index t 0 * 1 + 0 = 3; omega
  | ⟨1, _⟩ => show win0_2.index t 1 * 256 + k.val = k.val; omega
  | ⟨2, _⟩ => show win0_2.index t 2 * 2048 + d.val = d.val; omega

theorem pay1_at (v0 : Vec Ideal S512x256 .f32) (v11 : Vec Ideal S1x256 .f32) (r : Fin 512) (k : Fin 256) :
    k0_pay1 (F := Ideal) v0 v11 (ix2 r k) = v0 (ix2 r k) * Norm.scale 1132462080#32 (fun q => v0 (ix2 r q)) * v11 (ix2 0 k) := by
  pointwise [k0_pay1]
  rfl

theorem pay2_at (v0 : Vec Ideal S512x256 .f32) (v11 : Vec Ideal S1x256 .f32) (v17 : Vec Ideal S1x256x2048 .bf16) (r : Fin 512) (d : Fin 2048) :
    k0_pay2 (F := Ideal) v0 v11 v17 (ix2 r d) = ∑ k : Fin 256, k0_pay1 (F := Ideal) v0 v11 (ix2 r k) * v17 (ix3 0 k d) := by
  pointwise [k0_pay2]

theorem pay1_blk (c : Dev nD) (t : Fin cfg0.N) (r : Fin 512) (k : Fin 256) :
    k0_pay1 (F := Ideal) (iblk m c 0 t) (iblk m c 1 t) (ix2 r k)
      = ckv (m ((c : Thread nD τ).loc main_arg0)) (m ((c : Thread nD τ).loc main_arg1)) (row t r) k := by
  rw [pay1_at]
  have e0 : (fun q => (iblk m c 0 t : Vec Ideal S512x256 .f32) (ix2 r q)) = _ := funext fun q => blk0 m c t r q
  rw [e0, blk0, blk1]
  rfl

theorem final0 (c : Dev nD) : (dats m 0 c).arrAt 3 cfg0.N = result0 m c := by
  refine (dats m 0 c).arrAt_eq_of_covers 3 _ (by decide +kernel) fun t hf y => ?_
  blk_simp
  rw [after0_3]
  revert y
  show ∀ y : S512x256.Idx, (out0_3 (iblk m c 0 t) (iblk m c 1 t) (iblk m c 2 t) : Vec Ideal S512x256 .f32) y
    = result0 m c ((win0_3.rect t).emb y)
  intro y
  obtain ⟨h0, h1⟩ := idx3 t
  idx_vars y
  unfold out0_3
  frame_out
  rw [pay1_blk]
  refine congrArg₂ (ckv (m ((c : Thread nD τ).loc main_arg0)) (m ((c : Thread nD τ).loc main_arg1))) (Fin.ext ?_) (Fin.ext ?_)
  · dsimp only
    rw [Pipeline.Window.rect_emb_val_off]
    show 512 * t.val + y0.val = win0_3.index t 0 * 512 + y0.val
    omega
  · dsimp only
    rw [Pipeline.Window.rect_emb_val_off]
    show y1.val = win0_3.index t 1 * 256 + y1.val
    omega

theorem final1 (c : Dev nD) : (dats m 0 c).arrAt 4 cfg0.N = result1 m c := by
  refine (dats m 0 c).arrAt_eq_of_covers 4 _ (by decide +kernel) fun t hf y => ?_
  blk_simp
  rw [after0_4]
  revert y
  show ∀ y : S512x2048.Idx, (out0_4 (iblk m c 0 t) (iblk m c 1 t) (iblk m c 2 t) : Vec Ideal S512x2048 .bf16) y
    = result1 m c ((win0_4.rect t).emb y)
  intro y
  obtain ⟨h0, h1⟩ := idx4 t
  idx_vars y
  unfold out0_4
  frame_out
  rw [pay2_at]
  have e : ∑ k : Fin 256, k0_pay1 (F := Ideal) (iblk m c 0 t) (iblk m c 1 t) (ix2 y0 k) * (iblk m c 2 t : Vec Ideal S1x256x2048 .bf16) (ix3 0 k y1)
      = kv (m ((c : Thread nD τ).loc main_arg0)) (m ((c : Thread nD τ).loc main_arg1)) (m ((c : Thread nD τ).loc main_arg2)) (row t y0) y1 :=
    Finset.sum_congr rfl fun k _ => by rw [pay1_blk, blk2]
  rw [e]
  refine congrArg₂ (kv (m ((c : Thread nD τ).loc main_arg0)) (m ((c : Thread nD τ).loc main_arg1)) (m ((c : Thread nD τ).loc main_arg2)))
    (Fin.ext ?_) (Fin.ext ?_)
  · dsimp only
    rw [Pipeline.Window.rect_emb_val_off]
    show 512 * t.val + y0.val = win0_4.index t 0 * 512 + y0.val
    omega
  · dsimp only
    rw [Pipeline.Window.rect_emb_val_off]
    show y1.val = win0_4.index t 1 * 2048 + y1.val
    omega

/-- The kernel's run: the result arrays, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4_0) = result0 m c
      ∧ r.2.mem ((c : Thread nD τ).loc main_v4_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final0 m c), (h c).2.1.trans (final1 m c), (h c).2.2⟩) (Value.run_blocks m ρ)

end Cert.KvIdeal.Latent

namespace Cert.KvRefIdeal.Latent

open Cert.KvRefIdeal Cert.KvRefIdeal.Gen Cert.KvRefIdeal.Read Idealize.ShloMosaic Idealize.ShloMosaic.TcCoe Idealize.SL.Sem

variable (x0 : Vec Ideal S8192x7680 .f32) (x1 : Vec Ideal S4x256 .f32) (x2 : Vec Ideal S4x256x2048 .f32)

theorem result0_at (R : Fin 8192) (k : Fin 256) : val_main_v15 (F := Ideal) x0 x1 (ix2 R k) = Cert.KvIdeal.Latent.ckv x0 x1 R k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem result1_at (R : Fin 8192) (d : Fin 2048) : val_main_v19 (F := Ideal) x0 x1 x2 (ix2 R d) = Cert.KvIdeal.Latent.kv x0 x1 x2 R d := by
  pointwise [val_main_v19, val_main_v18, val_main_v17, val_main_v16]
  exact Finset.sum_congr rfl fun k _ => congrArg (· * x2 (ix3 3 k d)) (result0_at x0 x1 R k)

/-- The reference's run from agreeing arguments: its result arrays are the kernel's. -/
theorem run (m : (ℓ : Loc Cert.KvIdeal.nD Cert.KvIdeal.τ Cert.KvIdeal.sig) → Buf (Elt Ideal) ℓ)
    (m' : (ℓ : Loc nD τ sig) → Buf (Elt Ideal) ℓ) (ρ : Dev nD → PrngReg)
    (hagree : ∀ c : Dev Cert.KvIdeal.nD,
      m' ((c.tc : Thread nD τ).loc main_arg0) = m ((c.tc : Thread Cert.KvIdeal.nD Cert.KvIdeal.τ).loc Cert.KvIdeal.main_arg0)
      ∧ m' ((c.tc : Thread nD τ).loc main_arg1) = m ((c.tc : Thread Cert.KvIdeal.nD Cert.KvIdeal.τ).loc Cert.KvIdeal.main_arg1)
      ∧ m' ((c.tc : Thread nD τ).loc main_arg2) = m ((c.tc : Thread Cert.KvIdeal.nD Cert.KvIdeal.τ).loc Cert.KvIdeal.main_arg2)) :
    θ_run defs (onTc (τ := τ) (main (F := Ideal))) ⟨m', fun _ => 0, ρ⟩ fun r => ∀ c : Dev nD,
      r.2.mem ((c.tc : Thread nD τ).loc main_v15) = Cert.KvIdeal.Latent.result0 m c
      ∧ r.2.mem ((c.tc : Thread nD τ).loc main_v19) = Cert.KvIdeal.Latent.result1 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun _ h c => ⟨(h c).1.trans ?_, (h c).2.1.trans ?_, (h c).2.2⟩) (Cert.KvRefIdeal.Value.run (F := Ideal) m' ρ)
  · rw [Cert.KvRefIdeal.Read.val_main_v15_eq, (hagree c).1, (hagree c).2.1]
    funext y
    rw [ValueIdx.eq_ix2 y]
    exact result0_at _ _ (y 0) (y 1)
  · rw [Cert.KvRefIdeal.Read.val_main_v19_eq, (hagree c).1, (hagree c).2.1, (hagree c).2.2]
    funext y
    rw [ValueIdx.eq_ix2 y]
    exact result1_at _ _ _ (y 0) (y 1)

end Cert.KvRefIdeal.Latent

end
-- ==== Proof.MergeSpec.lean ====
module

public import proofs.«01_k».proof.Proof.NormSpec

/-! The mathematics of the gated merge of three mixers, the output projection, the first residual and the second
    pre-norm of a trunk layer, over functions of coordinates. -/

@[expose] public section

noncomputable section

namespace Merge

open Idealize.ShloMosaic

/-- The twelve arguments by coordinates, the stacked ones at the last layer. -/
structure Args where
  oa : Fin 8192 → Fin 1024 → EReal
  ob : Fin 8192 → Fin 1024 → EReal
  oc : Fin 8192 → Fin 1024 → EReal
  zg : Fin 8192 → Fin 6144 → EReal
  x : Fin 8192 → Fin 2048 → EReal
  md : Fin 8 → Fin 12288 → EReal
  wa : Fin 1024 → Fin 2048 → EReal
  wb : Fin 1024 → Fin 2048 → EReal
  wc : Fin 1024 → Fin 2048 → EReal
  wo : Fin 2048 → Fin 2048 → EReal
  gpost : Fin 2048 → EReal
  gpre : Fin 2048 → EReal

/-- A branch: its projection under its gate. -/
def branch (g : EReal) (o : Fin 1024 → EReal) (w : Fin 1024 → EReal) : EReal := Ideal.logistic g * ∑ k : Fin 1024, o k * w k

/-- The sum of three gated branches at one column. -/
def three (ga gb gc : EReal) (oa ob oc wa wb wc : Fin 1024 → EReal) : EReal := branch ga oa wa + branch gb ob wb + branch gc oc wc

/-- The gated branches of a token. -/
def merged (a : Args) (R : Fin 8192) (f : Fin 2048) : EReal :=
  three (a.zg R ⟨f.val, by omega⟩) (a.zg R ⟨2048 + f.val, by omega⟩) (a.zg R ⟨4096 + f.val, by omega⟩)
    (a.oa R) (a.ob R) (a.oc R) (fun k => a.wa k f) (fun k => a.wb k f) (fun k => a.wc k f)

/-- The output projection. -/
def proj (a : Args) (R : Fin 8192) (d : Fin 2048) : EReal := ∑ f : Fin 2048, merged a R f * a.wo f d

/-- The residual. -/
def xnew (a : Args) (R : Fin 8192) (d : Fin 2048) : EReal := Norm.resid (a.x R) (proj a R) (Norm.modAt a.md 2 R) a.gpost d

/-- The modulated norm of the residual. -/
def hnew (a : Args) (R : Fin 8192) (d : Fin 2048) : EReal :=
  Norm.modNorm (xnew a R) a.gpre (Norm.modAt a.md 4 R) (Norm.modAt a.md 3 R) d

/-- A sum over 2048 columns by four tiles of 512. -/
theorem sum_four (f : Fin 2048 → EReal) : ∑ s : Fin 4, ∑ k : Fin 512, f ⟨512 * s.val + k.val, by omega⟩ = ∑ q : Fin 2048, f q := by
  rw [← Fintype.sum_prod_type' (f := fun (s : Fin 4) (k : Fin 512) => f ⟨512 * s.val + k.val, by omega⟩)]
  refine Fintype.sum_equiv (finProdFinEquiv (m := 4) (n := 512)) _ _ fun p => congrArg f (Fin.ext ?_)
  show 512 * p.1.val + p.2.val = p.2.val + 512 * p.1.val
  omega

end Merge

end
-- ==== Proof.MergeBlocks.lean ====
module

public import proofs.«01_k».proof.Proof.MergeSpec
public import proofs.«01_k».proof.Proof.Gen.MergeIdeal.Frame
public import Idealize.ShloMosaic.Lib.Pointwise
public import Idealize.ShloMosaic.Lib.StableHlo.RunRead
public import Idealize.ShloMosaic.Lib.Pipeline.ValueKit

/-! The gated merge: the blocks that a grid point reads, in terms of the program's arguments. -/

@[expose] public section

set_option maxRecDepth 16384

noncomputable section

namespace Cert.MergeIdeal.Blocks

open Cert.MergeIdeal Cert.MergeIdeal.Gen Idealize.ShloMosaic Idealize.ShloMosaic.TcCoe Idealize.SL.Sem

/-- Twelve arrays as the specification's arguments. -/
def argsOf (x0 x1 x2 : Vec Ideal S8192x1024 .f32) (x3 : Vec Ideal S8192x6144 .f32) (x4 : Vec Ideal S8192x2048 .f32) (x5 : Vec Ideal S8x12288 .f32)
    (x6 x7 x8 : Vec Ideal S4x1024x2048 .f32) (x9 : Vec Ideal S4x2048x2048 .f32) (x10 x11 : Vec Ideal S4x2048 .f32) : Merge.Args where
  oa := fun R k => x0 (ix2 R k)
  ob := fun R k => x1 (ix2 R k)
  oc := fun R k => x2 (ix2 R k)
  zg := fun R k => x3 (ix2 R k)
  x := fun R k => x4 (ix2 R k)
  md := fun a b => x5 (ix2 a b)
  wa := fun k d => x6 (ix3 3 k d)
  wb := fun k d => x7 (ix3 3 k d)
  wc := fun k d => x8 (ix3 3 k d)
  wo := fun k d => x9 (ix3 3 k d)
  gpost := fun d => x10 (ix2 3 d)
  gpre := fun d => x11 (ix2 3 d)

variable (m : (ℓ : Loc nD τ sig) → Buf (Elt Ideal) ℓ)

/-- The program's arguments. -/
def args (c : Dev nD) : Merge.Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem lt_N (t : Fin cfg0.N) : t.val < 64 := t.isLt

/-- The token of row `r` in the block of point `t`. -/
def row (t : Fin cfg0.N) (r : Fin 512) : Fin 8192 := ⟨512 * (t.val / 4) + r.val, by have := lt_N t; omega⟩

/-- The channel of column `f` in the tile of point `t`. -/
def col (t : Fin cfg0.N) (f : Fin 512) : Fin 2048 := ⟨512 * (t.val % 4) + f.val, by omega⟩

theorem modRow_row (t : Fin cfg0.N) (r : Fin 512) : Norm.modRow (512 * (t.val / 4)) = Norm.modRow (row t r).val := by
  have := lt_N t
  show _ = Norm.modRow (512 * (t.val / 4) + r.val)
  unfold Norm.modRow
  split <;> split <;> omega

theorem idx0 : ∀ t : Fin cfg0.N, (win0_0.index t 0 = t.val / 4 ∧ win0_0.index t 1 = 0) :=
  (by decide +kernel : ∀ t : Fin grid0.N, _)
theorem idx1 : ∀ t : Fin cfg0.N, (win0_1.index t 0 = t.val / 4 ∧ win0_1.index t 1 = 0) :=
  (by decide +kernel : ∀ t : Fin grid0.N, _)
theorem idx2 : ∀ t : Fin cfg0.N, (win0_2.index t 0 = t.val / 4 ∧ win0_2.index t 1 = 0) :=
  (by decide +kernel : ∀ t : Fin grid0.N, _)
theorem idx3 : ∀ t : Fin cfg0.N, (win0_3.index t 0 = 3 ∧ win0_3.index t 1 = 0 ∧ win0_3.index t 2 = t.val % 4) :=
  (by decide +kernel : ∀ t : Fin grid0.N, _)
theorem idx4 : ∀ t : Fin cfg0.N, (win0_4.index t 0 = 3 ∧ win0_4.index t 1 = 0 ∧ win0_4.index t 2 = t.val % 4) :=
  (by decide +kernel : ∀ t : Fin grid0.N, _)
theorem idx5 : ∀ t : Fin cfg0.N, (win0_5.index t 0 = 3 ∧ win0_5.index t 1 = 0 ∧ win0_5.index t 2 = t.val % 4) :=
  (by decide +kernel : ∀ t : Fin grid0.N, _)
theorem idx6 : ∀ t : Fin cfg0.N, (win0_6.index t 0 = t.val / 4 ∧ win0_6.index t 1 = t.val % 4) :=
  (by decide +kernel : ∀ t : Fin grid0.N, _)
theorem idx7 : ∀ t : Fin cfg0.N, (win0_7.index t 0 = t.val / 4 ∧ win0_7.index t 1 = 4 + t.val % 4) :=
  (by decide +kernel : ∀ t : Fin grid0.N, _)
theorem idx8 : ∀ t : Fin cfg0.N, (win0_8.index t 0 = t.val / 4 ∧ win0_8.index t 1 = 8 + t.val % 4) :=
  (by decide +kernel : ∀ t : Fin grid0.N, _)
theorem idx9 : ∀ t : Fin cfg0.N, (win0_9.index t 0 = 3 ∧ win0_9.index t 1 = t.val % 4 ∧ win0_9.index t 2 = 0) :=
  (by decide +kernel : ∀ t : Fin grid0.N, _)
theorem idx10 : ∀ t : Fin cfg0.N, (win0_10.index t 0 = t.val / 4 ∧ win0_10.index t 1 = 0) :=
  (by decide +kernel : ∀ t : Fin grid0.N, _)
theorem idx11 : ∀ t : Fin cfg0.N, (win0_11.index t 0 = Norm.modRow (512 * (t.val / 4)) ∧ win0_11.index t 1 = 2 ∧ win0_11.index t 2 = 0 ∧ win0_11.index t 3 = 0) :=
  (by decide +kernel : ∀ t : Fin grid0.N, _)
theorem idx14 : ∀ t : Fin cfg0.N, (win0_14.index t 0 = Norm.modRow (512 * (t.val / 4)) ∧ win0_14.index t 1 = 4 ∧ win0_14.index t 2 = 0 ∧ win0_14.index t 3 = 0) :=
  (by decide +kernel : ∀ t : Fin grid0.N, _)
theorem idx15 : ∀ t : Fin cfg0.N, (win0_15.index t 0 = Norm.modRow (512 * (t.val / 4)) ∧ win0_15.index t 1 = 3 ∧ win0_15.index t 2 = 0 ∧ win0_15.index t 3 = 0) :=
  (by decide +kernel : ∀ t : Fin grid0.N, _)
theorem idx12 : ∀ t : Fin cfg0.N, (win0_12.index t 0 = 0 ∧ win0_12.index t 1 = 0) :=
  (by decide +kernel : ∀ t : Fin grid0.N, _)
theorem idx13 : ∀ t : Fin cfg0.N, (win0_13.index t 0 = 0 ∧ win0_13.index t 1 = 0) :=
  (by decide +kernel : ∀ t : Fin grid0.N, _)
theorem idx16 : ∀ t : Fin cfg0.N, (win0_16.index t 0 = t.val / 4 ∧ win0_16.index t 1 = 0) :=
  (by decide +kernel : ∀ t : Fin grid0.N, _)
theorem idx17 : ∀ t : Fin cfg0.N, (win0_17.index t 0 = t.val / 4 ∧ win0_17.index t 1 = 0) :=
  (by decide +kernel : ∀ t : Fin grid0.N, _)

theorem blk0 (c : Dev nD) (t : Fin cfg0.N) (r : Fin 512) (k : Fin 1024) :
    (iblk m c 0 t : Vec Ideal S512x1024 .bf16) (ix2 r k) = (args m c).oa (row t r) k := by
  obtain ⟨h0, h1⟩ := idx0 t
  have hv : @Eq (FVec Ideal S8192x1024 .bf16) (V m c main_v1)
      (truncf .bf16 (m (c, Proc.tc.devRef main_arg0) : FVec Ideal S8192x1024 .f32) bitsLt_bf16_f32) := by
    entry_read
    rfl
  show (V m c main_v1 : Vec Ideal S8192x1024 .bf16) ((win0_0.rect t).emb (ix2 r k)) = _
  rw [hv]
  refine congrArg (m ((c : Thread nD τ).loc main_arg0) : Vec Ideal S8192x1024 .f32) ?_
  funext a
  apply Fin.ext
  rw [Pipeline.Window.rect_emb_val_off]
  match a with
  | ⟨0, _⟩ => show win0_0.index t 0 * 512 + r.val = 512 * (t.val / 4) + r.val; omega
  | ⟨1, _⟩ => show win0_0.index t 1 * 1024 + k.val = k.val; omega

theorem blk1 (c : Dev nD) (t : Fin cfg0.N) (r : Fin 512) (k : Fin 1024) :
    (iblk m c 1 t : Vec Ideal S512x1024 .bf16) (ix2 r k) = (args m c).ob (row t r) k := by
  obtain ⟨h0, h1⟩ := idx1 t
  have hv : @Eq (FVec Ideal S8192x1024 .bf16) (V m c main_v2)
      (truncf .bf16 (m (c, Proc.tc.devRef main_arg1) : FVec Ideal S8192x1024 .f32) bitsLt_bf16_f32) := by
    entry_read
    rfl
  show (V m c main_v2 : Vec Ideal S8192x1024 .bf16) ((win0_1.rect t).emb (ix2 r k)) = _
  rw [hv]
  refine congrArg (m ((c : Thread nD τ).loc main_arg1) : Vec Ideal S8192x1024 .f32) ?_
  funext a
  apply Fin.ext
  rw [Pipeline.Window.rect_emb_val_off]
  match a with
  | ⟨0, _⟩ => show win0_1.index t 0 * 512 + r.val = 512 * (t.val / 4) + r.val; omega
  | ⟨1, _⟩ => show win0_1.index t 1 * 1024 + k.val = k.val; omega

theorem blk2 (c : Dev nD) (t : Fin cfg0.N) (r : Fin 512) (k : Fin 1024) :
    (iblk m c 2 t : Vec Ideal S512x1024 .bf16) (ix2 r k) = (args m c).oc (row t r) k := by
  obtain ⟨h0, h1⟩ := idx2 t
  have hv : @Eq (FVec Ideal S8192x1024 .bf16) (V m c main_v3)
      (truncf .bf16 (m (c, Proc.tc.devRef main_arg2) : FVec Ideal S8192x1024 .f32) bitsLt_bf16_f32) := by
    entry_read
    rfl
  show (V m c main_v3 : Vec Ideal S8192x1024 .bf16) ((win0_2.rect t).emb (ix2 r k)) = _
  rw [hv]
  refine congrArg (m ((c : Thread nD τ).loc main_arg2) : Vec Ideal S8192x1024 .f32) ?_
  funext a
  apply Fin.ext
  rw [Pipeline.Window.rect_emb_val_off]
  match a with
  | ⟨0, _⟩ => show win0_2.index t 0 * 512 + r.val = 512 * (t.val / 4) + r.val; omega
  | ⟨1, _⟩ => show win0_2.index t 1 * 1024 + k.val = k.val; omega

theorem blk3 (c : Dev nD) (t : Fin cfg0.N) (k : Fin 1024) (f : Fin 512) :
    (iblk m c 3 t : Vec Ideal S1x1024x512 .bf16) (ix3 0 k f) = (args m c).wa k (col t f) := by
  obtain ⟨h0, h1, h2⟩ := idx3 t
  have hv : @Eq (FVec Ideal S4x1024x2048 .bf16) (V m c main_v4)
      (truncf .bf16 (m (c, Proc.tc.devRef main_arg6) : FVec Ideal S4x1024x2048 .f32) bitsLt_bf16_f32) := by
    entry_read
    rfl
  show (V m c main_v4 : Vec Ideal S4x1024x2048 .bf16) ((win0_3.rect t).emb (ix3 0 k f)) = _
  rw [hv]
  refine congrArg (m ((c : Thread nD τ).loc main_arg6) : Vec Ideal S4x1024x2048 .f32) ?_
  funext a
  apply Fin.ext
  rw [Pipeline.Window.rect_emb_val_off]
  match a with
  | ⟨0, _⟩ => show win0_3.index t 0 * 1 + 0 = 3; omega
  | ⟨1, _⟩ => show win0_3.index t 1 * 1024 + k.val = k.val; omega
  | ⟨2, _⟩ => show win0_3.index t 2 * 512 + f.val = 512 * (t.val % 4) + f.val; omega

theorem blk4 (c : Dev nD) (t : Fin cfg0.N) (k : Fin 1024) (f : Fin 512) :
    (iblk m c 4 t : Vec Ideal S1x1024x512 .bf16) (ix3 0 k f) = (args m c).wb k (col t f) := by
  obtain ⟨h0, h1, h2⟩ := idx4 t
  have hv : @Eq (FVec Ideal S4x1024x2048 .bf16) (V m c main_v5)
      (truncf .bf16 (m (c, Proc.tc.devRef main_arg7) : FVec Ideal S4x1024x2048 .f32) bitsLt_bf16_f32) := by
    entry_read
    rfl
  show (V m c main_v5 : Vec Ideal S4x1024x2048 .bf16) ((win0_4.rect t).emb (ix3 0 k f)) = _
  rw [hv]
  refine congrArg (m ((c : Thread nD τ).loc main_arg7) : Vec Ideal S4x1024x2048 .f32) ?_
  funext a
  apply Fin.ext
  rw [Pipeline.Window.rect_emb_val_off]
  match a with
  | ⟨0, _⟩ => show win0_4.index t 0 * 1 + 0 = 3; omega
  | ⟨1, _⟩ => show win0_4.index t 1 * 1024 + k.val = k.val; omega
  | ⟨2, _⟩ => show win0_4.index t 2 * 512 + f.val = 512 * (t.val % 4) + f.val; omega

theorem blk5 (c : Dev nD) (t : Fin cfg0.N) (k : Fin 1024) (f : Fin 512) :
    (iblk m c 5 t : Vec Ideal S1x1024x512 .bf16) (ix3 0 k f) = (args m c).wc k (col t f) := by
  obtain ⟨h0, h1, h2⟩ := idx5 t
  have hv : @Eq (FVec Ideal S4x1024x2048 .bf16) (V m c main_v6)
      (truncf .bf16 (m (c, Proc.tc.devRef main_arg8) : FVec Ideal S4x1024x2048 .f32) bitsLt_bf16_f32) := by
    entry_read
    rfl
  show (V m c main_v6 : Vec Ideal S4x1024x2048 .bf16) ((win0_5.rect t).emb (ix3 0 k f)) = _
  rw [hv]
  refine congrArg (m ((c : Thread nD τ).loc main_arg8) : Vec Ideal S4x1024x2048 .f32) ?_
  funext a
  apply Fin.ext
  rw [Pipeline.Window.rect_emb_val_off]
  match a with
  | ⟨0, _⟩ => show win0_5.index t 0 * 1 + 0 = 3; omega
  | ⟨1, _⟩ => show win0_5.index t 1 * 1024 + k.val = k.val; omega
  | ⟨2, _⟩ => show win0_5.index t 2 * 512 + f.val = 512 * (t.val % 4) + f.val; omega

theorem blk6 (c : Dev nD) (t : Fin cfg0.N) (r f : Fin 512) :
    (iblk m c 6 t : Vec Ideal S512x512 .bf16) (ix2 r f) = (args m c).zg (row t r) ⟨(col t f).val, by omega⟩ := by
  obtain ⟨h0, h1⟩ := idx6 t
  have hv : @Eq (FVec Ideal S8192x6144 .bf16) (V m c main_v7)
      (truncf .bf16 (m (c, Proc.tc.devRef main_arg3) : FVec Ideal S8192x6144 .f32) bitsLt_bf16_f32) := by
    entry_read
    rfl
  show (V m c main_v7 : Vec Ideal S8192x6144 .bf16) ((win0_6.rect t).emb (ix2 r f)) = _
  rw [hv]
  refine congrArg (m ((c : Thread nD τ).loc main_arg3) : Vec Ideal S8192x6144 .f32) ?_
  funext a
  apply Fin.ext
  rw [Pipeline.Window.rect_emb_val_off]
  match a with
  | ⟨0, _⟩ => show win0_6.index t 0 * 512 + r.val = 512 * (t.val / 4) + r.val; omega
  | ⟨1, _⟩ => show win0_6.index t 1 * 512 + f.val = (512 * (t.val % 4) + f.val); omega

theorem blk7 (c : Dev nD) (t : Fin cfg0.N) (r f : Fin 512) :
    (iblk m c 7 t : Vec Ideal S512x512 .bf16) (ix2 r f) = (args m c).zg (row t r) ⟨2048 + (col t f).val, by omega⟩ := by
  obtain ⟨h0, h1⟩ := idx7 t
  have hv : @Eq (FVec Ideal S8192x6144 .bf16) (V m c main_v7)
      (truncf .bf16 (m (c, Proc.tc.devRef main_arg3) : FVec Ideal S8192x6144 .f32) bitsLt_bf16_f32) := by
    entry_read
    rfl
  show (V m c main_v7 : Vec Ideal S8192x6144 .bf16) ((win0_7.rect t).emb (ix2 r f)) = _
  rw [hv]
  refine congrArg (m ((c : Thread nD τ).loc main_arg3) : Vec Ideal S8192x6144 .f32) ?_
  funext a
  apply Fin.ext
  rw [Pipeline.Window.rect_emb_val_off]
  match a with
  | ⟨0, _⟩ => show win0_7.index t 0 * 512 + r.val = 512 * (t.val / 4) + r.val; omega
  | ⟨1, _⟩ => show win0_7.index t 1 * 512 + f.val = 2048 + (512 * (t.val % 4) + f.val); omega

theorem blk8 (c : Dev nD) (t : Fin cfg0.N) (r f : Fin 512) :
    (iblk m c 8 t : Vec Ideal S512x512 .bf16) (ix2 r f) = (args m c).zg (row t r) ⟨4096 + (col t f).val, by omega⟩ := by
  obtain ⟨h0, h1⟩ := idx8 t
  have hv : @Eq (FVec Ideal S8192x6144 .bf16) (V m c main_v7)
      (truncf .bf16 (m (c, Proc.tc.devRef main_arg3) : FVec Ideal S8192x6144 .f32) bitsLt_bf16_f32) := by
    entry_read
    rfl
  show (V m c main_v7 : Vec Ideal S8192x6144 .bf16) ((win0_8.rect t).emb (ix2 r f)) = _
  rw [hv]
  refine congrArg (m ((c : Thread nD τ).loc main_arg3) : Vec Ideal S8192x6144 .f32) ?_
  funext a
  apply Fin.ext
  rw [Pipeline.Window.rect_emb_val_off]
  match a with
  | ⟨0, _⟩ => show win0_8.index t 0 * 512 + r.val = 512 * (t.val / 4) + r.val; omega
  | ⟨1, _⟩ => show win0_8.index t 1 * 512 + f.val = 4096 + (512 * (t.val % 4) + f.val); omega

theorem blk9 (c : Dev nD) (t : Fin cfg0.N) (f : Fin 512) (d : Fin 2048) :
    (iblk m c 9 t : Vec Ideal S1x512x2048 .bf16) (ix3 0 f d) = (args m c).wo (col t f) d := by
  obtain ⟨h0, h1, h2⟩ := idx9 t
  have hv : @Eq (FVec Ideal S4x2048x2048 .bf16) (V m c main_v8)
      (truncf .bf16 (m (c, Proc.tc.devRef main_arg9) : FVec Ideal S4x2048x2048 .f32) bitsLt_bf16_f32) := by
    entry_read
    rfl
  show (V m c main_v8 : Vec Ideal S4x2048x2048 .bf16) ((win0_9.rect t).emb (ix3 0 f d)) = _
  rw [hv]
  refine congrArg (m ((c : Thread nD τ).loc main_arg9) : Vec Ideal S4x2048x2048 .f32) ?_
  funext a
  apply Fin.ext
  rw [Pipeline.Window.rect_emb_val_off]
  match a with
  | ⟨0, _⟩ => show win0_9.index t 0 * 1 + 0 = 3; omega
  | ⟨1, _⟩ => show win0_9.index t 1 * 512 + f.val = 512 * (t.val % 4) + f.val; omega
  | ⟨2, _⟩ => show win0_9.index t 2 * 2048 + d.val = d.val; omega

theorem blk10 (c : Dev nD) (t : Fin cfg0.N) (r : Fin 512) (k : Fin 2048) :
    (iblk m c 10 t : Vec Ideal S512x2048 .f32) (ix2 r k) = (args m c).x (row t r) k := by
  obtain ⟨h0, h1⟩ := idx10 t
  show (V m c main_arg4 : Vec Ideal S8192x2048 .f32) ((win0_10.rect t).emb (ix2 r k)) = _
  rw [V_main_arg4]
  refine congrArg (m ((c : Thread nD τ).loc main_arg4) : Vec Ideal S8192x2048 .f32) ?_
  funext a
  apply Fin.ext
  rw [Pipeline.Window.rect_emb_val_off]
  match a with
  | ⟨0, _⟩ => show win0_10.index t 0 * 512 + r.val = 512 * (t.val / 4) + r.val; omega
  | ⟨1, _⟩ => show win0_10.index t 1 * 2048 + k.val = k.val; omega

/-- The modulation table with its six vectors apart. -/
theorem table_at (x : Vec Ideal S8x12288 .f32) (a : Fin 8) (k : Fin 6) (d : Fin 2048) :
    (shapeCast S8x6x1x2048 x shapeCasts_S8x12288_S8x6x1x2048 : Vec Ideal S8x6x1x2048 .f32) (ix4 a k 0 d)
      = x (ix2 a ⟨2048 * k.val + d.val, by omega⟩) := by
  refine shapeCast_apply x shapeCasts_S8x12288_S8x6x1x2048 _ _ ?_
  rw [Shape.rowMajor_val_four, Shape.rowMajor_val_two]
  show a.val * 12288 + (2048 * k.val + d.val) = ((a.val * 6 + k.val) * 1 + 0) * 2048 + d.val
  omega

/-- The table as the region's entry has it. -/
theorem table_V (c : Dev nD) : @Eq (Vec Ideal S8x6x1x2048 .f32) (V m c main_v0)
    (shapeCast S8x6x1x2048 (m (c, Proc.tc.devRef main_arg5) : Vec Ideal S8x12288 .f32) shapeCasts_S8x12288_S8x6x1x2048) := by
  entry_read
  rfl

/-- A gain of the last layer, as the row the kernel reads. -/
theorem gain_at (x : Vec Ideal S4x2048 .f32) (d : Fin 2048) :
    (shapeCast S1x2048 (shapeCast S2048 (extractStridedSlice S1x2048 ![3, 0] x slices_S4x2048_S1x2048_3_0) shapeCasts_S1x2048_S2048)
      shapeCasts_S2048_S1x2048 : Vec Ideal S1x2048 .f32) (ix2 0 d) = x (ix2 3 d) := by
  pointwise []

theorem blk11 (c : Dev nD) (t : Fin cfg0.N) (r : Fin 512) (d : Fin 2048) :
    (iblk m c 11 t : Vec Ideal S1x1x1x2048 .f32) (ix4 0 0 0 d) = Norm.modAt (args m c).md 2 (row t r) d := by
  obtain ⟨h0, h1, h2, h3⟩ := idx11 t
  have hr := modRow_row t r
  have hl := Norm.modRow_lt _ (row t r).isLt
  have he : (win0_11.rect t).emb (ix4 0 0 0 d) = (ix4 ⟨Norm.modRow (row t r).val, hl⟩ 2 0 d : S8x6x1x2048.Idx) := by
    funext a
    apply Fin.ext
    rw [Pipeline.Window.rect_emb_val_off]
    match a with
    | ⟨0, _⟩ => show win0_11.index t 0 * 1 + 0 = Norm.modRow (row t r).val; omega
    | ⟨1, _⟩ => show win0_11.index t 1 * 1 + 0 = 2; omega
    | ⟨2, _⟩ => show win0_11.index t 2 * 1 + 0 = 0; omega
    | ⟨3, _⟩ => show win0_11.index t 3 * 2048 + d.val = d.val; omega
  show (V m c main_v0 : Vec Ideal S8x6x1x2048 .f32) ((win0_11.rect t).emb (ix4 0 0 0 d)) = _
  rw [table_V, he, table_at]
  rfl

theorem blk14 (c : Dev nD) (t : Fin cfg0.N) (r : Fin 512) (d : Fin 2048) :
    (iblk m c 14 t : Vec Ideal S1x1x1x2048 .f32) (ix4 0 0 0 d) = Norm.modAt (args m c).md 4 (row t r) d := by
  obtain ⟨h0, h1, h2, h3⟩ := idx14 t
  have hr := modRow_row t r
  have hl := Norm.modRow_lt _ (row t r).isLt
  have he : (win0_14.rect t).emb (ix4 0 0 0 d) = (ix4 ⟨Norm.modRow (row t r).val, hl⟩ 4 0 d : S8x6x1x2048.Idx) := by
    funext a
    apply Fin.ext
    rw [Pipeline.Window.rect_emb_val_off]
    match a with
    | ⟨0, _⟩ => show win0_14.index t 0 * 1 + 0 = Norm.modRow (row t r).val; omega
    | ⟨1, _⟩ => show win0_14.index t 1 * 1 + 0 = 4; omega
    | ⟨2, _⟩ => show win0_14.index t 2 * 1 + 0 = 0; omega
    | ⟨3, _⟩ => show win0_14.index t 3 * 2048 + d.val = d.val; omega
  show (V m c main_v0 : Vec Ideal S8x6x1x2048 .f32) ((win0_14.rect t).emb (ix4 0 0 0 d)) = _
  rw [table_V, he, table_at]
  rfl

theorem blk15 (c : Dev nD) (t : Fin cfg0.N) (r : Fin 512) (d : Fin 2048) :
    (iblk m c 15 t : Vec Ideal S1x1x1x2048 .f32) (ix4 0 0 0 d) = Norm.modAt (args m c).md 3 (row t r) d := by
  obtain ⟨h0, h1, h2, h3⟩ := idx15 t
  have hr := modRow_row t r
  have hl := Norm.modRow_lt _ (row t r).isLt
  have he : (win0_15.rect t).emb (ix4 0 0 0 d) = (ix4 ⟨Norm.modRow (row t r).val, hl⟩ 3 0 d : S8x6x1x2048.Idx) := by
    funext a
    apply Fin.ext
    rw [Pipeline.Window.rect_emb_val_off]
    match a with
    | ⟨0, _⟩ => show win0_15.index t 0 * 1 + 0 = Norm.modRow (row t r).val; omega
    | ⟨1, _⟩ => show win0_15.index t 1 * 1 + 0 = 3; omega
    | ⟨2, _⟩ => show win0_15.index t 2 * 1 + 0 = 0; omega
    | ⟨3, _⟩ => show win0_15.index t 3 * 2048 + d.val = d.val; omega
  show (V m c main_v0 : Vec Ideal S8x6x1x2048 .f32) ((win0_15.rect t).emb (ix4 0 0 0 d)) = _
  rw [table_V, he, table_at]
  rfl

theorem blk12 (c : Dev nD) (t : Fin cfg0.N) (d : Fin 2048) :
    (iblk m c 12 t : Vec Ideal S1x2048 .f32) (ix2 0 d) = (args m c).gpost d := by
  obtain ⟨h0, h1⟩ := idx12 t
  have hv : @Eq (Vec Ideal S1x2048 .f32) (V m c main_v13)
      (shapeCast S1x2048 (shapeCast S2048 (extractStridedSlice S1x2048 ![3, 0] (m (c, Proc.tc.devRef main_arg10) : Vec Ideal S4x2048 .f32)
        slices_S4x2048_S1x2048_3_0) shapeCasts_S1x2048_S2048) shapeCasts_S2048_S1x2048) := by
    entry_read
    rfl
  have he : (win0_12.rect t).emb (ix2 0 d) = (ix2 0 d : S1x2048.Idx) := by
    funext a
    apply Fin.ext
    rw [Pipeline.Window.rect_emb_val_off]
    match a with
    | ⟨0, _⟩ => show win0_12.index t 0 * 1 + 0 = 0; omega
    | ⟨1, _⟩ => show win0_12.index t 1 * 2048 + d.val = d.val; omega
  show (V m c main_v13 : Vec Ideal S1x2048 .f32) ((win0_12.rect t).emb (ix2 0 d)) = _
  rw [hv, he, gain_at]
  rfl

theorem blk13 (c : Dev nD) (t : Fin cfg0.N) (d : Fin 2048) :
    (iblk m c 13 t : Vec Ideal S1x2048 .f32) (ix2 0 d) = (args m c).gpre d := by
  obtain ⟨h0, h1⟩ := idx13 t
  have hv : @Eq (Vec Ideal S1x2048 .f32) (V m c main_v14)
      (shapeCast S1x2048 (shapeCast S2048 (extractStridedSlice S1x2048 ![3, 0] (m (c, Proc.tc.devRef main_arg11) : Vec Ideal S4x2048 .f32)
        slices_S4x2048_S1x2048_3_0) shapeCasts_S1x2048_S2048) shapeCasts_S2048_S1x2048) := by
    entry_read
    rfl
  have he : (win0_13.rect t).emb (ix2 0 d) = (ix2 0 d : S1x2048.Idx) := by
    funext a
    apply Fin.ext
    rw [Pipeline.Window.rect_emb_val_off]
    match a with
    | ⟨0, _⟩ => show win0_13.index t 0 * 1 + 0 = 0; omega
    | ⟨1, _⟩ => show win0_13.index t 1 * 2048 + d.val = d.val; omega
  show (V m c main_v14 : Vec Ideal S1x2048 .f32) ((win0_13.rect t).emb (ix2 0 d)) = _
  rw [hv, he, gain_at]
  rfl

end Cert.MergeIdeal.Blocks

end
-- ==== Proof.MergeValue.lean ====
module

public import proofs.«01_k».proof.Proof.MergeBlocks

/-! The gated merge: the scratch accumulates the output projection over the four tiles of channels, and the last tile's
    point writes the residual and its norm. -/

@[expose] public section

set_option maxRecDepth 16384

noncomputable section

namespace Cert.MergeIdeal.MergeValue

open Cert.MergeIdeal Cert.MergeIdeal.Gen Idealize.ShloMosaic Idealize.ShloMosaic.TcCoe Idealize.SL.Sem
open Cert.MergeIdeal.Blocks

variable (m : (ℓ : Loc nD τ sig) → Buf (Elt Ideal) ℓ)

/-- The first result array: the residual. -/
def result0 (c : Dev nD) : Vec Ideal S8192x2048 .f32 := fun y => Merge.xnew (args m c) ⟨(y 0).val, (y 0).isLt⟩ ⟨(y 1).val, (y 1).isLt⟩

/-- The second result array: its norm. -/
def result1 (c : Dev nD) : Vec Ideal S8192x2048 .bf16 := fun y => Merge.hnew (args m c) ⟨(y 0).val, (y 0).isLt⟩ ⟨(y 1).val, (y 1).isLt⟩

/-- What one tile adds to the output projection. -/
def part (x0 x1 x2 : Vec Ideal S512x1024 .bf16) (x3 x4 x5 : Vec Ideal S1x1024x512 .bf16) (x6 x7 x8 : Vec Ideal S512x512 .bf16)
    (x9 : Vec Ideal S1x512x2048 .bf16) (r : Fin 512) (d : Fin 2048) : EReal :=
  ∑ f : Fin 512, Merge.three (x6 (ix2 r f)) (x7 (ix2 r f)) (x8 (ix2 r f)) (fun k => x0 (ix2 r k)) (fun k => x1 (ix2 r k)) (fun k => x2 (ix2 r k))
    (fun k => x3 (ix3 0 k f)) (fun k => x4 (ix3 0 k f)) (fun k => x5 (ix3 0 k f)) * x9 (ix3 0 f d)

theorem step_at (x0 x1 x2 : Vec Ideal S512x1024 .bf16) (x3 x4 x5 : Vec Ideal S1x1024x512 .bf16) (x6 x7 x8 : Vec Ideal S512x512 .bf16)
    (x9 : Vec Ideal S1x512x2048 .bf16) (acc : Vec Ideal S512x2048 .f32) (r : Fin 512) (d : Fin 2048) :
    k0_pay1 (F := Ideal) (k0_pay6 x6 x0 x3 x7 x1 x4) (k0_pay7 x8) (k0_pay8 x2) (k0_pay9 x5) acc x9 (ix2 r d)
      = acc (ix2 r d) + part x0 x1 x2 x3 x4 x5 x6 x7 x8 x9 r d := by
  pointwise [k0_pay1, k0_pay6, k0_pay7, k0_pay8, k0_pay9]
  rfl

theorem zero_at (r : Fin 512) (d : Fin 2048) : k0_pay5 (F := Ideal) (ix2 r d) = (0 : EReal) := by
  pointwise [k0_pay5]

theorem resid_at (v47 : Vec Ideal S512x2048 .f32) (v48 : Vec Ideal S1x1x1x2048 .f32) (v50 : Vec Ideal S512x2048 .f32) (v61 : Vec Ideal S1x2048 .f32)
    (r : Fin 512) (d : Fin 2048) : k0_pay3 (F := Ideal) v47 v48 v50 v61 (ix2 r d)
      = Norm.resid (fun k => v47 (ix2 r k)) (fun k => v50 (ix2 r k)) (fun k => v48 (ix4 0 0 0 k)) (fun k => v61 (ix2 0 k)) d := by
  pointwise [k0_pay3]
  rfl

theorem norm_at (v47 : Vec Ideal S512x2048 .f32) (v48 : Vec Ideal S1x1x1x2048 .f32) (v50 : Vec Ideal S512x2048 .f32) (v61 v79 : Vec Ideal S1x2048 .f32)
    (v83 v89 : Vec Ideal S1x1x1x2048 .f32) (r : Fin 512) (d : Fin 2048) :
    k0_pay2 (F := Ideal) (k0_pay4 v47 v48 v50 v61 v79) v83 v89 (ix2 r d)
      = Norm.modNorm (fun k => k0_pay3 (F := Ideal) v47 v48 v50 v61 (ix2 r k)) (fun k => v79 (ix2 0 k)) (fun k => v83 (ix4 0 0 0 k))
          (fun k => v89 (ix4 0 0 0 k)) d := by
  pointwise [k0_pay2, k0_pay4]
  rfl

/-- What point `t` adds to the scratch. -/
def add (c : Dev nD) (t : Fin cfg0.N) : Vec Ideal S512x2048 .f32 := fun y =>
  part (iblk m c 0 t) (iblk m c 1 t) (iblk m c 2 t) (iblk m c 3 t) (iblk m c 4 t) (iblk m c 5 t) (iblk m c 6 t) (iblk m c 7 t) (iblk m c 8 t)
    (iblk m c 9 t) ⟨(y 0).val, (y 0).isLt⟩ ⟨(y 1).val, (y 1).isLt⟩

/-- The scratch after point `n`. -/
def scr (c : Dev nD) (n : ℕ) (h : n < cfg0.N) : Vec Ideal S512x2048 .f32 := (outsAt0 m c n h).2.2

/-- The scratch before point `t`, when it is not the first of its block. -/
def before (c : Dev nD) (t : Fin cfg0.N) : Vec Ideal S512x2048 .f32 :=
  scr m c (t.val - 1) (Nat.lt_of_le_of_lt (Nat.sub_le _ _) t.isLt)

theorem read_unread_scr (h : (Memref.whole cc0_scratch0).IsWhole) (x : Vec Ideal S512x2048 .f32) :
    (View.read (Elt Ideal) (View.whole cc0_scratch0) (h.unread x) : Vec Ideal S512x2048 .f32) = x := h.read_unread x

theorem scr_A (c : Dev nD) (t : Fin cfg0.N) (h0 : t.val % 4 = 0) (y : S512x2048.Idx) :
    scr m c t.val t.isLt y = 0 + add m c t y := by
  unfold scr
  rw [outsAt0_A m c t h0 (by omega)]
  dsimp only
  idx_vars y
  frame_out
  rw [step_at, zero_at]
  rfl

theorem scr_B (c : Dev nD) (t : Fin cfg0.N) (h0 : ¬t.val % 4 = 0) (h1 : ¬t.val % 4 = 3) (y : S512x2048.Idx) :
    scr m c t.val t.isLt y = before m c t y + add m c t y := by
  unfold scr
  rw [outsAt0_B m c t h0 h1]
  dsimp only
  idx_vars y
  frame_out
  rw [step_at, read_unread_scr]
  rfl

theorem scr_C (c : Dev nD) (t : Fin cfg0.N) (h1 : t.val % 4 = 3) (y : S512x2048.Idx) :
    scr m c t.val t.isLt y = before m c t y + add m c t y := by
  unfold scr
  rw [outsAt0_C m c t (by omega) h1]
  dsimp only
  idx_vars y
  frame_out
  rw [step_at, read_unread_scr]
  rfl

theorem scr_step (c : Dev nD) (t : Fin cfg0.N) (h0 : ¬t.val % 4 = 0) (y : S512x2048.Idx) :
    scr m c t.val t.isLt y = before m c t y + add m c t y := by
  by_cases h1 : t.val % 4 = 3
  · exact scr_C m c t h1 y
  · exact scr_B m c t h0 h1 y

theorem add_at (c : Dev nD) (t : Fin cfg0.N) (r : Fin 512) (d : Fin 2048) :
    add m c t (ix2 r d) = ∑ f : Fin 512, Merge.merged (args m c) (row t r) (col t f) * (args m c).wo (col t f) d := by
  show part (iblk m c 0 t) (iblk m c 1 t) (iblk m c 2 t) (iblk m c 3 t) (iblk m c 4 t) (iblk m c 5 t) (iblk m c 6 t) (iblk m c 7 t) (iblk m c 8 t)
    (iblk m c 9 t) r d = _
  unfold part
  refine Finset.sum_congr (M := EReal) rfl fun f _ => ?_
  have e0 : (fun k => (iblk m c 0 t : Vec Ideal S512x1024 .bf16) (ix2 r k)) = _ := funext fun k => blk0 m c t r k
  have e1 : (fun k => (iblk m c 1 t : Vec Ideal S512x1024 .bf16) (ix2 r k)) = _ := funext fun k => blk1 m c t r k
  have e2 : (fun k => (iblk m c 2 t : Vec Ideal S512x1024 .bf16) (ix2 r k)) = _ := funext fun k => blk2 m c t r k
  have e3 : (fun k => (iblk m c 3 t : Vec Ideal S1x1024x512 .bf16) (ix3 0 k f)) = _ := funext fun k => blk3 m c t k f
  have e4 : (fun k => (iblk m c 4 t : Vec Ideal S1x1024x512 .bf16) (ix3 0 k f)) = _ := funext fun k => blk4 m c t k f
  have e5 : (fun k => (iblk m c 5 t : Vec Ideal S1x1024x512 .bf16) (ix3 0 k f)) = _ := funext fun k => blk5 m c t k f
  have e6 := blk6 m c t r f
  have e7 := blk7 m c t r f
  have e8 := blk8 m c t r f
  have e9 := blk9 m c t f d
  show Merge.three ((iblk m c 6 t : Vec Ideal S512x512 .bf16) (ix2 r f)) ((iblk m c 7 t : Vec Ideal S512x512 .bf16) (ix2 r f))
    ((iblk m c 8 t : Vec Ideal S512x512 .bf16) (ix2 r f)) (fun k => (iblk m c 0 t : Vec Ideal S512x1024 .bf16) (ix2 r k))
    (fun k => (iblk m c 1 t : Vec Ideal S512x1024 .bf16) (ix2 r k)) (fun k => (iblk m c 2 t : Vec Ideal S512x1024 .bf16) (ix2 r k))
    (fun k => (iblk m c 3 t : Vec Ideal S1x1024x512 .bf16) (ix3 0 k f)) (fun k => (iblk m c 4 t : Vec Ideal S1x1024x512 .bf16) (ix3 0 k f))
    (fun k => (iblk m c 5 t : Vec Ideal S1x1024x512 .bf16) (ix3 0 k f)) * (iblk m c 9 t : Vec Ideal S1x512x2048 .bf16) (ix3 0 f d) = _
  rw [e0, e1, e2, e3, e4, e5, e6, e7, e8, e9]
  rfl

/-- At the last tile the scratch holds the whole output projection. -/
theorem scr_last (c : Dev nD) (t : Fin cfg0.N) (hf : t.val % 4 = 3) (r : Fin 512) (d : Fin 2048) :
    scr m c t.val t.isLt (ix2 r d) = Merge.proj (args m c) (row t r) d := by
  rw [Pipeline.eq_sum_fin_of_reset_step_apply_of_flush (fun n h => scr m c n h) 4 (fun _ => (0 : EReal)) (fun t => add m c t)
    (fun t h j => scr_A m c t h j) (fun t h j => scr_step m c t h j) t hf (ix2 r d), zero_add]
  unfold Merge.proj
  rw [← Merge.sum_four]
  refine Finset.sum_congr rfl fun s _ => (add_at m c _ r d).trans (Finset.sum_congr rfl fun k _ => ?_)
  have hr : row ⟨4 * (t.val / 4) + s.val, Pipeline.run_point_lt_of_flush t hf s⟩ r = row t r := by
    apply Fin.ext
    show 512 * ((4 * (t.val / 4) + s.val) / 4) + r.val = 512 * (t.val / 4) + r.val
    omega
  have hc : col ⟨4 * (t.val / 4) + s.val, Pipeline.run_point_lt_of_flush t hf s⟩ k = ⟨512 * s.val + k.val, by omega⟩ := by
    apply Fin.ext
    show 512 * ((4 * (t.val / 4) + s.val) % 4) + k.val = 512 * s.val + k.val
    omega
  rw [hr, hc]

/-- The projection as the last tile's point has it when it writes: what the scratch held, and the last part. -/
theorem last_row (c : Dev nD) (t : Fin cfg0.N) (hf : t.val % 4 = 3) (r : Fin 512) :
    (fun k => before m c t (ix2 r k) + add m c t (ix2 r k)) = Merge.proj (args m c) (row t r) :=
  funext fun k => (scr_C m c t hf (ix2 r k)).symm.trans (scr_last m c t hf r k)

theorem resid_blk (c : Dev nD) (t : Fin cfg0.N) (hf : t.val % 4 = 3) (y : Vec Ideal S512x2048 .f32) (r : Fin 512)
    (hy : ∀ k, y (ix2 r k) = before m c t (ix2 r k) + add m c t (ix2 r k)) (d : Fin 2048) :
    k0_pay3 (F := Ideal) (iblk m c 10 t) (iblk m c 11 t) y (iblk m c 12 t) (ix2 r d) = Merge.xnew (args m c) (row t r) d := by
  rw [resid_at]
  have e0 : (fun k => (iblk m c 10 t : Vec Ideal S512x2048 .f32) (ix2 r k)) = _ := funext fun k => blk10 m c t r k
  have e1 : (fun k => (iblk m c 11 t : Vec Ideal S1x1x1x2048 .f32) (ix4 0 0 0 k)) = _ := funext fun k => blk11 m c t r k
  have e2 : (fun k => (iblk m c 12 t : Vec Ideal S1x2048 .f32) (ix2 0 k)) = _ := funext fun k => blk12 m c t k
  have e3 : (fun k => y (ix2 r k)) = _ := (funext hy).trans (last_row m c t hf r)
  rw [e0, e1, e2, e3]
  rfl

theorem norm_blk (c : Dev nD) (t : Fin cfg0.N) (hf : t.val % 4 = 3) (y : Vec Ideal S512x2048 .f32) (r : Fin 512)
    (hy : ∀ k, y (ix2 r k) = before m c t (ix2 r k) + add m c t (ix2 r k)) (d : Fin 2048) :
    k0_pay2 (F := Ideal) (k0_pay4 (iblk m c 10 t) (iblk m c 11 t) y (iblk m c 12 t) (iblk m c 13 t)) (iblk m c 14 t) (iblk m c 15 t) (ix2 r d)
      = Merge.hnew (args m c) (row t r) d := by
  rw [norm_at]
  have e0 : (fun k => k0_pay3 (F := Ideal) (iblk m c 10 t) (iblk m c 11 t) y (iblk m c 12 t) (ix2 r k)) = _ :=
    funext fun k => resid_blk m c t hf y r hy k
  have e1 : (fun k => (iblk m c 13 t : Vec Ideal S1x2048 .f32) (ix2 0 k)) = _ := funext fun k => blk13 m c t k
  have e2 : (fun k => (iblk m c 14 t : Vec Ideal S1x1x1x2048 .f32) (ix4 0 0 0 k)) = _ := funext fun k => blk14 m c t r k
  have e3 : (fun k => (iblk m c 15 t : Vec Ideal S1x1x1x2048 .f32) (ix4 0 0 0 k)) = _ := funext fun k => blk15 m c t r k
  rw [e0, e1, e2, e3]
  rfl

theorem final0 (c : Dev nD) : (dats m 0 c).arrAt 16 cfg0.N = result0 m c := by
  refine (dats m 0 c).arrAt_eq_of_covers 16 _ (by decide +kernel) fun t hf y => ?_
  have hm : t.val % 4 = 3 := (flush0_16 t).mp hf
  blk_simp
  rw [after0_16, outsAt0_C m c t (by omega) hm]
  revert y
  dsimp only
  show ∀ y : S512x2048.Idx, (_ : Vec Ideal S512x2048 .f32) y = result0 m c ((win0_16.rect t).emb y)
  intro y
  obtain ⟨h0, h1⟩ := idx16 t
  idx_vars y
  frame_out
  rw [read_unread_scr]
  rw [show (outsAt0 m c (t.val - 1) _).2.2 = before m c t from rfl]
  rw [resid_blk m c t hm _ y0 (fun k => step_at _ _ _ _ _ _ _ _ _ _ _ y0 k) y1]
  refine congrArg₂ (Merge.xnew (args m c)) (Fin.ext ?_) (Fin.ext ?_)
  · dsimp only
    rw [Pipeline.Window.rect_emb_val_off]
    show 512 * (t.val / 4) + y0.val = win0_16.index t 0 * 512 + y0.val
    omega
  · dsimp only
    rw [Pipeline.Window.rect_emb_val_off]
    show y1.val = win0_16.index t 1 * 2048 + y1.val
    omega

theorem final1 (c : Dev nD) : (dats m 0 c).arrAt 17 cfg0.N = result1 m c := by
  refine (dats m 0 c).arrAt_eq_of_covers 17 _ (by decide +kernel) fun t hf y => ?_
  have hm : t.val % 4 = 3 := (flush0_17 t).mp hf
  blk_simp
  rw [after0_17, outsAt0_C m c t (by omega) hm]
  revert y
  dsimp only
  show ∀ y : S512x2048.Idx, (_ : Vec Ideal S512x2048 .bf16) y = result1 m c ((win0_17.rect t).emb y)
  intro y
  obtain ⟨h0, h1⟩ := idx17 t
  idx_vars y
  frame_out
  rw [read_unread_scr]
  rw [show (outsAt0 m c (t.val - 1) _).2.2 = before m c t from rfl]
  rw [norm_blk m c t hm _ y0 (fun k => step_at _ _ _ _ _ _ _ _ _ _ _ y0 k) y1]
  refine congrArg₂ (Merge.hnew (args m c)) (Fin.ext ?_) (Fin.ext ?_)
  · dsimp only
    rw [Pipeline.Window.rect_emb_val_off]
    show 512 * (t.val / 4) + y0.val = win0_17.index t 0 * 512 + y0.val
    omega
  · dsimp only
    rw [Pipeline.Window.rect_emb_val_off]
    show y1.val = win0_17.index t 1 * 2048 + y1.val
    omega

/-- The kernel's run: the result arrays, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v15_0) = result0 m c
      ∧ r.2.mem ((c : Thread nD τ).loc main_v15_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (run_main m ρ)
  have hw := (h c).1
  have hr := (h c).2
  refine ⟨(hw 16).trans (final0 m c), (hw 17).trans (final1 m c), ?_, ?_, ?_, ?_,
    (hw 10).trans (((dats m 0 c).arrAt_in 10 rfl _).trans ((A_eq m c 10).trans (V_main_arg4 m c))), ?_, ?_, ?_, ?_, ?_, ?_, ?_⟩
  · exact (hr main_arg0 (Pipeline.mem_restRefs_of main_arg0 (by decide) (by decide))).trans (V_main_arg0 m c)
  · exact (hr main_arg1 (Pipeline.mem_restRefs_of main_arg1 (by decide) (by decide))).trans (V_main_arg1 m c)
  · exact (hr main_arg2 (Pipeline.mem_restRefs_of main_arg2 (by decide) (by decide))).trans (V_main_arg2 m c)
  · exact (hr main_arg3 (Pipeline.mem_restRefs_of main_arg3 (by decide) (by decide))).trans (V_main_arg3 m c)
  · exact (hr main_arg5 (Pipeline.mem_restRefs_of main_arg5 (by decide) (by decide))).trans (V_main_arg5 m c)
  · exact (hr main_arg6 (Pipeline.mem_restRefs_of main_arg6 (by decide) (by decide))).trans (V_main_arg6 m c)
  · exact (hr main_arg7 (Pipeline.mem_restRefs_of main_arg7 (by decide) (by decide))).trans (V_main_arg7 m c)
  · exact (hr main_arg8 (Pipeline.mem_restRefs_of main_arg8 (by decide) (by decide))).trans (V_main_arg8 m c)
  · exact (hr main_arg9 (Pipeline.mem_restRefs_of main_arg9 (by decide) (by decide))).trans (V_main_arg9 m c)
  · exact (hr main_arg10 (Pipeline.mem_restRefs_of main_arg10 (by decide) (by decide))).trans (V_main_arg10 m c)
  · exact (hr main_arg11 (Pipeline.mem_restRefs_of main_arg11 (by decide) (by decide))).trans (V_main_arg11 m c)

end Cert.MergeIdeal.MergeValue

end
-- ==== Proof.MergeRefValue.lean ====
module

public import proofs.«01_k».proof.Proof.MergeValue
public import proofs.«01_k».proof.Proof.Gen.MergeRefIdeal.Run
public import proofs.«01_k».proof.Proof.Gen.MergeRefIdeal.Read

/-! The reference of the gated merge is the specification. -/

@[expose] public section

set_option maxRecDepth 16384

noncomputable section

namespace Cert.MergeRefIdeal.RefValue

open Cert.MergeRefIdeal Cert.MergeRefIdeal.Gen Cert.MergeRefIdeal.Read Idealize.ShloMosaic Idealize.ShloMosaic.TcCoe Idealize.SL.Sem
open Cert.MergeIdeal.Blocks (argsOf)

variable (x0 x1 x2 : Vec Ideal S8192x1024 .f32) (x3 : Vec Ideal S8192x6144 .f32) (x4 : Vec Ideal S8192x2048 .f32) (x5 : Vec Ideal S8x12288 .f32)
variable (x6 x7 x8 : Vec Ideal S4x1024x2048 .f32) (x9 : Vec Ideal S4x2048x2048 .f32) (x10 x11 : Vec Ideal S4x2048 .f32)

theorem merged_ctx (b : Fin 16) (n : Fin 256) (f : Fin 2048) :
    val_main_v58 (F := Ideal) x0 x1 x2 x3 x6 x7 x8 (ix3 b n f) = Merge.merged (argsOf x0 x1 x2 x3 x4 x5 x6 x7 x8 x9 x10 x11) ⟨b.val * 256 + n.val, by omega⟩ f := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v21, val_main_v20, val_main_v17, val_main_v16, val_main_v13, val_main_v12, val_main_v9, val_main_v8, val_main_v5, val_main_v4, val_main_v3, val_main_v2, val_main_v1, val_main_v0, val_main_cst, val_main_cst_0]
  rfl

theorem proj_ctx (b : Fin 16) (n : Fin 256) (d : Fin 2048) :
    val_main_v59 (F := Ideal) x0 x1 x2 x3 x6 x7 x8 x9 (ix3 b n d) = Merge.proj (argsOf x0 x1 x2 x3 x4 x5 x6 x7 x8 x9 x10 x11) ⟨b.val * 256 + n.val, by omega⟩ d := by
  pointwise [val_main_v59, val_main_v7, val_main_v6]
  exact Finset.sum_congr rfl fun k _ => congrArg (· * x9 (ix3 3 k d)) (merged_ctx x0 x1 x2 x3 x4 x5 x6 x7 x8 x9 x10 x11 b n k)

theorem xnew_ctx (b : Fin 16) (n : Fin 256) (d : Fin 2048) :
    val_main_v77 (F := Ideal) x0 x1 x2 x3 x4 x5 x6 x7 x8 x9 x10 (ix3 b n d) = Merge.xnew (argsOf x0 x1 x2 x3 x4 x5 x6 x7 x8 x9 x10 x11) ⟨b.val * 256 + n.val, by omega⟩ d := by
  pointwise [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v34, val_main_v29, val_main_v28, val_main_v25, val_main_v24, val_main_cst_1, val_main_cst_2, val_main_cst_3]
  simp only [proj_ctx x0 x1 x2 x3 x4 x5 x6 x7 x8 x9 x10 x11]
  have hm : Norm.modRow (b.val * 256 + n.val) = 0 := by
    unfold Norm.modRow
    split <;> omega
  unfold Merge.xnew Norm.resid Norm.modAt Norm.scale
  simp only [hm]
  rfl

theorem hnew_ctx (b : Fin 16) (n : Fin 256) (d : Fin 2048) :
    val_main_v98 (F := Ideal) x0 x1 x2 x3 x4 x5 x6 x7 x8 x9 x10 x11 (ix3 b n d) = Merge.hnew (argsOf x0 x1 x2 x3 x4 x5 x6 x7 x8 x9 x10 x11) ⟨b.val * 256 + n.val, by omega⟩ d := by
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v36, val_main_v35, val_main_v29, val_main_v28, val_main_cst_4, val_main_cst_5, val_main_cst_6, val_main_cst_7]
  simp only [xnew_ctx x0 x1 x2 x3 x4 x5 x6 x7 x8 x9 x10 x11]
  have hm : Norm.modRow (b.val * 256 + n.val) = 0 := by
    unfold Norm.modRow
    split <;> omega
  unfold Merge.hnew Norm.modNorm Norm.modAt Norm.scale
  simp only [hm]
  rfl

theorem merged_lat (b : Fin 4) (n : Fin 1024) (f : Fin 2048) :
    val_main_v125 (F := Ideal) x0 x1 x2 x3 x6 x7 x8 (ix3 b n f) = Merge.merged (argsOf x0 x1 x2 x3 x4 x5 x6 x7 x8 x9 x10 x11) ⟨4096 + (b.val * 1024 + n.val), by omega⟩ f := by
  pointwise [val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v23, val_main_v22, val_main_v19, val_main_v18, val_main_v15, val_main_v14, val_main_v11, val_main_v10, val_main_v5, val_main_v4, val_main_v3, val_main_v2, val_main_v1, val_main_v0, val_main_cst_8, val_main_cst_9]
  rfl

theorem proj_lat (b : Fin 4) (n : Fin 1024) (d : Fin 2048) :
    val_main_v126 (F := Ideal) x0 x1 x2 x3 x6 x7 x8 x9 (ix3 b n d) = Merge.proj (argsOf x0 x1 x2 x3 x4 x5 x6 x7 x8 x9 x10 x11) ⟨4096 + (b.val * 1024 + n.val), by omega⟩ d := by
  pointwise [val_main_v126, val_main_v7, val_main_v6]
  exact Finset.sum_congr rfl fun k _ => congrArg (· * x9 (ix3 3 k d)) (merged_lat x0 x1 x2 x3 x4 x5 x6 x7 x8 x9 x10 x11 b n k)

theorem xnew_lat (b : Fin 4) (n : Fin 1024) (d : Fin 2048) :
    val_main_v144 (F := Ideal) x0 x1 x2 x3 x4 x5 x6 x7 x8 x9 x10 (ix3 b n d) = Merge.xnew (argsOf x0 x1 x2 x3 x4 x5 x6 x7 x8 x9 x10 x11) ⟨4096 + (b.val * 1024 + n.val), by omega⟩ d := by
  pointwise [val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v101, val_main_v31, val_main_v30, val_main_v27, val_main_v26, val_main_cst_10, val_main_cst_11, val_main_cst_12]
  simp only [proj_lat x0 x1 x2 x3 x4 x5 x6 x7 x8 x9 x10 x11]
  have hm : Norm.modRow (4096 + (b.val * 1024 + n.val)) = 1 + b.val := by
    unfold Norm.modRow
    split <;> omega
  unfold Merge.xnew Norm.resid Norm.modAt Norm.scale
  simp only [hm]
  rfl

theorem hnew_lat (b : Fin 4) (n : Fin 1024) (d : Fin 2048) :
    val_main_v165 (F := Ideal) x0 x1 x2 x3 x4 x5 x6 x7 x8 x9 x10 x11 (ix3 b n d) = Merge.hnew (argsOf x0 x1 x2 x3 x4 x5 x6 x7 x8 x9 x10 x11) ⟨4096 + (b.val * 1024 + n.val), by omega⟩ d := by
  pointwise [val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v103, val_main_v102, val_main_v31, val_main_v30, val_main_cst_13, val_main_cst_14, val_main_cst_15, val_main_cst_16]
  simp only [xnew_lat x0 x1 x2 x3 x4 x5 x6 x7 x8 x9 x10 x11]
  have hm : Norm.modRow (4096 + (b.val * 1024 + n.val)) = 1 + b.val := by
    unfold Norm.modRow
    split <;> omega
  unfold Merge.hnew Norm.modNorm Norm.modAt Norm.scale
  simp only [hm]
  rfl

theorem result0_at (R : Fin 8192) (d : Fin 2048) :
    val_main_v168 (F := Ideal) x0 x1 x2 x3 x4 x5 x6 x7 x8 x9 x10 (ix2 R d) = Merge.xnew (argsOf x0 x1 x2 x3 x4 x5 x6 x7 x8 x9 x10 x11) R d := by
  pointwise [val_main_v168, val_main_v167, val_main_v166]
  by_cases h : R.val < 4096
  · rw [dif_pos h, xnew_ctx x0 x1 x2 x3 x4 x5 x6 x7 x8 x9 x10 x11]
    refine congrArg (fun q => Merge.xnew (argsOf x0 x1 x2 x3 x4 x5 x6 x7 x8 x9 x10 x11) q d) (Fin.ext ?_)
    show R.val / 256 * 256 + R.val % 256 = R.val
    omega
  · rw [dif_neg h, xnew_lat x0 x1 x2 x3 x4 x5 x6 x7 x8 x9 x10 x11]
    refine congrArg (fun q => Merge.xnew (argsOf x0 x1 x2 x3 x4 x5 x6 x7 x8 x9 x10 x11) q d) (Fin.ext ?_)
    show 4096 + ((R.val - 4096) / 1024 * 1024 + (R.val - 4096) % 1024) = R.val
    omega

theorem result1_at (R : Fin 8192) (d : Fin 2048) :
    val_main_v172 (F := Ideal) x0 x1 x2 x3 x4 x5 x6 x7 x8 x9 x10 x11 (ix2 R d) = Merge.hnew (argsOf x0 x1 x2 x3 x4 x5 x6 x7 x8 x9 x10 x11) R d := by
  pointwise [val_main_v172, val_main_v171, val_main_v170, val_main_v169]
  by_cases h : R.val < 4096
  · rw [dif_pos h, hnew_ctx x0 x1 x2 x3 x4 x5 x6 x7 x8 x9 x10 x11]
    refine congrArg (fun q => Merge.hnew (argsOf x0 x1 x2 x3 x4 x5 x6 x7 x8 x9 x10 x11) q d) (Fin.ext ?_)
    show R.val / 256 * 256 + R.val % 256 = R.val
    omega
  · rw [dif_neg h, hnew_lat x0 x1 x2 x3 x4 x5 x6 x7 x8 x9 x10 x11]
    refine congrArg (fun q => Merge.hnew (argsOf x0 x1 x2 x3 x4 x5 x6 x7 x8 x9 x10 x11) q d) (Fin.ext ?_)
    show 4096 + ((R.val - 4096) / 1024 * 1024 + (R.val - 4096) % 1024) = R.val
    omega

/-- The reference's run from agreeing arguments: its result arrays are the kernel's. -/
theorem run (m : (ℓ : Loc Cert.MergeIdeal.nD Cert.MergeIdeal.τ Cert.MergeIdeal.sig) → Buf (Elt Ideal) ℓ)
    (m' : (ℓ : Loc nD τ sig) → Buf (Elt Ideal) ℓ) (ρ : Dev nD → PrngReg)
    (hagree : ∀ c : Dev Cert.MergeIdeal.nD,
      m' ((c.tc : Thread nD τ).loc main_arg0) = m ((c.tc : Thread Cert.MergeIdeal.nD Cert.MergeIdeal.τ).loc Cert.MergeIdeal.main_arg0)
      ∧ m' ((c.tc : Thread nD τ).loc main_arg1) = m ((c.tc : Thread Cert.MergeIdeal.nD Cert.MergeIdeal.τ).loc Cert.MergeIdeal.main_arg1)
      ∧ m' ((c.tc : Thread nD τ).loc main_arg2) = m ((c.tc : Thread Cert.MergeIdeal.nD Cert.MergeIdeal.τ).loc Cert.MergeIdeal.main_arg2)
      ∧ m' ((c.tc : Thread nD τ).loc main_arg3) = m ((c.tc : Thread Cert.MergeIdeal.nD Cert.MergeIdeal.τ).loc Cert.MergeIdeal.main_arg3)
      ∧ m' ((c.tc : Thread nD τ).loc main_arg4) = m ((c.tc : Thread Cert.MergeIdeal.nD Cert.MergeIdeal.τ).loc Cert.MergeIdeal.main_arg4)
      ∧ m' ((c.tc : Thread nD τ).loc main_arg5) = m ((c.tc : Thread Cert.MergeIdeal.nD Cert.MergeIdeal.τ).loc Cert.MergeIdeal.main_arg5)
      ∧ m' ((c.tc : Thread nD τ).loc main_arg6) = m ((c.tc : Thread Cert.MergeIdeal.nD Cert.MergeIdeal.τ).loc Cert.MergeIdeal.main_arg6)
      ∧ m' ((c.tc : Thread nD τ).loc main_arg7) = m ((c.tc : Thread Cert.MergeIdeal.nD Cert.MergeIdeal.τ).loc Cert.MergeIdeal.main_arg7)
      ∧ m' ((c.tc : Thread nD τ).loc main_arg8) = m ((c.tc : Thread Cert.MergeIdeal.nD Cert.MergeIdeal.τ).loc Cert.MergeIdeal.main_arg8)
      ∧ m' ((c.tc : Thread nD τ).loc main_arg9) = m ((c.tc : Thread Cert.MergeIdeal.nD Cert.MergeIdeal.τ).loc Cert.MergeIdeal.main_arg9)
      ∧ m' ((c.tc : Thread nD τ).loc main_arg10) = m ((c.tc : Thread Cert.MergeIdeal.nD Cert.MergeIdeal.τ).loc Cert.MergeIdeal.main_arg10)
      ∧ m' ((c.tc : Thread nD τ).loc main_arg11) = m ((c.tc : Thread Cert.MergeIdeal.nD Cert.MergeIdeal.τ).loc Cert.MergeIdeal.main_arg11)) :
    θ_run defs (onTc (τ := τ) (main (F := Ideal))) ⟨m', fun _ => 0, ρ⟩ fun r => ∀ c : Dev nD,
      r.2.mem ((c.tc : Thread nD τ).loc main_v168) = Cert.MergeIdeal.MergeValue.result0 m c
      ∧ r.2.mem ((c.tc : Thread nD τ).loc main_v172) = Cert.MergeIdeal.MergeValue.result1 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) := by
  refine (θ_run defs _ _).mono (fun _ h c => ⟨(h c).1.trans ?_, (h c).2.1.trans ?_, (h c).2.2⟩)
    (Cert.MergeRefIdeal.Value.run (F := Ideal) m' ρ)
  · obtain ⟨a0, a1, a2, a3, a4, a5, a6, a7, a8, a9, a10, a11⟩ := hagree c
    refine (Cert.MergeRefIdeal.Read.val_main_v168_eq (F := Ideal) (StableHlo.launchContents m' c)).trans ?_
    funext y
    rw [ValueIdx.eq_ix2 y]
    refine (result0_at (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8))
      (m' ((c.tc : Thread nD τ).loc main_arg9)) (m' ((c.tc : Thread nD τ).loc main_arg10)) (m' ((c.tc : Thread nD τ).loc main_arg11))
      (y 0) (y 1)).trans ?_
    rw [a0, a1, a2, a3, a4, a5, a6, a7, a8, a9, a10, a11]
    rfl
  · obtain ⟨a0, a1, a2, a3, a4, a5, a6, a7, a8, a9, a10, a11⟩ := hagree c
    refine (Cert.MergeRefIdeal.Read.val_main_v172_eq (F := Ideal) (StableHlo.launchContents m' c)).trans ?_
    funext y
    rw [ValueIdx.eq_ix2 y]
    refine (result1_at (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8))
      (m' ((c.tc : Thread nD τ).loc main_arg9)) (m' ((c.tc : Thread nD τ).loc main_arg10)) (m' ((c.tc : Thread nD τ).loc main_arg11))
      (y 0) (y 1)).trans ?_
    rw [a0, a1, a2, a3, a4, a5, a6, a7, a8, a9, a10, a11]
    rfl

end Cert.MergeRefIdeal.RefValue

end
-- ==== Proof.Queries.lean ====
module

public import proofs.«01_k».proof.Proof.NormSpec
public import proofs.«01_k».proof.Proof.Gen.QueriesIdeal.Value
public import proofs.«01_k».proof.Proof.Gen.QueriesRefIdeal.Run
public import proofs.«01_k».proof.Proof.Gen.QueriesRefIdeal.Read
public import Idealize.ShloMosaic.Lib.Pointwise
public import Idealize.ShloMosaic.Lib.StableHlo.RunRead
public import Idealize.ShloMosaic.Lib.Pipeline.ValueKit

/-! The latent attention's queries: columns 5120 to 5631 of the input projection, normed, and their product with the last
    layer's weights, each head's 192 columns followed by 64 of zeros; blocks of 512 tokens. -/

@[expose] public section

set_option maxRecDepth 16384

noncomputable section

namespace Cert.QueriesIdeal.Latent

open Cert.QueriesIdeal Cert.QueriesIdeal.Gen Idealize.ShloMosaic Idealize.ShloMosaic.TcCoe Idealize.SL.Sem

variable (m : (ℓ : Loc nD τ sig) → Buf (Elt Ideal) ℓ)

/-- The normed query latent of a token. -/
def cq (z : Vec Ideal S8192x7680 .f32) (g : Vec Ideal S4x512 .f32) (R : Fin 8192) (k : Fin 512) : EReal :=
  z (ix2 R ⟨5120 + k.val, by omega⟩) * Norm.scale 1140850688#32 (fun q : Fin 512 => z (ix2 R ⟨5120 + q.val, by omega⟩)) * g (ix2 3 k)

/-- The last layer's weights with the zero columns. -/
def wide (w : Vec Ideal S4x512x1536 .f32) (k : Fin 512) (d : Fin 2048) : EReal :=
  if h : d.val % 256 < 192 then w (ix3 3 k ⟨d.val / 256 * 192 + d.val % 256, by omega⟩) else 0

/-- The product of a normed row with a column. -/
def dot (x g w : Fin 512 → EReal) : EReal := ∑ k : Fin 512, x k * Norm.scale 1140850688#32 x * g k * w k

/-- The queries. -/
def queries (z : Vec Ideal S8192x7680 .f32) (g : Vec Ideal S4x512 .f32) (w : Vec Ideal S4x512x1536 .f32) (R : Fin 8192) (d : Fin 2048) : EReal :=
  ∑ k : Fin 512, cq z g R k * wide w k d

/-- The result array. -/
def result (c : Dev nD) : Vec Ideal S8192x2048 .f32 := fun y =>
  queries (m ((c : Thread nD τ).loc main_arg0)) (m ((c : Thread nD τ).loc main_arg1)) (m ((c : Thread nD τ).loc main_arg2))
    ⟨(y 0).val, (y 0).isLt⟩ ⟨(y 1).val, (y 1).isLt⟩

theorem lt_N (t : Fin cfg0.N) : t.val < 16 := t.isLt

theorem idx0 : ∀ t : Fin cfg0.N, (win0_0.index t 0 = t.val ∧ win0_0.index t 1 = 10) :=
  (by decide +kernel : ∀ t : Fin grid0.N, _)
theorem idx1 : ∀ t : Fin cfg0.N, (win0_1.index t 0 = 0 ∧ win0_1.index t 1 = 0) :=
  (by decide +kernel : ∀ t : Fin grid0.N, _)
theorem idx2 : ∀ t : Fin cfg0.N, (win0_2.index t 0 = 3 ∧ win0_2.index t 1 = 0 ∧ win0_2.index t 2 = 0) :=
  (by decide +kernel : ∀ t : Fin grid0.N, _)
theorem idx3 : ∀ t : Fin cfg0.N, (win0_3.index t 0 = t.val ∧ win0_3.index t 1 = 0) :=
  (by decide +kernel : ∀ t : Fin grid0.N, _)

/-- The token of row `r` in the block of point `t`. -/
def row (t : Fin cfg0.N) (r : Fin 512) : Fin 8192 := ⟨512 * t.val + r.val, by have := lt_N t; omega⟩

theorem blk0 (c : Dev nD) (t : Fin cfg0.N) (r : Fin 512) (k : Fin 512) :
    (iblk m c 0 t : Vec Ideal S512x512 .f32) (ix2 r k)
      = (m ((c : Thread nD τ).loc main_arg0) : Vec Ideal S8192x7680 .f32) (ix2 (row t r) ⟨5120 + k.val, by omega⟩) := by
  obtain ⟨h0, h1⟩ := idx0 t
  show (V m c main_arg0 : Vec Ideal S8192x7680 .f32) ((win0_0.rect t).emb (ix2 r k)) = _
  rw [V_main_arg0]
  refine congrArg (m ((c : Thread nD τ).loc main_arg0) : Vec Ideal S8192x7680 .f32) ?_
  funext a
  apply Fin.ext
  rw [Pipeline.Window.rect_emb_val_off]
  match a with
  | ⟨0, _⟩ => show win0_0.index t 0 * 512 + r.val = 512 * t.val + r.val; omega
  | ⟨1, _⟩ => show win0_0.index t 1 * 512 + k.val = 5120 + k.val; omega

/-- The gain of the last layer, as the row the kernel reads. -/
theorem gain_at (x : Vec Ideal S4x512 .f32) (d : Fin 512) :
    (shapeCast S1x512 (shapeCast S512 (extractStridedSlice S1x512 ![3, 0] x slices_S4x512_S1x512_3_0) shapeCasts_S1x512_S512)
      shapeCasts_S512_S1x512 : Vec Ideal S1x512 .f32) (ix2 0 d) = x (ix2 3 d) := by
  pointwise []

theorem blk1 (c : Dev nD) (t : Fin cfg0.N) (d : Fin 512) :
    (iblk m c 1 t : Vec Ideal S1x512 .f32) (ix2 0 d)
      = (m ((c : Thread nD τ).loc main_arg1) : Vec Ideal S4x512 .f32) (ix2 3 d) := by
  obtain ⟨h0, h1⟩ := idx1 t
  have hv : @Eq (Vec Ideal S1x512 .f32) (V m c main_v6)
      (shapeCast S1x512 (shapeCast S512 (extractStridedSlice S1x512 ![3, 0] (m (c, Proc.tc.devRef main_arg1) : Vec Ideal S4x512 .f32)
        slices_S4x512_S1x512_3_0) shapeCasts_S1x512_S512) shapeCasts_S512_S1x512) := by
    entry_read
    rfl
  have he : (win0_1.rect t).emb (ix2 0 d) = (ix2 0 d : S1x512.Idx) := by
    funext a
    apply Fin.ext
    rw [Pipeline.Window.rect_emb_val_off]
    match a with
    | ⟨0, _⟩ => show win0_1.index t 0 * 1 + 0 = 0; omega
    | ⟨1, _⟩ => show win0_1.index t 1 * 512 + d.val = d.val; omega
  show (V m c main_v6 : Vec Ideal S1x512 .f32) ((win0_1.rect t).emb (ix2 0 d)) = _
  rw [hv, he, gain_at]

/-- The zero that pads. -/
theorem fill : (sitofp .f32 (constantI S_ 32 0#32 : IVec S_ 32) : FVec Ideal S_ .f32) = fun _ => (0 : EReal) := by
  funext i
  show (((0#32 : BitVec 32).toInt : ℝ) : EReal) = 0
  rw [show (0#32 : BitVec 32).toInt = 0 from rfl, Int.cast_zero, EReal.coe_zero]

/-- The weights as the kernel reads them. -/
theorem wide_at (x : Vec Ideal S4x512x1536 .f32) (k : Fin 512) (d : Fin 2048) :
    (shapeCast S4x512x2048 (pad S4x512x8x256 ![0, 0, 0, 0] ![0, 0, 0, 64] ![0, 0, 0, 0]
      (shapeCast S4x512x8x192 x shapeCasts_S4x512x1536_S4x512x8x192 : FVec Ideal S4x512x8x192 .f32) (sitofp .f32 (constantI S_ 32 0#32 : IVec S_ 32) : FVec Ideal S_ .f32)
      pads_S4x512x8x192_S4x512x8x256_000_000_000_0640 h_S_) shapeCasts_S4x512x8x256_S4x512x2048 : Vec Ideal S4x512x2048 .f32) (ix3 3 k d) = wide x k d := by
  rw [fill]
  unfold wide
  pointwise []
  by_cases h : d.val % 256 < 192
  · rw [dif_pos ⟨by omega, h⟩, dif_pos h]
  · rw [dif_neg (fun hh => h hh.2), dif_neg h]

theorem blk2 (c : Dev nD) (t : Fin cfg0.N) (k : Fin 512) (d : Fin 2048) :
    (iblk m c 2 t : Vec Ideal S1x512x2048 .bf16) (ix3 0 k d)
      = wide (m ((c : Thread nD τ).loc main_arg2)) k d := by
  obtain ⟨h0, h1, h2⟩ := idx2 t
  have hv : @Eq (FVec Ideal S4x512x2048 .bf16) (V m c main_v3)
      (truncf .bf16 (shapeCast S4x512x2048 (pad S4x512x8x256 ![0, 0, 0, 0] ![0, 0, 0, 64] ![0, 0, 0, 0]
        (shapeCast S4x512x8x192 (m (c, Proc.tc.devRef main_arg2) : FVec Ideal S4x512x1536 .f32) shapeCasts_S4x512x1536_S4x512x8x192 : FVec Ideal S4x512x8x192 .f32)
        (sitofp .f32 (constantI S_ 32 0#32 : IVec S_ 32) : FVec Ideal S_ .f32)
        pads_S4x512x8x192_S4x512x8x256_000_000_000_0640 h_S_) shapeCasts_S4x512x8x256_S4x512x2048 : FVec Ideal S4x512x2048 .f32) bitsLt_bf16_f32) := by
    entry_read
    rfl
  have he : (win0_2.rect t).emb (ix3 0 k d) = (ix3 3 k d : S4x512x2048.Idx) := by
    funext a
    apply Fin.ext
    rw [Pipeline.Window.rect_emb_val_off]
    match a with
    | ⟨0, _⟩ => show win0_2.index t 0 * 1 + 0 = 3; omega
    | ⟨1, _⟩ => show win0_2.index t 1 * 512 + k.val = k.val; omega
    | ⟨2, _⟩ => show win0_2.index t 2 * 2048 + d.val = d.val; omega
  show (V m c main_v3 : Vec Ideal S4x512x2048 .bf16) ((win0_2.rect t).emb (ix3 0 k d)) = _
  rw [hv, he]
  exact wide_at _ k d

theorem pay_at (v0 : Vec Ideal S512x512 .f32) (v11 : Vec Ideal S1x512 .f32) (v16 : Vec Ideal S1x512x2048 .bf16) (r : Fin 512) (d : Fin 2048) :
    k0_pay1 (F := Ideal) v0 v11 v16 (ix2 r d)
      = dot (fun k => v0 (ix2 r k)) (fun k => v11 (ix2 0 k)) (fun k => v16 (ix3 0 k d)) := by
  pointwise [k0_pay1]
  rfl

theorem final (c : Dev nD) : (dats m 0 c).arrAt 3 cfg0.N = result m c := by
  refine (dats m 0 c).arrAt_eq_of_covers 3 _ (by decide +kernel) fun t hf y => ?_
  blk_simp
  rw [after0_3]
  revert y
  show ∀ y : S512x2048.Idx, (out0_3 (iblk m c 0 t) (iblk m c 1 t) (iblk m c 2 t) : Vec Ideal S512x2048 .f32) y
    = result m c ((win0_3.rect t).emb y)
  intro y
  obtain ⟨h0, h1⟩ := idx3 t
  idx_vars y
  unfold out0_3
  frame_out
  rw [pay_at]
  have e0 : (fun k => (iblk m c 0 t : Vec Ideal S512x512 .f32) (ix2 y0 k)) = _ := funext fun k => blk0 m c t y0 k
  have e1 : (fun k => (iblk m c 1 t : Vec Ideal S1x512 .f32) (ix2 0 k)) = _ := funext fun k => blk1 m c t k
  have e2 : (fun k => (iblk m c 2 t : Vec Ideal S1x512x2048 .bf16) (ix3 0 k y1)) = _ := funext fun k => blk2 m c t k y1
  rw [e0, e1, e2]
  show queries (m ((c : Thread nD τ).loc main_arg0)) (m ((c : Thread nD τ).loc main_arg1)) (m ((c : Thread nD τ).loc main_arg2)) (row t y0) y1 = _
  refine congrArg₂ (queries (m ((c : Thread nD τ).loc main_arg0)) (m ((c : Thread nD τ).loc main_arg1)) (m ((c : Thread nD τ).loc main_arg2)))
    (Fin.ext ?_) (Fin.ext ?_)
  · dsimp only
    rw [Pipeline.Window.rect_emb_val_off]
    show 512 * t.val + y0.val = win0_3.index t 0 * 512 + y0.val
    omega
  · dsimp only
    rw [Pipeline.Window.rect_emb_val_off]
    show y1.val = win0_3.index t 1 * 2048 + y1.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.QueriesIdeal.Latent

namespace Cert.QueriesRefIdeal.Latent

open Cert.QueriesRefIdeal Cert.QueriesRefIdeal.Gen Cert.QueriesRefIdeal.Read Idealize.ShloMosaic Idealize.ShloMosaic.TcCoe Idealize.SL.Sem

variable (x0 : Vec Ideal S8192x7680 .f32) (x1 : Vec Ideal S4x512 .f32) (x2 : Vec Ideal S4x512x1536 .f32)

theorem normed_at (R : Fin 8192) (k : Fin 512) : val_main_v15 (F := Ideal) x0 x1 (ix2 R k) = Cert.QueriesIdeal.Latent.cq x0 x1 R k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem product_at (R : Fin 8192) (d : Fin 1536) : val_main_v18 (F := Ideal) x0 x1 x2 (ix2 R d)
    = ∑ k : Fin 512, Cert.QueriesIdeal.Latent.cq x0 x1 R k * x2 (ix3 3 k d) := by
  pointwise [val_main_v18, val_main_v17, val_main_v16]
  exact Finset.sum_congr rfl fun k _ => congrArg (· * x2 (ix3 3 k d)) (normed_at x0 x1 R k)

theorem result_at (R : Fin 8192) (d : Fin 2048) : val_main_v21 (F := Ideal) x0 x1 x2 (ix2 R d) = Cert.QueriesIdeal.Latent.queries x0 x1 x2 R d := by
  have hf : val_main_call0_v0 (F := Ideal) = fun _ => (0 : EReal) := Cert.QueriesIdeal.Latent.fill
  unfold val_main_v21 val_main_v20
  rw [hf]
  pointwise [val_main_v19]
  unfold Cert.QueriesIdeal.Latent.queries Cert.QueriesIdeal.Latent.wide
  by_cases h : d.val % 256 < 192
  · rw [dif_pos ⟨by omega, h⟩, product_at]
    exact Finset.sum_congr rfl fun k _ => by rw [dif_pos h]
  · rw [dif_neg (fun hh => h hh.2)]
    exact (Finset.sum_eq_zero fun k _ => by rw [dif_neg h, mul_zero]).symm

/-- The reference's run from agreeing arguments: its result array is the kernel's. -/
theorem run (m : (ℓ : Loc Cert.QueriesIdeal.nD Cert.QueriesIdeal.τ Cert.QueriesIdeal.sig) → Buf (Elt Ideal) ℓ)
    (m' : (ℓ : Loc nD τ sig) → Buf (Elt Ideal) ℓ) (ρ : Dev nD → PrngReg)
    (hagree : ∀ c : Dev Cert.QueriesIdeal.nD,
      m' ((c.tc : Thread nD τ).loc main_arg0) = m ((c.tc : Thread Cert.QueriesIdeal.nD Cert.QueriesIdeal.τ).loc Cert.QueriesIdeal.main_arg0)
      ∧ m' ((c.tc : Thread nD τ).loc main_arg1) = m ((c.tc : Thread Cert.QueriesIdeal.nD Cert.QueriesIdeal.τ).loc Cert.QueriesIdeal.main_arg1)
      ∧ m' ((c.tc : Thread nD τ).loc main_arg2) = m ((c.tc : Thread Cert.QueriesIdeal.nD Cert.QueriesIdeal.τ).loc Cert.QueriesIdeal.main_arg2)) :
    θ_run defs (onTc (τ := τ) (main (F := Ideal))) ⟨m', fun _ => 0, ρ⟩ fun r => ∀ c : Dev nD,
      r.2.mem ((c.tc : Thread nD τ).loc main_v21) = Cert.QueriesIdeal.Latent.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun _ h c => ⟨(h c).1.trans ?_, (h c).2⟩) (Cert.QueriesRefIdeal.Value.run (F := Ideal) m' ρ)
  rw [Cert.QueriesRefIdeal.Read.val_main_v21_eq, (hagree c).1, (hagree c).2.1, (hagree c).2.2]
  funext y
  rw [ValueIdx.eq_ix2 y]
  exact result_at _ _ _ (y 0) (y 1)

end Cert.QueriesRefIdeal.Latent

end
-- ==== Proof.Cache.lean ====
module

public import proofs.«01_k».proof.Proof.NormSpec
public import proofs.«01_k».proof.Proof.Gen.CacheIdeal.Value
public import proofs.«01_k».proof.Proof.Gen.CacheRefIdeal.Run
public import proofs.«01_k».proof.Proof.Gen.CacheRefIdeal.Read
public import Idealize.ShloMosaic.Lib.Pointwise
public import Idealize.ShloMosaic.Lib.StableHlo.RunRead
public import Idealize.ShloMosaic.Lib.Pipeline.ValueKit

/-! The expansion of the cached keys and values by the last layer's weights; blocks of 512 columns. -/

@[expose] public section

set_option maxRecDepth 16384

noncomputable section

namespace Cert.CacheIdeal.Past

open Cert.CacheIdeal Cert.CacheIdeal.Gen Idealize.ShloMosaic Idealize.ShloMosaic.TcCoe Idealize.SL.Sem

variable (m : (ℓ : Loc nD τ sig) → Buf (Elt Ideal) ℓ)

/-- The product of a row with a column. -/
def dot (x w : Fin 256 → EReal) : EReal := ∑ k : Fin 256, x k * w k

/-- The expansion of a cached row. -/
def kv (x : Vec Ideal S4x4x256x256 .f32) (w : Vec Ideal S4x256x2048 .f32) (R : Fin 1024) (d : Fin 2048) : EReal :=
  dot (fun k => x (ix4 ⟨R.val / 256, by omega⟩ 3 ⟨R.val % 256, by omega⟩ k)) (fun k => w (ix3 3 k d))

/-- The result array. -/
def result (c : Dev nD) : Vec Ideal S1024x2048 .bf16 := fun y =>
  kv (m ((c : Thread nD τ).loc main_arg0)) (m ((c : Thread nD τ).loc main_arg1)) ⟨(y 0).val, (y 0).isLt⟩ ⟨(y 1).val, (y 1).isLt⟩

theorem lt_N (t : Fin cfg0.N) : t.val < 4 := t.isLt

theorem idx0 : ∀ t : Fin cfg0.N, (win0_0.index t 0 = 0 ∧ win0_0.index t 1 = 0) :=
  (by decide +kernel : ∀ t : Fin grid0.N, _)
theorem idx1 : ∀ t : Fin cfg0.N, (win0_1.index t 0 = 3 ∧ win0_1.index t 1 = 0 ∧ win0_1.index t 2 = t.val) :=
  (by decide +kernel : ∀ t : Fin grid0.N, _)
theorem idx2 : ∀ t : Fin cfg0.N, (win0_2.index t 0 = 0 ∧ win0_2.index t 1 = t.val) :=
  (by decide +kernel : ∀ t : Fin grid0.N, _)

/-- The column of `d` in the block of point `t`. -/
def col (t : Fin cfg0.N) (d : Fin 512) : Fin 2048 := ⟨512 * t.val + d.val, by have := lt_N t; omega⟩

/-- The last layer's cache, as the rows the kernel reads. -/
theorem past_at (x : Vec Ideal S4x4x256x256 .f32) (R : Fin 1024) (k : Fin 256) :
    (shapeCast S1024x256 (shapeCast S4x256x256 (extractStridedSlice S4x1x256x256 ![0, 3, 0, 0] x slices_S4x4x256x256_S4x1x256x256_0_3_0_0)
      shapeCasts_S4x1x256x256_S4x256x256) shapeCasts_S4x256x256_S1024x256 : Vec Ideal S1024x256 .f32) (ix2 R k)
      = x (ix4 ⟨R.val / 256, by omega⟩ 3 ⟨R.val % 256, by omega⟩ k) := by
  pointwise []

theorem blk0 (c : Dev nD) (t : Fin cfg0.N) (r : Fin 1024) (k : Fin 256) :
    (iblk m c 0 t : Vec Ideal S1024x256 .f32) (ix2 r k)
      = (m ((c : Thread nD τ).loc main_arg0) : Vec Ideal S4x4x256x256 .f32) (ix4 ⟨r.val / 256, by omega⟩ 3 ⟨r.val % 256, by omega⟩ k) := by
  obtain ⟨h0, h1⟩ := idx0 t
  have hv : @Eq (Vec Ideal S1024x256 .f32) (V m c main_v2)
      (shapeCast S1024x256 (shapeCast S4x256x256 (extractStridedSlice S4x1x256x256 ![0, 3, 0, 0] (m (c, Proc.tc.devRef main_arg0) : Vec Ideal S4x4x256x256 .f32)
        slices_S4x4x256x256_S4x1x256x256_0_3_0_0) shapeCasts_S4x1x256x256_S4x256x256) shapeCasts_S4x256x256_S1024x256) := by
    entry_read
    rfl
  have he : (win0_0.rect t).emb (ix2 r k) = (ix2 r k : S1024x256.Idx) := by
    funext a
    apply Fin.ext
    rw [Pipeline.Window.rect_emb_val_off]
    match a with
    | ⟨0, _⟩ => show win0_0.index t 0 * 1024 + r.val = r.val; omega
    | ⟨1, _⟩ => show win0_0.index t 1 * 256 + k.val = k.val; omega
  show (V m c main_v2 : Vec Ideal S1024x256 .f32) ((win0_0.rect t).emb (ix2 r k)) = _
  rw [hv, he, past_at]

theorem blk1 (c : Dev nD) (t : Fin cfg0.N) (k : Fin 256) (d : Fin 512) :
    (iblk m c 1 t : Vec Ideal S1x256x512 .bf16) (ix3 0 k d)
      = (m ((c : Thread nD τ).loc main_arg1) : Vec Ideal S4x256x2048 .f32) (ix3 3 k (col t d)) := by
  obtain ⟨h0, h1, h2⟩ := idx1 t
  have hv : @Eq (FVec Ideal S4x256x2048 .bf16) (V m c main_v3)
      (truncf .bf16 (m (c, Proc.tc.devRef main_arg1) : FVec Ideal S4x256x2048 .f32) bitsLt_bf16_f32) := by
    entry_read
    rfl
  show (V m c main_v3 : Vec Ideal S4x256x2048 .bf16) ((win0_1.rect t).emb (ix3 0 k d)) = _
  rw [hv]
  refine congrArg (m ((c : Thread nD τ).loc main_arg1) : Vec Ideal S4x256x2048 .f32) ?_
  funext a
  apply Fin.ext
  rw [Pipeline.Window.rect_emb_val_off]
  match a with
  | ⟨0, _⟩ => show win0_1.index t 0 * 1 + 0 = 3; omega
  | ⟨1, _⟩ => show win0_1.index t 1 * 256 + k.val = k.val; omega
  | ⟨2, _⟩ => show win0_1.index t 2 * 512 + d.val = 512 * t.val + d.val; omega

theorem pay_at (v0 : Vec Ideal S1024x256 .f32) (v3 : Vec Ideal S1x256x512 .bf16) (r : Fin 1024) (d : Fin 512) :
    k0_pay1 (F := Ideal) v0 v3 (ix2 r d) = dot (fun k => v0 (ix2 r k)) (fun k => v3 (ix3 0 k d)) := by
  pointwise [k0_pay1]
  rfl

theorem final (c : Dev nD) : (dats m 0 c).arrAt 2 cfg0.N = result m c := by
  refine (dats m 0 c).arrAt_eq_of_covers 2 _ (by decide +kernel) fun t hf y => ?_
  blk_simp
  rw [after0_2]
  revert y
  show ∀ y : S1024x512.Idx, (out0_2 (iblk m c 0 t) (iblk m c 1 t) : Vec Ideal S1024x512 .bf16) y
    = result m c ((win0_2.rect t).emb y)
  intro y
  obtain ⟨h0, h1⟩ := idx2 t
  idx_vars y
  unfold out0_2
  frame_out
  rw [pay_at]
  have e0 : (fun k => (iblk m c 0 t : Vec Ideal S1024x256 .f32) (ix2 y0 k)) = _ := funext fun k => blk0 m c t y0 k
  have e1 : (fun k => (iblk m c 1 t : Vec Ideal S1x256x512 .bf16) (ix3 0 k y1)) = _ := funext fun k => blk1 m c t k y1
  rw [e0, e1]
  show kv (m ((c : Thread nD τ).loc main_arg0)) (m ((c : Thread nD τ).loc main_arg1)) y0 (col t y1) = _
  refine congrArg₂ (kv (m ((c : Thread nD τ).loc main_arg0)) (m ((c : Thread nD τ).loc main_arg1))) (Fin.ext ?_) (Fin.ext ?_)
  · dsimp only
    rw [Pipeline.Window.rect_emb_val_off]
    show y0.val = win0_2.index t 0 * 1024 + y0.val
    omega
  · dsimp only
    rw [Pipeline.Window.rect_emb_val_off]
    show 512 * t.val + y1.val = win0_2.index t 1 * 512 + y1.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.CacheIdeal.Past

namespace Cert.CacheRefIdeal.Past

open Cert.CacheRefIdeal Cert.CacheRefIdeal.Gen Cert.CacheRefIdeal.Read Idealize.ShloMosaic Idealize.ShloMosaic.TcCoe Idealize.SL.Sem

variable (x0 : Vec Ideal S4x4x256x256 .f32) (x1 : Vec Ideal S4x256x2048 .f32)

theorem result_at (R : Fin 1024) (d : Fin 2048) : val_main_v6 (F := Ideal) x0 x1 (ix2 R d) = Cert.CacheIdeal.Past.kv x0 x1 R d := by
  pointwise [val_main_v6, val_main_v5, val_main_v4, val_main_v3, val_main_v2, val_main_v1, val_main_v0]
  rfl

/-- The reference's run from agreeing arguments: its result array is the kernel's. -/
theorem run (m : (ℓ : Loc Cert.CacheIdeal.nD Cert.CacheIdeal.τ Cert.CacheIdeal.sig) → Buf (Elt Ideal) ℓ)
    (m' : (ℓ : Loc nD τ sig) → Buf (Elt Ideal) ℓ) (ρ : Dev nD → PrngReg)
    (hagree : ∀ c : Dev Cert.CacheIdeal.nD,
      m' ((c.tc : Thread nD τ).loc main_arg0) = m ((c.tc : Thread Cert.CacheIdeal.nD Cert.CacheIdeal.τ).loc Cert.CacheIdeal.main_arg0)
      ∧ m' ((c.tc : Thread nD τ).loc main_arg1) = m ((c.tc : Thread Cert.CacheIdeal.nD Cert.CacheIdeal.τ).loc Cert.CacheIdeal.main_arg1)) :
    θ_run defs (onTc (τ := τ) (main (F := Ideal))) ⟨m', fun _ => 0, ρ⟩ fun r => ∀ c : Dev nD,
      r.2.mem ((c.tc : Thread nD τ).loc main_v6) = Cert.CacheIdeal.Past.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun _ h c => ⟨(h c).1.trans ?_, (h c).2⟩) (Cert.CacheRefIdeal.Value.run (F := Ideal) m' ρ)
  rw [Cert.CacheRefIdeal.Read.val_main_v6_eq, (hagree c).1, (hagree c).2]
  funext y
  rw [ValueIdx.eq_ix2 y]
  exact result_at _ _ (y 0) (y 1)

end Cert.CacheRefIdeal.Past

end
-- ==== Proof.Mod.lean ====
module

public import proofs.«01_k».proof.Proof.NormSpec
public import proofs.«01_k».proof.Proof.Gen.ModIdeal.Value
public import proofs.«01_k».proof.Proof.Gen.ModRefIdeal.Run
public import proofs.«01_k».proof.Proof.Gen.ModRefIdeal.Read
public import Idealize.ShloMosaic.Lib.Pointwise
public import Idealize.ShloMosaic.Lib.StableHlo.RunRead
public import Idealize.ShloMosaic.Lib.Pipeline.ValueKit

/-! The modulation vectors of all four layers, for the context's vector, the four latent sequences' and three rows of zeros;
    one layer and 1024 columns at a time. -/

@[expose] public section

set_option maxRecDepth 16384

noncomputable section

namespace Cert.ModIdeal.Vectors

open Cert.ModIdeal Cert.ModIdeal.Gen Idealize.ShloMosaic Idealize.ShloMosaic.TcCoe Idealize.SL.Sem

variable (m : (ℓ : Loc nD τ sig) → Buf (Elt Ideal) ℓ)

/-- The vectors that are modulated: the context's, the latent sequences', and zeros. -/
def cvec (x0 : Vec Ideal S4x2048 .f32) (x1 : Vec Ideal S2048 .f32) (a : Fin 8) (k : Fin 2048) : EReal :=
  if h : a.val < 1 then x1 (ix1 k) else if h' : a.val - 1 < 4 then x0 (ix2 ⟨a.val - 1, by omega⟩ k) else 0

/-- The product of a gated row with a column. -/
def gatedDot (x w : Fin 2048 → EReal) : EReal := ∑ k : Fin 2048, x k * Ideal.logistic (x k) * w k

/-- The modulation of layer `l`. -/
def vectors (x0 : Vec Ideal S4x2048 .f32) (x1 : Vec Ideal S2048 .f32) (w : Vec Ideal S4x2048x12288 .f32) (b : Vec Ideal S4x12288 .f32)
    (l : Fin 4) (a : Fin 8) (d : Fin 12288) : EReal :=
  gatedDot (cvec x0 x1 a) (fun k => w (ix3 l k d)) + b (ix2 l d)

/-- The result array. -/
def result (c : Dev nD) : Vec Ideal S4x8x12288 .f32 := fun y =>
  vectors (m ((c : Thread nD τ).loc main_arg0)) (m ((c : Thread nD τ).loc main_arg1)) (m ((c : Thread nD τ).loc main_arg2)) (m ((c : Thread nD τ).loc main_arg3))
    ⟨(y 0).val, (y 0).isLt⟩ ⟨(y 1).val, (y 1).isLt⟩ ⟨(y 2).val, (y 2).isLt⟩

theorem lt_N (t : Fin cfg0.N) : t.val < 48 := t.isLt

theorem idx0 : ∀ t : Fin cfg0.N, (win0_0.index t 0 = 0 ∧ win0_0.index t 1 = 0) :=
  (by decide +kernel : ∀ t : Fin grid0.N, _)
theorem idx1 : ∀ t : Fin cfg0.N, (win0_1.index t 0 = t.val / 12 ∧ win0_1.index t 1 = 0 ∧ win0_1.index t 2 = t.val % 12) :=
  (by decide +kernel : ∀ t : Fin grid0.N, _)
theorem idx2 : ∀ t : Fin cfg0.N, (win0_2.index t 0 = t.val / 12 ∧ win0_2.index t 1 = 0 ∧ win0_2.index t 2 = t.val % 12) :=
  (by decide +kernel : ∀ t : Fin grid0.N, _)
theorem idx3 : ∀ t : Fin cfg0.N, (win0_3.index t 0 = t.val / 12 ∧ win0_3.index t 1 = 0 ∧ win0_3.index t 2 = t.val % 12) :=
  (by decide +kernel : ∀ t : Fin grid0.N, _)

/-- The layer of point `t`. -/
def layer (t : Fin cfg0.N) : Fin 4 := ⟨t.val / 12, by have := lt_N t; omega⟩

/-- The column of `d` in the block of point `t`. -/
def col (t : Fin cfg0.N) (d : Fin 1024) : Fin 12288 := ⟨1024 * (t.val % 12) + d.val, by omega⟩

/-- One row, four rows and three rows, stacked. -/
def stack (a : FVec Ideal S1x2048 .f32) (b : FVec Ideal S4x2048 .f32) (e : FVec Ideal S3x2048 .f32) : FVec Ideal S8x2048 .f32 :=
  concatenate S8x2048 0 [⟨S1x2048, a⟩, ⟨S4x2048, b⟩, ⟨S3x2048, e⟩] concatenates_S1x2048_S4x2048_S3x2048_S8x2048_d0

/-- The three pieces, stacked. -/
theorem stack_at (x0 : Vec Ideal S4x2048 .f32) (x1 : Vec Ideal S2048 .f32) (a : Fin 8) (k : Fin 2048) :
    stack (broadcastInDim S1x2048 ![1] bcast_S2048_S1x2048_1 x1 : FVec Ideal S1x2048 .f32) x0
      (broadcastInDim S3x2048 ![] bcast_S_S3x2048 (constant S_ .f32 0x00000000#32 : FVec Ideal S_ .f32) : FVec Ideal S3x2048 .f32) (ix2 a k) = cvec x0 x1 a k := by
  unfold cvec stack
  pointwise []

/-- What the region finds as its first operand. -/
theorem stack_eq (c : Dev nD) : @Eq (FVec Ideal S8x2048 .f32) (V m c main_v2)
    (stack (broadcastInDim S1x2048 ![1] bcast_S2048_S1x2048_1 (m (c, Proc.tc.devRef main_arg1) : FVec Ideal S2048 .f32) : FVec Ideal S1x2048 .f32)
      (m (c, Proc.tc.devRef main_arg0) : FVec Ideal S4x2048 .f32)
      (broadcastInDim S3x2048 ![] bcast_S_S3x2048 (constant S_ .f32 0x00000000#32 : FVec Ideal S_ .f32) : FVec Ideal S3x2048 .f32)) := by
  show StableHlo.after hostOps0 _ _ = _
  unfold hostOps0
  rw [StableHlo.after_cons, StableHlo.after_cons, StableHlo.after_cons, StableHlo.after_cons, StableHlo.after_cons, StableHlo.after_nil,
    StableHlo.reshape_result_ne _ _ _ _ _ _ _ (by decide), StableHlo.nary_result]
  generalize hX : Idealize.ShloMosaic.HloOp.result (StableHlo.unary main_cst main_v1 _ _ _) _ = X
  have h0 : @Eq (FVec Ideal S1x2048 .f32) (X (Proc.tc.devRef main_v0))
      (broadcastInDim S1x2048 ![1] bcast_S2048_S1x2048_1 (m (c, Proc.tc.devRef main_arg1) : FVec Ideal S2048 .f32)) := by
    rw [← hX]
    after_results_simp
  have h1 : @Eq (FVec Ideal S4x2048 .f32) (X (Proc.tc.devRef main_arg0)) (m (c, Proc.tc.devRef main_arg0)) := by
    rw [← hX]
    after_results_simp
  have h2 : @Eq (FVec Ideal S3x2048 .f32) (X (Proc.tc.devRef main_v1))
      (broadcastInDim S3x2048 ![] bcast_S_S3x2048 (constant S_ .f32 0x00000000#32 : FVec Ideal S_ .f32)) := by
    rw [← hX]
    after_results_simp
  show stack (X (Proc.tc.devRef main_v0)) (X (Proc.tc.devRef main_arg0)) (X (Proc.tc.devRef main_v1)) = _
  rw [h0, h1, h2]

theorem blk0 (c : Dev nD) (t : Fin cfg0.N) (a : Fin 8) (k : Fin 2048) :
    (iblk m c 0 t : Vec Ideal S8x2048 .f32) (ix2 a k)
      = cvec (m ((c : Thread nD τ).loc main_arg0)) (m ((c : Thread nD τ).loc main_arg1)) a k := by
  obtain ⟨h0, h1⟩ := idx0 t
  have he : (win0_0.rect t).emb (ix2 a k) = (ix2 a k : S8x2048.Idx) := by
    funext b
    apply Fin.ext
    rw [Pipeline.Window.rect_emb_val_off]
    match b with
    | ⟨0, _⟩ => show win0_0.index t 0 * 8 + a.val = a.val; omega
    | ⟨1, _⟩ => show win0_0.index t 1 * 2048 + k.val = k.val; omega
  show (V m c main_v2 : Vec Ideal S8x2048 .f32) ((win0_0.rect t).emb (ix2 a k)) = _
  rw [stack_eq, he]
  exact stack_at _ _ a k

theorem blk1 (c : Dev nD) (t : Fin cfg0.N) (k : Fin 2048) (d : Fin 1024) :
    (iblk m c 1 t : Vec Ideal S1x2048x1024 .f32) (ix3 0 k d)
      = (m ((c : Thread nD τ).loc main_arg2) : Vec Ideal S4x2048x12288 .f32) (ix3 (layer t) k (col t d)) := by
  obtain ⟨h0, h1, h2⟩ := idx1 t
  show (V m c main_arg2 : Vec Ideal S4x2048x12288 .f32) ((win0_1.rect t).emb (ix3 0 k d)) = _
  rw [V_main_arg2]
  refine congrArg (m ((c : Thread nD τ).loc main_arg2) : Vec Ideal S4x2048x12288 .f32) ?_
  funext a
  apply Fin.ext
  rw [Pipeline.Window.rect_emb_val_off]
  match a with
  | ⟨0, _⟩ => show win0_1.index t 0 * 1 + 0 = t.val / 12; omega
  | ⟨1, _⟩ => show win0_1.index t 1 * 2048 + k.val = k.val; omega
  | ⟨2, _⟩ => show win0_1.index t 2 * 1024 + d.val = 1024 * (t.val % 12) + d.val; omega

theorem bias_at (x : Vec Ideal S4x12288 .f32) (l : Fin 4) (d : Fin 12288) :
    (shapeCast S4x1x12288 x shapeCasts_S4x12288_S4x1x12288 : Vec Ideal S4x1x12288 .f32) (ix3 l 0 d) = x (ix2 l d) := by
  pointwise []

theorem blk2 (c : Dev nD) (t : Fin cfg0.N) (d : Fin 1024) :
    (iblk m c 2 t : Vec Ideal S1x1x1024 .f32) (ix3 0 0 d)
      = (m ((c : Thread nD τ).loc main_arg3) : Vec Ideal S4x12288 .f32) (ix2 (layer t) (col t d)) := by
  obtain ⟨h0, h1, h2⟩ := idx2 t
  have hv : @Eq (Vec Ideal S4x1x12288 .f32) (V m c main_v3)
      (shapeCast S4x1x12288 (m (c, Proc.tc.devRef main_arg3) : Vec Ideal S4x12288 .f32) shapeCasts_S4x12288_S4x1x12288) := by
    entry_read
    rfl
  have he : (win0_2.rect t).emb (ix3 0 0 d) = (ix3 (layer t) 0 (col t d) : S4x1x12288.Idx) := by
    funext a
    apply Fin.ext
    rw [Pipeline.Window.rect_emb_val_off]
    match a with
    | ⟨0, _⟩ => show win0_2.index t 0 * 1 + 0 = t.val / 12; omega
    | ⟨1, _⟩ => show win0_2.index t 1 * 1 + 0 = 0; omega
    | ⟨2, _⟩ => show win0_2.index t 2 * 1024 + d.val = 1024 * (t.val % 12) + d.val; omega
  show (V m c main_v3 : Vec Ideal S4x1x12288 .f32) ((win0_2.rect t).emb (ix3 0 0 d)) = _
  rw [hv, he, bias_at]

theorem pay_at (v0 : Vec Ideal S8x2048 .f32) (v5 : Vec Ideal S1x2048x1024 .f32) (v9 : Vec Ideal S1x1x1024 .f32) (a : Fin 8) (d : Fin 1024) :
    k0_pay1 (F := Ideal) v0 v5 v9 (ix3 0 a d)
      = gatedDot (fun k => v0 (ix2 a k)) (fun k => v5 (ix3 0 k d)) + v9 (ix3 0 0 d) := by
  pointwise [k0_pay1]
  rfl

theorem final (c : Dev nD) : (dats m 0 c).arrAt 3 cfg0.N = result m c := by
  refine (dats m 0 c).arrAt_eq_of_covers 3 _ (by decide +kernel) fun t hf y => ?_
  blk_simp
  rw [after0_3]
  revert y
  show ∀ y : S1x8x1024.Idx, (out0_3 (iblk m c 0 t) (iblk m c 1 t) (iblk m c 2 t) : Vec Ideal S1x8x1024 .f32) y
    = result m c ((win0_3.rect t).emb y)
  intro y
  obtain ⟨h0, h1, h2⟩ := idx3 t
  idx_vars y
  obtain rfl : y0 = 0 := Subsingleton.elim _ _
  unfold out0_3
  frame_out
  rw [pay_at, blk2]
  have e0 : (fun k => (iblk m c 0 t : Vec Ideal S8x2048 .f32) (ix2 y1 k)) = _ := funext fun k => blk0 m c t y1 k
  have e1 : (fun k => (iblk m c 1 t : Vec Ideal S1x2048x1024 .f32) (ix3 0 k y2)) = _ := funext fun k => blk1 m c t k y2
  rw [e0, e1]
  show vectors (m ((c : Thread nD τ).loc main_arg0)) (m ((c : Thread nD τ).loc main_arg1)) (m ((c : Thread nD τ).loc main_arg2)) (m ((c : Thread nD τ).loc main_arg3))
    (layer t) y1 (col t y2) = vectors _ _ _ _ _ _ _
  congr 1 <;> apply Fin.ext
  · show t.val / 12 = ((win0_3.rect t).emb (ix3 0 y1 y2) 0).val
    rw [Pipeline.Window.rect_emb_val_off]
    show t.val / 12 = win0_3.index t 0 * 1 + 0
    omega
  · show y1.val = ((win0_3.rect t).emb (ix3 0 y1 y2) 1).val
    rw [Pipeline.Window.rect_emb_val_off]
    show y1.val = win0_3.index t 1 * 8 + y1.val
    omega
  · show 1024 * (t.val % 12) + y2.val = ((win0_3.rect t).emb (ix3 0 y1 y2) 2).val
    rw [Pipeline.Window.rect_emb_val_off]
    show 1024 * (t.val % 12) + y2.val = win0_3.index t 2 * 1024 + y2.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.ModIdeal.Vectors

namespace Cert.ModRefIdeal.Vectors

open Cert.ModRefIdeal Cert.ModRefIdeal.Gen Cert.ModRefIdeal.Read Idealize.ShloMosaic Idealize.ShloMosaic.TcCoe Idealize.SL.Sem
open Cert.ModIdeal.Vectors (cvec vectors)

variable (x0 : Vec Ideal S4x2048 .f32) (x1 : Vec Ideal S2048 .f32) (x2 : Vec Ideal S4x2048x12288 .f32) (x3 : Vec Ideal S4x12288 .f32)

theorem cvec_at (a : Fin 8) (k : Fin 2048) : val_main_v2 (F := Ideal) x0 x1 (ix2 a k) = cvec x0 x1 a k :=
  Cert.ModIdeal.Vectors.stack_at x0 x1 a k

theorem gated0_at (a : Fin 8) (k : Fin 2048) : val_main_v7 (F := Ideal) x0 x1 (ix2 a k)
    = cvec x0 x1 a k * Ideal.logistic (cvec x0 x1 a k) := by
  pointwise [val_main_v7, val_main_call0_v5, val_main_call0_v4, val_main_call0_v3, val_main_call0_v2, val_main_call0_v1, val_main_call0_v0, val_main_call0_cst, val_main_call0_cst_0]
  rw [cvec_at]
  rfl

theorem layer0_at (a : Fin 8) (d : Fin 12288) : val_main_v13 (F := Ideal) x0 x1 x2 x3 (ix2 a d) = vectors x0 x1 x2 x3 0 a d := by
  pointwise [val_main_v13, val_main_v12, val_main_v11, val_main_v10, val_main_v9, val_main_v8, val_main_v6, val_main_v5, val_main_v4, val_main_v3]
  exact congrArg (· + x3 (ix2 0 d)) (Finset.sum_congr rfl fun k _ => congrArg (· * x2 (ix3 0 k d)) (gated0_at x0 x1 a k))

theorem gated1_at (a : Fin 8) (k : Fin 2048) : val_main_v18 (F := Ideal) x0 x1 (ix2 a k)
    = cvec x0 x1 a k * Ideal.logistic (cvec x0 x1 a k) := by
  pointwise [val_main_v18, val_main_call1_v5, val_main_call1_v4, val_main_call1_v3, val_main_call1_v2, val_main_call1_v1, val_main_call1_v0, val_main_call1_cst, val_main_call1_cst_0]
  rw [cvec_at]
  rfl

theorem layer1_at (a : Fin 8) (d : Fin 12288) : val_main_v24 (F := Ideal) x0 x1 x2 x3 (ix2 a d) = vectors x0 x1 x2 x3 1 a d := by
  pointwise [val_main_v24, val_main_v23, val_main_v22, val_main_v21, val_main_v20, val_main_v19, val_main_v17, val_main_v16, val_main_v15, val_main_v14]
  exact congrArg (· + x3 (ix2 1 d)) (Finset.sum_congr rfl fun k _ => congrArg (· * x2 (ix3 1 k d)) (gated1_at x0 x1 a k))

theorem gated2_at (a : Fin 8) (k : Fin 2048) : val_main_v29 (F := Ideal) x0 x1 (ix2 a k)
    = cvec x0 x1 a k * Ideal.logistic (cvec x0 x1 a k) := by
  pointwise [val_main_v29, val_main_call2_v5, val_main_call2_v4, val_main_call2_v3, val_main_call2_v2, val_main_call2_v1, val_main_call2_v0, val_main_call2_cst, val_main_call2_cst_0]
  rw [cvec_at]
  rfl

theorem layer2_at (a : Fin 8) (d : Fin 12288) : val_main_v35 (F := Ideal) x0 x1 x2 x3 (ix2 a d) = vectors x0 x1 x2 x3 2 a d := by
  pointwise [val_main_v35, val_main_v34, val_main_v33, val_main_v32, val_main_v31, val_main_v30, val_main_v28, val_main_v27, val_main_v26, val_main_v25]
  exact congrArg (· + x3 (ix2 2 d)) (Finset.sum_congr rfl fun k _ => congrArg (· * x2 (ix3 2 k d)) (gated2_at x0 x1 a k))

theorem gated3_at (a : Fin 8) (k : Fin 2048) : val_main_v40 (F := Ideal) x0 x1 (ix2 a k)
    = cvec x0 x1 a k * Ideal.logistic (cvec x0 x1 a k) := by
  pointwise [val_main_v40, val_main_call3_v5, val_main_call3_v4, val_main_call3_v3, val_main_call3_v2, val_main_call3_v1, val_main_call3_v0, val_main_call3_cst, val_main_call3_cst_0]
  rw [cvec_at]
  rfl

theorem layer3_at (a : Fin 8) (d : Fin 12288) : val_main_v46 (F := Ideal) x0 x1 x2 x3 (ix2 a d) = vectors x0 x1 x2 x3 3 a d := by
  pointwise [val_main_v46, val_main_v45, val_main_v44, val_main_v43, val_main_v42, val_main_v41, val_main_v39, val_main_v38, val_main_v37, val_main_v36]
  exact congrArg (· + x3 (ix2 3 d)) (Finset.sum_congr rfl fun k _ => congrArg (· * x2 (ix3 3 k d)) (gated3_at x0 x1 a k))

theorem result_at (l : Fin 4) (a : Fin 8) (d : Fin 12288) : val_main_v51 (F := Ideal) x0 x1 x2 x3 (ix3 l a d) = vectors x0 x1 x2 x3 l a d := by
  match l with
  | ⟨0, _⟩ =>
    show val_main_v51 (F := Ideal) x0 x1 x2 x3 (ix3 0 a d) = vectors x0 x1 x2 x3 0 a d
    pointwise [val_main_v51, val_main_v50, val_main_v49, val_main_v48, val_main_v47]
    exact layer0_at x0 x1 x2 x3 a d
  | ⟨1, _⟩ =>
    show val_main_v51 (F := Ideal) x0 x1 x2 x3 (ix3 1 a d) = vectors x0 x1 x2 x3 1 a d
    pointwise [val_main_v51, val_main_v50, val_main_v49, val_main_v48, val_main_v47]
    exact layer1_at x0 x1 x2 x3 a d
  | ⟨2, _⟩ =>
    show val_main_v51 (F := Ideal) x0 x1 x2 x3 (ix3 2 a d) = vectors x0 x1 x2 x3 2 a d
    pointwise [val_main_v51, val_main_v50, val_main_v49, val_main_v48, val_main_v47]
    exact layer2_at x0 x1 x2 x3 a d
  | ⟨3, _⟩ =>
    show val_main_v51 (F := Ideal) x0 x1 x2 x3 (ix3 3 a d) = vectors x0 x1 x2 x3 3 a d
    pointwise [val_main_v51, val_main_v50, val_main_v49, val_main_v48, val_main_v47]
    exact layer3_at x0 x1 x2 x3 a d

/-- The reference's run from agreeing arguments: its result array is the kernel's. -/
theorem run (m : (ℓ : Loc Cert.ModIdeal.nD Cert.ModIdeal.τ Cert.ModIdeal.sig) → Buf (Elt Ideal) ℓ)
    (m' : (ℓ : Loc nD τ sig) → Buf (Elt Ideal) ℓ) (ρ : Dev nD → PrngReg)
    (hagree : ∀ c : Dev Cert.ModIdeal.nD,
      m' ((c.tc : Thread nD τ).loc main_arg0) = m ((c.tc : Thread Cert.ModIdeal.nD Cert.ModIdeal.τ).loc Cert.ModIdeal.main_arg0)
      ∧ m' ((c.tc : Thread nD τ).loc main_arg1) = m ((c.tc : Thread Cert.ModIdeal.nD Cert.ModIdeal.τ).loc Cert.ModIdeal.main_arg1)
      ∧ m' ((c.tc : Thread nD τ).loc main_arg2) = m ((c.tc : Thread Cert.ModIdeal.nD Cert.ModIdeal.τ).loc Cert.ModIdeal.main_arg2)
      ∧ m' ((c.tc : Thread nD τ).loc main_arg3) = m ((c.tc : Thread Cert.ModIdeal.nD Cert.ModIdeal.τ).loc Cert.ModIdeal.main_arg3)) :
    θ_run defs (onTc (τ := τ) (main (F := Ideal))) ⟨m', fun _ => 0, ρ⟩ fun r => ∀ c : Dev nD,
      r.2.mem ((c.tc : Thread nD τ).loc main_v51) = Cert.ModIdeal.Vectors.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) := by
  refine (θ_run defs _ _).mono (fun _ h c => ⟨(h c).1.trans ?_, (h c).2⟩) (Cert.ModRefIdeal.Value.run (F := Ideal) m' ρ)
  rw [Cert.ModRefIdeal.Read.val_main_v51_eq, (hagree c).1, (hagree c).2.1, (hagree c).2.2.1, (hagree c).2.2.2]
  funext y
  rw [ValueIdx.eq_ix3 y]
  exact result_at _ _ _ _ (y 0) (y 1) (y 2)

end Cert.ModRefIdeal.Vectors

end
-- ==== Proof.First.lean ====
module

public import proofs.«01_k».proof.Proof.NormSpec
public import proofs.«01_k».proof.Proof.Gen.FirstIdeal.Value
public import proofs.«01_k».proof.Proof.Gen.FirstRefIdeal.Run
public import proofs.«01_k».proof.Proof.Gen.FirstRefIdeal.Read
public import Idealize.ShloMosaic.Lib.Pointwise
public import Idealize.ShloMosaic.Lib.StableHlo.RunRead
public import Idealize.ShloMosaic.Lib.Pipeline.ValueKit

/-! The first layer's modulated norm: blocks of 512 tokens, each with the modulation row of its tokens. -/

@[expose] public section

set_option maxRecDepth 16384

noncomputable section

namespace Cert.FirstIdeal.PreNorm

open Cert.FirstIdeal Cert.FirstIdeal.Gen Idealize.ShloMosaic Idealize.ShloMosaic.TcCoe Idealize.SL.Sem

variable (m : (ℓ : Loc nD τ sig) → Buf (Elt Ideal) ℓ)

/-- The modulated norm at a token and a channel, of the three arguments. -/
def out (x : Vec Ideal S8192x2048 .f32) (md : Vec Ideal S8x12288 .f32) (g : Vec Ideal S4x2048 .f32) (R : Fin 8192) (d : Fin 2048) : EReal :=
  Norm.modNorm (fun k => x (ix2 R k)) (fun k => g (ix2 0 k)) (Norm.modAt (fun a b => md (ix2 a b)) 1 R) (Norm.modAt (fun a b => md (ix2 a b)) 0 R) d

/-- The result array. -/
def result (c : Dev nD) : Vec Ideal S8192x2048 .bf16 := fun y =>
  out (m ((c : Thread nD τ).loc main_arg0)) (m ((c : Thread nD τ).loc main_arg1)) (m ((c : Thread nD τ).loc main_arg2)) ⟨(y 0).val, (y 0).isLt⟩ ⟨(y 1).val, (y 1).isLt⟩

theorem lt_N (t : Fin cfg0.N) : t.val < 16 := t.isLt

theorem idx0 : ∀ t : Fin cfg0.N, (win0_0.index t 0 = t.val ∧ win0_0.index t 1 = 0) :=
  (by decide +kernel : ∀ t : Fin grid0.N, _)
theorem idx1 : ∀ t : Fin cfg0.N, (win0_1.index t 0 = 0 ∧ win0_1.index t 1 = 0) :=
  (by decide +kernel : ∀ t : Fin grid0.N, _)
theorem idx2 : ∀ t : Fin cfg0.N, (win0_2.index t 0 = Norm.modRow (512 * t.val) ∧ win0_2.index t 1 = 1 ∧ win0_2.index t 2 = 0 ∧ win0_2.index t 3 = 0) :=
  (by decide +kernel : ∀ t : Fin grid0.N, _)
theorem idx3 : ∀ t : Fin cfg0.N, (win0_3.index t 0 = Norm.modRow (512 * t.val) ∧ win0_3.index t 1 = 0 ∧ win0_3.index t 2 = 0 ∧ win0_3.index t 3 = 0) :=
  (by decide +kernel : ∀ t : Fin grid0.N, _)
theorem idx4 : ∀ t : Fin cfg0.N, (win0_4.index t 0 = t.val ∧ win0_4.index t 1 = 0) :=
  (by decide +kernel : ∀ t : Fin grid0.N, _)

/-- The token of row `r` in the block of point `t`. -/
def row (t : Fin cfg0.N) (r : Fin 512) : Fin 8192 := ⟨512 * t.val + r.val, by have := lt_N t; omega⟩

theorem modRow_row (t : Fin cfg0.N) (r : Fin 512) : Norm.modRow (512 * t.val) = Norm.modRow (row t r).val := by
  have := lt_N t
  show _ = Norm.modRow (512 * t.val + r.val)
  unfold Norm.modRow
  split <;> split <;> omega

/-- The modulation table with its six vectors apart. -/
theorem table_at (x : Vec Ideal S8x12288 .f32) (a : Fin 8) (k : Fin 6) (d : Fin 2048) :
    (shapeCast S8x6x1x2048 x shapeCasts_S8x12288_S8x6x1x2048 : Vec Ideal S8x6x1x2048 .f32) (ix4 a k 0 d)
      = x (ix2 a ⟨2048 * k.val + d.val, by omega⟩) := by
  refine shapeCast_apply x shapeCasts_S8x12288_S8x6x1x2048 _ _ ?_
  rw [Shape.rowMajor_val_four, Shape.rowMajor_val_two]
  show a.val * 12288 + (2048 * k.val + d.val) = ((a.val * 6 + k.val) * 1 + 0) * 2048 + d.val
  omega

theorem blk0 (c : Dev nD) (t : Fin cfg0.N) (r : Fin 512) (k : Fin 2048) :
    (iblk m c 0 t : Vec Ideal S512x2048 .f32) (ix2 r k)
      = (m ((c : Thread nD τ).loc main_arg0) : Vec Ideal S8192x2048 .f32) (ix2 (row t r) k) := by
  obtain ⟨h0, h1⟩ := idx0 t
  show (V m c main_arg0 : Vec Ideal S8192x2048 .f32) ((win0_0.rect t).emb (ix2 r k)) = _
  rw [V_main_arg0]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 512 + r.val = 512 * t.val + r.val; omega
  | ⟨1, _⟩ => show win0_0.index t 1 * 2048 + k.val = k.val; omega

/-- Gain row 0, as the row the kernel reads. -/
theorem gain0_at (x : Vec Ideal S4x2048 .f32) (d : Fin 2048) :
    (shapeCast S1x2048 (shapeCast S2048 (extractStridedSlice S1x2048 ![0, 0] x slices_S4x2048_S1x2048_0_0) shapeCasts_S1x2048_S2048)
      shapeCasts_S2048_S1x2048 : Vec Ideal S1x2048 .f32) (ix2 0 d) = x (ix2 0 d) := by
  pointwise []

theorem blk1 (c : Dev nD) (t : Fin cfg0.N) (d : Fin 2048) :
    (iblk m c 1 t : Vec Ideal S1x2048 .f32) (ix2 0 d)
      = (m ((c : Thread nD τ).loc main_arg2) : Vec Ideal S4x2048 .f32) (ix2 0 d) := by
  obtain ⟨h0, h1⟩ := idx1 t
  have hv : @Eq (Vec Ideal S1x2048 .f32) (V m c main_v3)
      (shapeCast S1x2048 (shapeCast S2048 (extractStridedSlice S1x2048 ![0, 0] (m (c, Proc.tc.devRef main_arg2) : Vec Ideal S4x2048 .f32)
        slices_S4x2048_S1x2048_0_0) shapeCasts_S1x2048_S2048) shapeCasts_S2048_S1x2048) := by
    entry_read
    rfl
  have he : (win0_1.rect t).emb (ix2 0 d) = (ix2 0 d : S1x2048.Idx) := by
    funext a
    apply Fin.ext
    rw [Pipeline.Window.rect_emb_val_off]
    match a with
    | ⟨0, _⟩ => show win0_1.index t 0 * 1 + 0 = 0; omega
    | ⟨1, _⟩ => show win0_1.index t 1 * 2048 + d.val = d.val; omega
  show (V m c main_v3 : Vec Ideal S1x2048 .f32) ((win0_1.rect t).emb (ix2 0 d)) = _
  rw [hv, he, gain0_at]

theorem blk2 (c : Dev nD) (t : Fin cfg0.N) (r : Fin 512) (d : Fin 2048) :
    (iblk m c 2 t : Vec Ideal S1x1x1x2048 .f32) (ix4 0 0 0 d)
      = Norm.modAt (fun a b => (m ((c : Thread nD τ).loc main_arg1) : Vec Ideal S8x12288 .f32) (ix2 a b)) 1 (row t r) d := by
  obtain ⟨h0, h1, h2, h3⟩ := idx2 t
  have hr := modRow_row t r
  have hl := Norm.modRow_lt _ (row t r).isLt
  have hv : @Eq (Vec Ideal S8x6x1x2048 .f32) (V m c main_v0)
      (shapeCast S8x6x1x2048 (m (c, Proc.tc.devRef main_arg1) : Vec Ideal S8x12288 .f32) shapeCasts_S8x12288_S8x6x1x2048) := by
    entry_read
    rfl
  have he : (win0_2.rect t).emb (ix4 0 0 0 d) = (ix4 ⟨Norm.modRow (row t r).val, hl⟩ 1 0 d : S8x6x1x2048.Idx) := by
    funext a
    apply Fin.ext
    rw [Pipeline.Window.rect_emb_val_off]
    match a with
    | ⟨0, _⟩ => show win0_2.index t 0 * 1 + 0 = Norm.modRow (row t r).val; omega
    | ⟨1, _⟩ => show win0_2.index t 1 * 1 + 0 = 1; omega
    | ⟨2, _⟩ => show win0_2.index t 2 * 1 + 0 = 0; omega
    | ⟨3, _⟩ => show win0_2.index t 3 * 2048 + d.val = d.val; omega
  show (V m c main_v0 : Vec Ideal S8x6x1x2048 .f32) ((win0_2.rect t).emb (ix4 0 0 0 d)) = _
  rw [hv, he, table_at]
  rfl

theorem blk3 (c : Dev nD) (t : Fin cfg0.N) (r : Fin 512) (d : Fin 2048) :
    (iblk m c 3 t : Vec Ideal S1x1x1x2048 .f32) (ix4 0 0 0 d)
      = Norm.modAt (fun a b => (m ((c : Thread nD τ).loc main_arg1) : Vec Ideal S8x12288 .f32) (ix2 a b)) 0 (row t r) d := by
  obtain ⟨h0, h1, h2, h3⟩ := idx3 t
  have hr := modRow_row t r
  have hl := Norm.modRow_lt _ (row t r).isLt
  have hv : @Eq (Vec Ideal S8x6x1x2048 .f32) (V m c main_v0)
      (shapeCast S8x6x1x2048 (m (c, Proc.tc.devRef main_arg1) : Vec Ideal S8x12288 .f32) shapeCasts_S8x12288_S8x6x1x2048) := by
    entry_read
    rfl
  have he : (win0_3.rect t).emb (ix4 0 0 0 d) = (ix4 ⟨Norm.modRow (row t r).val, hl⟩ 0 0 d : S8x6x1x2048.Idx) := by
    funext a
    apply Fin.ext
    rw [Pipeline.Window.rect_emb_val_off]
    match a with
    | ⟨0, _⟩ => show win0_3.index t 0 * 1 + 0 = Norm.modRow (row t r).val; omega
    | ⟨1, _⟩ => show win0_3.index t 1 * 1 + 0 = 0; omega
    | ⟨2, _⟩ => show win0_3.index t 2 * 1 + 0 = 0; omega
    | ⟨3, _⟩ => show win0_3.index t 3 * 2048 + d.val = d.val; omega
  show (V m c main_v0 : Vec Ideal S8x6x1x2048 .f32) ((win0_3.rect t).emb (ix4 0 0 0 d)) = _
  rw [hv, he, table_at]
  rfl

theorem pay_at (v0 : Vec Ideal S512x2048 .f32) (v11 : Vec Ideal S1x2048 .f32) (v15 v21 : Vec Ideal S1x1x1x2048 .f32)
    (r : Fin 512) (d : Fin 2048) : k0_pay1 (F := Ideal) v0 v11 v15 v21 (ix2 r d)
      = Norm.modNorm (fun k => v0 (ix2 r k)) (fun k => v11 (ix2 0 k)) (fun k => v15 (ix4 0 0 0 k)) (fun k => v21 (ix4 0 0 0 k)) d := by
  pointwise [k0_pay1]
  rfl

theorem final (c : Dev nD) : (dats m 0 c).arrAt 4 cfg0.N = result m c := by
  refine (dats m 0 c).arrAt_eq_of_covers 4 _ (by decide +kernel) fun t hf y => ?_
  blk_simp
  rw [after0_4]
  revert y
  show ∀ y : S512x2048.Idx, (out0_4 (iblk m c 0 t) (iblk m c 1 t) (iblk m c 2 t) (iblk m c 3 t) : Vec Ideal S512x2048 .bf16) y
    = result m c ((win0_4.rect t).emb y)
  intro y
  obtain ⟨h0, h1⟩ := idx4 t
  idx_vars y
  unfold out0_4
  frame_out
  rw [pay_at]
  have e0 : (fun k => (iblk m c 0 t : Vec Ideal S512x2048 .f32) (ix2 y0 k)) = _ := funext fun k => blk0 m c t y0 k
  have e1 : (fun k => (iblk m c 1 t : Vec Ideal S1x2048 .f32) (ix2 0 k)) = _ := funext fun k => blk1 m c t k
  have e2 : (fun k => (iblk m c 2 t : Vec Ideal S1x1x1x2048 .f32) (ix4 0 0 0 k)) = _ := funext fun k => blk2 m c t y0 k
  have e3 : (fun k => (iblk m c 3 t : Vec Ideal S1x1x1x2048 .f32) (ix4 0 0 0 k)) = _ := funext fun k => blk3 m c t y0 k
  rw [e0, e1, e2, e3]
  refine congrArg₂ (out (m ((c : Thread nD τ).loc main_arg0)) (m ((c : Thread nD τ).loc main_arg1)) (m ((c : Thread nD τ).loc main_arg2))) (Fin.ext ?_) (Fin.ext ?_)
  · dsimp only
    rw [Pipeline.Window.rect_emb_val_off]
    show 512 * t.val + y0.val = win0_4.index t 0 * 512 + y0.val
    omega
  · dsimp only
    rw [Pipeline.Window.rect_emb_val_off]
    show y1.val = win0_4.index t 1 * 2048 + y1.val
    omega

/-- The kernel's run: the result array, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.FirstIdeal.PreNorm

namespace Cert.FirstRefIdeal.PreNorm

open Cert.FirstRefIdeal Cert.FirstRefIdeal.Gen Cert.FirstRefIdeal.Read Idealize.ShloMosaic Idealize.ShloMosaic.TcCoe Idealize.SL.Sem

variable (x0 : Vec Ideal S8192x2048 .f32) (x1 : Vec Ideal S8x12288 .f32) (x2 : Vec Ideal S4x2048 .f32)

theorem out_ctx (b : Fin 16) (n : Fin 256) (d : Fin 2048) : val_main_v34 (F := Ideal) x0 x1 x2 (ix3 b n d)
    = Cert.FirstIdeal.PreNorm.out x0 x1 x2 ⟨b.val * 256 + n.val, by omega⟩ d := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v9, val_main_v8, val_main_v5, val_main_v4, val_main_v1, val_main_v0, val_main_cst, val_main_cst_0, val_main_cst_1, val_main_cst_2]
  have hm : Norm.modRow (b.val * 256 + n.val) = 0 := by
    unfold Norm.modRow
    split <;> omega
  have hz : ∀ q : Fin 2048, (⟨2048 * ((0 : Fin 6) : Nat) + q.val, by omega⟩ : Fin 12288) = ⟨q.val, by omega⟩ := fun q => Fin.ext (by simp)
  unfold Cert.FirstIdeal.PreNorm.out Norm.modNorm Norm.modAt Norm.scale
  simp only [hm, hz]
  rfl

theorem out_lat (b : Fin 4) (n : Fin 1024) (d : Fin 2048) : val_main_v61 (F := Ideal) x0 x1 x2 (ix3 b n d)
    = Cert.FirstIdeal.PreNorm.out x0 x1 x2 ⟨4096 + (b.val * 1024 + n.val), by omega⟩ d := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v36, val_main_v35, val_main_v7, val_main_v6, val_main_v3, val_main_v2, val_main_cst_3, val_main_cst_4, val_main_cst_5, val_main_cst_6]
  have hm : Norm.modRow (4096 + (b.val * 1024 + n.val)) = 1 + b.val := by
    unfold Norm.modRow
    split <;> omega
  have hz : ∀ q : Fin 2048, (⟨2048 * ((0 : Fin 6) : Nat) + q.val, by omega⟩ : Fin 12288) = ⟨q.val, by omega⟩ := fun q => Fin.ext (by simp)
  unfold Cert.FirstIdeal.PreNorm.out Norm.modNorm Norm.modAt Norm.scale
  simp only [hm, hz]
  rfl

theorem result_at (R : Fin 8192) (d : Fin 2048) :
    val_main_v65 (F := Ideal) x0 x1 x2 (ix2 R d) = Cert.FirstIdeal.PreNorm.out x0 x1 x2 R d := by
  pointwise [val_main_v65, val_main_v64, val_main_v63, val_main_v62]
  by_cases h : R.val < 4096
  · rw [dif_pos h, out_ctx]
    refine congrArg (fun q => Cert.FirstIdeal.PreNorm.out x0 x1 x2 q d) (Fin.ext ?_)
    show R.val / 256 * 256 + R.val % 256 = R.val
    omega
  · rw [dif_neg h, out_lat]
    refine congrArg (fun q => Cert.FirstIdeal.PreNorm.out x0 x1 x2 q d) (Fin.ext ?_)
    show 4096 + ((R.val - 4096) / 1024 * 1024 + (R.val - 4096) % 1024) = R.val
    omega

/-- The reference's run from agreeing arguments: its result array is the kernel's. -/
theorem run (m : (ℓ : Loc Cert.FirstIdeal.nD Cert.FirstIdeal.τ Cert.FirstIdeal.sig) → Buf (Elt Ideal) ℓ)
    (m' : (ℓ : Loc nD τ sig) → Buf (Elt Ideal) ℓ) (ρ : Dev nD → PrngReg)
    (hagree : ∀ c : Dev Cert.FirstIdeal.nD,
      m' ((c.tc : Thread nD τ).loc main_arg0) = m ((c.tc : Thread Cert.FirstIdeal.nD Cert.FirstIdeal.τ).loc Cert.FirstIdeal.main_arg0)
      ∧ m' ((c.tc : Thread nD τ).loc main_arg1) = m ((c.tc : Thread Cert.FirstIdeal.nD Cert.FirstIdeal.τ).loc Cert.FirstIdeal.main_arg1)
      ∧ m' ((c.tc : Thread nD τ).loc main_arg2) = m ((c.tc : Thread Cert.FirstIdeal.nD Cert.FirstIdeal.τ).loc Cert.FirstIdeal.main_arg2)) :
    θ_run defs (onTc (τ := τ) (main (F := Ideal))) ⟨m', fun _ => 0, ρ⟩ fun r => ∀ c : Dev nD,
      r.2.mem ((c.tc : Thread nD τ).loc main_v65) = Cert.FirstIdeal.PreNorm.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun _ h c => ⟨(h c).1.trans ?_, (h c).2⟩) (Cert.FirstRefIdeal.Value.run (F := Ideal) m' ρ)
  rw [Cert.FirstRefIdeal.Read.val_main_v65_eq, (hagree c).1, (hagree c).2.1, (hagree c).2.2]
  funext y
  rw [ValueIdx.eq_ix2 y]
  exact result_at _ _ _ (y 0) (y 1)

end Cert.FirstRefIdeal.PreNorm

end
-- ==== Proof.Next.lean ====
module

public import proofs.«01_k».proof.Proof.NormSpec
public import proofs.«01_k».proof.Proof.Gen.NextIdeal.Value
public import proofs.«01_k».proof.Proof.Gen.NextRefIdeal.Run
public import proofs.«01_k».proof.Proof.Gen.NextRefIdeal.Read
public import Idealize.ShloMosaic.Lib.Pointwise
public import Idealize.ShloMosaic.Lib.StableHlo.RunRead
public import Idealize.ShloMosaic.Lib.Pipeline.ValueKit

/-! The second residual of a layer and the modulated norm that opens the last layer: blocks of 512 tokens, each with the
    modulation rows of its tokens. -/

@[expose] public section

set_option maxRecDepth 16384

noncomputable section

namespace Cert.NextIdeal.Layers

open Cert.NextIdeal Cert.NextIdeal.Gen Idealize.ShloMosaic Idealize.ShloMosaic.TcCoe Idealize.SL.Sem

variable (m : (ℓ : Loc nD τ sig) → Buf (Elt Ideal) ℓ)

/-- The gated residual at a token and a channel. -/
def xnew (x y : Vec Ideal S8192x2048 .f32) (mp : Vec Ideal S8x12288 .f32) (gp : Vec Ideal S4x2048 .f32) (R : Fin 8192) (d : Fin 2048) : EReal :=
  Norm.resid (fun k => x (ix2 R k)) (fun k => y (ix2 R k)) (Norm.modAt (fun a b => mp (ix2 a b)) 5 R) (fun k => gp (ix2 2 k)) d

/-- Its modulated norm. -/
def hnew (x y : Vec Ideal S8192x2048 .f32) (mp : Vec Ideal S8x12288 .f32) (md : Vec Ideal S8x12288 .f32) (gp gn : Vec Ideal S4x2048 .f32) (R : Fin 8192) (d : Fin 2048) : EReal :=
  Norm.modNorm (xnew x y mp gp R) (fun k => gn (ix2 3 k)) (Norm.modAt (fun a b => md (ix2 a b)) 1 R) (Norm.modAt (fun a b => md (ix2 a b)) 0 R) d

/-- The first result array. -/
def result0 (c : Dev nD) : Vec Ideal S8192x2048 .f32 := fun y =>
  xnew (m ((c : Thread nD τ).loc main_arg0)) (m ((c : Thread nD τ).loc main_arg1)) (m ((c : Thread nD τ).loc main_arg2)) (m ((c : Thread nD τ).loc main_arg4)) ⟨(y 0).val, (y 0).isLt⟩ ⟨(y 1).val, (y 1).isLt⟩

/-- The second result array. -/
def result1 (c : Dev nD) : Vec Ideal S8192x2048 .bf16 := fun y =>
  hnew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨(y 0).val, (y 0).isLt⟩ ⟨(y 1).val, (y 1).isLt⟩

theorem lt_N (t : Fin cfg0.N) : t.val < 16 := t.isLt

theorem idx0 : ∀ t : Fin cfg0.N, (win0_0.index t 0 = t.val ∧ win0_0.index t 1 = 0) :=
  (by decide +kernel : ∀ t : Fin grid0.N, _)
theorem idx1 : ∀ t : Fin cfg0.N, (win0_1.index t 0 = t.val ∧ win0_1.index t 1 = 0) :=
  (by decide +kernel : ∀ t : Fin grid0.N, _)
theorem idx2 : ∀ t : Fin cfg0.N, (win0_2.index t 0 = Norm.modRow (512 * t.val) ∧ win0_2.index t 1 = 5 ∧ win0_2.index t 2 = 0 ∧ win0_2.index t 3 = 0) :=
  (by decide +kernel : ∀ t : Fin grid0.N, _)
theorem idx3 : ∀ t : Fin cfg0.N, (win0_3.index t 0 = 0 ∧ win0_3.index t 1 = 0) :=
  (by decide +kernel : ∀ t : Fin grid0.N, _)
theorem idx4 : ∀ t : Fin cfg0.N, (win0_4.index t 0 = 0 ∧ win0_4.index t 1 = 0) :=
  (by decide +kernel : ∀ t : Fin grid0.N, _)
theorem idx5 : ∀ t : Fin cfg0.N, (win0_5.index t 0 = Norm.modRow (512 * t.val) ∧ win0_5.index t 1 = 1 ∧ win0_5.index t 2 = 0 ∧ win0_5.index t 3 = 0) :=
  (by decide +kernel : ∀ t : Fin grid0.N, _)
theorem idx6 : ∀ t : Fin cfg0.N, (win0_6.index t 0 = Norm.modRow (512 * t.val) ∧ win0_6.index t 1 = 0 ∧ win0_6.index t 2 = 0 ∧ win0_6.index t 3 = 0) :=
  (by decide +kernel : ∀ t : Fin grid0.N, _)
theorem idx7 : ∀ t : Fin cfg0.N, (win0_7.index t 0 = t.val ∧ win0_7.index t 1 = 0) :=
  (by decide +kernel : ∀ t : Fin grid0.N, _)
theorem idx8 : ∀ t : Fin cfg0.N, (win0_8.index t 0 = t.val ∧ win0_8.index t 1 = 0) :=
  (by decide +kernel : ∀ t : Fin grid0.N, _)

/-- The token of row `r` in the block of point `t`. -/
def row (t : Fin cfg0.N) (r : Fin 512) : Fin 8192 := ⟨512 * t.val + r.val, by have := lt_N t; omega⟩

theorem modRow_row (t : Fin cfg0.N) (r : Fin 512) : Norm.modRow (512 * t.val) = Norm.modRow (row t r).val := by
  have := lt_N t
  show _ = Norm.modRow (512 * t.val + r.val)
  unfold Norm.modRow
  split <;> split <;> omega

/-- The modulation table with its six vectors apart. -/
theorem table_at (x : Vec Ideal S8x12288 .f32) (a : Fin 8) (k : Fin 6) (d : Fin 2048) :
    (shapeCast S8x6x1x2048 x shapeCasts_S8x12288_S8x6x1x2048 : Vec Ideal S8x6x1x2048 .f32) (ix4 a k 0 d)
      = x (ix2 a ⟨2048 * k.val + d.val, by omega⟩) := by
  refine shapeCast_apply x shapeCasts_S8x12288_S8x6x1x2048 _ _ ?_
  rw [Shape.rowMajor_val_four, Shape.rowMajor_val_two]
  show a.val * 12288 + (2048 * k.val + d.val) = ((a.val * 6 + k.val) * 1 + 0) * 2048 + d.val
  omega

theorem blk0 (c : Dev nD) (t : Fin cfg0.N) (r : Fin 512) (k : Fin 2048) :
    (iblk m c 0 t : Vec Ideal S512x2048 .f32) (ix2 r k)
      = (m ((c : Thread nD τ).loc main_arg0) : Vec Ideal S8192x2048 .f32) (ix2 (row t r) k) := by
  obtain ⟨h0, h1⟩ := idx0 t
  show (V m c main_arg0 : Vec Ideal S8192x2048 .f32) ((win0_0.rect t).emb (ix2 r k)) = _
  rw [V_main_arg0]
  refine congrArg (m ((c : Thread nD τ).loc main_arg0) : Vec Ideal S8192x2048 .f32) ?_
  funext a
  apply Fin.ext
  rw [Pipeline.Window.rect_emb_val_off]
  match a with
  | ⟨0, _⟩ => show win0_0.index t 0 * 512 + r.val = 512 * t.val + r.val; omega
  | ⟨1, _⟩ => show win0_0.index t 1 * 2048 + k.val = k.val; omega

theorem blk1 (c : Dev nD) (t : Fin cfg0.N) (r : Fin 512) (k : Fin 2048) :
    (iblk m c 1 t : Vec Ideal S512x2048 .f32) (ix2 r k)
      = (m ((c : Thread nD τ).loc main_arg1) : Vec Ideal S8192x2048 .f32) (ix2 (row t r) k) := by
  obtain ⟨h0, h1⟩ := idx1 t
  show (V m c main_arg1 : Vec Ideal S8192x2048 .f32) ((win0_1.rect t).emb (ix2 r k)) = _
  rw [V_main_arg1]
  refine congrArg (m ((c : Thread nD τ).loc main_arg1) : Vec Ideal S8192x2048 .f32) ?_
  funext a
  apply Fin.ext
  rw [Pipeline.Window.rect_emb_val_off]
  match a with
  | ⟨0, _⟩ => show win0_1.index t 0 * 512 + r.val = 512 * t.val + r.val; omega
  | ⟨1, _⟩ => show win0_1.index t 1 * 2048 + k.val = k.val; omega

theorem blk2 (c : Dev nD) (t : Fin cfg0.N) (r : Fin 512) (d : Fin 2048) :
    (iblk m c 2 t : Vec Ideal S1x1x1x2048 .f32) (ix4 0 0 0 d)
      = Norm.modAt (fun a b => (m ((c : Thread nD τ).loc main_arg2) : Vec Ideal S8x12288 .f32) (ix2 a b)) 5 (row t r) d := by
  obtain ⟨h0, h1, h2, h3⟩ := idx2 t
  have hr := modRow_row t r
  have hl := Norm.modRow_lt _ (row t r).isLt
  have hv : @Eq (Vec Ideal S8x6x1x2048 .f32) (V m c main_v0)
      (shapeCast S8x6x1x2048 (m (c, Proc.tc.devRef main_arg2) : Vec Ideal S8x12288 .f32) shapeCasts_S8x12288_S8x6x1x2048) := by
    entry_read
    rfl
  have he : (win0_2.rect t).emb (ix4 0 0 0 d) = (ix4 ⟨Norm.modRow (row t r).val, hl⟩ 5 0 d : S8x6x1x2048.Idx) := by
    funext a
    apply Fin.ext
    rw [Pipeline.Window.rect_emb_val_off]
    match a with
    | ⟨0, _⟩ => show win0_2.index t 0 * 1 + 0 = Norm.modRow (row t r).val; omega
    | ⟨1, _⟩ => show win0_2.index t 1 * 1 + 0 = 5; omega
    | ⟨2, _⟩ => show win0_2.index t 2 * 1 + 0 = 0; omega
    | ⟨3, _⟩ => show win0_2.index t 3 * 2048 + d.val = d.val; omega
  show (V m c main_v0 : Vec Ideal S8x6x1x2048 .f32) ((win0_2.rect t).emb (ix4 0 0 0 d)) = _
  rw [hv, he, table_at]
  rfl

/-- Gain row 2, as the row the kernel reads. -/
theorem gain2_at (x : Vec Ideal S4x2048 .f32) (d : Fin 2048) :
    (shapeCast S1x2048 (shapeCast S2048 (extractStridedSlice S1x2048 ![2, 0] x slices_S4x2048_S1x2048_2_0) shapeCasts_S1x2048_S2048)
      shapeCasts_S2048_S1x2048 : Vec Ideal S1x2048 .f32) (ix2 0 d) = x (ix2 2 d) := by
  pointwise []

theorem blk3 (c : Dev nD) (t : Fin cfg0.N) (d : Fin 2048) :
    (iblk m c 3 t : Vec Ideal S1x2048 .f32) (ix2 0 d)
      = (m ((c : Thread nD τ).loc main_arg4) : Vec Ideal S4x2048 .f32) (ix2 2 d) := by
  obtain ⟨h0, h1⟩ := idx3 t
  have hv : @Eq (Vec Ideal S1x2048 .f32) (V m c main_v6)
      (shapeCast S1x2048 (shapeCast S2048 (extractStridedSlice S1x2048 ![2, 0] (m (c, Proc.tc.devRef main_arg4) : Vec Ideal S4x2048 .f32)
        slices_S4x2048_S1x2048_2_0) shapeCasts_S1x2048_S2048) shapeCasts_S2048_S1x2048) := by
    entry_read
    rfl
  have he : (win0_3.rect t).emb (ix2 0 d) = (ix2 0 d : S1x2048.Idx) := by
    funext a
    apply Fin.ext
    rw [Pipeline.Window.rect_emb_val_off]
    match a with
    | ⟨0, _⟩ => show win0_3.index t 0 * 1 + 0 = 0; omega
    | ⟨1, _⟩ => show win0_3.index t 1 * 2048 + d.val = d.val; omega
  show (V m c main_v6 : Vec Ideal S1x2048 .f32) ((win0_3.rect t).emb (ix2 0 d)) = _
  rw [hv, he, gain2_at]

/-- Gain row 3, as the row the kernel reads. -/
theorem gain3_at (x : Vec Ideal S4x2048 .f32) (d : Fin 2048) :
    (shapeCast S1x2048 (shapeCast S2048 (extractStridedSlice S1x2048 ![3, 0] x slices_S4x2048_S1x2048_3_0) shapeCasts_S1x2048_S2048)
      shapeCasts_S2048_S1x2048 : Vec Ideal S1x2048 .f32) (ix2 0 d) = x (ix2 3 d) := by
  pointwise []

theorem blk4 (c : Dev nD) (t : Fin cfg0.N) (d : Fin 2048) :
    (iblk m c 4 t : Vec Ideal S1x2048 .f32) (ix2 0 d)
      = (m ((c : Thread nD τ).loc main_arg5) : Vec Ideal S4x2048 .f32) (ix2 3 d) := by
  obtain ⟨h0, h1⟩ := idx4 t
  have hv : @Eq (Vec Ideal S1x2048 .f32) (V m c main_v7)
      (shapeCast S1x2048 (shapeCast S2048 (extractStridedSlice S1x2048 ![3, 0] (m (c, Proc.tc.devRef main_arg5) : Vec Ideal S4x2048 .f32)
        slices_S4x2048_S1x2048_3_0) shapeCasts_S1x2048_S2048) shapeCasts_S2048_S1x2048) := by
    entry_read
    rfl
  have he : (win0_4.rect t).emb (ix2 0 d) = (ix2 0 d : S1x2048.Idx) := by
    funext a
    apply Fin.ext
    rw [Pipeline.Window.rect_emb_val_off]
    match a with
    | ⟨0, _⟩ => show win0_4.index t 0 * 1 + 0 = 0; omega
    | ⟨1, _⟩ => show win0_4.index t 1 * 2048 + d.val = d.val; omega
  show (V m c main_v7 : Vec Ideal S1x2048 .f32) ((win0_4.rect t).emb (ix2 0 d)) = _
  rw [hv, he, gain3_at]

theorem blk5 (c : Dev nD) (t : Fin cfg0.N) (r : Fin 512) (d : Fin 2048) :
    (iblk m c 5 t : Vec Ideal S1x1x1x2048 .f32) (ix4 0 0 0 d)
      = Norm.modAt (fun a b => (m ((c : Thread nD τ).loc main_arg3) : Vec Ideal S8x12288 .f32) (ix2 a b)) 1 (row t r) d := by
  obtain ⟨h0, h1, h2, h3⟩ := idx5 t
  have hr := modRow_row t r
  have hl := Norm.modRow_lt _ (row t r).isLt
  have hv : @Eq (Vec Ideal S8x6x1x2048 .f32) (V m c main_v5)
      (shapeCast S8x6x1x2048 (m (c, Proc.tc.devRef main_arg3) : Vec Ideal S8x12288 .f32) shapeCasts_S8x12288_S8x6x1x2048) := by
    entry_read
    rfl
  have he : (win0_5.rect t).emb (ix4 0 0 0 d) = (ix4 ⟨Norm.modRow (row t r).val, hl⟩ 1 0 d : S8x6x1x2048.Idx) := by
    funext a
    apply Fin.ext
    rw [Pipeline.Window.rect_emb_val_off]
    match a with
    | ⟨0, _⟩ => show win0_5.index t 0 * 1 + 0 = Norm.modRow (row t r).val; omega
    | ⟨1, _⟩ => show win0_5.index t 1 * 1 + 0 = 1; omega
    | ⟨2, _⟩ => show win0_5.index t 2 * 1 + 0 = 0; omega
    | ⟨3, _⟩ => show win0_5.index t 3 * 2048 + d.val = d.val; omega
  show (V m c main_v5 : Vec Ideal S8x6x1x2048 .f32) ((win0_5.rect t).emb (ix4 0 0 0 d)) = _
  rw [hv, he, table_at]
  rfl

theorem blk6 (c : Dev nD) (t : Fin cfg0.N) (r : Fin 512) (d : Fin 2048) :
    (iblk m c 6 t : Vec Ideal S1x1x1x2048 .f32) (ix4 0 0 0 d)
      = Norm.modAt (fun a b => (m ((c : Thread nD τ).loc main_arg3) : Vec Ideal S8x12288 .f32) (ix2 a b)) 0 (row t r) d := by
  obtain ⟨h0, h1, h2, h3⟩ := idx6 t
  have hr := modRow_row t r
  have hl := Norm.modRow_lt _ (row t r).isLt
  have hv : @Eq (Vec Ideal S8x6x1x2048 .f32) (V m c main_v5)
      (shapeCast S8x6x1x2048 (m (c, Proc.tc.devRef main_arg3) : Vec Ideal S8x12288 .f32) shapeCasts_S8x12288_S8x6x1x2048) := by
    entry_read
    rfl
  have he : (win0_6.rect t).emb (ix4 0 0 0 d) = (ix4 ⟨Norm.modRow (row t r).val, hl⟩ 0 0 d : S8x6x1x2048.Idx) := by
    funext a
    apply Fin.ext
    rw [Pipeline.Window.rect_emb_val_off]
    match a with
    | ⟨0, _⟩ => show win0_6.index t 0 * 1 + 0 = Norm.modRow (row t r).val; omega
    | ⟨1, _⟩ => show win0_6.index t 1 * 1 + 0 = 0; omega
    | ⟨2, _⟩ => show win0_6.index t 2 * 1 + 0 = 0; omega
    | ⟨3, _⟩ => show win0_6.index t 3 * 2048 + d.val = d.val; omega
  show (V m c main_v5 : Vec Ideal S8x6x1x2048 .f32) ((win0_6.rect t).emb (ix4 0 0 0 d)) = _
  rw [hv, he, table_at]
  rfl

theorem pay2_at (v0 : Vec Ideal S512x2048 .f32) (v1 : Vec Ideal S1x1x1x2048 .f32) (v3 : Vec Ideal S512x2048 .f32) (v14 : Vec Ideal S1x2048 .f32)
    (r : Fin 512) (d : Fin 2048) : k0_pay2 (F := Ideal) v0 v1 v3 v14 (ix2 r d)
      = Norm.resid (fun k => v0 (ix2 r k)) (fun k => v3 (ix2 r k)) (fun k => v1 (ix4 0 0 0 k)) (fun k => v14 (ix2 0 k)) d := by
  pointwise [k0_pay2]
  rfl

theorem pay3_at (v0 : Vec Ideal S512x2048 .f32) (v1 : Vec Ideal S1x1x1x2048 .f32) (v3 : Vec Ideal S512x2048 .f32) (v14 v32 : Vec Ideal S1x2048 .f32)
    (r : Fin 512) (d : Fin 2048) : k0_pay3 (F := Ideal) v0 v1 v3 v14 v32 (ix2 r d)
      = k0_pay2 (F := Ideal) v0 v1 v3 v14 (ix2 r d) * Norm.scale 1157627904#32 (fun k : Fin 2048 => k0_pay2 (F := Ideal) v0 v1 v3 v14 (ix2 r k)) * v32 (ix2 0 d) := by
  pointwise [k0_pay3]
  rfl

theorem pay1_at (v35 : Vec Ideal S512x2048 .f32) (v36 v42 : Vec Ideal S1x1x1x2048 .f32)
    (r : Fin 512) (d : Fin 2048) : k0_pay1 (F := Ideal) v35 v36 v42 (ix2 r d)
      = v35 (ix2 r d) * (1 + v36 (ix4 0 0 0 d)) + v42 (ix4 0 0 0 d) := by
  pointwise [k0_pay1]

theorem pay2_blk (c : Dev nD) (t : Fin cfg0.N) (y0 : Fin 512) (y1 : Fin 2048) :
    k0_pay2 (F := Ideal) (iblk m c 0 t) (iblk m c 2 t) (iblk m c 1 t) (iblk m c 3 t) (ix2 y0 y1)
      = xnew (m ((c : Thread nD τ).loc main_arg0)) (m ((c : Thread nD τ).loc main_arg1)) (m ((c : Thread nD τ).loc main_arg2)) (m ((c : Thread nD τ).loc main_arg4)) (row t y0) y1 := by
  rw [pay2_at]
  have e0 : (fun k => (iblk m c 0 t : Vec Ideal S512x2048 .f32) (ix2 y0 k)) = _ := funext fun k => blk0 m c t y0 k
  have e1 : (fun k => (iblk m c 1 t : Vec Ideal S512x2048 .f32) (ix2 y0 k)) = _ := funext fun k => blk1 m c t y0 k
  have e2 : (fun k => (iblk m c 2 t : Vec Ideal S1x1x1x2048 .f32) (ix4 0 0 0 k)) = _ := funext fun k => blk2 m c t y0 k
  have e3 : (fun k => (iblk m c 3 t : Vec Ideal S1x2048 .f32) (ix2 0 k)) = _ := funext fun k => blk3 m c t k
  rw [e0, e1, e2, e3]
  rfl

theorem pay1_blk (c : Dev nD) (t : Fin cfg0.N) (y0 : Fin 512) (y1 : Fin 2048) :
    k0_pay1 (F := Ideal) (k0_pay3 (iblk m c 0 t) (iblk m c 2 t) (iblk m c 1 t) (iblk m c 3 t) (iblk m c 4 t)) (iblk m c 5 t) (iblk m c 6 t) (ix2 y0 y1)
      = hnew (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (row t y0) y1 := by
  rw [pay1_at, pay3_at]
  have e : (fun k : Fin 2048 => k0_pay2 (F := Ideal) (iblk m c 0 t) (iblk m c 2 t) (iblk m c 1 t) (iblk m c 3 t) (ix2 y0 k)) = _ := funext fun k => pay2_blk m c t y0 k
  rw [e, pay2_blk, blk4, blk5 m c t y0, blk6 m c t y0]
  rfl

theorem final0 (c : Dev nD) : (dats m 0 c).arrAt 7 cfg0.N = result0 m c := by
  refine (dats m 0 c).arrAt_eq_of_covers 7 _ (by decide +kernel) fun t hf y => ?_
  blk_simp
  rw [after0_7]
  revert y
  show ∀ y : S512x2048.Idx, (out0_7 (iblk m c 0 t) (iblk m c 1 t) (iblk m c 2 t) (iblk m c 3 t) (iblk m c 4 t) (iblk m c 5 t) (iblk m c 6 t) : Vec Ideal S512x2048 .f32) y
    = result0 m c ((win0_7.rect t).emb y)
  intro y
  obtain ⟨h0, h1⟩ := idx7 t
  idx_vars y
  unfold out0_7
  frame_out
  rw [pay2_blk]
  refine congrArg₂ (xnew (m ((c : Thread nD τ).loc main_arg0)) (m ((c : Thread nD τ).loc main_arg1)) (m ((c : Thread nD τ).loc main_arg2)) (m ((c : Thread nD τ).loc main_arg4))) (Fin.ext ?_) (Fin.ext ?_)
  · dsimp only
    rw [Pipeline.Window.rect_emb_val_off]
    show 512 * t.val + y0.val = win0_7.index t 0 * 512 + y0.val
    omega
  · dsimp only
    rw [Pipeline.Window.rect_emb_val_off]
    show y1.val = win0_7.index t 1 * 2048 + y1.val
    omega

theorem final1 (c : Dev nD) : (dats m 0 c).arrAt 8 cfg0.N = result1 m c := by
  refine (dats m 0 c).arrAt_eq_of_covers 8 _ (by decide +kernel) fun t hf y => ?_
  blk_simp
  rw [after0_8]
  revert y
  show ∀ y : S512x2048.Idx, (out0_8 (iblk m c 0 t) (iblk m c 1 t) (iblk m c 2 t) (iblk m c 3 t) (iblk m c 4 t) (iblk m c 5 t) (iblk m c 6 t) : Vec Ideal S512x2048 .bf16) y
    = result1 m c ((win0_8.rect t).emb y)
  intro y
  obtain ⟨h0, h1⟩ := idx8 t
  idx_vars y
  unfold out0_8
  frame_out
  rw [pay1_blk]
  refine congrArg₂ (hnew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · dsimp only
    rw [Pipeline.Window.rect_emb_val_off]
    show 512 * t.val + y0.val = win0_8.index t 0 * 512 + y0.val
    omega
  · dsimp only
    rw [Pipeline.Window.rect_emb_val_off]
    show y1.val = win0_8.index t 1 * 2048 + y1.val
    omega

/-- The kernel's run: the result arrays, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v8_0) = result0 m c
      ∧ r.2.mem ((c : Thread nD τ).loc main_v8_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final0 m c), (h c).2.1.trans (final1 m c), (h c).2.2⟩) (Value.run_blocks m ρ)

end Cert.NextIdeal.Layers

namespace Cert.NextRefIdeal.Layers

open Cert.NextRefIdeal Cert.NextRefIdeal.Gen Cert.NextRefIdeal.Read Idealize.ShloMosaic Idealize.ShloMosaic.TcCoe Idealize.SL.Sem

variable (x0 x1 : Vec Ideal S8192x2048 .f32) (x2 x3 : Vec Ideal S8x12288 .f32) (x4 x5 : Vec Ideal S4x2048 .f32)

/-- The table with one row per token. -/
theorem post_at (R : Fin 8192) (e : Fin 12288) : val_main_v6 (F := Ideal) x2 (ix2 R e) = x2 (ix2 ⟨Norm.modRow R.val, Norm.modRow_lt _ R.isLt⟩ e) := by
  pointwise [val_main_v6, val_main_v5, val_main_v4, val_main_v3, val_main_v2, val_main_v1, val_main_v0]
  by_cases h : R.val < 4096
  · rw [dif_pos h]
    refine congrArg (fun q => x2 (ix2 q e)) (Fin.ext ?_)
    show 0 = Norm.modRow R.val
    unfold Norm.modRow
    rw [if_pos h]
  · rw [dif_neg h]
    refine congrArg (fun q => x2 (ix2 q e)) (Fin.ext ?_)
    show 1 + (R.val - 4096) / 1024 = Norm.modRow R.val
    unfold Norm.modRow
    rw [if_neg h]

theorem post_at_5 (R : Fin 8192) (d : Fin 2048) : val_main_v12 (F := Ideal) x2 (ix2 R d) = Norm.modAt (fun a b => x2 (ix2 a b)) 5 R d := by
  pointwise [val_main_v12]
  rw [post_at]
  refine congrArg (fun q => x2 (ix2 _ q)) (Fin.ext ?_)
  show 10240 + d.val = 2048 * 5 + d.val
  omega

/-- The table with one row per token. -/
theorem pre_at (R : Fin 8192) (e : Fin 12288) : val_main_v36 (F := Ideal) x3 (ix2 R e) = x3 (ix2 ⟨Norm.modRow R.val, Norm.modRow_lt _ R.isLt⟩ e) := by
  pointwise [val_main_v36, val_main_v35, val_main_v34, val_main_v33, val_main_v32, val_main_v31, val_main_v30]
  by_cases h : R.val < 4096
  · rw [dif_pos h]
    refine congrArg (fun q => x3 (ix2 q e)) (Fin.ext ?_)
    show 0 = Norm.modRow R.val
    unfold Norm.modRow
    rw [if_pos h]
  · rw [dif_neg h]
    refine congrArg (fun q => x3 (ix2 q e)) (Fin.ext ?_)
    show 1 + (R.val - 4096) / 1024 = Norm.modRow R.val
    unfold Norm.modRow
    rw [if_neg h]

theorem pre_at_1 (R : Fin 8192) (d : Fin 2048) : val_main_v38 (F := Ideal) x3 (ix2 R d) = Norm.modAt (fun a b => x3 (ix2 a b)) 1 R d := by
  pointwise [val_main_v38]
  rw [pre_at]
  refine congrArg (fun q => x3 (ix2 _ q)) (Fin.ext ?_)
  show 2048 + d.val = 2048 * 1 + d.val
  omega

theorem pre_at_0 (R : Fin 8192) (d : Fin 2048) : val_main_v37 (F := Ideal) x3 (ix2 R d) = Norm.modAt (fun a b => x3 (ix2 a b)) 0 R d := by
  pointwise [val_main_v37]
  rw [pre_at]
  refine congrArg (fun q => x3 (ix2 _ q)) (Fin.ext ?_)
  show d.val = 2048 * 0 + d.val
  omega

theorem result0_at (R : Fin 8192) (d : Fin 2048) : val_main_v29 (F := Ideal) x0 x1 x2 x4 (ix2 R d) = Cert.NextIdeal.Layers.xnew x0 x1 x2 x4 R d := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1]
  rw [post_at_5]
  rfl

theorem result1_at (R : Fin 8192) (d : Fin 2048) : val_main_v62 (F := Ideal) x0 x1 x2 x3 x4 x5 (ix2 R d) = Cert.NextIdeal.Layers.hnew x0 x1 x2 x3 x4 x5 R d := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_2, val_main_cst_3, val_main_cst_4, val_main_cst_5]
  rw [pre_at_1, pre_at_0]
  simp only [result0_at]
  rfl

/-- The reference's run from agreeing arguments: its result arrays are the kernel's. -/
theorem run (m : (ℓ : Loc Cert.NextIdeal.nD Cert.NextIdeal.τ Cert.NextIdeal.sig) → Buf (Elt Ideal) ℓ)
    (m' : (ℓ : Loc nD τ sig) → Buf (Elt Ideal) ℓ) (ρ : Dev nD → PrngReg)
    (hagree : ∀ c : Dev Cert.NextIdeal.nD,
      m' ((c.tc : Thread nD τ).loc main_arg0) = m ((c.tc : Thread Cert.NextIdeal.nD Cert.NextIdeal.τ).loc Cert.NextIdeal.main_arg0)
      ∧ m' ((c.tc : Thread nD τ).loc main_arg1) = m ((c.tc : Thread Cert.NextIdeal.nD Cert.NextIdeal.τ).loc Cert.NextIdeal.main_arg1)
      ∧ m' ((c.tc : Thread nD τ).loc main_arg2) = m ((c.tc : Thread Cert.NextIdeal.nD Cert.NextIdeal.τ).loc Cert.NextIdeal.main_arg2)
      ∧ m' ((c.tc : Thread nD τ).loc main_arg3) = m ((c.tc : Thread Cert.NextIdeal.nD Cert.NextIdeal.τ).loc Cert.NextIdeal.main_arg3)
      ∧ m' ((c.tc : Thread nD τ).loc main_arg4) = m ((c.tc : Thread Cert.NextIdeal.nD Cert.NextIdeal.τ).loc Cert.NextIdeal.main_arg4)
      ∧ m' ((c.tc : Thread nD τ).loc main_arg5) = m ((c.tc : Thread Cert.NextIdeal.nD Cert.NextIdeal.τ).loc Cert.NextIdeal.main_arg5)) :
    θ_run defs (onTc (τ := τ) (main (F := Ideal))) ⟨m', fun _ => 0, ρ⟩ fun r => ∀ c : Dev nD,
      r.2.mem ((c.tc : Thread nD τ).loc main_v29) = Cert.NextIdeal.Layers.result0 m c
      ∧ r.2.mem ((c.tc : Thread nD τ).loc main_v62) = Cert.NextIdeal.Layers.result1 m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) := by
  refine (θ_run defs _ _).mono (fun _ h c => ⟨(h c).1.trans ?_, (h c).2.1.trans ?_, (h c).2.2⟩) (Cert.NextRefIdeal.Value.run (F := Ideal) m' ρ)
  · rw [Cert.NextRefIdeal.Read.val_main_v29_eq, (hagree c).1, (hagree c).2.1, (hagree c).2.2.1, (hagree c).2.2.2.2.1]
    funext y
    rw [ValueIdx.eq_ix2 y]
    exact result0_at _ _ _ _ (y 0) (y 1)
  · rw [Cert.NextRefIdeal.Read.val_main_v62_eq, (hagree c).1, (hagree c).2.1, (hagree c).2.2.1, (hagree c).2.2.2.1, (hagree c).2.2.2.2.1, (hagree c).2.2.2.2.2]
    funext y
    rw [ValueIdx.eq_ix2 y]
    exact result1_at _ _ _ _ _ _ (y 0) (y 1)

end Cert.NextRefIdeal.Layers

end
-- ==== Proof.Chunk.lean ====
module

public import proofs.«01_k».proof.Proof.Gen.StateIdeal.Value
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Tactic

/-! The recurrence kernel's chunks of 64 tokens: what the body stores for a chunk and a direction (the decay over the chunk and
    what the chunk adds to the state of either head of the pair) is one function of the chunk's rows, the same for all four chunks. -/

@[expose] public section

set_option maxRecDepth 16384

noncomputable section

namespace Cert.StateIdeal.Chunk

open Cert.StateIdeal Cert.StateIdeal.Gen Idealize.ShloMosaic Idealize.ShloMosaic.TcCoe Idealize.SL.Sem

/-- Rows 64t to 64t + 63 of a block. -/
def slab (x : Vec Ideal S256x256 .f32) (t : Fin 4) : Vec Ideal S64x256 .f32 := fun y =>
  x (ix2 ⟨64 * t.val + (y 0).val, by have : (y 0).val < 64 := (y 0).isLt; omega⟩ (y 1))

/-- A direction's row of the lower bounds. -/
def bound (x : Vec Ideal S2x256 .f32) (d : Fin 2) : Vec Ideal S1x256 .f32 := fun y => x (ix2 d (y 1))

/-- The log gates of a chunk, summed by a table. -/
def sums (X : Vec Ideal S64x256 .f32) (l : Vec Ideal S1x256 .f32) (T : Vec Ideal S256x192 .bf16) : FVec Ideal S256x256 .f32 :=
  k0_pay70 (k0_pay68 X l) T

/-- The decay over a chunk, forwards and backwards. -/
def decayF (X : Vec Ideal S64x256 .f32) (l : Vec Ideal S1x256 .f32) (T : Vec Ideal S256x192 .bf16) : FVec Ideal S1x1x8x256 .f32 :=
  k0_pay245 (sums X l T)
def decayB (X : Vec Ideal S64x256 .f32) (l : Vec Ideal S1x256 .f32) (T : Vec Ideal S256x192 .bf16) : FVec Ideal S1x1x8x256 .f32 :=
  k0_pay255 (k0_pay251 (sums X l T))

/-- What a chunk adds to the state of the pair's first and second head, forwards and backwards. -/
def incrF0 (X : Vec Ideal S64x256 .f32) (l : Vec Ideal S1x256 .f32) (v : Vec Ideal S64x256 .f32) (T : Vec Ideal S256x192 .bf16) :
    FVec Ideal S1x1x1x128x128 .f32 := k0_pay246 (k0_pay12 v) (k0_pay69 X l) (sums X l T)
def incrF1 (X : Vec Ideal S64x256 .f32) (l : Vec Ideal S1x256 .f32) (v : Vec Ideal S64x256 .f32) (T : Vec Ideal S256x192 .bf16) :
    FVec Ideal S1x1x1x128x128 .f32 := k0_pay249 (k0_pay247 (k0_pay12 v)) (k0_pay248 (k0_pay69 X l) (sums X l T))
def incrB0 (X : Vec Ideal S64x256 .f32) (l : Vec Ideal S1x256 .f32) (v : Vec Ideal S64x256 .f32) (T : Vec Ideal S256x192 .bf16) :
    FVec Ideal S1x1x1x128x128 .f32 := k0_pay256 (k0_pay12 v) (k0_pay69 X l) (k0_pay251 (sums X l T))
def incrB1 (X : Vec Ideal S64x256 .f32) (l : Vec Ideal S1x256 .f32) (v : Vec Ideal S64x256 .f32) (T : Vec Ideal S256x192 .bf16) :
    FVec Ideal S1x1x1x128x128 .f32 := k0_pay257 (k0_pay12 v) (k0_pay69 X l) (k0_pay251 (sums X l T))

theorem pay_e_00 (X : Vec Ideal S64x256 .f32) (l : Vec Ideal S1x256 .f32) (T : Vec Ideal S256x192 .bf16) :
    k0_pay183 (k0_pay18 X l (k0_pay14 X) (k0_pay15 X) (FloatOps.ofBits (F := Ideal) FTy.f32 0#32) T) = decayF X l T := by
  simp only [k0_pay13, k0_pay14, k0_pay15, k0_pay16, k0_pay179, k0_pay18, k0_pay180, k0_pay183, k0_pay241, k0_pay242, k0_pay245, k0_pay64, k0_pay65, k0_pay66, k0_pay67, k0_pay68, k0_pay70, decayF, sums]

theorem pay_u_000 (X : Vec Ideal S64x256 .f32) (l : Vec Ideal S1x256 .f32) (V : Vec Ideal S64x256 .f32) (T : Vec Ideal S256x192 .bf16) :
    k0_pay184 (k0_pay9 V) (k0_pay17 X l (k0_pay14 X) (k0_pay15 X) (FloatOps.ofBits (F := Ideal) FTy.f32 0#32)) (k0_pay18 X l (k0_pay14 X) (k0_pay15 X) (FloatOps.ofBits (F := Ideal) FTy.f32 0#32) T) = incrF0 X l V T := by
  simp only [k0_pay12, k0_pay13, k0_pay14, k0_pay15, k0_pay16, k0_pay17, k0_pay179, k0_pay18, k0_pay180, k0_pay182, k0_pay184, k0_pay241, k0_pay242, k0_pay244, k0_pay246, k0_pay64, k0_pay65, k0_pay66, k0_pay67, k0_pay68, k0_pay69, k0_pay70, k0_pay9, incrF0, sums]

theorem pay_u_001 (X : Vec Ideal S64x256 .f32) (l : Vec Ideal S1x256 .f32) (V : Vec Ideal S64x256 .f32) (T : Vec Ideal S256x192 .bf16) :
    k0_pay185 (k0_pay9 V) (k0_pay17 X l (k0_pay14 X) (k0_pay15 X) (FloatOps.ofBits (F := Ideal) FTy.f32 0#32)) (k0_pay18 X l (k0_pay14 X) (k0_pay15 X) (FloatOps.ofBits (F := Ideal) FTy.f32 0#32) T) = incrF1 X l V T := by
  simp only [k0_pay12, k0_pay13, k0_pay14, k0_pay15, k0_pay16, k0_pay17, k0_pay179, k0_pay18, k0_pay180, k0_pay182, k0_pay185, k0_pay241, k0_pay242, k0_pay244, k0_pay247, k0_pay248, k0_pay249, k0_pay64, k0_pay65, k0_pay66, k0_pay67, k0_pay68, k0_pay69, k0_pay70, k0_pay9, incrF1, sums]

theorem pay_e_01 (X : Vec Ideal S64x256 .f32) (l : Vec Ideal S1x256 .f32) (T : Vec Ideal S256x192 .bf16) :
    k0_pay202 (k0_pay36 (k0_pay32 X l) (k0_pay33 X l) (k0_pay34 X l) (k0_pay35 X l) T) = decayF X l T := by
  simp only [k0_pay198, k0_pay199, k0_pay202, k0_pay241, k0_pay242, k0_pay245, k0_pay26, k0_pay27, k0_pay28, k0_pay29, k0_pay30, k0_pay32, k0_pay33, k0_pay34, k0_pay35, k0_pay36, k0_pay64, k0_pay65, k0_pay66, k0_pay67, k0_pay68, k0_pay70, decayF, sums]

theorem pay_u_010 (X : Vec Ideal S64x256 .f32) (l : Vec Ideal S1x256 .f32) (V : Vec Ideal S64x256 .f32) (T : Vec Ideal S256x192 .bf16) :
    k0_pay205 (k0_pay203 (k0_pay10 V)) (k0_pay204 (k0_pay31 X l) (k0_pay36 (k0_pay32 X l) (k0_pay33 X l) (k0_pay34 X l) (k0_pay35 X l) T)) (constant (F := Ideal) S128x128 FTy.f32 0#32) = incrF0 X l V T := by
  simp only [k0_pay10, k0_pay12, k0_pay198, k0_pay199, k0_pay201, k0_pay203, k0_pay204, k0_pay205, k0_pay241, k0_pay242, k0_pay244, k0_pay246, k0_pay26, k0_pay27, k0_pay28, k0_pay29, k0_pay30, k0_pay31, k0_pay32, k0_pay33, k0_pay34, k0_pay35, k0_pay36, k0_pay64, k0_pay65, k0_pay66, k0_pay67, k0_pay68, k0_pay69, k0_pay70, incrF0, sums]

theorem pay_u_011 (X : Vec Ideal S64x256 .f32) (l : Vec Ideal S1x256 .f32) (V : Vec Ideal S64x256 .f32) (T : Vec Ideal S256x192 .bf16) :
    k0_pay206 (k0_pay10 V) (k0_pay201 (k0_pay31 X l) (k0_pay36 (k0_pay32 X l) (k0_pay33 X l) (k0_pay34 X l) (k0_pay35 X l) T)) = incrF1 X l V T := by
  simp only [k0_pay10, k0_pay12, k0_pay198, k0_pay199, k0_pay201, k0_pay206, k0_pay241, k0_pay242, k0_pay244, k0_pay247, k0_pay248, k0_pay249, k0_pay26, k0_pay27, k0_pay28, k0_pay29, k0_pay30, k0_pay31, k0_pay32, k0_pay33, k0_pay34, k0_pay35, k0_pay36, k0_pay64, k0_pay65, k0_pay66, k0_pay67, k0_pay68, k0_pay69, k0_pay70, incrF1, sums]

theorem pay_e_02 (X : Vec Ideal S64x256 .f32) (l : Vec Ideal S1x256 .f32) (T : Vec Ideal S256x192 .bf16) :
    k0_pay225 (k0_pay221 (k0_pay48 X l T)) = decayF X l T := by
  simp only [k0_pay220, k0_pay221, k0_pay225, k0_pay241, k0_pay242, k0_pay245, k0_pay43, k0_pay44, k0_pay45, k0_pay46, k0_pay48, k0_pay64, k0_pay65, k0_pay66, k0_pay67, k0_pay68, k0_pay70, decayF, sums]

theorem pay_u_020 (X : Vec Ideal S64x256 .f32) (l : Vec Ideal S1x256 .f32) (V : Vec Ideal S64x256 .f32) (T : Vec Ideal S256x192 .bf16) :
    k0_pay226 (k0_pay11 V) (k0_pay47 X l) (k0_pay220 (k0_pay48 X l T)) (k0_pay221 (k0_pay48 X l T)) = incrF0 X l V T := by
  simp only [k0_pay11, k0_pay12, k0_pay220, k0_pay221, k0_pay224, k0_pay226, k0_pay241, k0_pay242, k0_pay244, k0_pay246, k0_pay43, k0_pay44, k0_pay45, k0_pay46, k0_pay47, k0_pay48, k0_pay64, k0_pay65, k0_pay66, k0_pay67, k0_pay68, k0_pay69, k0_pay70, incrF0, sums]

theorem pay_u_021 (X : Vec Ideal S64x256 .f32) (l : Vec Ideal S1x256 .f32) (V : Vec Ideal S64x256 .f32) (T : Vec Ideal S256x192 .bf16) :
    k0_pay227 (k0_pay11 V) (k0_pay47 X l) (k0_pay220 (k0_pay48 X l T)) (k0_pay221 (k0_pay48 X l T)) = incrF1 X l V T := by
  simp only [k0_pay11, k0_pay12, k0_pay220, k0_pay221, k0_pay224, k0_pay227, k0_pay241, k0_pay242, k0_pay244, k0_pay247, k0_pay248, k0_pay249, k0_pay43, k0_pay44, k0_pay45, k0_pay46, k0_pay47, k0_pay48, k0_pay64, k0_pay65, k0_pay66, k0_pay67, k0_pay68, k0_pay69, k0_pay70, incrF1, sums]

theorem pay_e_03 (X : Vec Ideal S64x256 .f32) (l : Vec Ideal S1x256 .f32) (T : Vec Ideal S256x192 .bf16) :
    k0_pay245 (k0_pay63 l (k0_pay60 l) (k0_pay61 X) T) = decayF X l T := by
  simp only [k0_pay241, k0_pay242, k0_pay245, k0_pay56, k0_pay57, k0_pay58, k0_pay59, k0_pay60, k0_pay61, k0_pay63, k0_pay64, k0_pay65, k0_pay66, k0_pay67, k0_pay68, k0_pay70, decayF, sums]

theorem pay_u_030 (X : Vec Ideal S64x256 .f32) (l : Vec Ideal S1x256 .f32) (V : Vec Ideal S64x256 .f32) (T : Vec Ideal S256x192 .bf16) :
    k0_pay246 (k0_pay12 V) (k0_pay62 l (k0_pay57 X) (k0_pay58 X) (k0_pay59 X)) (k0_pay63 l (k0_pay60 l) (k0_pay61 X) T) = incrF0 X l V T := by
  simp only [k0_pay12, k0_pay241, k0_pay242, k0_pay244, k0_pay246, k0_pay56, k0_pay57, k0_pay58, k0_pay59, k0_pay60, k0_pay61, k0_pay62, k0_pay63, k0_pay64, k0_pay65, k0_pay66, k0_pay67, k0_pay68, k0_pay69, k0_pay70, incrF0, sums]

theorem pay_u_031 (X : Vec Ideal S64x256 .f32) (l : Vec Ideal S1x256 .f32) (V : Vec Ideal S64x256 .f32) (T : Vec Ideal S256x192 .bf16) :
    k0_pay249 (k0_pay247 (k0_pay12 V)) (k0_pay248 (k0_pay62 l (k0_pay57 X) (k0_pay58 X) (k0_pay59 X)) (k0_pay63 l (k0_pay60 l) (k0_pay61 X) T)) = incrF1 X l V T := by
  simp only [k0_pay12, k0_pay241, k0_pay242, k0_pay244, k0_pay247, k0_pay248, k0_pay249, k0_pay56, k0_pay57, k0_pay58, k0_pay59, k0_pay60, k0_pay61, k0_pay62, k0_pay63, k0_pay64, k0_pay65, k0_pay66, k0_pay67, k0_pay68, k0_pay69, k0_pay70, incrF1, sums]

theorem pay_e_10 (X : Vec Ideal S64x256 .f32) (l : Vec Ideal S1x256 .f32) (T : Vec Ideal S256x192 .bf16) :
    k0_pay192 (k0_pay188 (k0_pay25 (k0_pay23 X l) T)) = decayB X l T := by
  simp only [k0_pay187, k0_pay188, k0_pay19, k0_pay192, k0_pay20, k0_pay21, k0_pay22, k0_pay23, k0_pay25, k0_pay251, k0_pay252, k0_pay255, k0_pay64, k0_pay65, k0_pay66, k0_pay67, k0_pay68, k0_pay70, decayB, sums]

theorem pay_u_100 (X : Vec Ideal S64x256 .f32) (l : Vec Ideal S1x256 .f32) (V : Vec Ideal S64x256 .f32) (T : Vec Ideal S256x192 .bf16) :
    k0_pay193 (k0_pay9 V) (k0_pay24 l (k0_pay20 X) (k0_pay21 X) (k0_pay22 X)) (k0_pay187 (k0_pay25 (k0_pay23 X l) T)) (k0_pay190 (k0_pay25 (k0_pay23 X l) T)) = incrB0 X l V T := by
  simp only [k0_pay12, k0_pay187, k0_pay188, k0_pay19, k0_pay190, k0_pay191, k0_pay193, k0_pay20, k0_pay21, k0_pay22, k0_pay23, k0_pay24, k0_pay25, k0_pay251, k0_pay252, k0_pay254, k0_pay256, k0_pay64, k0_pay65, k0_pay66, k0_pay67, k0_pay68, k0_pay69, k0_pay70, k0_pay9, incrB0, sums]

theorem pay_u_101 (X : Vec Ideal S64x256 .f32) (l : Vec Ideal S1x256 .f32) (V : Vec Ideal S64x256 .f32) (T : Vec Ideal S256x192 .bf16) :
    k0_pay194 (k0_pay9 V) (k0_pay24 l (k0_pay20 X) (k0_pay21 X) (k0_pay22 X)) (k0_pay187 (k0_pay25 (k0_pay23 X l) T)) (k0_pay190 (k0_pay25 (k0_pay23 X l) T)) = incrB1 X l V T := by
  simp only [k0_pay12, k0_pay187, k0_pay188, k0_pay19, k0_pay190, k0_pay191, k0_pay194, k0_pay20, k0_pay21, k0_pay22, k0_pay23, k0_pay24, k0_pay25, k0_pay251, k0_pay252, k0_pay254, k0_pay257, k0_pay64, k0_pay65, k0_pay66, k0_pay67, k0_pay68, k0_pay69, k0_pay70, k0_pay9, incrB1, sums]

theorem pay_e_11 (X : Vec Ideal S64x256 .f32) (l : Vec Ideal S1x256 .f32) (T : Vec Ideal S256x192 .bf16) :
    k0_pay215 (k0_pay42 X l T) = decayB X l T := by
  simp only [k0_pay211, k0_pay212, k0_pay215, k0_pay251, k0_pay252, k0_pay255, k0_pay37, k0_pay38, k0_pay39, k0_pay40, k0_pay42, k0_pay64, k0_pay65, k0_pay66, k0_pay67, k0_pay68, k0_pay70, decayB, sums]

theorem pay_u_110 (X : Vec Ideal S64x256 .f32) (l : Vec Ideal S1x256 .f32) (V : Vec Ideal S64x256 .f32) (T : Vec Ideal S256x192 .bf16) :
    k0_pay216 (k0_pay10 V) (k0_pay41 X l) (k0_pay42 X l T) = incrB0 X l V T := by
  simp only [k0_pay10, k0_pay12, k0_pay211, k0_pay212, k0_pay214, k0_pay216, k0_pay251, k0_pay252, k0_pay254, k0_pay256, k0_pay37, k0_pay38, k0_pay39, k0_pay40, k0_pay41, k0_pay42, k0_pay64, k0_pay65, k0_pay66, k0_pay67, k0_pay68, k0_pay69, k0_pay70, incrB0, sums]

theorem pay_u_111 (X : Vec Ideal S64x256 .f32) (l : Vec Ideal S1x256 .f32) (V : Vec Ideal S64x256 .f32) (T : Vec Ideal S256x192 .bf16) :
    k0_pay218 (k0_pay217 (k0_pay10 V) (k0_pay41 X l) (k0_pay42 X l T)) = incrB1 X l V T := by
  simp only [k0_pay10, k0_pay12, k0_pay211, k0_pay212, k0_pay214, k0_pay217, k0_pay218, k0_pay251, k0_pay252, k0_pay254, k0_pay257, k0_pay37, k0_pay38, k0_pay39, k0_pay40, k0_pay41, k0_pay42, k0_pay64, k0_pay65, k0_pay66, k0_pay67, k0_pay68, k0_pay69, k0_pay70, incrB1, sums]

theorem pay_e_12 (X : Vec Ideal S64x256 .f32) (l : Vec Ideal S1x256 .f32) (T : Vec Ideal S256x192 .bf16) :
    k0_pay235 (k0_pay234 (k0_pay55 X l (k0_pay49 X) (k0_pay50 X) T)) = decayB X l T := by
  simp only [k0_pay230, k0_pay231, k0_pay234, k0_pay235, k0_pay251, k0_pay252, k0_pay255, k0_pay49, k0_pay50, k0_pay51, k0_pay52, k0_pay53, k0_pay55, k0_pay64, k0_pay65, k0_pay66, k0_pay67, k0_pay68, k0_pay70, decayB, sums]

theorem pay_u_120 (X : Vec Ideal S64x256 .f32) (l : Vec Ideal S1x256 .f32) (V : Vec Ideal S64x256 .f32) (T : Vec Ideal S256x192 .bf16) :
    k0_pay236 (k0_pay11 V) (k0_pay233 (k0_pay54 X l (k0_pay49 X) (k0_pay50 X)) (k0_pay55 X l (k0_pay49 X) (k0_pay50 X) T)) = incrB0 X l V T := by
  simp only [k0_pay11, k0_pay12, k0_pay230, k0_pay231, k0_pay233, k0_pay236, k0_pay251, k0_pay252, k0_pay254, k0_pay256, k0_pay49, k0_pay50, k0_pay51, k0_pay52, k0_pay53, k0_pay54, k0_pay55, k0_pay64, k0_pay65, k0_pay66, k0_pay67, k0_pay68, k0_pay69, k0_pay70, incrB0, sums]

theorem pay_u_121 (X : Vec Ideal S64x256 .f32) (l : Vec Ideal S1x256 .f32) (V : Vec Ideal S64x256 .f32) (T : Vec Ideal S256x192 .bf16) :
    k0_pay237 (k0_pay11 V) (k0_pay233 (k0_pay54 X l (k0_pay49 X) (k0_pay50 X)) (k0_pay55 X l (k0_pay49 X) (k0_pay50 X) T)) = incrB1 X l V T := by
  simp only [k0_pay11, k0_pay12, k0_pay230, k0_pay231, k0_pay233, k0_pay237, k0_pay251, k0_pay252, k0_pay254, k0_pay257, k0_pay49, k0_pay50, k0_pay51, k0_pay52, k0_pay53, k0_pay54, k0_pay55, k0_pay64, k0_pay65, k0_pay66, k0_pay67, k0_pay68, k0_pay69, k0_pay70, incrB1, sums]

theorem pay_e_13 (X : Vec Ideal S64x256 .f32) (l : Vec Ideal S1x256 .f32) (T : Vec Ideal S256x192 .bf16) :
    k0_pay255 (k0_pay251 (k0_pay70 (k0_pay68 X l) T)) = decayB X l T := by
  simp only [k0_pay251, k0_pay252, k0_pay255, k0_pay64, k0_pay65, k0_pay66, k0_pay67, k0_pay68, k0_pay70, decayB, sums]

theorem pay_u_130 (X : Vec Ideal S64x256 .f32) (l : Vec Ideal S1x256 .f32) (V : Vec Ideal S64x256 .f32) (T : Vec Ideal S256x192 .bf16) :
    k0_pay256 (k0_pay12 V) (k0_pay69 X l) (k0_pay251 (k0_pay70 (k0_pay68 X l) T)) = incrB0 X l V T := by
  simp only [k0_pay12, k0_pay251, k0_pay252, k0_pay254, k0_pay256, k0_pay64, k0_pay65, k0_pay66, k0_pay67, k0_pay68, k0_pay69, k0_pay70, incrB0, sums]

theorem pay_u_131 (X : Vec Ideal S64x256 .f32) (l : Vec Ideal S1x256 .f32) (V : Vec Ideal S64x256 .f32) (T : Vec Ideal S256x192 .bf16) :
    k0_pay257 (k0_pay12 V) (k0_pay69 X l) (k0_pay251 (k0_pay70 (k0_pay68 X l) T)) = incrB1 X l V T := by
  simp only [k0_pay12, k0_pay251, k0_pay252, k0_pay254, k0_pay257, k0_pay64, k0_pay65, k0_pay66, k0_pay67, k0_pay68, k0_pay69, k0_pay70, incrB1, sums]

theorem slab_read (M : Memref sig .tc .vmem S256x256 .f32) (h : M.IsWhole) (x : Vec Ideal S256x256 .f32) (t : Fin 4) (off : Fin 2 → ℕ)
    (inb : ∀ a, off a + S64x256.size a ≤ S256x256.size a) (ho : off = ![64 * t.val, 0]) :
    View.readAt (Elt Ideal) M.view (Rect.unit (s := S256x256) off S64x256.size inb).toLoadRect (h.unread x) = slab x t := by
  subst ho
  funext y
  rw [View.readAt_eq_ld, Memref.IsWhole.read_unread]
  refine congrArg x ?_
  funext a
  apply Fin.ext
  match a with
  | ⟨0, _⟩ => show 64 * t.val + 1 * (y 0).val = 64 * t.val + (y 0).val; omega
  | ⟨1, _⟩ => show 0 + 1 * (y 1).val = (y 1).val; omega

theorem bound_read (M : Memref sig .tc .vmem S2x256 .f32) (h : M.IsWhole) (x : Vec Ideal S2x256 .f32) (d : Fin 2) (off : Fin 2 → ℕ)
    (inb : ∀ a, off a + S1x256.size a ≤ S2x256.size a) (ho : off = ![d.val, 0]) :
    View.readAt (Elt Ideal) M.view (Rect.unit (s := S2x256) off S1x256.size inb).toLoadRect (h.unread x) = bound x d := by
  subst ho
  funext y
  rw [View.readAt_eq_ld, Memref.IsWhole.read_unread]
  refine congrArg x ?_
  funext a
  apply Fin.ext
  match a with
  | ⟨0, _⟩ => have : (y 0).val < 1 := (y 0).isLt; show d.val + 1 * (y 0).val = d.val; omega
  | ⟨1, _⟩ => show 0 + 1 * (y 1).val = (y 1).val; omega

theorem table_read (M : Memref sig .tc .vmem S256x192 .bf16) (h : M.IsWhole) (x : Vec Ideal S256x192 .bf16) :
    View.readAt (Elt Ideal) M.view (Rect.unit (s := S256x192) ![0, 0] S256x192.size inb_S256x192_S256x192_0_0).toLoadRect (h.unread x) = x := by
  funext y
  rw [View.readAt_eq_ld, Memref.IsWhole.read_unread]
  refine congrArg x ?_
  funext a
  apply Fin.ext
  match a with
  | ⟨0, _⟩ => show 0 + 1 * (y 0).val = (y 0).val; omega
  | ⟨1, _⟩ => show 0 + 1 * (y 1).val = (y 1).val; omega

variable (c : Dev nD) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg7 : Memref sig .tc .vmem S2x256 .f32) (harg7 : arg7.IsWhole) (arg9 : Memref sig .tc .vmem S256x192 .bf16) (harg9 : arg9.IsWhole) (arg10 : Memref sig .tc .vmem S256x192 .bf16) (harg10 : arg10.IsWhole) (arg18 : Memref sig .tc .vmem S2x4x2x128x128 .f32) (arg19 : Memref sig .tc .vmem S2x4x8x256 .f32) (arg20 : Memref sig .tc .vmem S2x2x128x128 .f32)
  (x1 x2 x3 : Vec Ideal S256x256 .f32) (x5 : Vec Ideal S2x256 .f32) (x7 x8 : Vec Ideal S256x192 .bf16)

theorem e_00 : (kernelRun0_A.sl.v1848 (F := Ideal) c arg3 harg3 arg4 harg4 arg7 harg7 arg9 harg9 arg10 harg10 arg19 x1 x2 x5 x7 x8) = decayF (slab x1 0) (bound x5 0) x7 := by
  unfold kernelRun0_A.sl.v1848 kernelRun0_A.sl.HS3_8
  repeat refine (View.readCov_skip _ _ _ _ _ (by decide +kernel)).trans ?_
  refine (View.readCov_cons_toLoadRect ..).trans ?_
  exact (pay_e_00 _ _ _).trans
    (congr (congr (congrArg decayF (slab_read arg3 harg3 x1 0 ![0, 0] k0_part2_skel._proof_2 rfl)) (bound_read arg7 harg7 x5 0 ![0, 0] (by decide) rfl)) (table_read arg9 harg9 x7))

theorem e_01 : (kernelRun0_A.sl.v1959 (F := Ideal) c arg3 harg3 arg4 harg4 arg7 harg7 arg9 harg9 arg10 harg10 arg19 x1 x2 x5 x7 x8) = decayF (slab x1 1) (bound x5 0) x7 := by
  unfold kernelRun0_A.sl.v1959 kernelRun0_A.sl.HS3_8
  repeat refine (View.readCov_skip _ _ _ _ _ (by decide +kernel)).trans ?_
  refine (View.readCov_cons_toLoadRect ..).trans ?_
  exact (pay_e_01 _ _ _).trans
    (congr (congr (congrArg decayF (slab_read arg3 harg3 x1 1 ![64, 0] k0_part2_skel._proof_4 rfl)) (bound_read arg7 harg7 x5 0 ![0, 0] (by decide) rfl)) (table_read arg9 harg9 x7))

theorem e_02 : (kernelRun0_A.sl.v2070 (F := Ideal) c arg3 harg3 arg4 harg4 arg7 harg7 arg9 harg9 arg10 harg10 arg19 x1 x2 x5 x7 x8) = decayF (slab x1 2) (bound x5 0) x7 := by
  unfold kernelRun0_A.sl.v2070 kernelRun0_A.sl.HS3_8
  repeat refine (View.readCov_skip _ _ _ _ _ (by decide +kernel)).trans ?_
  refine (View.readCov_cons_toLoadRect ..).trans ?_
  exact (pay_e_02 _ _ _).trans
    (congr (congr (congrArg decayF (slab_read arg3 harg3 x1 2 ![128, 0] k0_part2_skel._proof_6 rfl)) (bound_read arg7 harg7 x5 0 ![0, 0] (by decide) rfl)) (table_read arg9 harg9 x7))

theorem e_03 : (kernelRun0_A.sl.v2181 (F := Ideal) c arg3 harg3 arg4 harg4 arg7 harg7 arg9 harg9 arg10 harg10 arg19 x1 x2 x5 x7 x8) = decayF (slab x1 3) (bound x5 0) x7 := by
  unfold kernelRun0_A.sl.v2181 kernelRun0_A.sl.HS3_8
  repeat refine (View.readCov_skip _ _ _ _ _ (by decide +kernel)).trans ?_
  refine (View.readCov_cons_toLoadRect ..).trans ?_
  exact (pay_e_03 _ _ _).trans
    (congr (congr (congrArg decayF (slab_read arg3 harg3 x1 3 ![192, 0] k0_part2_skel._proof_8 rfl)) (bound_read arg7 harg7 x5 0 ![0, 0] (by decide) rfl)) (table_read arg9 harg9 x7))

theorem e_10 : (kernelRun0_A.sl.v2237 (F := Ideal) c arg3 harg3 arg4 harg4 arg7 harg7 arg9 harg9 arg10 harg10 arg19 x1 x2 x5 x7 x8) = decayB (slab x2 0) (bound x5 1) x8 := by
  unfold kernelRun0_A.sl.v2237 kernelRun0_A.sl.HS3_8
  repeat refine (View.readCov_skip _ _ _ _ _ (by decide +kernel)).trans ?_
  refine (View.readCov_cons_toLoadRect ..).trans ?_
  exact (pay_e_10 _ _ _).trans
    (congr (congr (congrArg decayB (slab_read arg4 harg4 x2 0 ![0, 0] k0_part2_skel._proof_2 rfl)) (bound_read arg7 harg7 x5 1 ![1, 0] (by decide) rfl)) (table_read arg10 harg10 x8))

theorem e_11 : (kernelRun0_A.sl.v2126 (F := Ideal) c arg3 harg3 arg4 harg4 arg7 harg7 arg9 harg9 arg10 harg10 arg19 x1 x2 x5 x7 x8) = decayB (slab x2 1) (bound x5 1) x8 := by
  unfold kernelRun0_A.sl.v2126 kernelRun0_A.sl.HS3_8
  repeat refine (View.readCov_skip _ _ _ _ _ (by decide +kernel)).trans ?_
  refine (View.readCov_cons_toLoadRect ..).trans ?_
  exact (pay_e_11 _ _ _).trans
    (congr (congr (congrArg decayB (slab_read arg4 harg4 x2 1 ![64, 0] k0_part2_skel._proof_4 rfl)) (bound_read arg7 harg7 x5 1 ![1, 0] (by decide) rfl)) (table_read arg10 harg10 x8))

theorem e_12 : (kernelRun0_A.sl.v2015 (F := Ideal) c arg3 harg3 arg4 harg4 arg7 harg7 arg9 harg9 arg10 harg10 arg19 x1 x2 x5 x7 x8) = decayB (slab x2 2) (bound x5 1) x8 := by
  unfold kernelRun0_A.sl.v2015 kernelRun0_A.sl.HS3_8
  repeat refine (View.readCov_skip _ _ _ _ _ (by decide +kernel)).trans ?_
  refine (View.readCov_cons_toLoadRect ..).trans ?_
  exact (pay_e_12 _ _ _).trans
    (congr (congr (congrArg decayB (slab_read arg4 harg4 x2 2 ![128, 0] k0_part2_skel._proof_6 rfl)) (bound_read arg7 harg7 x5 1 ![1, 0] (by decide) rfl)) (table_read arg10 harg10 x8))

theorem e_13 : (kernelRun0_A.sl.v1904 (F := Ideal) c arg3 harg3 arg4 harg4 arg7 harg7 arg9 harg9 arg10 harg10 arg19 x1 x2 x5 x7 x8) = decayB (slab x2 3) (bound x5 1) x8 := by
  unfold kernelRun0_A.sl.v1904 kernelRun0_A.sl.HS3_8
  repeat refine (View.readCov_skip _ _ _ _ _ (by decide +kernel)).trans ?_
  refine (View.readCov_cons_toLoadRect ..).trans ?_
  exact (pay_e_13 _ _ _).trans
    (congr (congr (congrArg decayB (slab_read arg4 harg4 x2 3 ![192, 0] k0_part2_skel._proof_8 rfl)) (bound_read arg7 harg7 x5 1 ![1, 0] (by decide) rfl)) (table_read arg10 harg10 x8))

theorem u_000 : (kernelRun0_A.sl.v1869 (F := Ideal) c arg3 harg3 arg4 harg4 arg5 harg5 arg7 harg7 arg9 harg9 arg10 harg10 arg18 x1 x2 x3 x5 x7 x8) = incrF0 (slab x1 0) (bound x5 0) (slab x3 0) x7 := by
  unfold kernelRun0_A.sl.v1869 kernelRun0_A.sl.HS2_16
  repeat refine (View.readCov_skip _ _ _ _ _ (by decide +kernel)).trans ?_
  refine (View.readCov_cons_toLoadRect ..).trans ?_
  exact (pay_u_000 _ _ _ _).trans
    (congr (congr (congr (congrArg incrF0 (slab_read arg3 harg3 x1 0 ![0, 0] k0_part2_skel._proof_2 rfl)) (bound_read arg7 harg7 x5 0 ![0, 0] (by decide) rfl)) (slab_read arg5 harg5 x3 0 ![0, 0] k0_part2_skel._proof_2 rfl)) (table_read arg9 harg9 x7))

theorem u_001 : (kernelRun0_A.sl.v1894 (F := Ideal) c arg3 harg3 arg4 harg4 arg5 harg5 arg7 harg7 arg9 harg9 arg10 harg10 arg18 x1 x2 x3 x5 x7 x8) = incrF1 (slab x1 0) (bound x5 0) (slab x3 0) x7 := by
  unfold kernelRun0_A.sl.v1894 kernelRun0_A.sl.HS2_16
  repeat refine (View.readCov_skip _ _ _ _ _ (by decide +kernel)).trans ?_
  refine (View.readCov_cons_toLoadRect ..).trans ?_
  exact (pay_u_001 _ _ _ _).trans
    (congr (congr (congr (congrArg incrF1 (slab_read arg3 harg3 x1 0 ![0, 0] k0_part2_skel._proof_2 rfl)) (bound_read arg7 harg7 x5 0 ![0, 0] (by decide) rfl)) (slab_read arg5 harg5 x3 0 ![0, 0] k0_part2_skel._proof_2 rfl)) (table_read arg9 harg9 x7))

theorem u_010 : (kernelRun0_A.sl.v1980 (F := Ideal) c arg3 harg3 arg4 harg4 arg5 harg5 arg7 harg7 arg9 harg9 arg10 harg10 arg18 x1 x2 x3 x5 x7 x8) = incrF0 (slab x1 1) (bound x5 0) (slab x3 1) x7 := by
  unfold kernelRun0_A.sl.v1980 kernelRun0_A.sl.HS2_16
  repeat refine (View.readCov_skip _ _ _ _ _ (by decide +kernel)).trans ?_
  refine (View.readCov_cons_toLoadRect ..).trans ?_
  exact (pay_u_010 _ _ _ _).trans
    (congr (congr (congr (congrArg incrF0 (slab_read arg3 harg3 x1 1 ![64, 0] k0_part2_skel._proof_4 rfl)) (bound_read arg7 harg7 x5 0 ![0, 0] (by decide) rfl)) (slab_read arg5 harg5 x3 1 ![64, 0] k0_part2_skel._proof_4 rfl)) (table_read arg9 harg9 x7))

theorem u_011 : (kernelRun0_A.sl.v2005 (F := Ideal) c arg3 harg3 arg4 harg4 arg5 harg5 arg7 harg7 arg9 harg9 arg10 harg10 arg18 x1 x2 x3 x5 x7 x8) = incrF1 (slab x1 1) (bound x5 0) (slab x3 1) x7 := by
  unfold kernelRun0_A.sl.v2005 kernelRun0_A.sl.HS2_16
  repeat refine (View.readCov_skip _ _ _ _ _ (by decide +kernel)).trans ?_
  refine (View.readCov_cons_toLoadRect ..).trans ?_
  exact (pay_u_011 _ _ _ _).trans
    (congr (congr (congr (congrArg incrF1 (slab_read arg3 harg3 x1 1 ![64, 0] k0_part2_skel._proof_4 rfl)) (bound_read arg7 harg7 x5 0 ![0, 0] (by decide) rfl)) (slab_read arg5 harg5 x3 1 ![64, 0] k0_part2_skel._proof_4 rfl)) (table_read arg9 harg9 x7))

theorem u_020 : (kernelRun0_A.sl.v2091 (F := Ideal) c arg3 harg3 arg4 harg4 arg5 harg5 arg7 harg7 arg9 harg9 arg10 harg10 arg18 x1 x2 x3 x5 x7 x8) = incrF0 (slab x1 2) (bound x5 0) (slab x3 2) x7 := by
  unfold kernelRun0_A.sl.v2091 kernelRun0_A.sl.HS2_16
  repeat refine (View.readCov_skip _ _ _ _ _ (by decide +kernel)).trans ?_
  refine (View.readCov_cons_toLoadRect ..).trans ?_
  exact (pay_u_020 _ _ _ _).trans
    (congr (congr (congr (congrArg incrF0 (slab_read arg3 harg3 x1 2 ![128, 0] k0_part2_skel._proof_6 rfl)) (bound_read arg7 harg7 x5 0 ![0, 0] (by decide) rfl)) (slab_read arg5 harg5 x3 2 ![128, 0] k0_part2_skel._proof_6 rfl)) (table_read arg9 harg9 x7))

theorem u_021 : (kernelRun0_A.sl.v2116 (F := Ideal) c arg3 harg3 arg4 harg4 arg5 harg5 arg7 harg7 arg9 harg9 arg10 harg10 arg18 x1 x2 x3 x5 x7 x8) = incrF1 (slab x1 2) (bound x5 0) (slab x3 2) x7 := by
  unfold kernelRun0_A.sl.v2116 kernelRun0_A.sl.HS2_16
  repeat refine (View.readCov_skip _ _ _ _ _ (by decide +kernel)).trans ?_
  refine (View.readCov_cons_toLoadRect ..).trans ?_
  exact (pay_u_021 _ _ _ _).trans
    (congr (congr (congr (congrArg incrF1 (slab_read arg3 harg3 x1 2 ![128, 0] k0_part2_skel._proof_6 rfl)) (bound_read arg7 harg7 x5 0 ![0, 0] (by decide) rfl)) (slab_read arg5 harg5 x3 2 ![128, 0] k0_part2_skel._proof_6 rfl)) (table_read arg9 harg9 x7))

theorem u_030 : (kernelRun0_A.sl.v2202 (F := Ideal) c arg3 harg3 arg4 harg4 arg5 harg5 arg7 harg7 arg9 harg9 arg10 harg10 arg18 x1 x2 x3 x5 x7 x8) = incrF0 (slab x1 3) (bound x5 0) (slab x3 3) x7 := by
  unfold kernelRun0_A.sl.v2202 kernelRun0_A.sl.HS2_16
  repeat refine (View.readCov_skip _ _ _ _ _ (by decide +kernel)).trans ?_
  refine (View.readCov_cons_toLoadRect ..).trans ?_
  exact (pay_u_030 _ _ _ _).trans
    (congr (congr (congr (congrArg incrF0 (slab_read arg3 harg3 x1 3 ![192, 0] k0_part2_skel._proof_8 rfl)) (bound_read arg7 harg7 x5 0 ![0, 0] (by decide) rfl)) (slab_read arg5 harg5 x3 3 ![192, 0] k0_part2_skel._proof_8 rfl)) (table_read arg9 harg9 x7))

theorem u_031 : (kernelRun0_A.sl.v2227 (F := Ideal) c arg3 harg3 arg4 harg4 arg5 harg5 arg7 harg7 arg9 harg9 arg10 harg10 arg18 x1 x2 x3 x5 x7 x8) = incrF1 (slab x1 3) (bound x5 0) (slab x3 3) x7 := by
  unfold kernelRun0_A.sl.v2227 kernelRun0_A.sl.HS2_16
  repeat refine (View.readCov_skip _ _ _ _ _ (by decide +kernel)).trans ?_
  refine (View.readCov_cons_toLoadRect ..).trans ?_
  exact (pay_u_031 _ _ _ _).trans
    (congr (congr (congr (congrArg incrF1 (slab_read arg3 harg3 x1 3 ![192, 0] k0_part2_skel._proof_8 rfl)) (bound_read arg7 harg7 x5 0 ![0, 0] (by decide) rfl)) (slab_read arg5 harg5 x3 3 ![192, 0] k0_part2_skel._proof_8 rfl)) (table_read arg9 harg9 x7))

theorem u_100 : (kernelRun0_A.sl.v2258 (F := Ideal) c arg3 harg3 arg4 harg4 arg5 harg5 arg7 harg7 arg9 harg9 arg10 harg10 arg18 x1 x2 x3 x5 x7 x8) = incrB0 (slab x2 0) (bound x5 1) (slab x3 0) x8 := by
  unfold kernelRun0_A.sl.v2258 kernelRun0_A.sl.HS2_16
  repeat refine (View.readCov_skip _ _ _ _ _ (by decide +kernel)).trans ?_
  refine (View.readCov_cons_toLoadRect ..).trans ?_
  exact (pay_u_100 _ _ _ _).trans
    (congr (congr (congr (congrArg incrB0 (slab_read arg4 harg4 x2 0 ![0, 0] k0_part2_skel._proof_2 rfl)) (bound_read arg7 harg7 x5 1 ![1, 0] (by decide) rfl)) (slab_read arg5 harg5 x3 0 ![0, 0] k0_part2_skel._proof_2 rfl)) (table_read arg10 harg10 x8))

theorem u_101 : (kernelRun0_A.sl.v2283 (F := Ideal) c arg3 harg3 arg4 harg4 arg5 harg5 arg7 harg7 arg9 harg9 arg10 harg10 arg18 x1 x2 x3 x5 x7 x8) = incrB1 (slab x2 0) (bound x5 1) (slab x3 0) x8 := by
  unfold kernelRun0_A.sl.v2283 kernelRun0_A.sl.HS2_16
  repeat refine (View.readCov_skip _ _ _ _ _ (by decide +kernel)).trans ?_
  refine (View.readCov_cons_toLoadRect ..).trans ?_
  exact (pay_u_101 _ _ _ _).trans
    (congr (congr (congr (congrArg incrB1 (slab_read arg4 harg4 x2 0 ![0, 0] k0_part2_skel._proof_2 rfl)) (bound_read arg7 harg7 x5 1 ![1, 0] (by decide) rfl)) (slab_read arg5 harg5 x3 0 ![0, 0] k0_part2_skel._proof_2 rfl)) (table_read arg10 harg10 x8))

theorem u_110 : (kernelRun0_A.sl.v2147 (F := Ideal) c arg3 harg3 arg4 harg4 arg5 harg5 arg7 harg7 arg9 harg9 arg10 harg10 arg18 x1 x2 x3 x5 x7 x8) = incrB0 (slab x2 1) (bound x5 1) (slab x3 1) x8 := by
  unfold kernelRun0_A.sl.v2147 kernelRun0_A.sl.HS2_16
  repeat refine (View.readCov_skip _ _ _ _ _ (by decide +kernel)).trans ?_
  refine (View.readCov_cons_toLoadRect ..).trans ?_
  exact (pay_u_110 _ _ _ _).trans
    (congr (congr (congr (congrArg incrB0 (slab_read arg4 harg4 x2 1 ![64, 0] k0_part2_skel._proof_4 rfl)) (bound_read arg7 harg7 x5 1 ![1, 0] (by decide) rfl)) (slab_read arg5 harg5 x3 1 ![64, 0] k0_part2_skel._proof_4 rfl)) (table_read arg10 harg10 x8))

theorem u_111 : (kernelRun0_A.sl.v2172 (F := Ideal) c arg3 harg3 arg4 harg4 arg5 harg5 arg7 harg7 arg9 harg9 arg10 harg10 arg18 x1 x2 x3 x5 x7 x8) = incrB1 (slab x2 1) (bound x5 1) (slab x3 1) x8 := by
  unfold kernelRun0_A.sl.v2172 kernelRun0_A.sl.HS2_16
  repeat refine (View.readCov_skip _ _ _ _ _ (by decide +kernel)).trans ?_
  refine (View.readCov_cons_toLoadRect ..).trans ?_
  exact (pay_u_111 _ _ _ _).trans
    (congr (congr (congr (congrArg incrB1 (slab_read arg4 harg4 x2 1 ![64, 0] k0_part2_skel._proof_4 rfl)) (bound_read arg7 harg7 x5 1 ![1, 0] (by decide) rfl)) (slab_read arg5 harg5 x3 1 ![64, 0] k0_part2_skel._proof_4 rfl)) (table_read arg10 harg10 x8))

theorem u_120 : (kernelRun0_A.sl.v2036 (F := Ideal) c arg3 harg3 arg4 harg4 arg5 harg5 arg7 harg7 arg9 harg9 arg10 harg10 arg18 x1 x2 x3 x5 x7 x8) = incrB0 (slab x2 2) (bound x5 1) (slab x3 2) x8 := by
  unfold kernelRun0_A.sl.v2036 kernelRun0_A.sl.HS2_16
  repeat refine (View.readCov_skip _ _ _ _ _ (by decide +kernel)).trans ?_
  refine (View.readCov_cons_toLoadRect ..).trans ?_
  exact (pay_u_120 _ _ _ _).trans
    (congr (congr (congr (congrArg incrB0 (slab_read arg4 harg4 x2 2 ![128, 0] k0_part2_skel._proof_6 rfl)) (bound_read arg7 harg7 x5 1 ![1, 0] (by decide) rfl)) (slab_read arg5 harg5 x3 2 ![128, 0] k0_part2_skel._proof_6 rfl)) (table_read arg10 harg10 x8))

theorem u_121 : (kernelRun0_A.sl.v2061 (F := Ideal) c arg3 harg3 arg4 harg4 arg5 harg5 arg7 harg7 arg9 harg9 arg10 harg10 arg18 x1 x2 x3 x5 x7 x8) = incrB1 (slab x2 2) (bound x5 1) (slab x3 2) x8 := by
  unfold kernelRun0_A.sl.v2061 kernelRun0_A.sl.HS2_16
  repeat refine (View.readCov_skip _ _ _ _ _ (by decide +kernel)).trans ?_
  refine (View.readCov_cons_toLoadRect ..).trans ?_
  exact (pay_u_121 _ _ _ _).trans
    (congr (congr (congr (congrArg incrB1 (slab_read arg4 harg4 x2 2 ![128, 0] k0_part2_skel._proof_6 rfl)) (bound_read arg7 harg7 x5 1 ![1, 0] (by decide) rfl)) (slab_read arg5 harg5 x3 2 ![128, 0] k0_part2_skel._proof_6 rfl)) (table_read arg10 harg10 x8))

theorem u_130 : (kernelRun0_A.sl.v1925 (F := Ideal) c arg3 harg3 arg4 harg4 arg5 harg5 arg7 harg7 arg9 harg9 arg10 harg10 arg18 x1 x2 x3 x5 x7 x8) = incrB0 (slab x2 3) (bound x5 1) (slab x3 3) x8 := by
  unfold kernelRun0_A.sl.v1925 kernelRun0_A.sl.HS2_16
  repeat refine (View.readCov_skip _ _ _ _ _ (by decide +kernel)).trans ?_
  refine (View.readCov_cons_toLoadRect ..).trans ?_
  exact (pay_u_130 _ _ _ _).trans
    (congr (congr (congr (congrArg incrB0 (slab_read arg4 harg4 x2 3 ![192, 0] k0_part2_skel._proof_8 rfl)) (bound_read arg7 harg7 x5 1 ![1, 0] (by decide) rfl)) (slab_read arg5 harg5 x3 3 ![192, 0] k0_part2_skel._proof_8 rfl)) (table_read arg10 harg10 x8))

theorem u_131 : (kernelRun0_A.sl.v1950 (F := Ideal) c arg3 harg3 arg4 harg4 arg5 harg5 arg7 harg7 arg9 harg9 arg10 harg10 arg18 x1 x2 x3 x5 x7 x8) = incrB1 (slab x2 3) (bound x5 1) (slab x3 3) x8 := by
  unfold kernelRun0_A.sl.v1950 kernelRun0_A.sl.HS2_16
  repeat refine (View.readCov_skip _ _ _ _ _ (by decide +kernel)).trans ?_
  refine (View.readCov_cons_toLoadRect ..).trans ?_
  exact (pay_u_131 _ _ _ _).trans
    (congr (congr (congr (congrArg incrB1 (slab_read arg4 harg4 x2 3 ![192, 0] k0_part2_skel._proof_8 rfl)) (bound_read arg7 harg7 x5 1 ![1, 0] (by decide) rfl)) (slab_read arg5 harg5 x3 3 ![192, 0] k0_part2_skel._proof_8 rfl)) (table_read arg10 harg10 x8))

end Cert.StateIdeal.Chunk

end
-- ==== Proof.Chain.lean ====
module

public import proofs.«01_k».proof.Proof.Chunk

/-! The states of the recurrence kernel after each of its four chunks: every one is the state before, weakened by the chunk's
    decay, plus what the chunk adds. -/

@[expose] public section

set_option maxRecDepth 16384

noncomputable section

namespace Cert.StateIdeal.Chunk

open Cert.StateIdeal Cert.StateIdeal.Gen Idealize.ShloMosaic Idealize.ShloMosaic.TcCoe Idealize.SL.Sem

/-- One chunk more, for the first and the second head of a pair. -/
def step0 (e : FVec Ideal S1x1x8x256 .f32) (s : FVec Ideal S1x1x128x128 .f32) (u : FVec Ideal S1x1x1x128x128 .f32) :
    FVec Ideal S1x1x128x128 .f32 := k0_pay261 e s u
def step1 (e : FVec Ideal S1x1x8x256 .f32) (s : FVec Ideal S1x1x128x128 .f32) (u : FVec Ideal S1x1x1x128x128 .f32) :
    FVec Ideal S1x1x128x128 .f32 := k0_pay264 (k0_pay258 e) (k0_pay262 s) u

theorem pay_s_5 (e : FVec Ideal S1x1x8x256 .f32) (s : FVec Ideal S1x1x128x128 .f32) (u : FVec Ideal S1x1x1x128x128 .f32) :
    k0_pay261 e s u = step0 e s u := by
  simp only [k0_pay258, k0_pay259, k0_pay261, k0_pay262, k0_pay264, step0]

theorem pay_s_6 (e : FVec Ideal S1x1x8x256 .f32) (s : FVec Ideal S1x1x128x128 .f32) (u : FVec Ideal S1x1x1x128x128 .f32) :
    k0_pay264 (k0_pay258 e) (k0_pay262 s) u = step1 e s u := by
  simp only [k0_pay258, k0_pay259, k0_pay261, k0_pay262, k0_pay264, step1]

theorem pay_s_7 (e : FVec Ideal S1x1x8x256 .f32) (s : FVec Ideal S1x1x128x128 .f32) (u : FVec Ideal S1x1x1x128x128 .f32) :
    k0_pay269 (k0_pay265 e) (k0_pay266 s) u = step0 e s u := by
  simp only [k0_pay258, k0_pay259, k0_pay261, k0_pay262, k0_pay264, k0_pay265, k0_pay266, k0_pay269, step0]

theorem pay_s_8 (e : FVec Ideal S1x1x8x256 .f32) (s : FVec Ideal S1x1x128x128 .f32) (u : FVec Ideal S1x1x1x128x128 .f32) :
    k0_pay272 (k0_pay265 e) (k0_pay270 s) u = step1 e s u := by
  simp only [k0_pay258, k0_pay259, k0_pay261, k0_pay262, k0_pay264, k0_pay265, k0_pay270, k0_pay272, step1]

theorem pay_s_9 (e : FVec Ideal S1x1x8x256 .f32) (s : FVec Ideal S1x1x128x128 .f32) (u : FVec Ideal S1x1x1x128x128 .f32) :
    k0_pay277 (k0_pay276 e s) u = step0 e s u := by
  simp only [k0_pay258, k0_pay259, k0_pay261, k0_pay262, k0_pay264, k0_pay273, k0_pay274, k0_pay276, k0_pay277, step0]

theorem pay_s_10 (e : FVec Ideal S1x1x8x256 .f32) (s : FVec Ideal S1x1x128x128 .f32) (u : FVec Ideal S1x1x1x128x128 .f32) :
    (k0_pay280 (k0_pay273 e) s u) = step1 e s u := by
  simp only [k0_pay258, k0_pay259, k0_pay261, k0_pay262, k0_pay264, k0_pay273, k0_pay278, k0_pay280, step1]

theorem pay_s_11 (e : FVec Ideal S1x1x8x256 .f32) (s : FVec Ideal S1x1x128x128 .f32) (u : FVec Ideal S1x1x1x128x128 .f32) :
    k0_pay284 e s u = step0 e s u := by
  simp only [k0_pay258, k0_pay259, k0_pay261, k0_pay262, k0_pay264, k0_pay281, k0_pay282, k0_pay284, step0]

theorem pay_s_12 (e : FVec Ideal S1x1x8x256 .f32) (s : FVec Ideal S1x1x128x128 .f32) (u : FVec Ideal S1x1x1x128x128 .f32) :
    k0_pay287 (k0_pay281 e) s u = step1 e s u := by
  simp only [k0_pay258, k0_pay259, k0_pay261, k0_pay262, k0_pay264, k0_pay281, k0_pay285, k0_pay287, step1]

theorem pay_s_13 (e : FVec Ideal S1x1x8x256 .f32) (s : FVec Ideal S1x1x128x128 .f32) (u : FVec Ideal S1x1x1x128x128 .f32) :
    k0_pay291 (k0_pay288 e) (k0_pay289 s) u = step0 e s u := by
  simp only [k0_pay258, k0_pay259, k0_pay261, k0_pay262, k0_pay264, k0_pay288, k0_pay289, k0_pay291, step0]

theorem pay_s_14 (e : FVec Ideal S1x1x8x256 .f32) (s : FVec Ideal S1x1x128x128 .f32) (u : FVec Ideal S1x1x1x128x128 .f32) :
    k0_pay295 (k0_pay288 e) (k0_pay292 s) u = step1 e s u := by
  simp only [k0_pay258, k0_pay259, k0_pay261, k0_pay262, k0_pay264, k0_pay288, k0_pay292, k0_pay295, step1]

theorem pay_s_15 (e : FVec Ideal S1x1x8x256 .f32) (s : FVec Ideal S1x1x128x128 .f32) (u : FVec Ideal S1x1x1x128x128 .f32) :
    k0_pay300 (k0_pay296 e) (k0_pay297 s) u = step0 e s u := by
  simp only [k0_pay258, k0_pay259, k0_pay261, k0_pay262, k0_pay264, k0_pay296, k0_pay297, k0_pay300, step0]

theorem pay_s_16 (e : FVec Ideal S1x1x8x256 .f32) (s : FVec Ideal S1x1x128x128 .f32) (u : FVec Ideal S1x1x1x128x128 .f32) :
    k0_pay305 (k0_pay303 (k0_pay296 e) s) (k0_pay304 u) = step1 e s u := by
  simp only [k0_pay258, k0_pay259, k0_pay261, k0_pay262, k0_pay264, k0_pay296, k0_pay301, k0_pay303, k0_pay304, k0_pay305, step1]

theorem pay_s_17 (e : FVec Ideal S1x1x8x256 .f32) (s : FVec Ideal S1x1x128x128 .f32) (u : FVec Ideal S1x1x1x128x128 .f32) :
    k0_pay310 (k0_pay309 e s u) = step0 e s u := by
  simp only [k0_pay258, k0_pay259, k0_pay261, k0_pay262, k0_pay264, k0_pay306, k0_pay307, k0_pay309, k0_pay310, step0]

theorem pay_s_18 (e : FVec Ideal S1x1x8x256 .f32) (s : FVec Ideal S1x1x128x128 .f32) (u : FVec Ideal S1x1x1x128x128 .f32) :
    k0_pay313 (k0_pay306 e) s u = step1 e s u := by
  simp only [k0_pay258, k0_pay259, k0_pay261, k0_pay262, k0_pay264, k0_pay306, k0_pay311, k0_pay313, step1]

theorem pay_s_19 (e : FVec Ideal S1x1x8x256 .f32) (s : FVec Ideal S1x1x128x128 .f32) (u : FVec Ideal S1x1x1x128x128 .f32) :
    k0_pay317 e s u = step0 e s u := by
  simp only [k0_pay258, k0_pay259, k0_pay261, k0_pay262, k0_pay264, k0_pay314, k0_pay315, k0_pay317, step0]

theorem pay_s_20 (e : FVec Ideal S1x1x8x256 .f32) (s : FVec Ideal S1x1x128x128 .f32) (u : FVec Ideal S1x1x1x128x128 .f32) :
    k0_pay321 (k0_pay314 e) (k0_pay318 s) u = step1 e s u := by
  simp only [k0_pay258, k0_pay259, k0_pay261, k0_pay262, k0_pay264, k0_pay314, k0_pay318, k0_pay321, step1]

variable (c : Dev nD) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg7 : Memref sig .tc .vmem S2x256 .f32) (harg7 : arg7.IsWhole) (arg9 : Memref sig .tc .vmem S256x192 .bf16) (harg9 : arg9.IsWhole) (arg10 : Memref sig .tc .vmem S256x192 .bf16) (harg10 : arg10.IsWhole) (arg18 : Memref sig .tc .vmem S2x4x2x128x128 .f32) (arg19 : Memref sig .tc .vmem S2x4x8x256 .f32) (arg20 : Memref sig .tc .vmem S2x2x128x128 .f32)
  (x1 x2 x3 : Vec Ideal S256x256 .f32) (x5 : Vec Ideal S2x256 .f32) (x7 x8 : Vec Ideal S256x192 .bf16)

theorem s_v1850 : (kernelRun0_A.sl.v1850 (F := Ideal) c arg20)
    = k0_pay5 (F := Ideal) := by
  unfold kernelRun0_A.sl.v1850 kernelRun0_A.sl.HS4_4
  repeat refine (View.readCov_skip _ _ _ _ _ (by decide +kernel)).trans ?_
  refine (View.readCov_cons_toLoadRect ..).trans ?_
  rfl

theorem s_v1875 : (kernelRun0_A.sl.v1875 (F := Ideal) c arg3 harg3 arg4 harg4 arg5 harg5 arg7 harg7 arg9 harg9 arg10 harg10 arg18 arg19 arg20 x1 x2 x3 x5 x7 x8)
    = k0_pay6 (F := Ideal) := by
  unfold kernelRun0_A.sl.v1875 kernelRun0_A.sl.HS4_5 kernelRun0_A.sl.HS4_4
  repeat refine (View.readCov_skip _ _ _ _ _ (by decide +kernel)).trans ?_
  refine (View.readCov_cons_toLoadRect ..).trans ?_
  rfl

theorem s_v1906 : (kernelRun0_A.sl.v1906 (F := Ideal) c arg3 harg3 arg4 harg4 arg5 harg5 arg7 harg7 arg9 harg9 arg10 harg10 arg18 arg19 arg20 x1 x2 x3 x5 x7 x8)
    = k0_pay7 (F := Ideal) := by
  unfold kernelRun0_A.sl.v1906 kernelRun0_A.sl.HS4_6 kernelRun0_A.sl.HS4_5 kernelRun0_A.sl.HS4_4
  repeat refine (View.readCov_skip _ _ _ _ _ (by decide +kernel)).trans ?_
  refine (View.readCov_cons_toLoadRect ..).trans ?_
  rfl

theorem s_v1931 : (kernelRun0_A.sl.v1931 (F := Ideal) c arg3 harg3 arg4 harg4 arg5 harg5 arg7 harg7 arg9 harg9 arg10 harg10 arg18 arg19 arg20 x1 x2 x3 x5 x7 x8)
    = k0_pay8 (F := Ideal) := by
  unfold kernelRun0_A.sl.v1931 kernelRun0_A.sl.HS4_7 kernelRun0_A.sl.HS4_6 kernelRun0_A.sl.HS4_5 kernelRun0_A.sl.HS4_4
  repeat refine (View.readCov_skip _ _ _ _ _ (by decide +kernel)).trans ?_
  refine (View.readCov_cons_toLoadRect ..).trans ?_
  rfl

theorem s_v1961 : (kernelRun0_A.sl.v1961 (F := Ideal) c arg3 harg3 arg4 harg4 arg5 harg5 arg7 harg7 arg9 harg9 arg10 harg10 arg18 arg19 arg20 x1 x2 x3 x5 x7 x8)
    = step0 (decayF (slab x1 0) (bound x5 0) x7) (k0_pay5 (F := Ideal)) (incrF0 (slab x1 0) (bound x5 0) (slab x3 0) x7) := by
  unfold kernelRun0_A.sl.v1961 kernelRun0_A.sl.HS4_8 kernelRun0_A.sl.HS4_7 kernelRun0_A.sl.HS4_6 kernelRun0_A.sl.HS4_5
  repeat refine (View.readCov_skip _ _ _ _ _ (by decide +kernel)).trans ?_
  refine (View.readCov_cons_toLoadRect ..).trans ?_
  exact (pay_s_5 _ _ _).trans (congr (congr (congrArg step0 (e_00 ..)) (s_v1850 ..)) (u_000 ..))

theorem s_v1986 : (kernelRun0_A.sl.v1986 (F := Ideal) c arg3 harg3 arg4 harg4 arg5 harg5 arg7 harg7 arg9 harg9 arg10 harg10 arg18 arg19 arg20 x1 x2 x3 x5 x7 x8)
    = step1 (decayF (slab x1 0) (bound x5 0) x7) (k0_pay6 (F := Ideal)) (incrF1 (slab x1 0) (bound x5 0) (slab x3 0) x7) := by
  unfold kernelRun0_A.sl.v1986 kernelRun0_A.sl.HS4_9 kernelRun0_A.sl.HS4_8 kernelRun0_A.sl.HS4_7 kernelRun0_A.sl.HS4_6
  repeat refine (View.readCov_skip _ _ _ _ _ (by decide +kernel)).trans ?_
  refine (View.readCov_cons_toLoadRect ..).trans ?_
  exact (pay_s_6 _ _ _).trans (congr (congr (congrArg step1 (e_00 ..)) (s_v1875 ..)) (u_001 ..))

theorem s_v2017 : (kernelRun0_A.sl.v2017 (F := Ideal) c arg3 harg3 arg4 harg4 arg5 harg5 arg7 harg7 arg9 harg9 arg10 harg10 arg18 arg19 arg20 x1 x2 x3 x5 x7 x8)
    = step0 (decayB (slab x2 3) (bound x5 1) x8) (k0_pay7 (F := Ideal)) (incrB0 (slab x2 3) (bound x5 1) (slab x3 3) x8) := by
  unfold kernelRun0_A.sl.v2017 kernelRun0_A.sl.HS4_10 kernelRun0_A.sl.HS4_9 kernelRun0_A.sl.HS4_8 kernelRun0_A.sl.HS4_7
  repeat refine (View.readCov_skip _ _ _ _ _ (by decide +kernel)).trans ?_
  refine (View.readCov_cons_toLoadRect ..).trans ?_
  exact (pay_s_7 _ _ _).trans (congr (congr (congrArg step0 (e_13 ..)) (s_v1906 ..)) (u_130 ..))

theorem s_v2042 : (kernelRun0_A.sl.v2042 (F := Ideal) c arg3 harg3 arg4 harg4 arg5 harg5 arg7 harg7 arg9 harg9 arg10 harg10 arg18 arg19 arg20 x1 x2 x3 x5 x7 x8)
    = step1 (decayB (slab x2 3) (bound x5 1) x8) (k0_pay8 (F := Ideal)) (incrB1 (slab x2 3) (bound x5 1) (slab x3 3) x8) := by
  unfold kernelRun0_A.sl.v2042 kernelRun0_A.sl.HS4_11 kernelRun0_A.sl.HS4_10 kernelRun0_A.sl.HS4_9 kernelRun0_A.sl.HS4_8
  repeat refine (View.readCov_skip _ _ _ _ _ (by decide +kernel)).trans ?_
  refine (View.readCov_cons_toLoadRect ..).trans ?_
  exact (pay_s_8 _ _ _).trans (congr (congr (congrArg step1 (e_13 ..)) (s_v1931 ..)) (u_131 ..))

theorem s_v2072 : (kernelRun0_A.sl.v2072 (F := Ideal) c arg3 harg3 arg4 harg4 arg5 harg5 arg7 harg7 arg9 harg9 arg10 harg10 arg18 arg19 arg20 x1 x2 x3 x5 x7 x8)
    = step0 (decayF (slab x1 1) (bound x5 0) x7) (step0 (decayF (slab x1 0) (bound x5 0) x7) (k0_pay5 (F := Ideal)) (incrF0 (slab x1 0) (bound x5 0) (slab x3 0) x7)) (incrF0 (slab x1 1) (bound x5 0) (slab x3 1) x7) := by
  unfold kernelRun0_A.sl.v2072 kernelRun0_A.sl.HS4_12 kernelRun0_A.sl.HS4_11 kernelRun0_A.sl.HS4_10 kernelRun0_A.sl.HS4_9
  repeat refine (View.readCov_skip _ _ _ _ _ (by decide +kernel)).trans ?_
  refine (View.readCov_cons_toLoadRect ..).trans ?_
  exact (pay_s_9 _ _ _).trans (congr (congr (congrArg step0 (e_01 ..)) (s_v1961 ..)) (u_010 ..))

theorem s_v2097 : (kernelRun0_A.sl.v2097 (F := Ideal) c arg3 harg3 arg4 harg4 arg5 harg5 arg7 harg7 arg9 harg9 arg10 harg10 arg18 arg19 arg20 x1 x2 x3 x5 x7 x8)
    = step1 (decayF (slab x1 1) (bound x5 0) x7) (step1 (decayF (slab x1 0) (bound x5 0) x7) (k0_pay6 (F := Ideal)) (incrF1 (slab x1 0) (bound x5 0) (slab x3 0) x7)) (incrF1 (slab x1 1) (bound x5 0) (slab x3 1) x7) := by
  unfold kernelRun0_A.sl.v2097 kernelRun0_A.sl.HS4_13 kernelRun0_A.sl.HS4_12 kernelRun0_A.sl.HS4_11 kernelRun0_A.sl.HS4_10
  repeat refine (View.readCov_skip _ _ _ _ _ (by decide +kernel)).trans ?_
  refine (View.readCov_cons_toLoadRect ..).trans ?_
  exact (pay_s_10 _ _ _).trans (congr (congr (congrArg step1 (e_01 ..)) (s_v1986 ..)) (u_011 ..))

theorem s_v2128 : (kernelRun0_A.sl.v2128 (F := Ideal) c arg3 harg3 arg4 harg4 arg5 harg5 arg7 harg7 arg9 harg9 arg10 harg10 arg18 arg19 arg20 x1 x2 x3 x5 x7 x8)
    = step0 (decayB (slab x2 2) (bound x5 1) x8) (step0 (decayB (slab x2 3) (bound x5 1) x8) (k0_pay7 (F := Ideal)) (incrB0 (slab x2 3) (bound x5 1) (slab x3 3) x8)) (incrB0 (slab x2 2) (bound x5 1) (slab x3 2) x8) := by
  unfold kernelRun0_A.sl.v2128 kernelRun0_A.sl.HS4_14 kernelRun0_A.sl.HS4_13 kernelRun0_A.sl.HS4_12 kernelRun0_A.sl.HS4_11
  repeat refine (View.readCov_skip _ _ _ _ _ (by decide +kernel)).trans ?_
  refine (View.readCov_cons_toLoadRect ..).trans ?_
  exact (pay_s_11 _ _ _).trans (congr (congr (congrArg step0 (e_12 ..)) (s_v2017 ..)) (u_120 ..))

theorem s_v2153 : (kernelRun0_A.sl.v2153 (F := Ideal) c arg3 harg3 arg4 harg4 arg5 harg5 arg7 harg7 arg9 harg9 arg10 harg10 arg18 arg19 arg20 x1 x2 x3 x5 x7 x8)
    = step1 (decayB (slab x2 2) (bound x5 1) x8) (step1 (decayB (slab x2 3) (bound x5 1) x8) (k0_pay8 (F := Ideal)) (incrB1 (slab x2 3) (bound x5 1) (slab x3 3) x8)) (incrB1 (slab x2 2) (bound x5 1) (slab x3 2) x8) := by
  unfold kernelRun0_A.sl.v2153 kernelRun0_A.sl.HS4_15 kernelRun0_A.sl.HS4_14 kernelRun0_A.sl.HS4_13 kernelRun0_A.sl.HS4_12
  repeat refine (View.readCov_skip _ _ _ _ _ (by decide +kernel)).trans ?_
  refine (View.readCov_cons_toLoadRect ..).trans ?_
  exact (pay_s_12 _ _ _).trans (congr (congr (congrArg step1 (e_12 ..)) (s_v2042 ..)) (u_121 ..))

theorem s_v2183 : (kernelRun0_A.sl.v2183 (F := Ideal) c arg3 harg3 arg4 harg4 arg5 harg5 arg7 harg7 arg9 harg9 arg10 harg10 arg18 arg19 arg20 x1 x2 x3 x5 x7 x8)
    = step0 (decayF (slab x1 2) (bound x5 0) x7) (step0 (decayF (slab x1 1) (bound x5 0) x7) (step0 (decayF (slab x1 0) (bound x5 0) x7) (k0_pay5 (F := Ideal)) (incrF0 (slab x1 0) (bound x5 0) (slab x3 0) x7)) (incrF0 (slab x1 1) (bound x5 0) (slab x3 1) x7)) (incrF0 (slab x1 2) (bound x5 0) (slab x3 2) x7) := by
  unfold kernelRun0_A.sl.v2183 kernelRun0_A.sl.HS4_16 kernelRun0_A.sl.HS4_15 kernelRun0_A.sl.HS4_14 kernelRun0_A.sl.HS4_13
  repeat refine (View.readCov_skip _ _ _ _ _ (by decide +kernel)).trans ?_
  refine (View.readCov_cons_toLoadRect ..).trans ?_
  exact (pay_s_13 _ _ _).trans (congr (congr (congrArg step0 (e_02 ..)) (s_v2072 ..)) (u_020 ..))

theorem s_v2208 : (kernelRun0_A.sl.v2208 (F := Ideal) c arg3 harg3 arg4 harg4 arg5 harg5 arg7 harg7 arg9 harg9 arg10 harg10 arg18 arg19 arg20 x1 x2 x3 x5 x7 x8)
    = step1 (decayF (slab x1 2) (bound x5 0) x7) (step1 (decayF (slab x1 1) (bound x5 0) x7) (step1 (decayF (slab x1 0) (bound x5 0) x7) (k0_pay6 (F := Ideal)) (incrF1 (slab x1 0) (bound x5 0) (slab x3 0) x7)) (incrF1 (slab x1 1) (bound x5 0) (slab x3 1) x7)) (incrF1 (slab x1 2) (bound x5 0) (slab x3 2) x7) := by
  unfold kernelRun0_A.sl.v2208 kernelRun0_A.sl.HS4_17 kernelRun0_A.sl.HS4_16 kernelRun0_A.sl.HS4_15 kernelRun0_A.sl.HS4_14
  repeat refine (View.readCov_skip _ _ _ _ _ (by decide +kernel)).trans ?_
  refine (View.readCov_cons_toLoadRect ..).trans ?_
  exact (pay_s_14 _ _ _).trans (congr (congr (congrArg step1 (e_02 ..)) (s_v2097 ..)) (u_021 ..))

theorem s_v2239 : (kernelRun0_A.sl.v2239 (F := Ideal) c arg3 harg3 arg4 harg4 arg5 harg5 arg7 harg7 arg9 harg9 arg10 harg10 arg18 arg19 arg20 x1 x2 x3 x5 x7 x8)
    = step0 (decayB (slab x2 1) (bound x5 1) x8) (step0 (decayB (slab x2 2) (bound x5 1) x8) (step0 (decayB (slab x2 3) (bound x5 1) x8) (k0_pay7 (F := Ideal)) (incrB0 (slab x2 3) (bound x5 1) (slab x3 3) x8)) (incrB0 (slab x2 2) (bound x5 1) (slab x3 2) x8)) (incrB0 (slab x2 1) (bound x5 1) (slab x3 1) x8) := by
  unfold kernelRun0_A.sl.v2239 kernelRun0_A.sl.HS4_18 kernelRun0_A.sl.HS4_17 kernelRun0_A.sl.HS4_16 kernelRun0_A.sl.HS4_15
  repeat refine (View.readCov_skip _ _ _ _ _ (by decide +kernel)).trans ?_
  refine (View.readCov_cons_toLoadRect ..).trans ?_
  exact (pay_s_15 _ _ _).trans (congr (congr (congrArg step0 (e_11 ..)) (s_v2128 ..)) (u_110 ..))

theorem s_v2264 : (kernelRun0_A.sl.v2264 (F := Ideal) c arg3 harg3 arg4 harg4 arg5 harg5 arg7 harg7 arg9 harg9 arg10 harg10 arg18 arg19 arg20 x1 x2 x3 x5 x7 x8)
    = step1 (decayB (slab x2 1) (bound x5 1) x8) (step1 (decayB (slab x2 2) (bound x5 1) x8) (step1 (decayB (slab x2 3) (bound x5 1) x8) (k0_pay8 (F := Ideal)) (incrB1 (slab x2 3) (bound x5 1) (slab x3 3) x8)) (incrB1 (slab x2 2) (bound x5 1) (slab x3 2) x8)) (incrB1 (slab x2 1) (bound x5 1) (slab x3 1) x8) := by
  unfold kernelRun0_A.sl.v2264 kernelRun0_A.sl.HS4_19 kernelRun0_A.sl.HS4_18 kernelRun0_A.sl.HS4_17 kernelRun0_A.sl.HS4_16
  repeat refine (View.readCov_skip _ _ _ _ _ (by decide +kernel)).trans ?_
  refine (View.readCov_cons_toLoadRect ..).trans ?_
  exact (pay_s_16 _ _ _).trans (congr (congr (congrArg step1 (e_11 ..)) (s_v2153 ..)) (u_111 ..))

theorem s_v2465 : (kernelRun0_A.sl.v2465 (F := Ideal) c arg3 harg3 arg4 harg4 arg5 harg5 arg7 harg7 arg9 harg9 arg10 harg10 arg18 arg19 arg20 x1 x2 x3 x5 x7 x8)
    = step0 (decayF (slab x1 3) (bound x5 0) x7) (step0 (decayF (slab x1 2) (bound x5 0) x7) (step0 (decayF (slab x1 1) (bound x5 0) x7) (step0 (decayF (slab x1 0) (bound x5 0) x7) (k0_pay5 (F := Ideal)) (incrF0 (slab x1 0) (bound x5 0) (slab x3 0) x7)) (incrF0 (slab x1 1) (bound x5 0) (slab x3 1) x7)) (incrF0 (slab x1 2) (bound x5 0) (slab x3 2) x7)) (incrF0 (slab x1 3) (bound x5 0) (slab x3 3) x7) := by
  unfold kernelRun0_A.sl.v2465 kernelRun0_A.sl.HS4_20 kernelRun0_A.sl.HS4_19 kernelRun0_A.sl.HS4_18 kernelRun0_A.sl.HS4_17
  repeat refine (View.readCov_skip _ _ _ _ _ (by decide +kernel)).trans ?_
  refine (View.readCov_cons_toLoadRect ..).trans ?_
  exact (pay_s_17 _ _ _).trans (congr (congr (congrArg step0 (e_03 ..)) (s_v2183 ..)) (u_030 ..))

theorem s_v2471 : (kernelRun0_A.sl.v2471 (F := Ideal) c arg3 harg3 arg4 harg4 arg5 harg5 arg7 harg7 arg9 harg9 arg10 harg10 arg18 arg19 arg20 x1 x2 x3 x5 x7 x8)
    = step1 (decayF (slab x1 3) (bound x5 0) x7) (step1 (decayF (slab x1 2) (bound x5 0) x7) (step1 (decayF (slab x1 1) (bound x5 0) x7) (step1 (decayF (slab x1 0) (bound x5 0) x7) (k0_pay6 (F := Ideal)) (incrF1 (slab x1 0) (bound x5 0) (slab x3 0) x7)) (incrF1 (slab x1 1) (bound x5 0) (slab x3 1) x7)) (incrF1 (slab x1 2) (bound x5 0) (slab x3 2) x7)) (incrF1 (slab x1 3) (bound x5 0) (slab x3 3) x7) := by
  unfold kernelRun0_A.sl.v2471 kernelRun0_A.sl.HS4_20 kernelRun0_A.sl.HS4_19 kernelRun0_A.sl.HS4_18
  repeat refine (View.readCov_skip _ _ _ _ _ (by decide +kernel)).trans ?_
  refine (View.readCov_cons_toLoadRect ..).trans ?_
  exact (pay_s_18 _ _ _).trans (congr (congr (congrArg step1 (e_03 ..)) (s_v2208 ..)) (u_031 ..))

theorem s_v2477 : (kernelRun0_A.sl.v2477 (F := Ideal) c arg3 harg3 arg4 harg4 arg5 harg5 arg7 harg7 arg9 harg9 arg10 harg10 arg18 arg19 arg20 x1 x2 x3 x5 x7 x8)
    = step0 (decayB (slab x2 0) (bound x5 1) x8) (step0 (decayB (slab x2 1) (bound x5 1) x8) (step0 (decayB (slab x2 2) (bound x5 1) x8) (step0 (decayB (slab x2 3) (bound x5 1) x8) (k0_pay7 (F := Ideal)) (incrB0 (slab x2 3) (bound x5 1) (slab x3 3) x8)) (incrB0 (slab x2 2) (bound x5 1) (slab x3 2) x8)) (incrB0 (slab x2 1) (bound x5 1) (slab x3 1) x8)) (incrB0 (slab x2 0) (bound x5 1) (slab x3 0) x8) := by
  unfold kernelRun0_A.sl.v2477 kernelRun0_A.sl.HS4_20 kernelRun0_A.sl.HS4_19
  repeat refine (View.readCov_skip _ _ _ _ _ (by decide +kernel)).trans ?_
  refine (View.readCov_cons_toLoadRect ..).trans ?_
  exact (pay_s_19 _ _ _).trans (congr (congr (congrArg step0 (e_10 ..)) (s_v2239 ..)) (u_100 ..))

theorem s_v2483 : (kernelRun0_A.sl.v2483 (F := Ideal) c arg3 harg3 arg4 harg4 arg5 harg5 arg7 harg7 arg9 harg9 arg10 harg10 arg18 arg19 arg20 x1 x2 x3 x5 x7 x8)
    = step1 (decayB (slab x2 0) (bound x5 1) x8) (step1 (decayB (slab x2 1) (bound x5 1) x8) (step1 (decayB (slab x2 2) (bound x5 1) x8) (step1 (decayB (slab x2 3) (bound x5 1) x8) (k0_pay8 (F := Ideal)) (incrB1 (slab x2 3) (bound x5 1) (slab x3 3) x8)) (incrB1 (slab x2 2) (bound x5 1) (slab x3 2) x8)) (incrB1 (slab x2 1) (bound x5 1) (slab x3 1) x8)) (incrB1 (slab x2 0) (bound x5 1) (slab x3 0) x8) := by
  unfold kernelRun0_A.sl.v2483 kernelRun0_A.sl.HS4_20
  repeat refine (View.readCov_skip _ _ _ _ _ (by decide +kernel)).trans ?_
  refine (View.readCov_cons_toLoadRect ..).trans ?_
  exact (pay_s_20 _ _ _).trans (congr (congr (congrArg step1 (e_10 ..)) (s_v2264 ..)) (u_101 ..))

theorem turn340 (x : Vec Ideal S1x1x128x128 .f32) (k q : Fin 128) :
    @Eq EReal ((k0_pay340 x : FVec Ideal S1x1x1x128x128 .f32) (ix5 0 0 0 k q)) (x (ix4 0 0 q k)) := by
  pointwise [k0_pay340]

theorem turn1 (x : Vec Ideal S1x1x128x128 .f32) (k q : Fin 128) :
    @Eq EReal ((k0_pay1 (k0_pay341 x) : FVec Ideal S1x1x1x128x128 .f32) (ix5 0 0 0 k q)) (x (ix4 0 0 q k)) := by
  pointwise [k0_pay1, k0_pay341]

theorem turn2 (x : Vec Ideal S1x1x128x128 .f32) (k q : Fin 128) :
    @Eq EReal ((k0_pay2 x : FVec Ideal S1x1x1x128x128 .f32) (ix5 0 0 0 k q)) (x (ix4 0 0 q k)) := by
  pointwise [k0_pay2]

theorem turn3 (x : Vec Ideal S1x1x128x128 .f32) (k q : Fin 128) :
    @Eq EReal ((k0_pay3 x : FVec Ideal S1x1x1x128x128 .f32) (ix5 0 0 0 k q)) (x (ix4 0 0 q k)) := by
  pointwise [k0_pay3]

/-- Four pieces that are the four quarters of a block, read at an index. -/
theorem quarters (w00 w01 w10 w11 : FVec Ideal S1x1x1x128x128 .f32) (d h : Fin 2) (k q : Fin 128) :
    View.canon (Val := Elt Ideal) (s := S1x2x2x128x128) (e := .f32)
      [⟨Rect.unit (s := S1x2x2x128x128) ![0, 1, 1, 0, 0] S1x1x1x128x128.size inb_S1x2x2x128x128_S1x1x1x128x128_0_1_1_0_0, w11⟩, ⟨Rect.unit (s := S1x2x2x128x128) ![0, 1, 0, 0, 0] S1x1x1x128x128.size inb_S1x2x2x128x128_S1x1x1x128x128_0_1_0_0_0, w10⟩, ⟨Rect.unit (s := S1x2x2x128x128) ![0, 0, 1, 0, 0] S1x1x1x128x128.size inb_S1x2x2x128x128_S1x1x1x128x128_0_0_1_0_0, w01⟩, ⟨Rect.unit (s := S1x2x2x128x128) ![0, 0, 0, 0, 0] S1x1x1x128x128.size inb_S1x2x2x128x128_S1x1x1x128x128_0_0_0_0_0, w00⟩] (ix5 0 d h k q)
      = (match d, h with
        | 0, 0 => w00
        | 0, 1 => w01
        | 1, 0 => w10
        | 1, 1 => w11) (ix5 0 0 0 k q) := by
  match d, h with
  | 1, 1 =>
    have hi : (ix5 0 1 1 k q : S1x2x2x128x128.Idx) = (Rect.unit (s := S1x2x2x128x128) ![0, 1, 1, 0, 0] S1x1x1x128x128.size inb_S1x2x2x128x128_S1x1x1x128x128_0_1_1_0_0).toLoadRect.idx (ix5 0 0 0 k q) := by
      funext a
      apply Fin.ext
      match a with
      | ⟨0, _⟩ => rfl
      | ⟨1, _⟩ => rfl
      | ⟨2, _⟩ => rfl
      | ⟨3, _⟩ => show k.val = 0 + 1 * k.val; omega
      | ⟨4, _⟩ => show q.val = 0 + 1 * q.val; omega
    rw [hi]
    refine (congrFun (View.readCov_eq_canon' (Val := Elt Ideal) VO0_12 _ _) _).symm.trans (congrFun ?_ _)
    repeat refine (View.readCov_skip _ _ _ _ _ (by decide +kernel)).trans ?_
    exact View.readCov_cons_toLoadRect ..
  | 1, 0 =>
    have hi : (ix5 0 1 0 k q : S1x2x2x128x128.Idx) = (Rect.unit (s := S1x2x2x128x128) ![0, 1, 0, 0, 0] S1x1x1x128x128.size inb_S1x2x2x128x128_S1x1x1x128x128_0_1_0_0_0).toLoadRect.idx (ix5 0 0 0 k q) := by
      funext a
      apply Fin.ext
      match a with
      | ⟨0, _⟩ => rfl
      | ⟨1, _⟩ => rfl
      | ⟨2, _⟩ => rfl
      | ⟨3, _⟩ => show k.val = 0 + 1 * k.val; omega
      | ⟨4, _⟩ => show q.val = 0 + 1 * q.val; omega
    rw [hi]
    refine (congrFun (View.readCov_eq_canon' (Val := Elt Ideal) VO0_12 _ _) _).symm.trans (congrFun ?_ _)
    repeat refine (View.readCov_skip _ _ _ _ _ (by decide +kernel)).trans ?_
    exact View.readCov_cons_toLoadRect ..
  | 0, 1 =>
    have hi : (ix5 0 0 1 k q : S1x2x2x128x128.Idx) = (Rect.unit (s := S1x2x2x128x128) ![0, 0, 1, 0, 0] S1x1x1x128x128.size inb_S1x2x2x128x128_S1x1x1x128x128_0_0_1_0_0).toLoadRect.idx (ix5 0 0 0 k q) := by
      funext a
      apply Fin.ext
      match a with
      | ⟨0, _⟩ => rfl
      | ⟨1, _⟩ => rfl
      | ⟨2, _⟩ => rfl
      | ⟨3, _⟩ => show k.val = 0 + 1 * k.val; omega
      | ⟨4, _⟩ => show q.val = 0 + 1 * q.val; omega
    rw [hi]
    refine (congrFun (View.readCov_eq_canon' (Val := Elt Ideal) VO0_12 _ _) _).symm.trans (congrFun ?_ _)
    repeat refine (View.readCov_skip _ _ _ _ _ (by decide +kernel)).trans ?_
    exact View.readCov_cons_toLoadRect ..
  | 0, 0 =>
    have hi : (ix5 0 0 0 k q : S1x2x2x128x128.Idx) = (Rect.unit (s := S1x2x2x128x128) ![0, 0, 0, 0, 0] S1x1x1x128x128.size inb_S1x2x2x128x128_S1x1x1x128x128_0_0_0_0_0).toLoadRect.idx (ix5 0 0 0 k q) := by
      funext a
      apply Fin.ext
      match a with
      | ⟨0, _⟩ => rfl
      | ⟨1, _⟩ => rfl
      | ⟨2, _⟩ => rfl
      | ⟨3, _⟩ => show k.val = 0 + 1 * k.val; omega
      | ⟨4, _⟩ => show q.val = 0 + 1 * q.val; omega
    rw [hi]
    refine (congrFun (View.readCov_eq_canon' (Val := Elt Ideal) VO0_12 _ _) _).symm.trans (congrFun ?_ _)
    repeat refine (View.readCov_skip _ _ _ _ _ (by decide +kernel)).trans ?_
    exact View.readCov_cons_toLoadRect ..

/-- What the body leaves in a block of the states: the four final states, each the transpose of its running form. -/
theorem block (i : grid0.Coords) (arg2 : Memref sig .tc .vmem S256x256 .f32) (harg2 : arg2.IsWhole) (arg6 : Memref sig .tc .vmem S256x256 .f32) (harg6 : arg6.IsWhole) (arg8 : Memref sig .tc .vmem S1x256 .f32) (harg8 : arg8.IsWhole) (arg11 : Memref sig .tc .vmem S64x128 .i32) (harg11 : arg11.IsWhole) (arg12 : Memref sig .tc .vmem S64x128 .i32) (harg12 : arg12.IsWhole) (arg14 : Memref sig .tc .vmem S256x256 .bf16) (harg14 : arg14.IsWhole) (arg15 : Memref sig .tc .vmem S1x2x2x128x128 .f32) (harg15 : arg15.IsWhole) (arg16 : Memref sig .tc .vmem S2x256x256 .f32) (harg16 : arg16.IsWhole) (arg17 : Memref sig .tc .vmem S2x256x256 .bf16) (harg17 : arg17.IsWhole) (harg18 : arg18.IsWhole) (harg19 : arg19.IsWhole) (harg20 : arg20.IsWhole) (x0 : Vec Ideal S256x256 .f32) (x4 : Vec Ideal S256x256 .f32) (x6 : Vec Ideal S1x256 .f32) (x9 : Vec Ideal S64x128 .i32) (x10 : Vec Ideal S64x128 .i32) (d h : Fin 2) (k q : Fin 128) :
    @Eq EReal (out0_A_12 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 x0 x1 x2 x3 x4 x5 x6 x7 x8 x9 x10 (ix5 0 d h k q))
      ((match d, h with
        | 0, 0 => step0 (decayF (slab x1 3) (bound x5 0) x7) (step0 (decayF (slab x1 2) (bound x5 0) x7) (step0 (decayF (slab x1 1) (bound x5 0) x7) (step0 (decayF (slab x1 0) (bound x5 0) x7) (k0_pay5 (F := Ideal)) (incrF0 (slab x1 0) (bound x5 0) (slab x3 0) x7)) (incrF0 (slab x1 1) (bound x5 0) (slab x3 1) x7)) (incrF0 (slab x1 2) (bound x5 0) (slab x3 2) x7)) (incrF0 (slab x1 3) (bound x5 0) (slab x3 3) x7)
        | 0, 1 => step1 (decayF (slab x1 3) (bound x5 0) x7) (step1 (decayF (slab x1 2) (bound x5 0) x7) (step1 (decayF (slab x1 1) (bound x5 0) x7) (step1 (decayF (slab x1 0) (bound x5 0) x7) (k0_pay6 (F := Ideal)) (incrF1 (slab x1 0) (bound x5 0) (slab x3 0) x7)) (incrF1 (slab x1 1) (bound x5 0) (slab x3 1) x7)) (incrF1 (slab x1 2) (bound x5 0) (slab x3 2) x7)) (incrF1 (slab x1 3) (bound x5 0) (slab x3 3) x7)
        | 1, 0 => step0 (decayB (slab x2 0) (bound x5 1) x8) (step0 (decayB (slab x2 1) (bound x5 1) x8) (step0 (decayB (slab x2 2) (bound x5 1) x8) (step0 (decayB (slab x2 3) (bound x5 1) x8) (k0_pay7 (F := Ideal)) (incrB0 (slab x2 3) (bound x5 1) (slab x3 3) x8)) (incrB0 (slab x2 2) (bound x5 1) (slab x3 2) x8)) (incrB0 (slab x2 1) (bound x5 1) (slab x3 1) x8)) (incrB0 (slab x2 0) (bound x5 1) (slab x3 0) x8)
        | 1, 1 => step1 (decayB (slab x2 0) (bound x5 1) x8) (step1 (decayB (slab x2 1) (bound x5 1) x8) (step1 (decayB (slab x2 2) (bound x5 1) x8) (step1 (decayB (slab x2 3) (bound x5 1) x8) (k0_pay8 (F := Ideal)) (incrB1 (slab x2 3) (bound x5 1) (slab x3 3) x8)) (incrB1 (slab x2 2) (bound x5 1) (slab x3 2) x8)) (incrB1 (slab x2 1) (bound x5 1) (slab x3 1) x8)) (incrB1 (slab x2 0) (bound x5 1) (slab x3 0) x8)) (ix4 0 0 q k)) := by
  have hL : (kernelRun0_A (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 x0 x1 x2 x3 x4 x5 x6 x7 x8 x9 x10).2.1 = [⟨Rect.unit (s := S1x2x2x128x128) ![0, 1, 1, 0, 0] S1x1x1x128x128.size inb_S1x2x2x128x128_S1x1x1x128x128_0_1_1_0_0, k0_pay3 (kernelRun0_A.sl.v2483 (F := Ideal) c arg3 harg3 arg4 harg4 arg5 harg5 arg7 harg7 arg9 harg9 arg10 harg10 arg18 arg19 arg20 x1 x2 x3 x5 x7 x8)⟩,
      ⟨Rect.unit (s := S1x2x2x128x128) ![0, 1, 0, 0, 0] S1x1x1x128x128.size inb_S1x2x2x128x128_S1x1x1x128x128_0_1_0_0_0, k0_pay2 (kernelRun0_A.sl.v2477 (F := Ideal) c arg3 harg3 arg4 harg4 arg5 harg5 arg7 harg7 arg9 harg9 arg10 harg10 arg18 arg19 arg20 x1 x2 x3 x5 x7 x8)⟩,
      ⟨Rect.unit (s := S1x2x2x128x128) ![0, 0, 1, 0, 0] S1x1x1x128x128.size inb_S1x2x2x128x128_S1x1x1x128x128_0_0_1_0_0, k0_pay1 (k0_pay341 (kernelRun0_A.sl.v2471 (F := Ideal) c arg3 harg3 arg4 harg4 arg5 harg5 arg7 harg7 arg9 harg9 arg10 harg10 arg18 arg19 arg20 x1 x2 x3 x5 x7 x8))⟩,
      ⟨Rect.unit (s := S1x2x2x128x128) ![0, 0, 0, 0, 0] S1x1x1x128x128.size inb_S1x2x2x128x128_S1x1x1x128x128_0_0_0_0_0, k0_pay340 (kernelRun0_A.sl.v2465 (F := Ideal) c arg3 harg3 arg4 harg4 arg5 harg5 arg7 harg7 arg9 harg9 arg10 harg10 arg18 arg19 arg20 x1 x2 x3 x5 x7 x8)⟩] := rfl
  unfold out0_A_12
  rw [View.read_writes_junk_eq_canon, hL]
  refine (quarters _ _ _ _ d h k q).trans ?_
  match d, h with
  | 0, 0 => exact (turn340 _ k q).trans (congrFun (s_v2465 ..) _)
  | 0, 1 => exact (turn1 _ k q).trans (congrFun (s_v2471 ..) _)
  | 1, 0 => exact (turn2 _ k q).trans (congrFun (s_v2477 ..) _)
  | 1, 1 => exact (turn3 _ k q).trans (congrFun (s_v2483 ..) _)

end Cert.StateIdeal.Chunk

end
-- ==== Proof.Decay.lean ====
module

public import Idealize.ShloMosaic.PureOps.Ideal.Laws
public import Idealize.ShloMosaic.Lib.ValueIdx

/-! The mathematics of the state recurrence: a sum over tokens in which every token is weakened by the gates of the tokens
    that follow it, and how it is built up chunk by chunk. The gates' logarithms are real, the weights any extended reals. -/

@[expose] public section

noncomputable section

namespace Decay

open Idealize.ShloMosaic

/-- A real factor that is not negative distributes over a sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.2 ha) (EReal.coe_ne_top a), ih]

/-- The state after `n` tokens of weights `w` and log gates `γ`. -/
def state (n : ℕ) (w : ℕ → EReal) (γ : ℕ → ℝ) : EReal :=
  ∑ s ∈ Finset.range n, w s * ((Real.exp (∑ r ∈ Finset.Ico (s + 1) n, γ r) : ℝ) : EReal)

/-- The state after a further chunk of `k` tokens. -/
theorem state_add (n k : ℕ) (w : ℕ → EReal) (γ : ℕ → ℝ) :
    state (n + k) w γ = state n w γ * ((Real.exp (∑ r ∈ Finset.range k, γ (n + r)) : ℝ) : EReal)
      + ∑ j ∈ Finset.range k, w (n + j) * ((Real.exp (∑ r ∈ Finset.range k, γ (n + r) - ∑ r ∈ Finset.range (j + 1), γ (n + r)) : ℝ) : EReal) := by
  unfold state
  rw [Finset.sum_range_add, sum_mul_coe _ _ _ (Real.exp_pos _).le]
  congr 1
  · refine Finset.sum_congr rfl fun s hs => ?_
    have hs' := Finset.mem_range.1 hs
    rw [mul_assoc, ← EReal.coe_mul, ← Real.exp_add, ← Finset.sum_Ico_consecutive γ (show s + 1 ≤ n by omega) (show n ≤ n + k by omega),
      Finset.sum_Ico_eq_sum_range γ n (n + k), show n + k - n = k by omega]
  · refine Finset.sum_congr rfl fun j hj => ?_
    have hj' := Finset.mem_range.1 hj
    rw [← Finset.sum_Ico_eq_sub (fun r => γ (n + r)) (show j + 1 ≤ k by omega), Finset.sum_Ico_add γ (j + 1) k n,
      show n + j + 1 = j + 1 + n by omega, show n + k = k + n by omega]

/-- No tokens, no state. -/
theorem state_zero (w : ℕ → EReal) (γ : ℕ → ℝ) : state 0 w γ = 0 := by simp [state]

/-- All tokens as one chunk. -/
theorem state_one (k : ℕ) (w : ℕ → EReal) (γ : ℕ → ℝ) :
    state k w γ = ∑ j ∈ Finset.range k, w j * ((Real.exp (∑ r ∈ Finset.range k, γ r - ∑ r ∈ Finset.range (j + 1), γ r) : ℝ) : EReal) := by
  have h := state_add 0 k w γ
  simpa [state_zero] using h

/-- Sums of reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, EReal.coe_add, ih]

theorem exp_coe (r : ℝ) : Ideal.exp (r : EReal) = ((Real.exp r : ℝ) : EReal) := rfl

theorem log_coe (r : ℝ) (h : 0 < r) : Ideal.log (r : EReal) = ((Real.log r : ℝ) : EReal) := by
  show (if r ≤ 0 then (⊥ : EReal) else ((Real.log r : ℝ) : EReal)) = _
  rw [if_neg (not_le.2 h)]

/-- The quotient of reals. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The logistic function of a real. -/
def sig (x : ℝ) : ℝ := 1 / (1 + Real.exp (-x))

theorem sig_pos (x : ℝ) : 0 < sig x := by unfold sig; positivity

theorem sig_lt (x : ℝ) : sig x < 1 := by
  unfold sig
  rw [div_lt_one (by positivity)]
  linarith [Real.exp_pos (-x)]

theorem logistic_coe (x : ℝ) : Ideal.logistic (x : EReal) = ((sig x : ℝ) : EReal) := by
  unfold Ideal.logistic sig
  rw [← EReal.coe_neg, exp_coe, ← EReal.coe_one, ← EReal.coe_add, div_coe _ _ (by positivity)]

/-- The gate of a real input under a lower bound. -/
def gate (l x : ℝ) : ℝ := l + (1 - l) * sig x

theorem gate_pos (l x : ℝ) (h : 0 ≤ l) : 0 < gate l x := by
  unfold gate
  nlinarith [sig_pos x, sig_lt x]

/-- The logarithm of the gate, as the reference writes it. -/
theorem log_gate (l x : ℝ) (h : 0 ≤ l) :
    Ideal.log ((l : EReal) + (1 - (l : EReal)) * Ideal.logistic (x : EReal)) = ((Real.log (gate l x) : ℝ) : EReal) := by
  rw [logistic_coe, ← log_coe _ (gate_pos l x h)]
  unfold gate
  push_cast
  rfl

/-- The logistic function by the exponential of the negated magnitude: the larger and the smaller of its values at `x` and `-x`. -/
theorem large_coe (x : ℝ) : Ideal.div 1 (1 + Ideal.exp ((-|x| : ℝ) : EReal)) = ((sig |x| : ℝ) : EReal) := by
  rw [← logistic_coe]
  rfl

theorem small_coe (x : ℝ) : Ideal.exp ((-|x| : ℝ) : EReal) * ((sig |x| : ℝ) : EReal) = ((sig (-|x|) : ℝ) : EReal) := by
  rw [exp_coe, ← EReal.coe_mul]
  congr 1
  unfold sig
  rw [neg_neg, mul_one_div, div_eq_div_iff (by positivity) (by positivity)]
  have h : Real.exp (-|x|) * Real.exp |x| = 1 := by rw [← Real.exp_add]; simp
  linear_combination h

end Decay

end
-- ==== Proof.Point.lean ====
module

public import proofs.«01_k».proof.Proof.Chain
public import proofs.«01_k».proof.Proof.Decay

/-! The chunks' payloads read at an index. -/

@[expose] public section

set_option maxRecDepth 16384

noncomputable section

namespace Cert.StateIdeal.Chunk

open Cert.StateIdeal Cert.StateIdeal.Gen Idealize.ShloMosaic Idealize.ShloMosaic.TcCoe Idealize.SL.Sem

theorem step0_at (e : FVec Ideal S1x1x8x256 .f32) (s : FVec Ideal S1x1x128x128 .f32) (u : FVec Ideal S1x1x1x128x128 .f32) (q k : Fin 128) :
    @Eq EReal (step0 e s u (ix4 0 0 q k)) (s (ix4 0 0 q k) * e (ix4 0 0 0 ⟨k.val, by omega⟩) + u (ix5 0 0 0 q k)) := by
  pointwise [step0, k0_pay261, k0_pay258, k0_pay259]

theorem step1_at (e : FVec Ideal S1x1x8x256 .f32) (s : FVec Ideal S1x1x128x128 .f32) (u : FVec Ideal S1x1x1x128x128 .f32) (q k : Fin 128) :
    @Eq EReal (step1 e s u (ix4 0 0 q k)) (s (ix4 0 0 q k) * e (ix4 0 0 0 ⟨128 + k.val, by omega⟩) + u (ix5 0 0 0 q k)) := by
  pointwise [step1, k0_pay264, k0_pay258, k0_pay262]

variable (X v : Vec Ideal S64x256 .f32) (l : Vec Ideal S1x256 .f32) (T : Vec Ideal S256x192 .bf16)

theorem decayF_at (k : Fin 256) :
    @Eq EReal (decayF X l T (ix4 0 0 0 k)) (Ideal.exp (sums X l T (ix2 255 k))) := by
  unfold decayF
  generalize sums X l T = G
  pointwise [k0_pay245, k0_pay242, k0_pay241]
  all_goals rfl

theorem decayB_at (k : Fin 256) :
    @Eq EReal (decayB X l T (ix4 0 0 0 k)) (Ideal.exp (sums X l T (ix2 192 k))) := by
  unfold decayB
  generalize sums X l T = G
  pointwise [k0_pay255, k0_pay252, k0_pay251]
  all_goals rfl

theorem incrF0_at (q k : Fin 128) :
    @Eq EReal (incrF0 X l v T (ix5 0 0 0 q k)) (∑ j : Fin 64, v (ix2 j ⟨q.val, by omega⟩) * (k0_pay69 (F := Ideal) X l (ix2 j ⟨k.val, by omega⟩)
      * Ideal.exp (sums X l T (ix2 255 ⟨k.val, by omega⟩) - sums X l T (ix2 ⟨192 + j.val, by omega⟩ ⟨k.val, by omega⟩)))) := by
  unfold incrF0
  generalize sums X l T = G
  generalize k0_pay69 (F := Ideal) X l = K
  pointwise [k0_pay246, k0_pay12, k0_pay244, k0_pay242, k0_pay241]
  all_goals rfl

theorem incrF1_at (q k : Fin 128) :
    @Eq EReal (incrF1 X l v T (ix5 0 0 0 q k)) (∑ j : Fin 64, v (ix2 j ⟨128 + q.val, by omega⟩) * (k0_pay69 (F := Ideal) X l (ix2 j ⟨128 + k.val, by omega⟩)
      * Ideal.exp (sums X l T (ix2 255 ⟨128 + k.val, by omega⟩) - sums X l T (ix2 ⟨192 + j.val, by omega⟩ ⟨128 + k.val, by omega⟩)))) := by
  unfold incrF1
  generalize sums X l T = G
  generalize k0_pay69 (F := Ideal) X l = K
  pointwise [k0_pay249, k0_pay247, k0_pay248, k0_pay12, k0_pay244, k0_pay242, k0_pay241]
  all_goals rfl

theorem incrB0_at (q k : Fin 128) :
    @Eq EReal (incrB0 X l v T (ix5 0 0 0 q k)) (∑ j : Fin 64, v (ix2 j ⟨q.val, by omega⟩) * (k0_pay69 (F := Ideal) X l (ix2 j ⟨k.val, by omega⟩)
      * Ideal.exp (sums X l T (ix2 192 ⟨k.val, by omega⟩) - sums X l T (ix2 ⟨192 + j.val, by omega⟩ ⟨k.val, by omega⟩)))) := by
  unfold incrB0
  generalize sums X l T = G
  generalize k0_pay69 (F := Ideal) X l = K
  pointwise [k0_pay256, k0_pay12, k0_pay254, k0_pay252, k0_pay251]
  all_goals rfl

theorem incrB1_at (q k : Fin 128) :
    @Eq EReal (incrB1 X l v T (ix5 0 0 0 q k)) (∑ j : Fin 64, v (ix2 j ⟨128 + q.val, by omega⟩) * (k0_pay69 (F := Ideal) X l (ix2 j ⟨128 + k.val, by omega⟩)
      * Ideal.exp (sums X l T (ix2 192 ⟨128 + k.val, by omega⟩) - sums X l T (ix2 ⟨192 + j.val, by omega⟩ ⟨128 + k.val, by omega⟩)))) := by
  unfold incrB1
  generalize sums X l T = G
  generalize k0_pay69 (F := Ideal) X l = K
  pointwise [k0_pay257, k0_pay12, k0_pay254, k0_pay252, k0_pay251]
  all_goals rfl

/-- A sum over 192 rows of which only the first 64 count. -/
theorem sum192 (f : Fin 192 → EReal) (h : ∀ i : Fin 192, 64 ≤ i.val → f i = 0) :
    ∑ i, f i = ∑ b : Fin 64, f ⟨b.val, by omega⟩ := by
  refine (Fin.sum_univ_add (M := EReal) (a := 64) (b := 128) f).trans ?_
  rw [Finset.sum_eq_zero (s := Finset.univ) (f := fun i : Fin 128 => f (Fin.natAdd 64 i)) (fun i _ => h _ (by show 64 ≤ 64 + i.val; omega)), add_zero]
  rfl

/-- The smaller or larger logistic value, by the sign of the input. -/
theorem pick (x : ℝ) (a b : EReal) : (if (0 : EReal) ≤ (x : EReal) then a else b) = if 0 ≤ x then a else b := by
  simp only [EReal.coe_nonneg]

theorem abs_coe (x : ℝ) : (FloatOps.absf (F := Ideal) (φ := .f32) (x : EReal) : EReal) = ((|x| : ℝ) : EReal) := by
  show max (x : EReal) (-(x : EReal)) = _
  rw [abs_eq_max_neg, EReal.coe_strictMono.monotone.map_max, EReal.coe_neg]

theorem zero_sub_coe (x : ℝ) : (0 : EReal) - (x : EReal) = ((-x : ℝ) : EReal) := by
  rw [EReal.coe_neg, zero_sub]

/-- The key of an input, for real inputs. -/
theorem key_at (b : Fin 64) (k : Fin 256) (x : ℝ) (hx : @Eq EReal (X (ix2 b k)) (x : EReal)) :
    @Eq EReal (k0_pay69 (F := Ideal) X l (ix2 b k)) ((1 - l (ix2 0 k)) * ((Decay.sig (-x) : ℝ) : EReal)) := by
  pointwise [k0_pay69, k0_pay64, k0_pay65, k0_pay66, k0_pay67]
  rw [hx, pick, abs_coe, zero_sub_coe, Decay.large_coe, Decay.small_coe]
  congr 1
  split
  · rename_i h; rw [abs_of_nonneg h]
  · rename_i h; rw [abs_of_neg (not_le.1 h)]

/-- The logarithm of the gate, for real inputs. -/
theorem log_at (b : Fin 64) (k : Fin 256) (x w : ℝ) (hx : @Eq EReal (X (ix2 b k)) (x : EReal)) (hw : @Eq EReal (l (ix2 0 k)) (w : EReal)) (h0 : 0 ≤ w) :
    @Eq EReal (k0_pay68 (F := Ideal) X l (ix2 b k)) ((Real.log (Decay.gate w x) : ℝ) : EReal) := by
  rw [← Decay.log_gate _ _ h0, Decay.logistic_coe]
  pointwise [k0_pay68, k0_pay64, k0_pay65, k0_pay66, k0_pay67]
  rw [hx, hw, pick, abs_coe, zero_sub_coe, Decay.large_coe, Decay.small_coe]
  congr 3
  split
  · rename_i h; rw [abs_of_nonneg h]
  · rename_i h; rw [abs_of_neg (not_le.1 h), neg_neg]

/-- The products with the table, for real gates: the two remainders of the splitting are zero. -/
theorem sums_at (r : Fin 256) (k : Fin 256) (g : Fin 64 → ℝ) (hg : ∀ b, @Eq EReal (k0_pay68 (F := Ideal) X l (ix2 b k)) (g b : EReal)) :
    @Eq EReal (sums X l T (ix2 r k)) (∑ b : Fin 64, T (ix2 r ⟨b.val, by omega⟩) * (g b : EReal)) := by
  unfold sums
  revert hg
  generalize k0_pay68 (F := Ideal) X l = G
  intro hg
  pointwise [k0_pay70]
  rw [sum192]
  · refine Finset.sum_congr rfl fun b _ => ?_
    rw [dif_pos b.isLt]
    exact congrArg _ (hg b)
  · intro i hi
    rw [dif_neg (by omega)]
    have z : ∀ a : ℝ, (a : EReal) - (a : EReal) = 0 := fun a => by rw [← EReal.coe_sub, sub_self, EReal.coe_zero]
    split
    · rename_i h
      refine (congrArg (fun y : EReal => T (ix2 r i) * (y - y)) (hg ⟨i.val - 64, h⟩)).trans ?_
      simp only [z, mul_zero]
    · refine (congrArg (fun y : EReal => T (ix2 r i) * (y - y - (y - y))) (hg ⟨i.val - 64 - 64, by omega⟩)).trans ?_
      simp only [z, sub_zero, mul_zero]

/-- The running sums of a chunk. -/
theorem sum_fwd (r : Fin 64) (k : Fin 256) (g : ℕ → ℝ) (hg : ∀ b : Fin 64, @Eq EReal (k0_pay68 (F := Ideal) X l (ix2 b k)) (g b.val : EReal))
    (hT : ∀ r b : Fin 64, @Eq EReal (T (ix2 ⟨192 + r.val, by omega⟩ ⟨b.val, by omega⟩)) (if b.val ≤ r.val then 1 else 0)) :
    @Eq EReal (sums X l T (ix2 ⟨192 + r.val, by omega⟩ k)) ((∑ s ∈ Finset.range (r.val + 1), g s : ℝ) : EReal) := by
  rw [sums_at X l T _ k (fun b => g b.val) hg]
  simp only [hT, ite_mul, one_mul, zero_mul]
  rw [Fin.sum_univ_eq_sum_range (fun b => if b ≤ r.val then ((g b : ℝ) : EReal) else 0) 64, ← Finset.sum_filter, Decay.coe_sum]
  congr 2
  ext s
  simp only [Finset.mem_filter, Finset.mem_range]
  omega

/-- The running sums of a chunk from its end. -/
theorem sum_bwd (r : Fin 64) (k : Fin 256) (g : ℕ → ℝ) (hg : ∀ b : Fin 64, @Eq EReal (k0_pay68 (F := Ideal) X l (ix2 b k)) (g (63 - b.val) : EReal))
    (hT : ∀ r b : Fin 64, @Eq EReal (T (ix2 ⟨192 + r.val, by omega⟩ ⟨b.val, by omega⟩)) (if r.val ≤ b.val then 1 else 0)) :
    @Eq EReal (sums X l T (ix2 ⟨192 + r.val, by omega⟩ k)) ((∑ s ∈ Finset.range (63 - r.val + 1), g s : ℝ) : EReal) := by
  rw [sums_at X l T _ k (fun b => g (63 - b.val)) hg]
  simp only [hT, ite_mul, one_mul, zero_mul]
  rw [Fin.sum_univ_eq_sum_range (fun b => if r.val ≤ b then ((g (63 - b) : ℝ) : EReal) else 0) 64, ← Finset.sum_range_reflect, ← Decay.coe_sum,
    ← Finset.sum_subset (Finset.range_mono (show 63 - r.val + 1 ≤ 64 by omega))]
  · refine Finset.sum_congr rfl fun s hs => ?_
    rw [Finset.mem_range] at hs
    rw [if_pos (by omega)]
    congr 2
    omega
  · intro s hs hs'
    rw [Finset.mem_range] at hs hs'
    rw [if_neg (by omega)]

end Cert.StateIdeal.Chunk

end
-- ==== Proof.Turns.lean ====
module

public import proofs.«01_k».proof.Proof.Point

/-! One turn of the state kernel's chain adds the next 64 tokens to the decayed sum. -/

@[expose] public section

set_option maxRecDepth 16384

noncomputable section

namespace Cert.StateIdeal.Chunk

open Cert.StateIdeal Cert.StateIdeal.Gen Idealize.ShloMosaic Idealize.ShloMosaic.TcCoe Idealize.SL.Sem

theorem sum_fin (f : ℕ → EReal) : ∑ j ∈ Finset.range 64, f j = ∑ j : Fin 64, f j.val := Finset.sum_range f

theorem sum_rev (f : ℕ → EReal) : ∑ j ∈ Finset.range 64, f j = ∑ j : Fin 64, f (63 - j.val) := by
  rw [← Finset.sum_range_reflect]
  exact Finset.sum_range fun j => f (64 - 1 - j)

variable (X v : Vec Ideal S64x256 .f32) (l : Vec Ideal S1x256 .f32) (T : Vec Ideal S256x192 .bf16)

/-- One turn of the chain, forward, first head. -/
theorem turnF0_at (s : FVec Ideal S1x1x128x128 .f32) (q k : Fin 128) (n : ℕ) (w : ℕ → EReal) (γ : ℕ → ℝ) (x : Fin 64 → ℝ) (a : ℝ)
    (hs : @Eq EReal (s (ix4 0 0 q k)) (Decay.state n w γ))
    (hx : ∀ j : Fin 64, @Eq EReal (X (ix2 j ⟨k.val, by omega⟩)) (x j : EReal)) (hl : @Eq EReal (l (ix2 0 ⟨k.val, by omega⟩)) (a : EReal)) (ha : 0 ≤ a)
    (hT : ∀ r b : Fin 64, @Eq EReal (T (ix2 ⟨192 + r.val, by omega⟩ ⟨b.val, by omega⟩)) (if b.val ≤ r.val then 1 else 0))
    (hγ : ∀ j : Fin 64, γ (n + j.val) = Real.log (Decay.gate a (x j)))
    (hw : ∀ j : Fin 64, @Eq EReal (w (n + j.val)) (v (ix2 j ⟨q.val, by omega⟩) * ((1 - (a : EReal)) * ((Decay.sig (-x j) : ℝ) : EReal)))) :
    @Eq EReal (step0 (decayF X l T) s (incrF0 X l v T) (ix4 0 0 q k)) (Decay.state (n + 64) w γ) := by
  have hg : ∀ b : Fin 64, @Eq EReal (k0_pay68 (F := Ideal) X l (ix2 b ⟨k.val, by omega⟩)) ((fun i => γ (n + i)) b.val : ℝ) := fun b => by
    rw [log_at X l b _ (x b) a (hx b) hl ha]
    exact congrArg _ (hγ b).symm
  have hsum := fun r : Fin 64 => sum_fwd X l T r ⟨k.val, by omega⟩ (fun i => γ (n + i)) hg hT
  have hlast : @Eq EReal (sums X l T (ix2 255 ⟨k.val, by omega⟩)) ((∑ r ∈ Finset.range 64, γ (n + r) : ℝ) : EReal) := hsum 63
  rw [step0_at, decayF_at, incrF0_at, hs, Decay.state_add, hlast, Decay.exp_coe]
  refine congrArg (fun y : EReal => Decay.state n w γ * ((Real.exp (∑ r ∈ Finset.range 64, γ (n + r)) : ℝ) : EReal) + y) ?_
  refine Eq.trans ?_ (sum_fin _).symm
  refine Finset.sum_congr rfl fun j _ => ?_
  rw [key_at X l j _ (x j) (hx j), hl, hsum j, ← EReal.coe_sub, Decay.exp_coe]
  rw [hw j]
  simp only [mul_assoc]

/-- One turn of the chain, forward, second head. -/
theorem turnF1_at (s : FVec Ideal S1x1x128x128 .f32) (q k : Fin 128) (n : ℕ) (w : ℕ → EReal) (γ : ℕ → ℝ) (x : Fin 64 → ℝ) (a : ℝ)
    (hs : @Eq EReal (s (ix4 0 0 q k)) (Decay.state n w γ))
    (hx : ∀ j : Fin 64, @Eq EReal (X (ix2 j ⟨128 + k.val, by omega⟩)) (x j : EReal)) (hl : @Eq EReal (l (ix2 0 ⟨128 + k.val, by omega⟩)) (a : EReal)) (ha : 0 ≤ a)
    (hT : ∀ r b : Fin 64, @Eq EReal (T (ix2 ⟨192 + r.val, by omega⟩ ⟨b.val, by omega⟩)) (if b.val ≤ r.val then 1 else 0))
    (hγ : ∀ j : Fin 64, γ (n + j.val) = Real.log (Decay.gate a (x j)))
    (hw : ∀ j : Fin 64, @Eq EReal (w (n + j.val)) (v (ix2 j ⟨128 + q.val, by omega⟩) * ((1 - (a : EReal)) * ((Decay.sig (-x j) : ℝ) : EReal)))) :
    @Eq EReal (step1 (decayF X l T) s (incrF1 X l v T) (ix4 0 0 q k)) (Decay.state (n + 64) w γ) := by
  have hg : ∀ b : Fin 64, @Eq EReal (k0_pay68 (F := Ideal) X l (ix2 b ⟨128 + k.val, by omega⟩)) ((fun i => γ (n + i)) b.val : ℝ) := fun b => by
    rw [log_at X l b _ (x b) a (hx b) hl ha]
    exact congrArg _ (hγ b).symm
  have hsum := fun r : Fin 64 => sum_fwd X l T r ⟨128 + k.val, by omega⟩ (fun i => γ (n + i)) hg hT
  have hlast : @Eq EReal (sums X l T (ix2 255 ⟨128 + k.val, by omega⟩)) ((∑ r ∈ Finset.range 64, γ (n + r) : ℝ) : EReal) := hsum 63
  rw [step1_at, decayF_at, incrF1_at, hs, Decay.state_add, hlast, Decay.exp_coe]
  refine congrArg (fun y : EReal => Decay.state n w γ * ((Real.exp (∑ r ∈ Finset.range 64, γ (n + r)) : ℝ) : EReal) + y) ?_
  refine Eq.trans ?_ (sum_fin _).symm
  refine Finset.sum_congr rfl fun j _ => ?_
  rw [key_at X l j _ (x j) (hx j), hl, hsum j, ← EReal.coe_sub, Decay.exp_coe]
  rw [hw j]
  simp only [mul_assoc]

/-- One turn of the chain, backward, first head. -/
theorem turnB0_at (s : FVec Ideal S1x1x128x128 .f32) (q k : Fin 128) (n : ℕ) (w : ℕ → EReal) (γ : ℕ → ℝ) (x : Fin 64 → ℝ) (a : ℝ)
    (hs : @Eq EReal (s (ix4 0 0 q k)) (Decay.state n w γ))
    (hx : ∀ j : Fin 64, @Eq EReal (X (ix2 j ⟨k.val, by omega⟩)) (x j : EReal)) (hl : @Eq EReal (l (ix2 0 ⟨k.val, by omega⟩)) (a : EReal)) (ha : 0 ≤ a)
    (hT : ∀ r b : Fin 64, @Eq EReal (T (ix2 ⟨192 + r.val, by omega⟩ ⟨b.val, by omega⟩)) (if r.val ≤ b.val then 1 else 0))
    (hγ : ∀ j : Fin 64, γ (n + (63 - j.val)) = Real.log (Decay.gate a (x j)))
    (hw : ∀ j : Fin 64, @Eq EReal (w (n + (63 - j.val))) (v (ix2 j ⟨q.val, by omega⟩) * ((1 - (a : EReal)) * ((Decay.sig (-x j) : ℝ) : EReal)))) :
    @Eq EReal (step0 (decayB X l T) s (incrB0 X l v T) (ix4 0 0 q k)) (Decay.state (n + 64) w γ) := by
  have hg : ∀ b : Fin 64, @Eq EReal (k0_pay68 (F := Ideal) X l (ix2 b ⟨k.val, by omega⟩)) ((fun i => γ (n + i)) (63 - b.val) : ℝ) := fun b => by
    rw [log_at X l b _ (x b) a (hx b) hl ha]
    exact congrArg _ (hγ b).symm
  have hsum := fun r : Fin 64 => sum_bwd X l T r ⟨k.val, by omega⟩ (fun i => γ (n + i)) hg hT
  have hlast : @Eq EReal (sums X l T (ix2 192 ⟨k.val, by omega⟩)) ((∑ r ∈ Finset.range 64, γ (n + r) : ℝ) : EReal) := hsum 0
  rw [step0_at, decayB_at, incrB0_at, hs, Decay.state_add, hlast, Decay.exp_coe]
  refine congrArg (fun y : EReal => Decay.state n w γ * ((Real.exp (∑ r ∈ Finset.range 64, γ (n + r)) : ℝ) : EReal) + y) ?_
  refine Eq.trans ?_ (sum_rev _).symm
  refine Finset.sum_congr rfl fun j _ => ?_
  rw [key_at X l j _ (x j) (hx j), hl, hsum j, ← EReal.coe_sub, Decay.exp_coe]
  rw [hw j]
  simp only [mul_assoc]

/-- One turn of the chain, backward, second head. -/
theorem turnB1_at (s : FVec Ideal S1x1x128x128 .f32) (q k : Fin 128) (n : ℕ) (w : ℕ → EReal) (γ : ℕ → ℝ) (x : Fin 64 → ℝ) (a : ℝ)
    (hs : @Eq EReal (s (ix4 0 0 q k)) (Decay.state n w γ))
    (hx : ∀ j : Fin 64, @Eq EReal (X (ix2 j ⟨128 + k.val, by omega⟩)) (x j : EReal)) (hl : @Eq EReal (l (ix2 0 ⟨128 + k.val, by omega⟩)) (a : EReal)) (ha : 0 ≤ a)
    (hT : ∀ r b : Fin 64, @Eq EReal (T (ix2 ⟨192 + r.val, by omega⟩ ⟨b.val, by omega⟩)) (if r.val ≤ b.val then 1 else 0))
    (hγ : ∀ j : Fin 64, γ (n + (63 - j.val)) = Real.log (Decay.gate a (x j)))
    (hw : ∀ j : Fin 64, @Eq EReal (w (n + (63 - j.val))) (v (ix2 j ⟨128 + q.val, by omega⟩) * ((1 - (a : EReal)) * ((Decay.sig (-x j) : ℝ) : EReal)))) :
    @Eq EReal (step1 (decayB X l T) s (incrB1 X l v T) (ix4 0 0 q k)) (Decay.state (n + 64) w γ) := by
  have hg : ∀ b : Fin 64, @Eq EReal (k0_pay68 (F := Ideal) X l (ix2 b ⟨128 + k.val, by omega⟩)) ((fun i => γ (n + i)) (63 - b.val) : ℝ) := fun b => by
    rw [log_at X l b _ (x b) a (hx b) hl ha]
    exact congrArg _ (hγ b).symm
  have hsum := fun r : Fin 64 => sum_bwd X l T r ⟨128 + k.val, by omega⟩ (fun i => γ (n + i)) hg hT
  have hlast : @Eq EReal (sums X l T (ix2 192 ⟨128 + k.val, by omega⟩)) ((∑ r ∈ Finset.range 64, γ (n + r) : ℝ) : EReal) := hsum 0
  rw [step1_at, decayB_at, incrB1_at, hs, Decay.state_add, hlast, Decay.exp_coe]
  refine congrArg (fun y : EReal => Decay.state n w γ * ((Real.exp (∑ r ∈ Finset.range 64, γ (n + r)) : ℝ) : EReal) + y) ?_
  refine Eq.trans ?_ (sum_rev _).symm
  refine Finset.sum_congr rfl fun j _ => ?_
  rw [key_at X l j _ (x j) (hx j), hl, hsum j, ← EReal.coe_sub, Decay.exp_coe]
  rw [hw j]
  simp only [mul_assoc]

end Cert.StateIdeal.Chunk

end
-- ==== Proof.StateSpec.lean ====
module

public import proofs.«01_k».proof.Proof.Decay
public import Idealize.ShloMosaic.Lib.Pointwise

/-! The state of a head: every token's outer product of key and value, each decayed by the gates of the tokens after it. -/

@[expose] public section

noncomputable section

namespace StateSpec

open Idealize.ShloMosaic

variable (z : (⟨2, ![8192, 7680]⟩ : Shape).Idx → EReal) (lb : (⟨2, ![2, 1024]⟩ : Shape).Idx → EReal)

/-- A token's entry of the input projection. -/
def entry (R c : ℕ) : EReal := if h : R < 8192 ∧ c < 7680 then z (ix2 ⟨R, h.1⟩ ⟨c, h.2⟩) else 0

/-- A column's lower bound. -/
def low (d c : ℕ) : EReal := if h : d < 2 ∧ c < 1024 then lb (ix2 ⟨d, h.1⟩ ⟨c, h.2⟩) else 0

/-- The token a direction reads at step `s`. -/
def tok (d s : ℕ) : ℕ := if d = 0 then s else 255 - s

/-- The logarithm of a gate. -/
def lg (d b c s : ℕ) : ℝ := Real.log (Decay.gate (low lb d c).toReal (entry z (b * 256 + tok d s) (1024 * (d + 1) + c)).toReal)

/-- A token's outer product, at one entry. -/
def outer (d b c e s : ℕ) : EReal :=
  entry z (b * 256 + tok d s) (3072 + e)
    * ((1 - (((low lb d c).toReal : ℝ) : EReal)) * ((Decay.sig (-(entry z (b * 256 + tok d s) (1024 * (d + 1) + c)).toReal) : ℝ) : EReal))

/-- The state at direction `d`, sequence `b`, key column `c`, value column `e`. -/
def value (d b c e : ℕ) : EReal := Decay.state 256 (outer z lb d b c e) (lg z lb d b c)

/-- The inputs the gates need: real numbers, the lower bounds not negative. -/
structure Real : Prop where
  z_real : ∀ R c : ℕ, R < 4096 → c < 2048 → ∃ x : ℝ, entry z R (1024 + c) = x
  lb_real : ∀ d c : ℕ, ∃ x : ℝ, 0 ≤ x ∧ low lb d c = x

/-- All tokens at once, as the reference sums them. -/
theorem all (lgE vE kE : Fin 256 → EReal) (M : Fin 256 → Fin 256 → EReal) (W : ℕ → EReal) (γ : ℕ → ℝ)
    (hl : ∀ s, lgE s = (γ s.val : EReal)) (hM : ∀ t s, M t s = if s.val ≤ t.val then 1 else 0)
    (hW : ∀ s : Fin 256, W s.val = vE s * kE s) :
    ∑ s : Fin 256, kE s * Ideal.exp ((∑ r, lgE r * M 255 r) - ∑ r, lgE r * M s r) * vE s = Decay.state 256 W γ := by
  have hs : ∀ t : Fin 256, ∑ r, lgE r * M t r = ((∑ r ∈ Finset.range (t.val + 1), γ r : ℝ) : EReal) := fun t => by
    simp only [hl, hM, mul_ite, mul_one, mul_zero]
    rw [Fin.sum_univ_eq_sum_range (fun b => if b ≤ t.val then ((γ b : ℝ) : EReal) else 0) 256, ← Finset.sum_filter, Decay.coe_sum]
    congr 2
    ext s
    simp only [Finset.mem_filter, Finset.mem_range]
    omega
  have h255 : ∑ r, lgE r * M 255 r = ((∑ r ∈ Finset.range 256, γ r : ℝ) : EReal) := hs 255
  rw [Decay.state_one, h255]
  refine Eq.trans ?_ (Finset.sum_range (fun j => W j * ((Real.exp (∑ r ∈ Finset.range 256, γ r - ∑ r ∈ Finset.range (j + 1), γ r) : ℝ) : EReal))).symm
  refine Finset.sum_congr rfl fun s _ => ?_
  rw [hs s, ← EReal.coe_sub, Decay.exp_coe, hW s]
  ac_rfl

end StateSpec

end
-- ==== Proof.Fold.lean ====
module

public import proofs.«01_k».proof.Proof.Turns
public import proofs.«01_k».proof.Proof.StateSpec

/-! Four turns of the chain, from nothing, are the decayed sum over all 256 tokens. -/

@[expose] public section

set_option maxRecDepth 16384

noncomputable section

namespace Cert.StateIdeal.Chunk

open Cert.StateIdeal Cert.StateIdeal.Gen Idealize.ShloMosaic Idealize.ShloMosaic.TcCoe Idealize.SL.Sem
open StateSpec (entry low tok)

theorem real_coe {e : EReal} (h : ∃ x : ℝ, e = x) : e = ((e.toReal : ℝ) : EReal) := by
  obtain ⟨x, rfl⟩ := h
  rw [EReal.toReal_coe]

set_option backward.proofsInPublic true

variable {z : Vec Ideal S8192x7680 .f32} {lb : Vec Ideal S2x1024 .f32} (hR : StateSpec.Real z lb)
variable {b p : ℕ} (hb : b < 16) (hp : p < 4)
variable {x1 x2 x3 : Vec Ideal S256x256 .f32} {x5 : Vec Ideal S2x256 .f32} {x7 x8 : Vec Ideal S256x192 .bf16}
variable (hx1 : ∀ r k : Fin 256, @Eq EReal (x1 (ix2 r k)) (entry z (b * 256 + r.val) (1024 + (p * 256 + k.val))))
variable (hx2 : ∀ r k : Fin 256, @Eq EReal (x2 (ix2 r k)) (entry z (b * 256 + r.val) (2048 + (p * 256 + k.val))))
variable (hx3 : ∀ r k : Fin 256, @Eq EReal (x3 (ix2 r k)) (entry z (b * 256 + r.val) (3072 + (p * 256 + k.val))))
variable (hx5 : ∀ (d : Fin 2) (k : Fin 256), @Eq EReal (x5 (ix2 d k)) (low lb d.val (p * 256 + k.val)))
variable (h7 : ∀ r b : Fin 64, @Eq EReal (x7 (ix2 ⟨192 + r.val, by omega⟩ ⟨b.val, by omega⟩)) (if b.val ≤ r.val then 1 else 0))
variable (h8 : ∀ r b : Fin 64, @Eq EReal (x8 (ix2 ⟨192 + r.val, by omega⟩ ⟨b.val, by omega⟩)) (if r.val ≤ b.val then 1 else 0))

include hR hb hp hx3 hx5

section
include hx1 h7

theorem stepF0_at (q k : Fin 128) (i : Fin 4) (s : FVec Ideal S1x1x128x128 .f32)
    (hs : @Eq EReal (s (ix4 0 0 q k)) (Decay.state (64 * i.val) (StateSpec.outer z lb 0 b (p * 256 + k.val) (p * 256 + q.val)) (StateSpec.lg z lb 0 b (p * 256 + k.val)))) :
    @Eq EReal (step0 (decayF (slab x1 i) (bound x5 0) x7) s (incrF0 (slab x1 i) (bound x5 0) (slab x3 i) x7) (ix4 0 0 q k))
      (Decay.state (64 * i.val + 64) (StateSpec.outer z lb 0 b (p * 256 + k.val) (p * 256 + q.val)) (StateSpec.lg z lb 0 b (p * 256 + k.val))) := by
  refine turnF0_at (slab x1 i) (slab x3 i) (bound x5 0) x7 s q k (64 * i.val) _ _
    (fun j => (entry z (b * 256 + (64 * i.val + j.val)) (1024 + (p * 256 + k.val))).toReal) (low lb 0 (p * 256 + k.val)).toReal hs ?_ ?_ ?_ h7 ?_ ?_
  · intro j
    refine (hx1 ⟨64 * i.val + j.val, by omega⟩ ⟨k.val, by omega⟩).trans ?_
    have e := hR.z_real (b * 256 + (64 * i.val + j.val)) (0 + (p * 256 + k.val)) (by omega) (by omega)
    rw [← Nat.add_assoc 1024 0] at e
    exact real_coe e
  · refine (hx5 0 ⟨k.val, by omega⟩).trans (real_coe ?_)
    obtain ⟨x, _, hx⟩ := hR.lb_real 0 (p * 256 + k.val)
    exact ⟨x, hx⟩
  · obtain ⟨x, h0, hx⟩ := hR.lb_real 0 (p * 256 + k.val)
    rw [hx, EReal.toReal_coe]
    exact h0
  · intro j
    show Real.log (Decay.gate (low lb 0 (p * 256 + k.val)).toReal (entry z (b * 256 + (64 * i.val + j.val)) (1024 + (p * 256 + k.val))).toReal) = _
    rfl
  · intro j
    show entry z (b * 256 + (64 * i.val + j.val)) (3072 + (p * 256 + q.val)) * ((1 - (((low lb 0 (p * 256 + k.val)).toReal : ℝ) : EReal))
      * ((Decay.sig (-(entry z (b * 256 + (64 * i.val + j.val)) (1024 + (p * 256 + k.val))).toReal) : ℝ) : EReal)) = _
    exact congrArg (fun a : EReal => a * _) (hx3 ⟨64 * i.val + j.val, by omega⟩ ⟨q.val, by omega⟩).symm

theorem stepF1_at (q k : Fin 128) (i : Fin 4) (s : FVec Ideal S1x1x128x128 .f32)
    (hs : @Eq EReal (s (ix4 0 0 q k)) (Decay.state (64 * i.val) (StateSpec.outer z lb 0 b (p * 256 + (128 + k.val)) (p * 256 + (128 + q.val))) (StateSpec.lg z lb 0 b (p * 256 + (128 + k.val))))) :
    @Eq EReal (step1 (decayF (slab x1 i) (bound x5 0) x7) s (incrF1 (slab x1 i) (bound x5 0) (slab x3 i) x7) (ix4 0 0 q k))
      (Decay.state (64 * i.val + 64) (StateSpec.outer z lb 0 b (p * 256 + (128 + k.val)) (p * 256 + (128 + q.val))) (StateSpec.lg z lb 0 b (p * 256 + (128 + k.val)))) := by
  refine turnF1_at (slab x1 i) (slab x3 i) (bound x5 0) x7 s q k (64 * i.val) _ _
    (fun j => (entry z (b * 256 + (64 * i.val + j.val)) (1024 + (p * 256 + (128 + k.val)))).toReal) (low lb 0 (p * 256 + (128 + k.val))).toReal hs ?_ ?_ ?_ h7 ?_ ?_
  · intro j
    refine (hx1 ⟨64 * i.val + j.val, by omega⟩ ⟨128 + k.val, by omega⟩).trans ?_
    have e := hR.z_real (b * 256 + (64 * i.val + j.val)) (0 + (p * 256 + (128 + k.val))) (by omega) (by omega)
    rw [← Nat.add_assoc 1024 0] at e
    exact real_coe e
  · refine (hx5 0 ⟨128 + k.val, by omega⟩).trans (real_coe ?_)
    obtain ⟨x, _, hx⟩ := hR.lb_real 0 (p * 256 + (128 + k.val))
    exact ⟨x, hx⟩
  · obtain ⟨x, h0, hx⟩ := hR.lb_real 0 (p * 256 + (128 + k.val))
    rw [hx, EReal.toReal_coe]
    exact h0
  · intro j
    show Real.log (Decay.gate (low lb 0 (p * 256 + (128 + k.val))).toReal (entry z (b * 256 + (64 * i.val + j.val)) (1024 + (p * 256 + (128 + k.val)))).toReal) = _
    rfl
  · intro j
    show entry z (b * 256 + (64 * i.val + j.val)) (3072 + (p * 256 + (128 + q.val))) * ((1 - (((low lb 0 (p * 256 + (128 + k.val))).toReal : ℝ) : EReal))
      * ((Decay.sig (-(entry z (b * 256 + (64 * i.val + j.val)) (1024 + (p * 256 + (128 + k.val)))).toReal) : ℝ) : EReal)) = _
    exact congrArg (fun a : EReal => a * _) (hx3 ⟨64 * i.val + j.val, by omega⟩ ⟨128 + q.val, by omega⟩).symm

end

section
include hx2 h8

theorem stepB0_at (q k : Fin 128) (i : Fin 4) (s : FVec Ideal S1x1x128x128 .f32)
    (hs : @Eq EReal (s (ix4 0 0 q k)) (Decay.state (64 * (3 - i.val)) (StateSpec.outer z lb 1 b (p * 256 + k.val) (p * 256 + q.val)) (StateSpec.lg z lb 1 b (p * 256 + k.val)))) :
    @Eq EReal (step0 (decayB (slab x2 i) (bound x5 1) x8) s (incrB0 (slab x2 i) (bound x5 1) (slab x3 i) x8) (ix4 0 0 q k))
      (Decay.state (64 * (3 - i.val) + 64) (StateSpec.outer z lb 1 b (p * 256 + k.val) (p * 256 + q.val)) (StateSpec.lg z lb 1 b (p * 256 + k.val))) := by
  refine turnB0_at (slab x2 i) (slab x3 i) (bound x5 1) x8 s q k (64 * (3 - i.val)) _ _
    (fun j => (entry z (b * 256 + (64 * i.val + j.val)) (2048 + (p * 256 + k.val))).toReal) (low lb 1 (p * 256 + k.val)).toReal hs ?_ ?_ ?_ h8 ?_ ?_
  · intro j
    refine (hx2 ⟨64 * i.val + j.val, by omega⟩ ⟨k.val, by omega⟩).trans ?_
    have e := hR.z_real (b * 256 + (64 * i.val + j.val)) (1024 + (p * 256 + k.val)) (by omega) (by omega)
    rw [← Nat.add_assoc 1024 1024] at e
    exact real_coe e
  · refine (hx5 1 ⟨k.val, by omega⟩).trans (real_coe ?_)
    obtain ⟨x, _, hx⟩ := hR.lb_real 1 (p * 256 + k.val)
    exact ⟨x, hx⟩
  · obtain ⟨x, h0, hx⟩ := hR.lb_real 1 (p * 256 + k.val)
    rw [hx, EReal.toReal_coe]
    exact h0
  · intro j
    show Real.log (Decay.gate (low lb 1 (p * 256 + k.val)).toReal (entry z (b * 256 + (255 - (64 * (3 - i.val) + (63 - j.val)))) (2048 + (p * 256 + k.val))).toReal) = _
    rw [show 255 - (64 * (3 - i.val) + (63 - j.val)) = 64 * i.val + j.val by omega]
  · intro j
    show entry z (b * 256 + (255 - (64 * (3 - i.val) + (63 - j.val)))) (3072 + (p * 256 + q.val)) * ((1 - (((low lb 1 (p * 256 + k.val)).toReal : ℝ) : EReal))
      * ((Decay.sig (-(entry z (b * 256 + (255 - (64 * (3 - i.val) + (63 - j.val)))) (2048 + (p * 256 + k.val))).toReal) : ℝ) : EReal)) = _
    rw [show 255 - (64 * (3 - i.val) + (63 - j.val)) = 64 * i.val + j.val by omega]
    exact congrArg (fun a : EReal => a * _) (hx3 ⟨64 * i.val + j.val, by omega⟩ ⟨q.val, by omega⟩).symm

theorem stepB1_at (q k : Fin 128) (i : Fin 4) (s : FVec Ideal S1x1x128x128 .f32)
    (hs : @Eq EReal (s (ix4 0 0 q k)) (Decay.state (64 * (3 - i.val)) (StateSpec.outer z lb 1 b (p * 256 + (128 + k.val)) (p * 256 + (128 + q.val))) (StateSpec.lg z lb 1 b (p * 256 + (128 + k.val))))) :
    @Eq EReal (step1 (decayB (slab x2 i) (bound x5 1) x8) s (incrB1 (slab x2 i) (bound x5 1) (slab x3 i) x8) (ix4 0 0 q k))
      (Decay.state (64 * (3 - i.val) + 64) (StateSpec.outer z lb 1 b (p * 256 + (128 + k.val)) (p * 256 + (128 + q.val))) (StateSpec.lg z lb 1 b (p * 256 + (128 + k.val)))) := by
  refine turnB1_at (slab x2 i) (slab x3 i) (bound x5 1) x8 s q k (64 * (3 - i.val)) _ _
    (fun j => (entry z (b * 256 + (64 * i.val + j.val)) (2048 + (p * 256 + (128 + k.val)))).toReal) (low lb 1 (p * 256 + (128 + k.val))).toReal hs ?_ ?_ ?_ h8 ?_ ?_
  · intro j
    refine (hx2 ⟨64 * i.val + j.val, by omega⟩ ⟨128 + k.val, by omega⟩).trans ?_
    have e := hR.z_real (b * 256 + (64 * i.val + j.val)) (1024 + (p * 256 + (128 + k.val))) (by omega) (by omega)
    rw [← Nat.add_assoc 1024 1024] at e
    exact real_coe e
  · refine (hx5 1 ⟨128 + k.val, by omega⟩).trans (real_coe ?_)
    obtain ⟨x, _, hx⟩ := hR.lb_real 1 (p * 256 + (128 + k.val))
    exact ⟨x, hx⟩
  · obtain ⟨x, h0, hx⟩ := hR.lb_real 1 (p * 256 + (128 + k.val))
    rw [hx, EReal.toReal_coe]
    exact h0
  · intro j
    show Real.log (Decay.gate (low lb 1 (p * 256 + (128 + k.val))).toReal (entry z (b * 256 + (255 - (64 * (3 - i.val) + (63 - j.val)))) (2048 + (p * 256 + (128 + k.val)))).toReal) = _
    rw [show 255 - (64 * (3 - i.val) + (63 - j.val)) = 64 * i.val + j.val by omega]
  · intro j
    show entry z (b * 256 + (255 - (64 * (3 - i.val) + (63 - j.val)))) (3072 + (p * 256 + (128 + q.val))) * ((1 - (((low lb 1 (p * 256 + (128 + k.val))).toReal : ℝ) : EReal))
      * ((Decay.sig (-(entry z (b * 256 + (255 - (64 * (3 - i.val) + (63 - j.val)))) (2048 + (p * 256 + (128 + k.val)))).toReal) : ℝ) : EReal)) = _
    rw [show 255 - (64 * (3 - i.val) + (63 - j.val)) = 64 * i.val + j.val by omega]
    exact congrArg (fun a : EReal => a * _) (hx3 ⟨64 * i.val + j.val, by omega⟩ ⟨128 + q.val, by omega⟩).symm

end

omit hR hb hp hx3 hx5

theorem pay5_at (q k : Fin 128) (w : ℕ → EReal) (γ : ℕ → ℝ) : @Eq EReal (k0_pay5 (F := Ideal) (ix4 0 0 q k)) (Decay.state 0 w γ) := by
  rw [Decay.state_zero]
  pointwise [k0_pay5]

theorem pay6_at (q k : Fin 128) (w : ℕ → EReal) (γ : ℕ → ℝ) : @Eq EReal (k0_pay6 (F := Ideal) (ix4 0 0 q k)) (Decay.state 0 w γ) := by
  rw [Decay.state_zero]
  pointwise [k0_pay6]

theorem pay7_at (q k : Fin 128) (w : ℕ → EReal) (γ : ℕ → ℝ) : @Eq EReal (k0_pay7 (F := Ideal) (ix4 0 0 q k)) (Decay.state 0 w γ) := by
  rw [Decay.state_zero]
  pointwise [k0_pay7]

theorem pay8_at (q k : Fin 128) (w : ℕ → EReal) (γ : ℕ → ℝ) : @Eq EReal (k0_pay8 (F := Ideal) (ix4 0 0 q k)) (Decay.state 0 w γ) := by
  rw [Decay.state_zero]
  pointwise [k0_pay8]

include hR hb hp hx1 hx2 hx3 hx5 h7 h8

/-- The four chains of a block, at an entry. -/
theorem chain_at (d h : Fin 2) (k q : Fin 128) :
    @Eq EReal ((match d, h with
        | 0, 0 => step0 (decayF (slab x1 3) (bound x5 0) x7) (step0 (decayF (slab x1 2) (bound x5 0) x7) (step0 (decayF (slab x1 1) (bound x5 0) x7) (step0 (decayF (slab x1 0) (bound x5 0) x7) (k0_pay5 (F := Ideal)) (incrF0 (slab x1 0) (bound x5 0) (slab x3 0) x7)) (incrF0 (slab x1 1) (bound x5 0) (slab x3 1) x7)) (incrF0 (slab x1 2) (bound x5 0) (slab x3 2) x7)) (incrF0 (slab x1 3) (bound x5 0) (slab x3 3) x7)
        | 0, 1 => step1 (decayF (slab x1 3) (bound x5 0) x7) (step1 (decayF (slab x1 2) (bound x5 0) x7) (step1 (decayF (slab x1 1) (bound x5 0) x7) (step1 (decayF (slab x1 0) (bound x5 0) x7) (k0_pay6 (F := Ideal)) (incrF1 (slab x1 0) (bound x5 0) (slab x3 0) x7)) (incrF1 (slab x1 1) (bound x5 0) (slab x3 1) x7)) (incrF1 (slab x1 2) (bound x5 0) (slab x3 2) x7)) (incrF1 (slab x1 3) (bound x5 0) (slab x3 3) x7)
        | 1, 0 => step0 (decayB (slab x2 0) (bound x5 1) x8) (step0 (decayB (slab x2 1) (bound x5 1) x8) (step0 (decayB (slab x2 2) (bound x5 1) x8) (step0 (decayB (slab x2 3) (bound x5 1) x8) (k0_pay7 (F := Ideal)) (incrB0 (slab x2 3) (bound x5 1) (slab x3 3) x8)) (incrB0 (slab x2 2) (bound x5 1) (slab x3 2) x8)) (incrB0 (slab x2 1) (bound x5 1) (slab x3 1) x8)) (incrB0 (slab x2 0) (bound x5 1) (slab x3 0) x8)
        | 1, 1 => step1 (decayB (slab x2 0) (bound x5 1) x8) (step1 (decayB (slab x2 1) (bound x5 1) x8) (step1 (decayB (slab x2 2) (bound x5 1) x8) (step1 (decayB (slab x2 3) (bound x5 1) x8) (k0_pay8 (F := Ideal)) (incrB1 (slab x2 3) (bound x5 1) (slab x3 3) x8)) (incrB1 (slab x2 2) (bound x5 1) (slab x3 2) x8)) (incrB1 (slab x2 1) (bound x5 1) (slab x3 1) x8)) (incrB1 (slab x2 0) (bound x5 1) (slab x3 0) x8)) (ix4 0 0 q k))
      (StateSpec.value z lb d.val b (p * 256 + (128 * h.val + k.val)) (p * 256 + (128 * h.val + q.val))) := by
  have c0 : ∀ k : Fin 128, p * 256 + (128 * 0 + k.val) = p * 256 + k.val := fun k => by omega
  match d, h with
  | 0, 0 =>
    show @Eq EReal _ (StateSpec.value z lb 0 b (p * 256 + (128 * 0 + k.val)) (p * 256 + (128 * 0 + q.val)))
    rw [c0, c0]
    exact stepF0_at hR hb hp hx1 hx3 hx5 h7 q k 3 _ (stepF0_at hR hb hp hx1 hx3 hx5 h7 q k 2 _ (stepF0_at hR hb hp hx1 hx3 hx5 h7 q k 1 _ (stepF0_at hR hb hp hx1 hx3 hx5 h7 q k 0 _ (pay5_at q k _ _))))
  | 0, 1 =>
    exact stepF1_at hR hb hp hx1 hx3 hx5 h7 q k 3 _ (stepF1_at hR hb hp hx1 hx3 hx5 h7 q k 2 _ (stepF1_at hR hb hp hx1 hx3 hx5 h7 q k 1 _ (stepF1_at hR hb hp hx1 hx3 hx5 h7 q k 0 _ (pay6_at q k _ _))))
  | 1, 0 =>
    show @Eq EReal _ (StateSpec.value z lb 1 b (p * 256 + (128 * 0 + k.val)) (p * 256 + (128 * 0 + q.val)))
    rw [c0, c0]
    exact stepB0_at hR hb hp hx2 hx3 hx5 h8 q k 0 _ (stepB0_at hR hb hp hx2 hx3 hx5 h8 q k 1 _ (stepB0_at hR hb hp hx2 hx3 hx5 h8 q k 2 _ (stepB0_at hR hb hp hx2 hx3 hx5 h8 q k 3 _ (pay7_at q k _ _))))
  | 1, 1 =>
    exact stepB1_at hR hb hp hx2 hx3 hx5 h8 q k 0 _ (stepB1_at hR hb hp hx2 hx3 hx5 h8 q k 1 _ (stepB1_at hR hb hp hx2 hx3 hx5 h8 q k 2 _ (stepB1_at hR hb hp hx2 hx3 hx5 h8 q k 3 _ (pay8_at q k _ _))))

end Cert.StateIdeal.Chunk

end
-- ==== Proof.Ones.lean ====
module

public import proofs.«01_k».proof.StateIdeal
public import Idealize.ShloMosaic.Lib.Pointwise

/-! The state kernel's two tables of zeros and ones: the rows the state uses. -/

@[expose] public section

set_option maxRecDepth 16384

noncomputable section

namespace Cert.StateIdeal.Chunk

open Cert.StateIdeal Idealize.ShloMosaic Idealize.ShloMosaic.TcCoe Idealize.SL.Sem

/-- The last 64 rows of the first table, its first 64 columns: ones up to the diagonal. -/
theorem lit_fwd : ∀ r b : Fin 64, lit0 (S256x192.rowMajor (ix2 ⟨192 + r.val, by omega⟩ ⟨b.val, by omega⟩)) = if b.val ≤ r.val then 0x3F80#16 else 0#16 := by
  decide +kernel

/-- Of the second table: ones from the diagonal on. -/
theorem lit_bwd : ∀ r b : Fin 64, lit2 (S256x192.rowMajor (ix2 ⟨192 + r.val, by omega⟩ ⟨b.val, by omega⟩)) = if r.val ≤ b.val then 0x3F80#16 else 0#16 := by
  decide +kernel

end Cert.StateIdeal.Chunk

end
-- ==== Proof.Table.lean ====
module

public import proofs.«01_k».proof.Proof.Ones
public import proofs.«01_k».proof.Proof.Gen.StateIdeal.Value
public import Idealize.ShloMosaic.Lib.StableHlo.RunRead
public import Idealize.ShloMosaic.Lib.Pipeline.ValueKit

/-! The state kernel's blocks: the two tables of zeros and ones, and which columns of the input projection a grid point reads. -/

@[expose] public section

set_option maxRecDepth 16384

noncomputable section

namespace Cert.StateIdeal.Chunk

open Cert.StateIdeal Cert.StateIdeal.Gen Idealize.ShloMosaic Idealize.ShloMosaic.TcCoe Idealize.SL.Sem

theorem one_bits : @Eq EReal (FloatOps.ofBits (F := Ideal) .bf16 0x3F80#16) 1 := by
  pointwise []

theorem zero_bits : @Eq EReal (FloatOps.ofBits (F := Ideal) .bf16 0#16) 0 := by
  pointwise []

variable (m : (ℓ : Loc nD τ sig) → Buf (Elt Ideal) ℓ)

theorem lt_N (t : Fin cfg0.N) : t.val < 64 := t.isLt

theorem idx1 : ∀ t : Fin cfg0.N, (win0_1.index t 0 = t.val / 4 ∧ win0_1.index t 1 = 4 + t.val % 4) :=
  (by decide +kernel : ∀ t : Fin grid0.N, _)
theorem idx2 : ∀ t : Fin cfg0.N, (win0_2.index t 0 = t.val / 4 ∧ win0_2.index t 1 = 8 + t.val % 4) :=
  (by decide +kernel : ∀ t : Fin grid0.N, _)
theorem idx3 : ∀ t : Fin cfg0.N, (win0_3.index t 0 = t.val / 4 ∧ win0_3.index t 1 = 12 + t.val % 4) :=
  (by decide +kernel : ∀ t : Fin grid0.N, _)
theorem idx5 : ∀ t : Fin cfg0.N, (win0_5.index t 0 = 0 ∧ win0_5.index t 1 = t.val % 4) :=
  (by decide +kernel : ∀ t : Fin grid0.N, _)
theorem idx7 : ∀ t : Fin cfg0.N, (win0_7.index t 0 = 0 ∧ win0_7.index t 1 = 0) :=
  (by decide +kernel : ∀ t : Fin grid0.N, _)
theorem idx8 : ∀ t : Fin cfg0.N, (win0_8.index t 0 = 0 ∧ win0_8.index t 1 = 0) :=
  (by decide +kernel : ∀ t : Fin grid0.N, _)
theorem idx12 : ∀ t : Fin cfg0.N, (win0_12.index t 0 = t.val / 4 ∧ win0_12.index t 1 = 0 ∧ win0_12.index t 2 = t.val % 4 ∧ win0_12.index t 3 = 0 ∧ win0_12.index t 4 = 0) :=
  (by decide +kernel : ∀ t : Fin grid0.N, _)

theorem blk1 (c : Dev nD) (t : Fin cfg0.N) (r k : Fin 256) :
    (iblk m c 1 t : Vec Ideal S256x256 .f32) (ix2 r k)
      = (m ((c : Thread nD τ).loc main_arg0) : Vec Ideal S8192x7680 .f32) (ix2 ⟨256 * (t.val / 4) + r.val, by have := lt_N t; omega⟩ ⟨1024 + 256 * (t.val % 4) + k.val, by omega⟩) := by
  obtain ⟨h0, h1⟩ := idx1 t
  show (V m c main_arg0 : Vec Ideal S8192x7680 .f32) ((win0_1.rect t).emb (ix2 r k)) = _
  rw [V_main_arg0]
  refine congrArg (m ((c : Thread nD τ).loc main_arg0) : Vec Ideal S8192x7680 .f32) ?_
  funext a
  apply Fin.ext
  rw [Pipeline.Window.rect_emb_val_off]
  match a with
  | ⟨0, _⟩ => show win0_1.index t 0 * 256 + r.val = 256 * (t.val / 4) + r.val; omega
  | ⟨1, _⟩ => show win0_1.index t 1 * 256 + k.val = 1024 + 256 * (t.val % 4) + k.val; omega

theorem blk2 (c : Dev nD) (t : Fin cfg0.N) (r k : Fin 256) :
    (iblk m c 2 t : Vec Ideal S256x256 .f32) (ix2 r k)
      = (m ((c : Thread nD τ).loc main_arg0) : Vec Ideal S8192x7680 .f32) (ix2 ⟨256 * (t.val / 4) + r.val, by have := lt_N t; omega⟩ ⟨2048 + 256 * (t.val % 4) + k.val, by omega⟩) := by
  obtain ⟨h0, h1⟩ := idx2 t
  show (V m c main_arg0 : Vec Ideal S8192x7680 .f32) ((win0_2.rect t).emb (ix2 r k)) = _
  rw [V_main_arg0]
  refine congrArg (m ((c : Thread nD τ).loc main_arg0) : Vec Ideal S8192x7680 .f32) ?_
  funext a
  apply Fin.ext
  rw [Pipeline.Window.rect_emb_val_off]
  match a with
  | ⟨0, _⟩ => show win0_2.index t 0 * 256 + r.val = 256 * (t.val / 4) + r.val; omega
  | ⟨1, _⟩ => show win0_2.index t 1 * 256 + k.val = 2048 + 256 * (t.val % 4) + k.val; omega

theorem blk3 (c : Dev nD) (t : Fin cfg0.N) (r k : Fin 256) :
    (iblk m c 3 t : Vec Ideal S256x256 .f32) (ix2 r k)
      = (m ((c : Thread nD τ).loc main_arg0) : Vec Ideal S8192x7680 .f32) (ix2 ⟨256 * (t.val / 4) + r.val, by have := lt_N t; omega⟩ ⟨3072 + 256 * (t.val % 4) + k.val, by omega⟩) := by
  obtain ⟨h0, h1⟩ := idx3 t
  show (V m c main_arg0 : Vec Ideal S8192x7680 .f32) ((win0_3.rect t).emb (ix2 r k)) = _
  rw [V_main_arg0]
  refine congrArg (m ((c : Thread nD τ).loc main_arg0) : Vec Ideal S8192x7680 .f32) ?_
  funext a
  apply Fin.ext
  rw [Pipeline.Window.rect_emb_val_off]
  match a with
  | ⟨0, _⟩ => show win0_3.index t 0 * 256 + r.val = 256 * (t.val / 4) + r.val; omega
  | ⟨1, _⟩ => show win0_3.index t 1 * 256 + k.val = 3072 + 256 * (t.val % 4) + k.val; omega

theorem blk5 (c : Dev nD) (t : Fin cfg0.N) (d : Fin 2) (k : Fin 256) :
    (iblk m c 5 t : Vec Ideal S2x256 .f32) (ix2 d k)
      = (m ((c : Thread nD τ).loc main_arg1) : Vec Ideal S2x1024 .f32) (ix2 d ⟨256 * (t.val % 4) + k.val, by omega⟩) := by
  obtain ⟨h0, h1⟩ := idx5 t
  show (V m c main_arg1 : Vec Ideal S2x1024 .f32) ((win0_5.rect t).emb (ix2 d k)) = _
  rw [V_main_arg1]
  refine congrArg (m ((c : Thread nD τ).loc main_arg1) : Vec Ideal S2x1024 .f32) ?_
  funext a
  apply Fin.ext
  rw [Pipeline.Window.rect_emb_val_off]
  match a with
  | ⟨0, _⟩ => show win0_5.index t 0 * 2 + d.val = d.val; omega
  | ⟨1, _⟩ => show win0_5.index t 1 * 256 + k.val = 256 * (t.val % 4) + k.val; omega

theorem blk7 (c : Dev nD) (t : Fin cfg0.N) (r b : Fin 64) :
    @Eq EReal ((iblk m c 7 t : Vec Ideal S256x192 .bf16) (ix2 ⟨192 + r.val, by omega⟩ ⟨b.val, by omega⟩)) (if b.val ≤ r.val then 1 else 0) := by
  obtain ⟨h0, h1⟩ := idx7 t
  have hv : @Eq (Vec Ideal S256x192 .bf16) (V m c main_cst) (fun i => FloatOps.ofBits (F := Ideal) .bf16 (lit0 (S256x192.rowMajor i))) := by
    entry_read
    try rfl
  have he : (win0_7.rect t).emb (ix2 ⟨192 + r.val, by omega⟩ ⟨b.val, by omega⟩) = (ix2 ⟨192 + r.val, by omega⟩ ⟨b.val, by omega⟩ : S256x192.Idx) := by
    funext a
    apply Fin.ext
    rw [Pipeline.Window.rect_emb_val_off]
    match a with
    | ⟨0, _⟩ => show win0_7.index t 0 * 256 + (192 + r.val) = 192 + r.val; omega
    | ⟨1, _⟩ => show win0_7.index t 1 * 192 + b.val = b.val; omega
  show @Eq EReal ((V m c main_cst : Vec Ideal S256x192 .bf16) ((win0_7.rect t).emb (ix2 ⟨192 + r.val, by omega⟩ ⟨b.val, by omega⟩))) _
  rw [hv, he]
  show @Eq EReal (FloatOps.ofBits (F := Ideal) .bf16 (lit0 _)) _
  rw [lit_fwd]
  split
  · exact one_bits
  · exact zero_bits

theorem blk8 (c : Dev nD) (t : Fin cfg0.N) (r b : Fin 64) :
    @Eq EReal ((iblk m c 8 t : Vec Ideal S256x192 .bf16) (ix2 ⟨192 + r.val, by omega⟩ ⟨b.val, by omega⟩)) (if r.val ≤ b.val then 1 else 0) := by
  obtain ⟨h0, h1⟩ := idx8 t
  have hv : @Eq (Vec Ideal S256x192 .bf16) (V m c main_cst_0) (fun i => FloatOps.ofBits (F := Ideal) .bf16 (lit2 (S256x192.rowMajor i))) := by
    entry_read
    try rfl
  have he : (win0_8.rect t).emb (ix2 ⟨192 + r.val, by omega⟩ ⟨b.val, by omega⟩) = (ix2 ⟨192 + r.val, by omega⟩ ⟨b.val, by omega⟩ : S256x192.Idx) := by
    funext a
    apply Fin.ext
    rw [Pipeline.Window.rect_emb_val_off]
    match a with
    | ⟨0, _⟩ => show win0_8.index t 0 * 256 + (192 + r.val) = 192 + r.val; omega
    | ⟨1, _⟩ => show win0_8.index t 1 * 192 + b.val = b.val; omega
  show @Eq EReal ((V m c main_cst_0 : Vec Ideal S256x192 .bf16) ((win0_8.rect t).emb (ix2 ⟨192 + r.val, by omega⟩ ⟨b.val, by omega⟩))) _
  rw [hv, he]
  show @Eq EReal (FloatOps.ofBits (F := Ideal) .bf16 (lit2 _)) _
  rw [lit_bwd]
  split
  · exact one_bits
  · exact zero_bits

end Cert.StateIdeal.Chunk

end
-- ==== Proof.StateRefAt.lean ====
module

public import proofs.«01_k».proof.Proof.StateSpec
public import proofs.«01_k».proof.Proof.Gen.StateRefIdeal.Run
public import proofs.«01_k».proof.Proof.Gen.StateRefIdeal.Read

/-! The reference's state read at an index. -/

@[expose] public section

set_option maxRecDepth 16384

noncomputable section

namespace Cert.StateRefIdeal.Chunk

open Cert.StateRefIdeal Cert.StateRefIdeal.Gen Cert.StateRefIdeal.Read Idealize.ShloMosaic Idealize.ShloMosaic.TcCoe Idealize.SL.Sem
open StateSpec (entry low tok)

theorem sge_at (t s : Fin 256) (a b : EReal) : Scalar.select (IntOp.cmpi CmpIPredicate.sge (IntOp.addi (BitVec.ofNat 32 t.val) 0#32) (BitVec.ofNat 32 s.val)) a b
    = if s.val ≤ t.val then a else b := by
  have h : ∀ t s : Fin 256, IntOp.cmpi CmpIPredicate.sge (IntOp.addi (BitVec.ofNat 32 t.val) 0#32) (BitVec.ofNat 32 s.val) = if s.val ≤ t.val then 1#1 else 0#1 := by
    decide +kernel
  rw [h]
  split <;> rfl

theorem entry_at (z : Vec Ideal S8192x7680 .f32) (R c : ℕ) (hr : R < 8192) (hc : c < 7680) : entry z R c = z (ix2 ⟨R, hr⟩ ⟨c, hc⟩) :=
  dif_pos ⟨hr, hc⟩

theorem low_at (z : Vec Ideal S2x1024 .f32) (d c : ℕ) (hr : d < 2) (hc : c < 1024) : low z d c = z (ix2 ⟨d, hr⟩ ⟨c, hc⟩) :=
  dif_pos ⟨hr, hc⟩

theorem rev_at (y : Vec Ideal S16x256x8x128 .f32) (b : Fin 16) (s : Fin 256) (h : Fin 8) (k : Fin 128) :
    @Eq EReal (Host.reverse [1] y (ix4 b s h k)) (y (ix4 b s.rev h k)) := by
  refine congrArg y ?_
  funext a
  match a with
  | ⟨0, _⟩ => rfl
  | ⟨1, _⟩ => rfl
  | ⟨2, _⟩ => rfl
  | ⟨3, _⟩ => rfl

variable (x0 : Vec Ideal S8192x7680 .f32) (x1 : Vec Ideal S2x1024 .f32)

/-- The mask of earlier tokens. -/
theorem mask0_at (t s : Fin 256) : @Eq EReal (val_main_v71 (F := Ideal) (ix2 t s)) (if s.val ≤ t.val then 1 else 0) := by
  pointwise [val_main_v71, val_main_call0_v5, val_main_call0_cst, val_main_call0_v4, val_main_call0_v3, val_main_call0_v2, val_main_call0_v1, val_main_call0_c, val_main_call0_v0, val_main_v70, val_main_cst_11]
  rw [sge_at]

/-- The mask of earlier tokens. -/
theorem mask1_at (t s : Fin 256) : @Eq EReal (val_main_v86 (F := Ideal) (ix2 t s)) (if s.val ≤ t.val then 1 else 0) := by
  pointwise [val_main_v86, val_main_call1_v5, val_main_call1_cst, val_main_call1_v4, val_main_call1_v3, val_main_call1_v2, val_main_call1_v1, val_main_call1_c, val_main_call1_v0, val_main_v85, val_main_cst_12]
  rw [sge_at]

/-- The logarithm of the gate, direction 0. -/
theorem log0_at (b : Fin 16) (s : Fin 256) (h : Fin 8) (k : Fin 128) : @Eq EReal (val_main_v37 (F := Ideal) x0 x1 (ix4 b s h k))
    (Ideal.log (low x1 0 (h.val * 128 + k.val) + (1 - low x1 0 (h.val * 128 + k.val)) * Ideal.logistic (entry x0 (b.val * 256 + s.val) (1024 + (h.val * 128 + k.val))))) := by
  rw [low_at _ _ _ (by omega) (by omega), entry_at _ _ _ (by omega) (by omega)]
  pointwise [val_main_v37, val_main_v36, val_main_v23, val_main_v22, val_main_v21, val_main_v20, val_main_v19, val_main_v18, val_main_v17, val_main_v16, val_main_v15, val_main_v14, val_main_v13, val_main_v12, val_main_v11, val_main_v10, val_main_v9, val_main_v8, val_main_v4, val_main_v5, val_main_v3, val_main_v2, val_main_v1, val_main_v0, val_main_cst, val_main_cst_0, val_main_cst_1]
  try rfl

/-- The key, direction 0. -/
theorem key0_at (b : Fin 16) (s : Fin 256) (h : Fin 8) (k : Fin 128) : @Eq EReal (val_main_v38 (F := Ideal) x0 x1 (ix4 b s h k))
    ((1 - low x1 0 (h.val * 128 + k.val)) * Ideal.logistic (-(entry x0 (b.val * 256 + s.val) (1024 + (h.val * 128 + k.val))))) := by
  rw [low_at _ _ _ (by omega) (by omega), entry_at _ _ _ (by omega) (by omega)]
  pointwise [val_main_v38, val_main_v35, val_main_v34, val_main_v33, val_main_v32, val_main_v31, val_main_v30, val_main_v29, val_main_v28, val_main_v27, val_main_v26, val_main_v25, val_main_v24, val_main_v9, val_main_v8, val_main_v4, val_main_v5, val_main_v3, val_main_v2, val_main_v1, val_main_v0, val_main_cst_2, val_main_cst_3, val_main_cst_4]
  try rfl

/-- The logarithm of the gate, direction 1. -/
theorem log1_at (b : Fin 16) (s : Fin 256) (h : Fin 8) (k : Fin 128) : @Eq EReal (val_main_v68 (F := Ideal) x0 x1 (ix4 b s h k))
    (Ideal.log (low x1 1 (h.val * 128 + k.val) + (1 - low x1 1 (h.val * 128 + k.val)) * Ideal.logistic (entry x0 (b.val * 256 + s.val) (2048 + (h.val * 128 + k.val))))) := by
  rw [low_at _ _ _ (by omega) (by omega), entry_at _ _ _ (by omega) (by omega)]
  pointwise [val_main_v68, val_main_v67, val_main_v54, val_main_v53, val_main_v52, val_main_v51, val_main_v50, val_main_v49, val_main_v48, val_main_v47, val_main_v46, val_main_v45, val_main_v44, val_main_v43, val_main_v42, val_main_v41, val_main_v40, val_main_v39, val_main_v4, val_main_v5, val_main_v3, val_main_v2, val_main_v1, val_main_v0, val_main_cst_5, val_main_cst_6, val_main_cst_7]
  try rfl

/-- The key, direction 1. -/
theorem key1_at (b : Fin 16) (s : Fin 256) (h : Fin 8) (k : Fin 128) : @Eq EReal (val_main_v69 (F := Ideal) x0 x1 (ix4 b s h k))
    ((1 - low x1 1 (h.val * 128 + k.val)) * Ideal.logistic (-(entry x0 (b.val * 256 + s.val) (2048 + (h.val * 128 + k.val))))) := by
  rw [low_at _ _ _ (by omega) (by omega), entry_at _ _ _ (by omega) (by omega)]
  pointwise [val_main_v69, val_main_v66, val_main_v65, val_main_v64, val_main_v63, val_main_v62, val_main_v61, val_main_v60, val_main_v59, val_main_v58, val_main_v57, val_main_v56, val_main_v55, val_main_v40, val_main_v39, val_main_v4, val_main_v5, val_main_v3, val_main_v2, val_main_v1, val_main_v0, val_main_cst_8, val_main_cst_9, val_main_cst_10]
  try rfl

theorem v_at (b : Fin 16) (s : Fin 256) (h : Fin 8) (k : Fin 128) : @Eq EReal (val_main_v7 (F := Ideal) x0 (ix4 b s h k))
    (entry x0 (b.val * 256 + s.val) (3072 + (h.val * 128 + k.val))) := by
  rw [entry_at _ _ _ (by omega) (by omega)]
  pointwise [val_main_v7, val_main_v6, val_main_v5, val_main_v4, val_main_v3, val_main_v2, val_main_v1, val_main_v0]
  try rfl

/-- The reference's state, direction 0. -/
theorem state0_at (hR : StateSpec.Real x0 x1) (b : Fin 16) (h : Fin 8) (k q : Fin 128) : @Eq EReal (val_main_v99 (F := Ideal) x0 x1 (ix5 b 0 h k q))
    (StateSpec.value x0 x1 0 b.val (h.val * 128 + k.val) (h.val * 128 + q.val)) := by
  have hlow := hR.lb_real 0 (h.val * 128 + k.val)
  obtain ⟨l, hl0, hl⟩ := hlow
  have ht : ∀ s : Fin 256, tok 0 s.val = s.val := fun s => by rfl
  have hx : ∀ s : Fin 256, ∃ x : ℝ, entry x0 (b.val * 256 + s.val) (1024 + (h.val * 128 + k.val)) = x := fun s => by
    have e := hR.z_real (b.val * 256 + s.val) (0 + (h.val * 128 + k.val)) (by omega) (by omega)
    rwa [← Nat.add_assoc 1024 0] at e
  have hlg : ∀ s : Fin 256, @Eq EReal (val_main_v37 (F := Ideal) x0 x1 (ix4 b s h k)) ((StateSpec.lg x0 x1 0 b.val (h.val * 128 + k.val) s.val : ℝ) : EReal) := fun s => by
    obtain ⟨x, hx⟩ := hx s
    refine ((log0_at x0 x1 b s h k)).trans ?_
    unfold StateSpec.lg
    rw [ht]
    show _ = ((Real.log (Decay.gate (low x1 0 (h.val * 128 + k.val)).toReal (entry x0 (b.val * 256 + s.val) (1024 + (h.val * 128 + k.val))).toReal) : ℝ) : EReal)
    rw [hx, hl, EReal.toReal_coe, EReal.toReal_coe, Decay.log_gate _ _ hl0]
  have hW : ∀ s : Fin 256, StateSpec.outer x0 x1 0 b.val (h.val * 128 + k.val) (h.val * 128 + q.val) s.val
      = (val_main_v7 (F := Ideal) x0 (ix4 b s h q) : EReal) * (val_main_v38 (F := Ideal) x0 x1 (ix4 b s h k) : EReal) := fun s => by
    obtain ⟨x, hx⟩ := hx s
    refine Eq.trans ?_ (congrArg₂ (fun a b : EReal => a * b) ((v_at x0 b s h q)) ((key0_at x0 x1 b s h k))).symm
    unfold StateSpec.outer
    rw [ht]
    show entry x0 (b.val * 256 + s.val) (3072 + (h.val * 128 + q.val)) * ((1 - (((low x1 0 (h.val * 128 + k.val)).toReal : ℝ) : EReal))
      * ((Decay.sig (-(entry x0 (b.val * 256 + s.val) (1024 + (h.val * 128 + k.val))).toReal) : ℝ) : EReal)) = _
    rw [hx, hl, EReal.toReal_coe, EReal.toReal_coe, ← EReal.coe_neg, Decay.logistic_coe]
  refine Eq.trans ?_ (StateSpec.all (fun s => val_main_v37 (F := Ideal) x0 x1 (ix4 b s h k)) (fun s => val_main_v7 (F := Ideal) x0 (ix4 b s h q))
    (fun s => val_main_v38 (F := Ideal) x0 x1 (ix4 b s h k)) (fun t s => val_main_v71 (F := Ideal) (ix2 t s)) _ _ hlg mask0_at hW)
  clear hlg hW hx ht hl hR
  unfold val_main_v99 val_main_v97 val_main_v81 val_main_v80 val_main_v79 val_main_v78 val_main_v77 val_main_v76 val_main_v75 val_main_v74 val_main_v73 val_main_v72
  generalize val_main_v98 (F := Ideal) x0 x1 = o
  generalize val_main_v37 (F := Ideal) x0 x1 = G
  generalize val_main_v38 (F := Ideal) x0 x1 = K
  generalize val_main_v7 (F := Ideal) x0 = v
  generalize val_main_v71 (F := Ideal) = M
  pointwise []

/-- The reference's state, direction 1. -/
theorem state1_at (hR : StateSpec.Real x0 x1) (b : Fin 16) (h : Fin 8) (k q : Fin 128) : @Eq EReal (val_main_v99 (F := Ideal) x0 x1 (ix5 b 1 h k q))
    (StateSpec.value x0 x1 1 b.val (h.val * 128 + k.val) (h.val * 128 + q.val)) := by
  have hlow := hR.lb_real 1 (h.val * 128 + k.val)
  obtain ⟨l, hl0, hl⟩ := hlow
  have ht : ∀ s : Fin 256, tok 1 s.val = s.rev.val := fun s => by show 255 - s.val = s.rev.val; rw [Fin.val_rev]; omega
  have hx : ∀ s : Fin 256, ∃ x : ℝ, entry x0 (b.val * 256 + s.rev.val) (2048 + (h.val * 128 + k.val)) = x := fun s => by
    have e := hR.z_real (b.val * 256 + s.rev.val) (1024 + (h.val * 128 + k.val)) (by have := s.rev.isLt; omega) (by omega)
    rwa [← Nat.add_assoc 1024 1024] at e
  have hlg : ∀ s : Fin 256, @Eq EReal (val_main_v84 (F := Ideal) x0 x1 (ix4 b s h k)) ((StateSpec.lg x0 x1 1 b.val (h.val * 128 + k.val) s.val : ℝ) : EReal) := fun s => by
    obtain ⟨x, hx⟩ := hx s
    refine ((rev_at (val_main_v68 (F := Ideal) x0 x1) b s h k).trans (log1_at x0 x1 b s.rev h k)).trans ?_
    unfold StateSpec.lg
    rw [ht]
    show _ = ((Real.log (Decay.gate (low x1 1 (h.val * 128 + k.val)).toReal (entry x0 (b.val * 256 + s.rev.val) (2048 + (h.val * 128 + k.val))).toReal) : ℝ) : EReal)
    rw [hx, hl, EReal.toReal_coe, EReal.toReal_coe, Decay.log_gate _ _ hl0]
  have hW : ∀ s : Fin 256, StateSpec.outer x0 x1 1 b.val (h.val * 128 + k.val) (h.val * 128 + q.val) s.val
      = (val_main_v83 (F := Ideal) x0 (ix4 b s h q) : EReal) * (val_main_v82 (F := Ideal) x0 x1 (ix4 b s h k) : EReal) := fun s => by
    obtain ⟨x, hx⟩ := hx s
    refine Eq.trans ?_ (congrArg₂ (fun a b : EReal => a * b) ((rev_at (val_main_v7 (F := Ideal) x0) b s h q).trans (v_at x0 b s.rev h q)) ((rev_at (val_main_v69 (F := Ideal) x0 x1) b s h k).trans (key1_at x0 x1 b s.rev h k))).symm
    unfold StateSpec.outer
    rw [ht]
    show entry x0 (b.val * 256 + s.rev.val) (3072 + (h.val * 128 + q.val)) * ((1 - (((low x1 1 (h.val * 128 + k.val)).toReal : ℝ) : EReal))
      * ((Decay.sig (-(entry x0 (b.val * 256 + s.rev.val) (2048 + (h.val * 128 + k.val))).toReal) : ℝ) : EReal)) = _
    rw [hx, hl, EReal.toReal_coe, EReal.toReal_coe, ← EReal.coe_neg, Decay.logistic_coe]
  refine Eq.trans ?_ (StateSpec.all (fun s => val_main_v84 (F := Ideal) x0 x1 (ix4 b s h k)) (fun s => val_main_v83 (F := Ideal) x0 (ix4 b s h q))
    (fun s => val_main_v82 (F := Ideal) x0 x1 (ix4 b s h k)) (fun t s => val_main_v86 (F := Ideal) (ix2 t s)) _ _ hlg mask1_at hW)
  clear hlg hW hx ht hl hR
  unfold val_main_v99 val_main_v98 val_main_v96 val_main_v95 val_main_v94 val_main_v93 val_main_v92 val_main_v91 val_main_v90 val_main_v89 val_main_v88 val_main_v87
  generalize val_main_v97 (F := Ideal) x0 x1 = o
  generalize val_main_v84 (F := Ideal) x0 x1 = G
  generalize val_main_v82 (F := Ideal) x0 x1 = K
  generalize val_main_v83 (F := Ideal) x0 = v
  generalize val_main_v86 (F := Ideal) = M
  pointwise []

end Cert.StateRefIdeal.Chunk

end
-- ==== Proof.StateValue.lean ====
module

public import proofs.«01_k».proof.Proof.Fold
public import proofs.«01_k».proof.Proof.Table
public import proofs.«01_k».proof.Proof.StateRefAt

/-! The states' array after the kernel's run, and the reference's, for real gates. -/

@[expose] public section

set_option maxRecDepth 16384

noncomputable section

namespace Cert.StateIdeal.Chunk

open Cert.StateIdeal Cert.StateIdeal.Gen Idealize.ShloMosaic Idealize.ShloMosaic.TcCoe Idealize.SL.Sem
open StateSpec (entry low tok)

variable (m : (ℓ : Loc nD τ sig) → Buf (Elt Ideal) ℓ)

/-- The result array. -/
def result (c : Dev nD) : Vec Ideal S16x2x8x128x128 .f32 := fun y =>
  StateSpec.value (m ((c : Thread nD τ).loc main_arg0)) (m ((c : Thread nD τ).loc main_arg1)) (y 1).val (y 0).val
    ((y 2).val * 128 + (y 3).val) ((y 2).val * 128 + (y 4).val)

theorem read_at (z : Vec Ideal S8192x7680 .f32) (R : Fin 8192) (c : Fin 7680) (R' c' : ℕ) (h : R.val = R') (h' : c.val = c') :
    @Eq EReal (z (ix2 R c)) (entry z R' c') := by
  subst h h'
  unfold StateSpec.entry
  rw [dif_pos (⟨R.isLt, c.isLt⟩ : R.val < 8192 ∧ c.val < 7680)]

theorem low_read (z : Vec Ideal S2x1024 .f32) (R : Fin 2) (c : Fin 1024) (c' : ℕ) (h' : c.val = c') :
    @Eq EReal (z (ix2 R c)) (low z R.val c') := by
  subst h'
  unfold StateSpec.low
  rw [dif_pos (⟨R.isLt, c.isLt⟩ : R.val < 2 ∧ c.val < 1024)]

theorem point_at (c : Dev nD) (hR : StateSpec.Real (m ((c : Thread nD τ).loc main_arg0)) (m ((c : Thread nD τ).loc main_arg1)))
    (t : Fin cfg0.N) (d h : Fin 2) (k q : Fin 128) :
    @Eq EReal ((outsAt0 m c t).2 (ix5 0 d h k q))
      (StateSpec.value (m ((c : Thread nD τ).loc main_arg0)) (m ((c : Thread nD τ).loc main_arg1)) d.val (t.val / 4)
        (t.val % 4 * 256 + (128 * h.val + k.val)) (t.val % 4 * 256 + (128 * h.val + q.val))) := by
  have hN := lt_N t
  simp only [outsAt0]
  refine (block ..).trans ?_
  exact chain_at hR (b := t.val / 4) (p := t.val % 4) (by omega) (by omega)
    (fun r k => (blk1 m c t r k).trans (read_at _ _ _ _ _ (by show 256 * (t.val / 4) + r.val = _; omega) (by show 1024 + 256 * (t.val % 4) + k.val = _; omega)))
    (fun r k => (blk2 m c t r k).trans (read_at _ _ _ _ _ (by show 256 * (t.val / 4) + r.val = _; omega) (by show 2048 + 256 * (t.val % 4) + k.val = _; omega)))
    (fun r k => (blk3 m c t r k).trans (read_at _ _ _ _ _ (by show 256 * (t.val / 4) + r.val = _; omega) (by show 3072 + 256 * (t.val % 4) + k.val = _; omega)))
    (fun d k => (blk5 m c t d k).trans (low_read _ _ _ _ (by show 256 * (t.val % 4) + k.val = _; omega)))
    (blk7 m c t) (blk8 m c t) d h k q

theorem final (c : Dev nD) (hR : StateSpec.Real (m ((c : Thread nD τ).loc main_arg0)) (m ((c : Thread nD τ).loc main_arg1))) :
    (dats m 0 c).arrAt 12 cfg0.N = result m c := by
  refine (dats m 0 c).arrAt_eq_of_covers 12 _ (by decide +kernel) fun t hf y => ?_
  blk_simp
  rw [after0_12]
  revert y
  show ∀ y : S1x2x2x128x128.Idx, ((outsAt0 m c t).2 : Vec Ideal S1x2x2x128x128 .f32) y = result m c ((win0_12.rect t).emb y)
  intro y
  obtain ⟨h0, h1, h2, h3, h4⟩ := idx12 t
  idx_vars y
  obtain rfl : y0 = 0 := Subsingleton.elim _ _
  refine (point_at m c hR t y1 y2 y3 y4).trans ?_
  have e0 : ((win0_12.rect t).emb (ix5 0 y1 y2 y3 y4) 0).val = t.val / 4 := by
    rw [Pipeline.Window.rect_emb_val_off]
    show win0_12.index t 0 * 1 + 0 = _
    omega
  have e1 : ((win0_12.rect t).emb (ix5 0 y1 y2 y3 y4) 1).val = y1.val := by
    rw [Pipeline.Window.rect_emb_val_off]
    show win0_12.index t 1 * 2 + y1.val = _
    omega
  have e2 : ((win0_12.rect t).emb (ix5 0 y1 y2 y3 y4) 2).val = t.val % 4 * 2 + y2.val := by
    rw [Pipeline.Window.rect_emb_val_off]
    show win0_12.index t 2 * 2 + y2.val = _
    omega
  have e3 : ((win0_12.rect t).emb (ix5 0 y1 y2 y3 y4) 3).val = y3.val := by
    rw [Pipeline.Window.rect_emb_val_off]
    show win0_12.index t 3 * 128 + y3.val = _
    omega
  have e4 : ((win0_12.rect t).emb (ix5 0 y1 y2 y3 y4) 4).val = y4.val := by
    rw [Pipeline.Window.rect_emb_val_off]
    show win0_12.index t 4 * 128 + y4.val = _
    omega
  show _ = StateSpec.value _ _ ((win0_12.rect t).emb (ix5 0 y1 y2 y3 y4) 1).val ((win0_12.rect t).emb (ix5 0 y1 y2 y3 y4) 0).val
    (((win0_12.rect t).emb (ix5 0 y1 y2 y3 y4) 2).val * 128 + ((win0_12.rect t).emb (ix5 0 y1 y2 y3 y4) 3).val)
    (((win0_12.rect t).emb (ix5 0 y1 y2 y3 y4) 2).val * 128 + ((win0_12.rect t).emb (ix5 0 y1 y2 y3 y4) 4).val)
  rw [e0, e1, e2, e3, e4]
  have a : ∀ k : ℕ, t.val % 4 * 256 + (128 * y2.val + k) = (t.val % 4 * 2 + y2.val) * 128 + k := fun k => by omega
  rw [a, a]

/-- The kernel's run: the states' array, and the arguments as launched. -/
theorem run (hR : ∀ c : Dev nD, StateSpec.Real (m ((c : Thread nD τ).loc main_arg0)) (m ((c : Thread nD τ).loc main_arg1))) (ρ : Dev nD → PrngReg) :
    θ_run defs (onTc (τ := τ) (main (F := Ideal))) ⟨m, fun _ => 0, ρ⟩ fun r => ∀ c : Dev nD,
      r.2.mem ((c : Thread nD τ).loc main_v7_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).2.1.trans (final m c (hR c)), (h c).2.2⟩) (Value.run_blocks m ρ)

end Cert.StateIdeal.Chunk

namespace Cert.StateRefIdeal.Chunk

open Cert.StateRefIdeal Cert.StateRefIdeal.Gen Cert.StateRefIdeal.Read Idealize.ShloMosaic Idealize.ShloMosaic.TcCoe Idealize.SL.Sem

/-- The reference's run from agreeing arguments: its result array is the kernel's. -/
theorem run (m : (ℓ : Loc Cert.StateIdeal.nD Cert.StateIdeal.τ Cert.StateIdeal.sig) → Buf (Elt Ideal) ℓ)
    (m' : (ℓ : Loc nD τ sig) → Buf (Elt Ideal) ℓ) (ρ : Dev nD → PrngReg)
    (hR : ∀ c : Dev Cert.StateIdeal.nD, StateSpec.Real (m ((c.tc : Thread Cert.StateIdeal.nD Cert.StateIdeal.τ).loc Cert.StateIdeal.main_arg0))
      (m ((c.tc : Thread Cert.StateIdeal.nD Cert.StateIdeal.τ).loc Cert.StateIdeal.main_arg1)))
    (hagree : ∀ c : Dev Cert.StateIdeal.nD,
      m' ((c.tc : Thread nD τ).loc main_arg0) = m ((c.tc : Thread Cert.StateIdeal.nD Cert.StateIdeal.τ).loc Cert.StateIdeal.main_arg0)
      ∧ m' ((c.tc : Thread nD τ).loc main_arg1) = m ((c.tc : Thread Cert.StateIdeal.nD Cert.StateIdeal.τ).loc Cert.StateIdeal.main_arg1)
      ∧ m' ((c.tc : Thread nD τ).loc main_arg2) = m ((c.tc : Thread Cert.StateIdeal.nD Cert.StateIdeal.τ).loc Cert.StateIdeal.main_arg2)) :
    θ_run defs (onTc (τ := τ) (main (F := Ideal))) ⟨m', fun _ => 0, ρ⟩ fun r => ∀ c : Dev nD,
      r.2.mem ((c.tc : Thread nD τ).loc main_v99) = Cert.StateIdeal.Chunk.result m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) := by
  refine (θ_run defs _ _).mono (fun _ h c => ⟨(h c).1.trans ?_, (h c).2⟩) (Cert.StateRefIdeal.Value.run (F := Ideal) m' ρ)
  rw [Cert.StateRefIdeal.Read.val_main_v99_eq, (hagree c).1, (hagree c).2.1]
  funext y
  rw [ValueIdx.eq_ix5 y]
  generalize y 0 = b
  generalize hd : y 1 = d
  generalize y 2 = h
  generalize y 3 = k
  generalize y 4 = q
  revert d
  show ∀ d : Fin 2, _
  intro d hd
  match d with
  | 0 => exact state0_at _ _ (hR c) b h k q
  | 1 => exact state1_at _ _ (hR c) b h k q

end Cert.StateRefIdeal.Chunk

end
-- ==== Proof.StatePre.lean ====
module

public import proofs.«01_k».proof.Proof.StateSpec
public import proofs.«01_k».proof.Pre_real_gates

/-! The state's precondition, read: the gates' inputs and the lower bounds are real numbers, the bounds not negative. -/

@[expose] public section

set_option maxRecDepth 16384

noncomputable section

namespace Cert.Pre_real_gates

open Idealize.ShloMosaic Idealize.ShloMosaic.TcCoe

variable [Facts] (z : FVec Ideal S8192x7680 .f32) (lb : FVec Ideal S2x1024 .f32) (g : FVec Ideal S4x128 .f32)

theorem inf_bits : Ideal.ofBits .f32 2139095040#32 = ⊤ := by
  simp [Ideal.ofBits, Ideal.ieee]

theorem of_bit {p : Prop} [Decidable p] (h : BitVec.ofBool (decide p) = 1#1) : p := by
  by_contra hp
  rw [decide_eq_false hp] at h
  exact absurd h (by decide)

theorem first_at (R : Fin 4096) (c : Fin 2048) (h : (fn (F := Ideal) z lb g).1 (ix2 R c) = 1#1) :
    @LT.lt EReal _ (max (z (ix2 ⟨R.val, by omega⟩ ⟨1024 + c.val, by omega⟩)) (-(z (ix2 ⟨R.val, by omega⟩ ⟨1024 + c.val, by omega⟩) : EReal))) ⊤ := by
  refine of_bit (Eq.trans ?_ h)
  rw [← inf_bits]
  symm
  pointwise [fn]
  try rfl

theorem second_at (R : Fin 2) (c : Fin 1024) (h : (fn (F := Ideal) z lb g).2.1 (ix2 R c) = 1#1) : @LE.le EReal _ 0 (lb (ix2 R c)) := by
  refine of_bit (Eq.trans ?_ h)
  symm
  pointwise [fn]

theorem third_at (R : Fin 2) (c : Fin 1024) (h : (fn (F := Ideal) z lb g).2.2 (ix2 R c) = 1#1) : @LT.lt EReal _ (lb (ix2 R c)) ⊤ := by
  refine of_bit (Eq.trans ?_ h)
  rw [← inf_bits]
  symm
  pointwise [fn]

theorem real_of (x : EReal) (h : max x (-x) < ⊤) : ∃ r : ℝ, x = r := by
  rw [max_lt_iff] at h
  refine ⟨x.toReal, (EReal.coe_toReal h.1.ne ?_).symm⟩
  rintro rfl
  exact absurd h.2 (by simp)

/-- What the precondition says of the arrays. -/
theorem real (h : (fn (F := Ideal) z lb g).1 = (fun _ => 1#1) ∧ (fn (F := Ideal) z lb g).2.1 = (fun _ => 1#1) ∧ (fn (F := Ideal) z lb g).2.2 = (fun _ => 1#1)) :
    StateSpec.Real z lb := by
  obtain ⟨h1, h2, h3⟩ := h
  constructor
  · intro R c hr hc
    unfold StateSpec.entry
    rw [dif_pos (⟨by omega, by omega⟩ : R < 8192 ∧ 1024 + c < 7680)]
    exact real_of _ (first_at z lb g ⟨R, hr⟩ ⟨c, hc⟩ (congrFun h1 _))
  · intro d c
    unfold StateSpec.low
    split
    · rename_i h
      have l0 := second_at z lb g ⟨d, h.1⟩ ⟨c, h.2⟩ (congrFun h2 _)
      have l1 := third_at z lb g ⟨d, h.1⟩ ⟨c, h.2⟩ (congrFun h3 _)
      refine ⟨_, EReal.toReal_nonneg l0, (EReal.coe_toReal l1.ne ?_).symm⟩
      intro hb
      rw [hb] at l0
      exact absurd l0 (by simp)
    · exact ⟨0, le_refl _, rfl⟩

end Cert.Pre_real_gates

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.State
public import proofs.«01_k».proof.Proof.Gen.State.Skeleton
public import proofs.«01_k».proof.Proof.Gen.State.Launch
public import proofs.«01_k».proof.Proof.Gen.State.Points
public import proofs.«01_k».proof.Proof.Gen.State.Frame
public import proofs.«01_k».proof.Proof.Gen.StateIdeal
public import proofs.«01_k».proof.Proof.Gen.StateIdeal.Skeleton
public import proofs.«01_k».proof.Proof.Gen.StateIdeal.Launch
public import proofs.«01_k».proof.Proof.Gen.StateIdeal.Points
public import proofs.«01_k».proof.Proof.Gen.StateIdeal.Frame
public import proofs.«01_k».proof.Proof.Gen.StateIdeal.Value
public import proofs.«01_k».proof.Proof.Gen.StateRefIdeal
public import proofs.«01_k».proof.Proof.Gen.Pre_real_gates
public import proofs.«01_k».proof.Proof.Gen.Queries
public import proofs.«01_k».proof.Proof.Gen.Queries.Skeleton
public import proofs.«01_k».proof.Proof.Gen.Queries.Launch
public import proofs.«01_k».proof.Proof.Gen.Queries.Points
public import proofs.«01_k».proof.Proof.Gen.Queries.Frame
public import proofs.«01_k».proof.Proof.Gen.QueriesIdeal
public import proofs.«01_k».proof.Proof.Gen.QueriesIdeal.Skeleton
public import proofs.«01_k».proof.Proof.Gen.QueriesIdeal.Launch
public import proofs.«01_k».proof.Proof.Gen.QueriesIdeal.Points
public import proofs.«01_k».proof.Proof.Gen.QueriesIdeal.Frame
public import proofs.«01_k».proof.Proof.Gen.QueriesRefIdeal
public import proofs.«01_k».proof.Proof.Gen.Cache
public import proofs.«01_k».proof.Proof.Gen.Cache.Skeleton
public import proofs.«01_k».proof.Proof.Gen.Cache.Launch
public import proofs.«01_k».proof.Proof.Gen.Cache.Points
public import proofs.«01_k».proof.Proof.Gen.Cache.Frame
public import proofs.«01_k».proof.Proof.Gen.CacheIdeal
public import proofs.«01_k».proof.Proof.Gen.CacheIdeal.Skeleton
public import proofs.«01_k».proof.Proof.Gen.CacheIdeal.Launch
public import proofs.«01_k».proof.Proof.Gen.CacheIdeal.Points
public import proofs.«01_k».proof.Proof.Gen.CacheIdeal.Frame
public import proofs.«01_k».proof.Proof.Gen.CacheRefIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.Next
public import proofs.«01_k».proof.Proof.Gen.Next.Skeleton
public import proofs.«01_k».proof.Proof.Gen.Next.Launch
public import proofs.«01_k».proof.Proof.Gen.Next.Points
public import proofs.«01_k».proof.Proof.Gen.Next.Frame
public import proofs.«01_k».proof.Proof.Gen.NextIdeal
public import proofs.«01_k».proof.Proof.Gen.NextIdeal.Skeleton
public import proofs.«01_k».proof.Proof.Gen.NextIdeal.Launch
public import proofs.«01_k».proof.Proof.Gen.NextIdeal.Points
public import proofs.«01_k».proof.Proof.Gen.NextIdeal.Frame
public import proofs.«01_k».proof.Proof.Gen.NextRefIdeal
public import proofs.«01_k».proof.Proof.KernelValue
public import proofs.«01_k».proof.Proof.RefValue
public import proofs.«01_k».proof.Proof.InProj
public import proofs.«01_k».proof.Proof.Gates
public import proofs.«01_k».proof.Proof.Out
public import proofs.«01_k».proof.Proof.Kv
public import proofs.«01_k».proof.Proof.MergeValue
public import proofs.«01_k».proof.Proof.MergeRefValue
public import proofs.«01_k».proof.Proof.Queries
public import proofs.«01_k».proof.Proof.Cache
public import proofs.«01_k».proof.Proof.Mod
public import proofs.«01_k».proof.Proof.First
public import proofs.«01_k».proof.Proof.Next
public import proofs.«01_k».proof.Proof.StateValue
public import proofs.«01_k».proof.Proof.StatePre
public import proofs.«01_k».proof.Proof.Gen.KernelIdeal.Value
public import proofs.«01_k».proof.Proof.Gen.InProjIdeal.Value
public import proofs.«01_k».proof.Proof.Gen.GatesIdeal.Value
public import proofs.«01_k».proof.Proof.Gen.OutIdeal.Value
public import proofs.«01_k».proof.Proof.Gen.KvIdeal.Value
public import proofs.«01_k».proof.Proof.Gen.QueriesIdeal.Value
public import proofs.«01_k».proof.Proof.Gen.CacheIdeal.Value
public import proofs.«01_k».proof.Proof.Gen.ModIdeal.Value
public import proofs.«01_k».proof.Proof.Gen.FirstIdeal.Value
public import proofs.«01_k».proof.Proof.Gen.NextIdeal.Value
public import proofs.«01_k».proof.Proof.Gen.ReferenceIdeal.Run
public import proofs.«01_k».proof.Proof.Gen.ReferenceIdeal.Read
public import proofs.«01_k».proof.Proof.Gen.InProjRefIdeal.Run
public import proofs.«01_k».proof.Proof.Gen.InProjRefIdeal.Read
public import proofs.«01_k».proof.Proof.Gen.GatesRefIdeal.Run
public import proofs.«01_k».proof.Proof.Gen.GatesRefIdeal.Read
public import proofs.«01_k».proof.Proof.Gen.OutRefIdeal.Run
public import proofs.«01_k».proof.Proof.Gen.OutRefIdeal.Read
public import proofs.«01_k».proof.Proof.Gen.KvRefIdeal.Run
public import proofs.«01_k».proof.Proof.Gen.KvRefIdeal.Read
public import proofs.«01_k».proof.Proof.Gen.MergeRefIdeal.Run
public import proofs.«01_k».proof.Proof.Gen.MergeRefIdeal.Read
public import proofs.«01_k».proof.Proof.Gen.StateRefIdeal.Run
public import proofs.«01_k».proof.Proof.Gen.StateRefIdeal.Read
public import proofs.«01_k».proof.Proof.Gen.QueriesRefIdeal.Run
public import proofs.«01_k».proof.Proof.Gen.QueriesRefIdeal.Read
public import proofs.«01_k».proof.Proof.Gen.CacheRefIdeal.Run
public import proofs.«01_k».proof.Proof.Gen.CacheRefIdeal.Read
public import proofs.«01_k».proof.Proof.Gen.ModRefIdeal.Run
public import proofs.«01_k».proof.Proof.Gen.ModRefIdeal.Read
public import proofs.«01_k».proof.Proof.Gen.FirstRefIdeal.Run
public import proofs.«01_k».proof.Proof.Gen.FirstRefIdeal.Read
public import proofs.«01_k».proof.Proof.Gen.NextRefIdeal.Run
public import proofs.«01_k».proof.Proof.Gen.NextRefIdeal.Read
public import Idealize.ShloMosaic.Adequacy
public import Idealize.ShloMosaic.Init

@[expose] public section

noncomputable section

namespace Cert.Proof

open Idealize.ShloMosaic Idealize.SL.Sem Cert.Kernel

/-- From agreeing arguments the reference's result array is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 (F := Ideal) m' c = Cert.KernelIdeal.KernelValue.result m c := by
  unfold Cert.ReferenceIdeal.Value.res_out0
  rw [Cert.ReferenceIdeal.Read.val_main_v94_eq, h0, h1, h2, h3]
  funext y
  rw [ValueIdx.eq_ix2 y]
  exact Cert.ReferenceIdeal.RefValue.result_at _ _ _ _ (y 0) (y 1)

/-- All claims of the twelve programs, in the order in which they are stated: what each text says of its
constants, then the frames, then for each pair that the idealised kernel agrees with its reference (the state for real gates). -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Gates.Gen.facts, Cert.GatesIdeal.Gen.facts, Cert.GatesRefIdeal.Gen.facts,
  Cert.Out.Gen.facts, Cert.OutIdeal.Gen.facts, Cert.OutRefIdeal.Gen.facts,
  Cert.Kv.Gen.facts, Cert.KvIdeal.Gen.facts, Cert.KvRefIdeal.Gen.facts,
  Cert.Merge.Gen.facts, Cert.MergeIdeal.Gen.facts, Cert.MergeRefIdeal.Gen.facts,
  Cert.State.Gen.facts, Cert.StateIdeal.Gen.facts, Cert.StateRefIdeal.Gen.facts,
  Cert.Queries.Gen.facts, Cert.QueriesIdeal.Gen.facts, Cert.QueriesRefIdeal.Gen.facts,
  Cert.Cache.Gen.facts, Cert.CacheIdeal.Gen.facts, Cert.CacheRefIdeal.Gen.facts,
  Cert.Mod.Gen.facts, Cert.ModIdeal.Gen.facts, Cert.ModRefIdeal.Gen.facts,
  Cert.First.Gen.facts, Cert.FirstIdeal.Gen.facts, Cert.FirstRefIdeal.Gen.facts,
  Cert.Next.Gen.facts, Cert.NextIdeal.Gen.facts, Cert.NextRefIdeal.Gen.facts,
  Cert.Pre_real_gates.Gen.facts,
  fun m g _ => Cert.Kernel.Gen.frame m g,
  fun m g _ => Cert.KernelIdeal.Gen.frame m g,
  fun m g _ => (θ_run Cert.ReferenceIdeal.defs _ _).mono
    (fun r h => ⟨fun c => (h c).2, sem_eq_zero_of_no_sems (by decide) r.2⟩)
    (Cert.ReferenceIdeal.Value.run (F := Ideal) m g),
  fun m g _ => Cert.InProj.Gen.frame m g,
  fun m g _ => Cert.InProjIdeal.Gen.frame m g,
  fun m g _ => (θ_run Cert.InProjRefIdeal.defs _ _).mono
    (fun r h => ⟨fun c => (h c).2, sem_eq_zero_of_no_sems (by decide) r.2⟩)
    (Cert.InProjRefIdeal.Value.run (F := Ideal) m g),
  fun m g _ => Cert.Gates.Gen.frame m g,
  fun m g _ => Cert.GatesIdeal.Gen.frame m g,
  fun m g _ => (θ_run Cert.GatesRefIdeal.defs _ _).mono
    (fun r h => ⟨fun c => (h c).2, sem_eq_zero_of_no_sems (by decide) r.2⟩)
    (Cert.GatesRefIdeal.Value.run (F := Ideal) m g),
  fun m g _ => Cert.Out.Gen.frame m g,
  fun m g _ => Cert.OutIdeal.Gen.frame m g,
  fun m g _ => (θ_run Cert.OutRefIdeal.defs _ _).mono
    (fun r h => ⟨fun c => (h c).2, sem_eq_zero_of_no_sems (by decide) r.2⟩)
    (Cert.OutRefIdeal.Value.run (F := Ideal) m g),
  fun m g _ => Cert.Kv.Gen.frame m g,
  fun m g _ => Cert.KvIdeal.Gen.frame m g,
  fun m g _ => (θ_run Cert.KvRefIdeal.defs _ _).mono
    (fun r h => ⟨fun c => (h c).2.2, sem_eq_zero_of_no_sems (by decide) r.2⟩)
    (Cert.KvRefIdeal.Value.run (F := Ideal) m g),
  fun m g _ => Cert.Merge.Gen.frame m g,
  fun m g _ => Cert.MergeIdeal.Gen.frame m g,
  fun m g _ => (θ_run Cert.MergeRefIdeal.defs _ _).mono
    (fun r h => ⟨fun c => (h c).2.2, sem_eq_zero_of_no_sems (by decide) r.2⟩)
    (Cert.MergeRefIdeal.Value.run (F := Ideal) m g),
  fun m g _ => Cert.State.Gen.frame m g,
  fun m g _ => Cert.StateIdeal.Gen.frame m g,
  fun m g _ => Cert.StateIdeal.Gen.frame m g,
  fun m g _ => (θ_run Cert.StateRefIdeal.defs _ _).mono
    (fun r h => ⟨fun c => (h c).2, sem_eq_zero_of_no_sems (by decide) r.2⟩)
    (Cert.StateRefIdeal.Value.run (F := Ideal) m g),
  fun m g _ => (θ_run Cert.StateRefIdeal.defs _ _).mono
    (fun r h => ⟨fun c => (h c).2, sem_eq_zero_of_no_sems (by decide) r.2⟩)
    (Cert.StateRefIdeal.Value.run (F := Ideal) m g),
  fun m g _ => Cert.Queries.Gen.frame m g,
  fun m g _ => Cert.QueriesIdeal.Gen.frame m g,
  fun m g _ => (θ_run Cert.QueriesRefIdeal.defs _ _).mono
    (fun r h => ⟨fun c => (h c).2, sem_eq_zero_of_no_sems (by decide) r.2⟩)
    (Cert.QueriesRefIdeal.Value.run (F := Ideal) m g),
  fun m g _ => Cert.Cache.Gen.frame m g,
  fun m g _ => Cert.CacheIdeal.Gen.frame m g,
  fun m g _ => (θ_run Cert.CacheRefIdeal.defs _ _).mono
    (fun r h => ⟨fun c => (h c).2, sem_eq_zero_of_no_sems (by decide) r.2⟩)
    (Cert.CacheRefIdeal.Value.run (F := Ideal) m g),
  fun m g _ => Cert.Mod.Gen.frame m g,
  fun m g _ => Cert.ModIdeal.Gen.frame m g,
  fun m g _ => (θ_run Cert.ModRefIdeal.defs _ _).mono
    (fun r h => ⟨fun c => (h c).2, sem_eq_zero_of_no_sems (by decide) r.2⟩)
    (Cert.ModRefIdeal.Value.run (F := Ideal) m g),
  fun m g _ => Cert.First.Gen.frame m g,
  fun m g _ => Cert.FirstIdeal.Gen.frame m g,
  fun m g _ => (θ_run Cert.FirstRefIdeal.defs _ _).mono
    (fun r h => ⟨fun c => (h c).2, sem_eq_zero_of_no_sems (by decide) r.2⟩)
    (Cert.FirstRefIdeal.Value.run (F := Ideal) m g),
  fun m g _ => Cert.Next.Gen.frame m g,
  fun m g _ => Cert.NextIdeal.Gen.frame m g,
  fun m g _ => (θ_run Cert.NextRefIdeal.defs _ _).mono
    (fun r h => ⟨fun c => (h c).2.2, sem_eq_zero_of_no_sems (by decide) r.2⟩)
    (Cert.NextRefIdeal.Value.run (F := Ideal) m g),
  trivial,
  fun m g m' g' _ hagree => ⟨fun c => Cert.KernelIdeal.KernelValue.result m c,
    Cert.KernelIdeal.KernelValue.run m g,
    (θ_run _ _ _).mono
      (fun _ h c => ⟨(h c).1.trans (same_result m m' c (hagree c).1 (hagree c).2.1
        (hagree c).2.2.1 (hagree c).2.2.2), (h c).2⟩)
      (Cert.ReferenceIdeal.Value.run (F := Ideal) m' g')⟩,
  trivial,
  fun m g m' g' _ hagree => ⟨fun c => Cert.InProjIdeal.Proj.result m c,
    Cert.InProjIdeal.Proj.run m g, Cert.InProjRefIdeal.Proj.run m m' g' hagree⟩,
  trivial,
  fun m g m' g' _ hagree => ⟨fun c => Cert.GatesIdeal.Proj.result m c,
    Cert.GatesIdeal.Proj.run m g, Cert.GatesRefIdeal.Proj.run m m' g' hagree⟩,
  trivial,
  fun m g m' g' _ hagree => ⟨fun c => Cert.OutIdeal.Resid.result m c,
    Cert.OutIdeal.Resid.run m g, Cert.OutRefIdeal.Resid.run m m' g' hagree⟩,
  trivial,
  fun m g m' g' _ hagree => ⟨fun c => Cert.KvIdeal.Latent.result0 m c, fun c => Cert.KvIdeal.Latent.result1 m c,
    Cert.KvIdeal.Latent.run m g, Cert.KvRefIdeal.Latent.run m m' g' hagree⟩,
  trivial,
  fun m g m' g' _ hagree => ⟨fun c => Cert.MergeIdeal.MergeValue.result0 m c, fun c => Cert.MergeIdeal.MergeValue.result1 m c,
    Cert.MergeIdeal.MergeValue.run m g, Cert.MergeRefIdeal.RefValue.run m m' g' hagree⟩,
  trivial,
  fun m g m' g' hpre hagree => ⟨fun c => Cert.StateIdeal.Chunk.result m c,
    Cert.StateIdeal.Chunk.run m (fun c => Cert.Pre_real_gates.real _ _ _ (hpre c)) g,
    Cert.StateRefIdeal.Chunk.run m m' g' (fun c => Cert.Pre_real_gates.real _ _ _ (hpre c)) hagree⟩,
  trivial,
  fun m g m' g' _ hagree => ⟨fun c => Cert.QueriesIdeal.Latent.result m c,
    Cert.QueriesIdeal.Latent.run m g, Cert.QueriesRefIdeal.Latent.run m m' g' hagree⟩,
  trivial,
  fun m g m' g' _ hagree => ⟨fun c => Cert.CacheIdeal.Past.result m c,
    Cert.CacheIdeal.Past.run m g, Cert.CacheRefIdeal.Past.run m m' g' hagree⟩,
  trivial,
  fun m g m' g' _ hagree => ⟨fun c => Cert.ModIdeal.Vectors.result m c,
    Cert.ModIdeal.Vectors.run m g, Cert.ModRefIdeal.Vectors.run m m' g' hagree⟩,
  trivial,
  fun m g m' g' _ hagree => ⟨fun c => Cert.FirstIdeal.PreNorm.result m c,
    Cert.FirstIdeal.PreNorm.run m g, Cert.FirstRefIdeal.PreNorm.run m m' g' hagree⟩,
  trivial,
  fun m g m' g' _ hagree => ⟨fun c => Cert.NextIdeal.Layers.result0 m c, fun c => Cert.NextIdeal.Layers.result1 m c,
    Cert.NextIdeal.Layers.run m g, Cert.NextRefIdeal.Layers.run m m' g' hagree⟩⟩

end Cert.Proof

end
